-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_LayerOne (m : (ℓ : Loc Cert.LayerOne.nD Cert.LayerOne.τ Cert.LayerOne.sig) → Buf (Elt Bits) ℓ) : Prop :=
  True

def Pre_LayerOneIdeal (m : (ℓ : Loc Cert.LayerOneIdeal.nD Cert.LayerOneIdeal.τ Cert.LayerOneIdeal.sig) → Buf (Elt Ideal) ℓ) : Prop :=
  True

def Pre_LayerOneIdeal_lengths_in_one [hPre_lengths_in_one : Cert.Pre_lengths_in_one.Facts] (m : (ℓ : Loc Cert.LayerOneIdeal.nD Cert.LayerOneIdeal.τ Cert.LayerOneIdeal.sig) → Buf (Elt Ideal) ℓ) : Prop :=
  ∀ c : Dev Cert.LayerOneIdeal.nD,
    (Cert.Pre_lengths_in_one.fn (F := Ideal) (m ((c.tc : Thread Cert.LayerOneIdeal.nD Cert.LayerOneIdeal.τ).loc Cert.LayerOneIdeal.main_arg0)) (m ((c.tc : Thread Cert.LayerOneIdeal.nD Cert.LayerOneIdeal.τ).loc Cert.LayerOneIdeal.main_arg1)) (m ((c.tc : Thread Cert.LayerOneIdeal.nD Cert.LayerOneIdeal.τ).loc Cert.LayerOneIdeal.main_arg2)) (m ((c.tc : Thread Cert.LayerOneIdeal.nD Cert.LayerOneIdeal.τ).loc Cert.LayerOneIdeal.main_arg3)) (m ((c.tc : Thread Cert.LayerOneIdeal.nD Cert.LayerOneIdeal.τ).loc Cert.LayerOneIdeal.main_arg4)) (m ((c.tc : Thread Cert.LayerOneIdeal.nD Cert.LayerOneIdeal.τ).loc Cert.LayerOneIdeal.main_arg5)) (m ((c.tc : Thread Cert.LayerOneIdeal.nD Cert.LayerOneIdeal.τ).loc Cert.LayerOneIdeal.main_arg6)) (m ((c.tc : Thread Cert.LayerOneIdeal.nD Cert.LayerOneIdeal.τ).loc Cert.LayerOneIdeal.main_arg7))) = (fun _ => 1#1)

def Pre_LayerOneRefIdeal (m : (ℓ : Loc Cert.LayerOneRefIdeal.nD Cert.LayerOneRefIdeal.τ Cert.LayerOneRefIdeal.sig) → Buf (Elt Ideal) ℓ) : Prop :=
  True

def Pre_LayerOneRefIdeal_lengths_in_one [hPre_lengths_in_one : Cert.Pre_lengths_in_one.Facts] (m : (ℓ : Loc Cert.LayerOneRefIdeal.nD Cert.LayerOneRefIdeal.τ Cert.LayerOneRefIdeal.sig) → Buf (Elt Ideal) ℓ) : Prop :=
  ∀ c : Dev Cert.LayerOneRefIdeal.nD,
    (Cert.Pre_lengths_in_one.fn (F := Ideal) (m ((c.tc : Thread Cert.LayerOneRefIdeal.nD Cert.LayerOneRefIdeal.τ).loc Cert.LayerOneRefIdeal.main_arg0)) (m ((c.tc : Thread Cert.LayerOneRefIdeal.nD Cert.LayerOneRefIdeal.τ).loc Cert.LayerOneRefIdeal.main_arg1)) (m ((c.tc : Thread Cert.LayerOneRefIdeal.nD Cert.LayerOneRefIdeal.τ).loc Cert.LayerOneRefIdeal.main_arg2)) (m ((c.tc : Thread Cert.LayerOneRefIdeal.nD Cert.LayerOneRefIdeal.τ).loc Cert.LayerOneRefIdeal.main_arg3)) (m ((c.tc : Thread Cert.LayerOneRefIdeal.nD Cert.LayerOneRefIdeal.τ).loc Cert.LayerOneRefIdeal.main_arg4)) (m ((c.tc : Thread Cert.LayerOneRefIdeal.nD Cert.LayerOneRefIdeal.τ).loc Cert.LayerOneRefIdeal.main_arg5)) (m ((c.tc : Thread Cert.LayerOneRefIdeal.nD Cert.LayerOneRefIdeal.τ).loc Cert.LayerOneRefIdeal.main_arg6)) (m ((c.tc : Thread Cert.LayerOneRefIdeal.nD Cert.LayerOneRefIdeal.τ).loc Cert.LayerOneRefIdeal.main_arg7))) = (fun _ => 1#1)

def Pre_LayerTwo (m : (ℓ : Loc Cert.LayerTwo.nD Cert.LayerTwo.τ Cert.LayerTwo.sig) → Buf (Elt Bits) ℓ) : Prop :=
  True

def Pre_LayerTwoIdeal (m : (ℓ : Loc Cert.LayerTwoIdeal.nD Cert.LayerTwoIdeal.τ Cert.LayerTwoIdeal.sig) → Buf (Elt Ideal) ℓ) : Prop :=
  True

def Pre_LayerTwoIdeal_lengths_in_two [hPre_lengths_in_two : Cert.Pre_lengths_in_two.Facts] (m : (ℓ : Loc Cert.LayerTwoIdeal.nD Cert.LayerTwoIdeal.τ Cert.LayerTwoIdeal.sig) → Buf (Elt Ideal) ℓ) : Prop :=
  ∀ c : Dev Cert.LayerTwoIdeal.nD,
    (Cert.Pre_lengths_in_two.fn (F := Ideal) (m ((c.tc : Thread Cert.LayerTwoIdeal.nD Cert.LayerTwoIdeal.τ).loc Cert.LayerTwoIdeal.main_arg0)) (m ((c.tc : Thread Cert.LayerTwoIdeal.nD Cert.LayerTwoIdeal.τ).loc Cert.LayerTwoIdeal.main_arg1)) (m ((c.tc : Thread Cert.LayerTwoIdeal.nD Cert.LayerTwoIdeal.τ).loc Cert.LayerTwoIdeal.main_arg2)) (m ((c.tc : Thread Cert.LayerTwoIdeal.nD Cert.LayerTwoIdeal.τ).loc Cert.LayerTwoIdeal.main_arg3)) (m ((c.tc : Thread Cert.LayerTwoIdeal.nD Cert.LayerTwoIdeal.τ).loc Cert.LayerTwoIdeal.main_arg4)) (m ((c.tc : Thread Cert.LayerTwoIdeal.nD Cert.LayerTwoIdeal.τ).loc Cert.LayerTwoIdeal.main_arg5))) = (fun _ => 1#1)

def Pre_LayerTwoRefIdeal (m : (ℓ : Loc Cert.LayerTwoRefIdeal.nD Cert.LayerTwoRefIdeal.τ Cert.LayerTwoRefIdeal.sig) → Buf (Elt Ideal) ℓ) : Prop :=
  True

def Pre_LayerTwoRefIdeal_lengths_in_two [hPre_lengths_in_two : Cert.Pre_lengths_in_two.Facts] (m : (ℓ : Loc Cert.LayerTwoRefIdeal.nD Cert.LayerTwoRefIdeal.τ Cert.LayerTwoRefIdeal.sig) → Buf (Elt Ideal) ℓ) : Prop :=
  ∀ c : Dev Cert.LayerTwoRefIdeal.nD,
    (Cert.Pre_lengths_in_two.fn (F := Ideal) (m ((c.tc : Thread Cert.LayerTwoRefIdeal.nD Cert.LayerTwoRefIdeal.τ).loc Cert.LayerTwoRefIdeal.main_arg0)) (m ((c.tc : Thread Cert.LayerTwoRefIdeal.nD Cert.LayerTwoRefIdeal.τ).loc Cert.LayerTwoRefIdeal.main_arg1)) (m ((c.tc : Thread Cert.LayerTwoRefIdeal.nD Cert.LayerTwoRefIdeal.τ).loc Cert.LayerTwoRefIdeal.main_arg2)) (m ((c.tc : Thread Cert.LayerTwoRefIdeal.nD Cert.LayerTwoRefIdeal.τ).loc Cert.LayerTwoRefIdeal.main_arg3)) (m ((c.tc : Thread Cert.LayerTwoRefIdeal.nD Cert.LayerTwoRefIdeal.τ).loc Cert.LayerTwoRefIdeal.main_arg4)) (m ((c.tc : Thread Cert.LayerTwoRefIdeal.nD Cert.LayerTwoRefIdeal.τ).loc Cert.LayerTwoRefIdeal.main_arg5))) = (fun _ => 1#1)

def Pre_Decoder (m : (ℓ : Loc Cert.Decoder.nD Cert.Decoder.τ Cert.Decoder.sig) → Buf (Elt Bits) ℓ) : Prop :=
  True

def Pre_DecoderIdeal (m : (ℓ : Loc Cert.DecoderIdeal.nD Cert.DecoderIdeal.τ Cert.DecoderIdeal.sig) → Buf (Elt Ideal) ℓ) : Prop :=
  True

def Pre_DecoderIdeal_filters_finite [hPre_filters_finite : Cert.Pre_filters_finite.Facts] (m : (ℓ : Loc Cert.DecoderIdeal.nD Cert.DecoderIdeal.τ Cert.DecoderIdeal.sig) → Buf (Elt Ideal) ℓ) : Prop :=
  ∀ c : Dev Cert.DecoderIdeal.nD,
    (Cert.Pre_filters_finite.fn (F := Ideal) (m ((c.tc : Thread Cert.DecoderIdeal.nD Cert.DecoderIdeal.τ).loc Cert.DecoderIdeal.main_arg0)) (m ((c.tc : Thread Cert.DecoderIdeal.nD Cert.DecoderIdeal.τ).loc Cert.DecoderIdeal.main_arg1)) (m ((c.tc : Thread Cert.DecoderIdeal.nD Cert.DecoderIdeal.τ).loc Cert.DecoderIdeal.main_arg2)) (m ((c.tc : Thread Cert.DecoderIdeal.nD Cert.DecoderIdeal.τ).loc Cert.DecoderIdeal.main_arg3)) (m ((c.tc : Thread Cert.DecoderIdeal.nD Cert.DecoderIdeal.τ).loc Cert.DecoderIdeal.main_arg4)) (m ((c.tc : Thread Cert.DecoderIdeal.nD Cert.DecoderIdeal.τ).loc Cert.DecoderIdeal.main_arg5)) (m ((c.tc : Thread Cert.DecoderIdeal.nD Cert.DecoderIdeal.τ).loc Cert.DecoderIdeal.main_arg6)) (m ((c.tc : Thread Cert.DecoderIdeal.nD Cert.DecoderIdeal.τ).loc Cert.DecoderIdeal.main_arg7)) (m ((c.tc : Thread Cert.DecoderIdeal.nD Cert.DecoderIdeal.τ).loc Cert.DecoderIdeal.main_arg8)) (m ((c.tc : Thread Cert.DecoderIdeal.nD Cert.DecoderIdeal.τ).loc Cert.DecoderIdeal.main_arg9)) (m ((c.tc : Thread Cert.DecoderIdeal.nD Cert.DecoderIdeal.τ).loc Cert.DecoderIdeal.main_arg10)) (m ((c.tc : Thread Cert.DecoderIdeal.nD Cert.DecoderIdeal.τ).loc Cert.DecoderIdeal.main_arg11)) (m ((c.tc : Thread Cert.DecoderIdeal.nD Cert.DecoderIdeal.τ).loc Cert.DecoderIdeal.main_arg12)) (m ((c.tc : Thread Cert.DecoderIdeal.nD Cert.DecoderIdeal.τ).loc Cert.DecoderIdeal.main_arg13)) (m ((c.tc : Thread Cert.DecoderIdeal.nD Cert.DecoderIdeal.τ).loc Cert.DecoderIdeal.main_arg14))) = (fun _ => 1#1)

def Pre_DecoderRefIdeal (m : (ℓ : Loc Cert.DecoderRefIdeal.nD Cert.DecoderRefIdeal.τ Cert.DecoderRefIdeal.sig) → Buf (Elt Ideal) ℓ) : Prop :=
  True

def Pre_DecoderRefIdeal_filters_finite [hPre_filters_finite : Cert.Pre_filters_finite.Facts] (m : (ℓ : Loc Cert.DecoderRefIdeal.nD Cert.DecoderRefIdeal.τ Cert.DecoderRefIdeal.sig) → Buf (Elt Ideal) ℓ) : Prop :=
  ∀ c : Dev Cert.DecoderRefIdeal.nD,
    (Cert.Pre_filters_finite.fn (F := Ideal) (m ((c.tc : Thread Cert.DecoderRefIdeal.nD Cert.DecoderRefIdeal.τ).loc Cert.DecoderRefIdeal.main_arg0)) (m ((c.tc : Thread Cert.DecoderRefIdeal.nD Cert.DecoderRefIdeal.τ).loc Cert.DecoderRefIdeal.main_arg1)) (m ((c.tc : Thread Cert.DecoderRefIdeal.nD Cert.DecoderRefIdeal.τ).loc Cert.DecoderRefIdeal.main_arg2)) (m ((c.tc : Thread Cert.DecoderRefIdeal.nD Cert.DecoderRefIdeal.τ).loc Cert.DecoderRefIdeal.main_arg3)) (m ((c.tc : Thread Cert.DecoderRefIdeal.nD Cert.DecoderRefIdeal.τ).loc Cert.DecoderRefIdeal.main_arg4)) (m ((c.tc : Thread Cert.DecoderRefIdeal.nD Cert.DecoderRefIdeal.τ).loc Cert.DecoderRefIdeal.main_arg5)) (m ((c.tc : Thread Cert.DecoderRefIdeal.nD Cert.DecoderRefIdeal.τ).loc Cert.DecoderRefIdeal.main_arg6)) (m ((c.tc : Thread Cert.DecoderRefIdeal.nD Cert.DecoderRefIdeal.τ).loc Cert.DecoderRefIdeal.main_arg7)) (m ((c.tc : Thread Cert.DecoderRefIdeal.nD Cert.DecoderRefIdeal.τ).loc Cert.DecoderRefIdeal.main_arg8)) (m ((c.tc : Thread Cert.DecoderRefIdeal.nD Cert.DecoderRefIdeal.τ).loc Cert.DecoderRefIdeal.main_arg9)) (m ((c.tc : Thread Cert.DecoderRefIdeal.nD Cert.DecoderRefIdeal.τ).loc Cert.DecoderRefIdeal.main_arg10)) (m ((c.tc : Thread Cert.DecoderRefIdeal.nD Cert.DecoderRefIdeal.τ).loc Cert.DecoderRefIdeal.main_arg11)) (m ((c.tc : Thread Cert.DecoderRefIdeal.nD Cert.DecoderRefIdeal.τ).loc Cert.DecoderRefIdeal.main_arg12)) (m ((c.tc : Thread Cert.DecoderRefIdeal.nD Cert.DecoderRefIdeal.τ).loc Cert.DecoderRefIdeal.main_arg13)) (m ((c.tc : Thread Cert.DecoderRefIdeal.nD Cert.DecoderRefIdeal.τ).loc Cert.DecoderRefIdeal.main_arg14))) = (fun _ => 1#1)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_LayerOne [hLayerOne : Cert.LayerOne.Facts] : Prop :=
  ∀ (m : (ℓ : Loc Cert.LayerOne.nD Cert.LayerOne.τ Cert.LayerOne.sig) → Buf (Elt Bits) ℓ) (g : Dev Cert.LayerOne.nD → PrngReg), Pre_LayerOne m →
    θ_run (Cert.LayerOne.defs (F := Bits)) (onTc (τ := Cert.LayerOne.τ) (Cert.LayerOne.main (F := Bits))) ⟨m, fun _ => 0, g⟩ (fun r => (∀ c : Dev Cert.LayerOne.nD,
      r.2.mem ((c.tc : Thread Cert.LayerOne.nD Cert.LayerOne.τ).loc Cert.LayerOne.main_arg0) = m ((c.tc : Thread Cert.LayerOne.nD Cert.LayerOne.τ).loc Cert.LayerOne.main_arg0)
      ∧ r.2.mem ((c.tc : Thread Cert.LayerOne.nD Cert.LayerOne.τ).loc Cert.LayerOne.main_arg1) = m ((c.tc : Thread Cert.LayerOne.nD Cert.LayerOne.τ).loc Cert.LayerOne.main_arg1)
      ∧ r.2.mem ((c.tc : Thread Cert.LayerOne.nD Cert.LayerOne.τ).loc Cert.LayerOne.main_arg2) = m ((c.tc : Thread Cert.LayerOne.nD Cert.LayerOne.τ).loc Cert.LayerOne.main_arg2)
      ∧ r.2.mem ((c.tc : Thread Cert.LayerOne.nD Cert.LayerOne.τ).loc Cert.LayerOne.main_arg3) = m ((c.tc : Thread Cert.LayerOne.nD Cert.LayerOne.τ).loc Cert.LayerOne.main_arg3)
      ∧ r.2.mem ((c.tc : Thread Cert.LayerOne.nD Cert.LayerOne.τ).loc Cert.LayerOne.main_arg4) = m ((c.tc : Thread Cert.LayerOne.nD Cert.LayerOne.τ).loc Cert.LayerOne.main_arg4)
      ∧ r.2.mem ((c.tc : Thread Cert.LayerOne.nD Cert.LayerOne.τ).loc Cert.LayerOne.main_arg5) = m ((c.tc : Thread Cert.LayerOne.nD Cert.LayerOne.τ).loc Cert.LayerOne.main_arg5)
      ∧ r.2.mem ((c.tc : Thread Cert.LayerOne.nD Cert.LayerOne.τ).loc Cert.LayerOne.main_arg6) = m ((c.tc : Thread Cert.LayerOne.nD Cert.LayerOne.τ).loc Cert.LayerOne.main_arg6)
      ∧ r.2.mem ((c.tc : Thread Cert.LayerOne.nD Cert.LayerOne.τ).loc Cert.LayerOne.main_arg7) = m ((c.tc : Thread Cert.LayerOne.nD Cert.LayerOne.τ).loc Cert.LayerOne.main_arg7))
      ∧ r.2.sem = fun _ => 0)

def quiescent_LayerOneIdeal [hLayerOneIdeal : Cert.LayerOneIdeal.Facts] : Prop :=
  ∀ (m : (ℓ : Loc Cert.LayerOneIdeal.nD Cert.LayerOneIdeal.τ Cert.LayerOneIdeal.sig) → Buf (Elt Ideal) ℓ) (g : Dev Cert.LayerOneIdeal.nD → PrngReg), Pre_LayerOneIdeal m →
    θ_run (Cert.LayerOneIdeal.defs (F := Ideal)) (onTc (τ := Cert.LayerOneIdeal.τ) (Cert.LayerOneIdeal.main (F := Ideal))) ⟨m, fun _ => 0, g⟩ (fun r => (∀ c : Dev Cert.LayerOneIdeal.nD,
      r.2.mem ((c.tc : Thread Cert.LayerOneIdeal.nD Cert.LayerOneIdeal.τ).loc Cert.LayerOneIdeal.main_arg0) = m ((c.tc : Thread Cert.LayerOneIdeal.nD Cert.LayerOneIdeal.τ).loc Cert.LayerOneIdeal.main_arg0)
      ∧ r.2.mem ((c.tc : Thread Cert.LayerOneIdeal.nD Cert.LayerOneIdeal.τ).loc Cert.LayerOneIdeal.main_arg1) = m ((c.tc : Thread Cert.LayerOneIdeal.nD Cert.LayerOneIdeal.τ).loc Cert.LayerOneIdeal.main_arg1)
      ∧ r.2.mem ((c.tc : Thread Cert.LayerOneIdeal.nD Cert.LayerOneIdeal.τ).loc Cert.LayerOneIdeal.main_arg2) = m ((c.tc : Thread Cert.LayerOneIdeal.nD Cert.LayerOneIdeal.τ).loc Cert.LayerOneIdeal.main_arg2)
      ∧ r.2.mem ((c.tc : Thread Cert.LayerOneIdeal.nD Cert.LayerOneIdeal.τ).loc Cert.LayerOneIdeal.main_arg3) = m ((c.tc : Thread Cert.LayerOneIdeal.nD Cert.LayerOneIdeal.τ).loc Cert.LayerOneIdeal.main_arg3)
      ∧ r.2.mem ((c.tc : Thread Cert.LayerOneIdeal.nD Cert.LayerOneIdeal.τ).loc Cert.LayerOneIdeal.main_arg4) = m ((c.tc : Thread Cert.LayerOneIdeal.nD Cert.LayerOneIdeal.τ).loc Cert.LayerOneIdeal.main_arg4)
      ∧ r.2.mem ((c.tc : Thread Cert.LayerOneIdeal.nD Cert.LayerOneIdeal.τ).loc Cert.LayerOneIdeal.main_arg5) = m ((c.tc : Thread Cert.LayerOneIdeal.nD Cert.LayerOneIdeal.τ).loc Cert.LayerOneIdeal.main_arg5)
      ∧ r.2.mem ((c.tc : Thread Cert.LayerOneIdeal.nD Cert.LayerOneIdeal.τ).loc Cert.LayerOneIdeal.main_arg6) = m ((c.tc : Thread Cert.LayerOneIdeal.nD Cert.LayerOneIdeal.τ).loc Cert.LayerOneIdeal.main_arg6)
      ∧ r.2.mem ((c.tc : Thread Cert.LayerOneIdeal.nD Cert.LayerOneIdeal.τ).loc Cert.LayerOneIdeal.main_arg7) = m ((c.tc : Thread Cert.LayerOneIdeal.nD Cert.LayerOneIdeal.τ).loc Cert.LayerOneIdeal.main_arg7))
      ∧ r.2.sem = fun _ => 0)

def quiescent_LayerOneIdeal_pre_lengths_in_one [hLayerOneIdeal : Cert.LayerOneIdeal.Facts] [hPre_lengths_in_one : Cert.Pre_lengths_in_one.Facts] : Prop :=
  ∀ (m : (ℓ : Loc Cert.LayerOneIdeal.nD Cert.LayerOneIdeal.τ Cert.LayerOneIdeal.sig) → Buf (Elt Ideal) ℓ) (g : Dev Cert.LayerOneIdeal.nD → PrngReg), Pre_LayerOneIdeal_lengths_in_one m →
    θ_run (Cert.LayerOneIdeal.defs (F := Ideal)) (onTc (τ := Cert.LayerOneIdeal.τ) (Cert.LayerOneIdeal.main (F := Ideal))) ⟨m, fun _ => 0, g⟩ (fun r => (∀ c : Dev Cert.LayerOneIdeal.nD,
      r.2.mem ((c.tc : Thread Cert.LayerOneIdeal.nD Cert.LayerOneIdeal.τ).loc Cert.LayerOneIdeal.main_arg0) = m ((c.tc : Thread Cert.LayerOneIdeal.nD Cert.LayerOneIdeal.τ).loc Cert.LayerOneIdeal.main_arg0)
      ∧ r.2.mem ((c.tc : Thread Cert.LayerOneIdeal.nD Cert.LayerOneIdeal.τ).loc Cert.LayerOneIdeal.main_arg1) = m ((c.tc : Thread Cert.LayerOneIdeal.nD Cert.LayerOneIdeal.τ).loc Cert.LayerOneIdeal.main_arg1)
      ∧ r.2.mem ((c.tc : Thread Cert.LayerOneIdeal.nD Cert.LayerOneIdeal.τ).loc Cert.LayerOneIdeal.main_arg2) = m ((c.tc : Thread Cert.LayerOneIdeal.nD Cert.LayerOneIdeal.τ).loc Cert.LayerOneIdeal.main_arg2)
      ∧ r.2.mem ((c.tc : Thread Cert.LayerOneIdeal.nD Cert.LayerOneIdeal.τ).loc Cert.LayerOneIdeal.main_arg3) = m ((c.tc : Thread Cert.LayerOneIdeal.nD Cert.LayerOneIdeal.τ).loc Cert.LayerOneIdeal.main_arg3)
      ∧ r.2.mem ((c.tc : Thread Cert.LayerOneIdeal.nD Cert.LayerOneIdeal.τ).loc Cert.LayerOneIdeal.main_arg4) = m ((c.tc : Thread Cert.LayerOneIdeal.nD Cert.LayerOneIdeal.τ).loc Cert.LayerOneIdeal.main_arg4)
      ∧ r.2.mem ((c.tc : Thread Cert.LayerOneIdeal.nD Cert.LayerOneIdeal.τ).loc Cert.LayerOneIdeal.main_arg5) = m ((c.tc : Thread Cert.LayerOneIdeal.nD Cert.LayerOneIdeal.τ).loc Cert.LayerOneIdeal.main_arg5)
      ∧ r.2.mem ((c.tc : Thread Cert.LayerOneIdeal.nD Cert.LayerOneIdeal.τ).loc Cert.LayerOneIdeal.main_arg6) = m ((c.tc : Thread Cert.LayerOneIdeal.nD Cert.LayerOneIdeal.τ).loc Cert.LayerOneIdeal.main_arg6)
      ∧ r.2.mem ((c.tc : Thread Cert.LayerOneIdeal.nD Cert.LayerOneIdeal.τ).loc Cert.LayerOneIdeal.main_arg7) = m ((c.tc : Thread Cert.LayerOneIdeal.nD Cert.LayerOneIdeal.τ).loc Cert.LayerOneIdeal.main_arg7))
      ∧ r.2.sem = fun _ => 0)

def quiescent_LayerOneRefIdeal [hLayerOneRefIdeal : Cert.LayerOneRefIdeal.Facts] : Prop :=
  ∀ (m : (ℓ : Loc Cert.LayerOneRefIdeal.nD Cert.LayerOneRefIdeal.τ Cert.LayerOneRefIdeal.sig) → Buf (Elt Ideal) ℓ) (g : Dev Cert.LayerOneRefIdeal.nD → PrngReg), Pre_LayerOneRefIdeal m →
    θ_run (Cert.LayerOneRefIdeal.defs (F := Ideal)) (onTc (τ := Cert.LayerOneRefIdeal.τ) (Cert.LayerOneRefIdeal.main (F := Ideal))) ⟨m, fun _ => 0, g⟩ (fun r => (∀ c : Dev Cert.LayerOneRefIdeal.nD,
      r.2.mem ((c.tc : Thread Cert.LayerOneRefIdeal.nD Cert.LayerOneRefIdeal.τ).loc Cert.LayerOneRefIdeal.main_arg0) = m ((c.tc : Thread Cert.LayerOneRefIdeal.nD Cert.LayerOneRefIdeal.τ).loc Cert.LayerOneRefIdeal.main_arg0)
      ∧ r.2.mem ((c.tc : Thread Cert.LayerOneRefIdeal.nD Cert.LayerOneRefIdeal.τ).loc Cert.LayerOneRefIdeal.main_arg1) = m ((c.tc : Thread Cert.LayerOneRefIdeal.nD Cert.LayerOneRefIdeal.τ).loc Cert.LayerOneRefIdeal.main_arg1)
      ∧ r.2.mem ((c.tc : Thread Cert.LayerOneRefIdeal.nD Cert.LayerOneRefIdeal.τ).loc Cert.LayerOneRefIdeal.main_arg2) = m ((c.tc : Thread Cert.LayerOneRefIdeal.nD Cert.LayerOneRefIdeal.τ).loc Cert.LayerOneRefIdeal.main_arg2)
      ∧ r.2.mem ((c.tc : Thread Cert.LayerOneRefIdeal.nD Cert.LayerOneRefIdeal.τ).loc Cert.LayerOneRefIdeal.main_arg3) = m ((c.tc : Thread Cert.LayerOneRefIdeal.nD Cert.LayerOneRefIdeal.τ).loc Cert.LayerOneRefIdeal.main_arg3)
      ∧ r.2.mem ((c.tc : Thread Cert.LayerOneRefIdeal.nD Cert.LayerOneRefIdeal.τ).loc Cert.LayerOneRefIdeal.main_arg4) = m ((c.tc : Thread Cert.LayerOneRefIdeal.nD Cert.LayerOneRefIdeal.τ).loc Cert.LayerOneRefIdeal.main_arg4)
      ∧ r.2.mem ((c.tc : Thread Cert.LayerOneRefIdeal.nD Cert.LayerOneRefIdeal.τ).loc Cert.LayerOneRefIdeal.main_arg5) = m ((c.tc : Thread Cert.LayerOneRefIdeal.nD Cert.LayerOneRefIdeal.τ).loc Cert.LayerOneRefIdeal.main_arg5)
      ∧ r.2.mem ((c.tc : Thread Cert.LayerOneRefIdeal.nD Cert.LayerOneRefIdeal.τ).loc Cert.LayerOneRefIdeal.main_arg6) = m ((c.tc : Thread Cert.LayerOneRefIdeal.nD Cert.LayerOneRefIdeal.τ).loc Cert.LayerOneRefIdeal.main_arg6)
      ∧ r.2.mem ((c.tc : Thread Cert.LayerOneRefIdeal.nD Cert.LayerOneRefIdeal.τ).loc Cert.LayerOneRefIdeal.main_arg7) = m ((c.tc : Thread Cert.LayerOneRefIdeal.nD Cert.LayerOneRefIdeal.τ).loc Cert.LayerOneRefIdeal.main_arg7))
      ∧ r.2.sem = fun _ => 0)

def quiescent_LayerOneRefIdeal_pre_lengths_in_one [hLayerOneRefIdeal : Cert.LayerOneRefIdeal.Facts] [hPre_lengths_in_one : Cert.Pre_lengths_in_one.Facts] : Prop :=
  ∀ (m : (ℓ : Loc Cert.LayerOneRefIdeal.nD Cert.LayerOneRefIdeal.τ Cert.LayerOneRefIdeal.sig) → Buf (Elt Ideal) ℓ) (g : Dev Cert.LayerOneRefIdeal.nD → PrngReg), Pre_LayerOneRefIdeal_lengths_in_one m →
    θ_run (Cert.LayerOneRefIdeal.defs (F := Ideal)) (onTc (τ := Cert.LayerOneRefIdeal.τ) (Cert.LayerOneRefIdeal.main (F := Ideal))) ⟨m, fun _ => 0, g⟩ (fun r => (∀ c : Dev Cert.LayerOneRefIdeal.nD,
      r.2.mem ((c.tc : Thread Cert.LayerOneRefIdeal.nD Cert.LayerOneRefIdeal.τ).loc Cert.LayerOneRefIdeal.main_arg0) = m ((c.tc : Thread Cert.LayerOneRefIdeal.nD Cert.LayerOneRefIdeal.τ).loc Cert.LayerOneRefIdeal.main_arg0)
      ∧ r.2.mem ((c.tc : Thread Cert.LayerOneRefIdeal.nD Cert.LayerOneRefIdeal.τ).loc Cert.LayerOneRefIdeal.main_arg1) = m ((c.tc : Thread Cert.LayerOneRefIdeal.nD Cert.LayerOneRefIdeal.τ).loc Cert.LayerOneRefIdeal.main_arg1)
      ∧ r.2.mem ((c.tc : Thread Cert.LayerOneRefIdeal.nD Cert.LayerOneRefIdeal.τ).loc Cert.LayerOneRefIdeal.main_arg2) = m ((c.tc : Thread Cert.LayerOneRefIdeal.nD Cert.LayerOneRefIdeal.τ).loc Cert.LayerOneRefIdeal.main_arg2)
      ∧ r.2.mem ((c.tc : Thread Cert.LayerOneRefIdeal.nD Cert.LayerOneRefIdeal.τ).loc Cert.LayerOneRefIdeal.main_arg3) = m ((c.tc : Thread Cert.LayerOneRefIdeal.nD Cert.LayerOneRefIdeal.τ).loc Cert.LayerOneRefIdeal.main_arg3)
      ∧ r.2.mem ((c.tc : Thread Cert.LayerOneRefIdeal.nD Cert.LayerOneRefIdeal.τ).loc Cert.LayerOneRefIdeal.main_arg4) = m ((c.tc : Thread Cert.LayerOneRefIdeal.nD Cert.LayerOneRefIdeal.τ).loc Cert.LayerOneRefIdeal.main_arg4)
      ∧ r.2.mem ((c.tc : Thread Cert.LayerOneRefIdeal.nD Cert.LayerOneRefIdeal.τ).loc Cert.LayerOneRefIdeal.main_arg5) = m ((c.tc : Thread Cert.LayerOneRefIdeal.nD Cert.LayerOneRefIdeal.τ).loc Cert.LayerOneRefIdeal.main_arg5)
      ∧ r.2.mem ((c.tc : Thread Cert.LayerOneRefIdeal.nD Cert.LayerOneRefIdeal.τ).loc Cert.LayerOneRefIdeal.main_arg6) = m ((c.tc : Thread Cert.LayerOneRefIdeal.nD Cert.LayerOneRefIdeal.τ).loc Cert.LayerOneRefIdeal.main_arg6)
      ∧ r.2.mem ((c.tc : Thread Cert.LayerOneRefIdeal.nD Cert.LayerOneRefIdeal.τ).loc Cert.LayerOneRefIdeal.main_arg7) = m ((c.tc : Thread Cert.LayerOneRefIdeal.nD Cert.LayerOneRefIdeal.τ).loc Cert.LayerOneRefIdeal.main_arg7))
      ∧ r.2.sem = fun _ => 0)

def quiescent_LayerTwo [hLayerTwo : Cert.LayerTwo.Facts] : Prop :=
  ∀ (m : (ℓ : Loc Cert.LayerTwo.nD Cert.LayerTwo.τ Cert.LayerTwo.sig) → Buf (Elt Bits) ℓ) (g : Dev Cert.LayerTwo.nD → PrngReg), Pre_LayerTwo m →
    θ_run (Cert.LayerTwo.defs (F := Bits)) (onTc (τ := Cert.LayerTwo.τ) (Cert.LayerTwo.main (F := Bits))) ⟨m, fun _ => 0, g⟩ (fun r => (∀ c : Dev Cert.LayerTwo.nD,
      r.2.mem ((c.tc : Thread Cert.LayerTwo.nD Cert.LayerTwo.τ).loc Cert.LayerTwo.main_arg0) = m ((c.tc : Thread Cert.LayerTwo.nD Cert.LayerTwo.τ).loc Cert.LayerTwo.main_arg0)
      ∧ r.2.mem ((c.tc : Thread Cert.LayerTwo.nD Cert.LayerTwo.τ).loc Cert.LayerTwo.main_arg1) = m ((c.tc : Thread Cert.LayerTwo.nD Cert.LayerTwo.τ).loc Cert.LayerTwo.main_arg1)
      ∧ r.2.mem ((c.tc : Thread Cert.LayerTwo.nD Cert.LayerTwo.τ).loc Cert.LayerTwo.main_arg2) = m ((c.tc : Thread Cert.LayerTwo.nD Cert.LayerTwo.τ).loc Cert.LayerTwo.main_arg2)
      ∧ r.2.mem ((c.tc : Thread Cert.LayerTwo.nD Cert.LayerTwo.τ).loc Cert.LayerTwo.main_arg3) = m ((c.tc : Thread Cert.LayerTwo.nD Cert.LayerTwo.τ).loc Cert.LayerTwo.main_arg3)
      ∧ r.2.mem ((c.tc : Thread Cert.LayerTwo.nD Cert.LayerTwo.τ).loc Cert.LayerTwo.main_arg4) = m ((c.tc : Thread Cert.LayerTwo.nD Cert.LayerTwo.τ).loc Cert.LayerTwo.main_arg4)
      ∧ r.2.mem ((c.tc : Thread Cert.LayerTwo.nD Cert.LayerTwo.τ).loc Cert.LayerTwo.main_arg5) = m ((c.tc : Thread Cert.LayerTwo.nD Cert.LayerTwo.τ).loc Cert.LayerTwo.main_arg5))
      ∧ r.2.sem = fun _ => 0)

def quiescent_LayerTwoIdeal [hLayerTwoIdeal : Cert.LayerTwoIdeal.Facts] : Prop :=
  ∀ (m : (ℓ : Loc Cert.LayerTwoIdeal.nD Cert.LayerTwoIdeal.τ Cert.LayerTwoIdeal.sig) → Buf (Elt Ideal) ℓ) (g : Dev Cert.LayerTwoIdeal.nD → PrngReg), Pre_LayerTwoIdeal m →
    θ_run (Cert.LayerTwoIdeal.defs (F := Ideal)) (onTc (τ := Cert.LayerTwoIdeal.τ) (Cert.LayerTwoIdeal.main (F := Ideal))) ⟨m, fun _ => 0, g⟩ (fun r => (∀ c : Dev Cert.LayerTwoIdeal.nD,
      r.2.mem ((c.tc : Thread Cert.LayerTwoIdeal.nD Cert.LayerTwoIdeal.τ).loc Cert.LayerTwoIdeal.main_arg0) = m ((c.tc : Thread Cert.LayerTwoIdeal.nD Cert.LayerTwoIdeal.τ).loc Cert.LayerTwoIdeal.main_arg0)
      ∧ r.2.mem ((c.tc : Thread Cert.LayerTwoIdeal.nD Cert.LayerTwoIdeal.τ).loc Cert.LayerTwoIdeal.main_arg1) = m ((c.tc : Thread Cert.LayerTwoIdeal.nD Cert.LayerTwoIdeal.τ).loc Cert.LayerTwoIdeal.main_arg1)
      ∧ r.2.mem ((c.tc : Thread Cert.LayerTwoIdeal.nD Cert.LayerTwoIdeal.τ).loc Cert.LayerTwoIdeal.main_arg2) = m ((c.tc : Thread Cert.LayerTwoIdeal.nD Cert.LayerTwoIdeal.τ).loc Cert.LayerTwoIdeal.main_arg2)
      ∧ r.2.mem ((c.tc : Thread Cert.LayerTwoIdeal.nD Cert.LayerTwoIdeal.τ).loc Cert.LayerTwoIdeal.main_arg3) = m ((c.tc : Thread Cert.LayerTwoIdeal.nD Cert.LayerTwoIdeal.τ).loc Cert.LayerTwoIdeal.main_arg3)
      ∧ r.2.mem ((c.tc : Thread Cert.LayerTwoIdeal.nD Cert.LayerTwoIdeal.τ).loc Cert.LayerTwoIdeal.main_arg4) = m ((c.tc : Thread Cert.LayerTwoIdeal.nD Cert.LayerTwoIdeal.τ).loc Cert.LayerTwoIdeal.main_arg4)
      ∧ r.2.mem ((c.tc : Thread Cert.LayerTwoIdeal.nD Cert.LayerTwoIdeal.τ).loc Cert.LayerTwoIdeal.main_arg5) = m ((c.tc : Thread Cert.LayerTwoIdeal.nD Cert.LayerTwoIdeal.τ).loc Cert.LayerTwoIdeal.main_arg5))
      ∧ r.2.sem = fun _ => 0)

def quiescent_LayerTwoIdeal_pre_lengths_in_two [hLayerTwoIdeal : Cert.LayerTwoIdeal.Facts] [hPre_lengths_in_two : Cert.Pre_lengths_in_two.Facts] : Prop :=
  ∀ (m : (ℓ : Loc Cert.LayerTwoIdeal.nD Cert.LayerTwoIdeal.τ Cert.LayerTwoIdeal.sig) → Buf (Elt Ideal) ℓ) (g : Dev Cert.LayerTwoIdeal.nD → PrngReg), Pre_LayerTwoIdeal_lengths_in_two m →
    θ_run (Cert.LayerTwoIdeal.defs (F := Ideal)) (onTc (τ := Cert.LayerTwoIdeal.τ) (Cert.LayerTwoIdeal.main (F := Ideal))) ⟨m, fun _ => 0, g⟩ (fun r => (∀ c : Dev Cert.LayerTwoIdeal.nD,
      r.2.mem ((c.tc : Thread Cert.LayerTwoIdeal.nD Cert.LayerTwoIdeal.τ).loc Cert.LayerTwoIdeal.main_arg0) = m ((c.tc : Thread Cert.LayerTwoIdeal.nD Cert.LayerTwoIdeal.τ).loc Cert.LayerTwoIdeal.main_arg0)
      ∧ r.2.mem ((c.tc : Thread Cert.LayerTwoIdeal.nD Cert.LayerTwoIdeal.τ).loc Cert.LayerTwoIdeal.main_arg1) = m ((c.tc : Thread Cert.LayerTwoIdeal.nD Cert.LayerTwoIdeal.τ).loc Cert.LayerTwoIdeal.main_arg1)
      ∧ r.2.mem ((c.tc : Thread Cert.LayerTwoIdeal.nD Cert.LayerTwoIdeal.τ).loc Cert.LayerTwoIdeal.main_arg2) = m ((c.tc : Thread Cert.LayerTwoIdeal.nD Cert.LayerTwoIdeal.τ).loc Cert.LayerTwoIdeal.main_arg2)
      ∧ r.2.mem ((c.tc : Thread Cert.LayerTwoIdeal.nD Cert.LayerTwoIdeal.τ).loc Cert.LayerTwoIdeal.main_arg3) = m ((c.tc : Thread Cert.LayerTwoIdeal.nD Cert.LayerTwoIdeal.τ).loc Cert.LayerTwoIdeal.main_arg3)
      ∧ r.2.mem ((c.tc : Thread Cert.LayerTwoIdeal.nD Cert.LayerTwoIdeal.τ).loc Cert.LayerTwoIdeal.main_arg4) = m ((c.tc : Thread Cert.LayerTwoIdeal.nD Cert.LayerTwoIdeal.τ).loc Cert.LayerTwoIdeal.main_arg4)
      ∧ r.2.mem ((c.tc : Thread Cert.LayerTwoIdeal.nD Cert.LayerTwoIdeal.τ).loc Cert.LayerTwoIdeal.main_arg5) = m ((c.tc : Thread Cert.LayerTwoIdeal.nD Cert.LayerTwoIdeal.τ).loc Cert.LayerTwoIdeal.main_arg5))
      ∧ r.2.sem = fun _ => 0)

def quiescent_LayerTwoRefIdeal [hLayerTwoRefIdeal : Cert.LayerTwoRefIdeal.Facts] : Prop :=
  ∀ (m : (ℓ : Loc Cert.LayerTwoRefIdeal.nD Cert.LayerTwoRefIdeal.τ Cert.LayerTwoRefIdeal.sig) → Buf (Elt Ideal) ℓ) (g : Dev Cert.LayerTwoRefIdeal.nD → PrngReg), Pre_LayerTwoRefIdeal m →
    θ_run (Cert.LayerTwoRefIdeal.defs (F := Ideal)) (onTc (τ := Cert.LayerTwoRefIdeal.τ) (Cert.LayerTwoRefIdeal.main (F := Ideal))) ⟨m, fun _ => 0, g⟩ (fun r => (∀ c : Dev Cert.LayerTwoRefIdeal.nD,
      r.2.mem ((c.tc : Thread Cert.LayerTwoRefIdeal.nD Cert.LayerTwoRefIdeal.τ).loc Cert.LayerTwoRefIdeal.main_arg0) = m ((c.tc : Thread Cert.LayerTwoRefIdeal.nD Cert.LayerTwoRefIdeal.τ).loc Cert.LayerTwoRefIdeal.main_arg0)
      ∧ r.2.mem ((c.tc : Thread Cert.LayerTwoRefIdeal.nD Cert.LayerTwoRefIdeal.τ).loc Cert.LayerTwoRefIdeal.main_arg1) = m ((c.tc : Thread Cert.LayerTwoRefIdeal.nD Cert.LayerTwoRefIdeal.τ).loc Cert.LayerTwoRefIdeal.main_arg1)
      ∧ r.2.mem ((c.tc : Thread Cert.LayerTwoRefIdeal.nD Cert.LayerTwoRefIdeal.τ).loc Cert.LayerTwoRefIdeal.main_arg2) = m ((c.tc : Thread Cert.LayerTwoRefIdeal.nD Cert.LayerTwoRefIdeal.τ).loc Cert.LayerTwoRefIdeal.main_arg2)
      ∧ r.2.mem ((c.tc : Thread Cert.LayerTwoRefIdeal.nD Cert.LayerTwoRefIdeal.τ).loc Cert.LayerTwoRefIdeal.main_arg3) = m ((c.tc : Thread Cert.LayerTwoRefIdeal.nD Cert.LayerTwoRefIdeal.τ).loc Cert.LayerTwoRefIdeal.main_arg3)
      ∧ r.2.mem ((c.tc : Thread Cert.LayerTwoRefIdeal.nD Cert.LayerTwoRefIdeal.τ).loc Cert.LayerTwoRefIdeal.main_arg4) = m ((c.tc : Thread Cert.LayerTwoRefIdeal.nD Cert.LayerTwoRefIdeal.τ).loc Cert.LayerTwoRefIdeal.main_arg4)
      ∧ r.2.mem ((c.tc : Thread Cert.LayerTwoRefIdeal.nD Cert.LayerTwoRefIdeal.τ).loc Cert.LayerTwoRefIdeal.main_arg5) = m ((c.tc : Thread Cert.LayerTwoRefIdeal.nD Cert.LayerTwoRefIdeal.τ).loc Cert.LayerTwoRefIdeal.main_arg5))
      ∧ r.2.sem = fun _ => 0)

def quiescent_LayerTwoRefIdeal_pre_lengths_in_two [hLayerTwoRefIdeal : Cert.LayerTwoRefIdeal.Facts] [hPre_lengths_in_two : Cert.Pre_lengths_in_two.Facts] : Prop :=
  ∀ (m : (ℓ : Loc Cert.LayerTwoRefIdeal.nD Cert.LayerTwoRefIdeal.τ Cert.LayerTwoRefIdeal.sig) → Buf (Elt Ideal) ℓ) (g : Dev Cert.LayerTwoRefIdeal.nD → PrngReg), Pre_LayerTwoRefIdeal_lengths_in_two m →
    θ_run (Cert.LayerTwoRefIdeal.defs (F := Ideal)) (onTc (τ := Cert.LayerTwoRefIdeal.τ) (Cert.LayerTwoRefIdeal.main (F := Ideal))) ⟨m, fun _ => 0, g⟩ (fun r => (∀ c : Dev Cert.LayerTwoRefIdeal.nD,
      r.2.mem ((c.tc : Thread Cert.LayerTwoRefIdeal.nD Cert.LayerTwoRefIdeal.τ).loc Cert.LayerTwoRefIdeal.main_arg0) = m ((c.tc : Thread Cert.LayerTwoRefIdeal.nD Cert.LayerTwoRefIdeal.τ).loc Cert.LayerTwoRefIdeal.main_arg0)
      ∧ r.2.mem ((c.tc : Thread Cert.LayerTwoRefIdeal.nD Cert.LayerTwoRefIdeal.τ).loc Cert.LayerTwoRefIdeal.main_arg1) = m ((c.tc : Thread Cert.LayerTwoRefIdeal.nD Cert.LayerTwoRefIdeal.τ).loc Cert.LayerTwoRefIdeal.main_arg1)
      ∧ r.2.mem ((c.tc : Thread Cert.LayerTwoRefIdeal.nD Cert.LayerTwoRefIdeal.τ).loc Cert.LayerTwoRefIdeal.main_arg2) = m ((c.tc : Thread Cert.LayerTwoRefIdeal.nD Cert.LayerTwoRefIdeal.τ).loc Cert.LayerTwoRefIdeal.main_arg2)
      ∧ r.2.mem ((c.tc : Thread Cert.LayerTwoRefIdeal.nD Cert.LayerTwoRefIdeal.τ).loc Cert.LayerTwoRefIdeal.main_arg3) = m ((c.tc : Thread Cert.LayerTwoRefIdeal.nD Cert.LayerTwoRefIdeal.τ).loc Cert.LayerTwoRefIdeal.main_arg3)
      ∧ r.2.mem ((c.tc : Thread Cert.LayerTwoRefIdeal.nD Cert.LayerTwoRefIdeal.τ).loc Cert.LayerTwoRefIdeal.main_arg4) = m ((c.tc : Thread Cert.LayerTwoRefIdeal.nD Cert.LayerTwoRefIdeal.τ).loc Cert.LayerTwoRefIdeal.main_arg4)
      ∧ r.2.mem ((c.tc : Thread Cert.LayerTwoRefIdeal.nD Cert.LayerTwoRefIdeal.τ).loc Cert.LayerTwoRefIdeal.main_arg5) = m ((c.tc : Thread Cert.LayerTwoRefIdeal.nD Cert.LayerTwoRefIdeal.τ).loc Cert.LayerTwoRefIdeal.main_arg5))
      ∧ r.2.sem = fun _ => 0)

def quiescent_Decoder [hDecoder : Cert.Decoder.Facts] : Prop :=
  ∀ (m : (ℓ : Loc Cert.Decoder.nD Cert.Decoder.τ Cert.Decoder.sig) → Buf (Elt Bits) ℓ) (g : Dev Cert.Decoder.nD → PrngReg), Pre_Decoder m →
    θ_run (Cert.Decoder.defs (F := Bits)) (onTc (τ := Cert.Decoder.τ) (Cert.Decoder.main (F := Bits))) ⟨m, fun _ => 0, g⟩ (fun r => (∀ c : Dev Cert.Decoder.nD,
      r.2.mem ((c.tc : Thread Cert.Decoder.nD Cert.Decoder.τ).loc Cert.Decoder.main_arg0) = m ((c.tc : Thread Cert.Decoder.nD Cert.Decoder.τ).loc Cert.Decoder.main_arg0)
      ∧ r.2.mem ((c.tc : Thread Cert.Decoder.nD Cert.Decoder.τ).loc Cert.Decoder.main_arg1) = m ((c.tc : Thread Cert.Decoder.nD Cert.Decoder.τ).loc Cert.Decoder.main_arg1)
      ∧ r.2.mem ((c.tc : Thread Cert.Decoder.nD Cert.Decoder.τ).loc Cert.Decoder.main_arg2) = m ((c.tc : Thread Cert.Decoder.nD Cert.Decoder.τ).loc Cert.Decoder.main_arg2)
      ∧ r.2.mem ((c.tc : Thread Cert.Decoder.nD Cert.Decoder.τ).loc Cert.Decoder.main_arg3) = m ((c.tc : Thread Cert.Decoder.nD Cert.Decoder.τ).loc Cert.Decoder.main_arg3)
      ∧ r.2.mem ((c.tc : Thread Cert.Decoder.nD Cert.Decoder.τ).loc Cert.Decoder.main_arg4) = m ((c.tc : Thread Cert.Decoder.nD Cert.Decoder.τ).loc Cert.Decoder.main_arg4)
      ∧ r.2.mem ((c.tc : Thread Cert.Decoder.nD Cert.Decoder.τ).loc Cert.Decoder.main_arg5) = m ((c.tc : Thread Cert.Decoder.nD Cert.Decoder.τ).loc Cert.Decoder.main_arg5)
      ∧ r.2.mem ((c.tc : Thread Cert.Decoder.nD Cert.Decoder.τ).loc Cert.Decoder.main_arg6) = m ((c.tc : Thread Cert.Decoder.nD Cert.Decoder.τ).loc Cert.Decoder.main_arg6)
      ∧ r.2.mem ((c.tc : Thread Cert.Decoder.nD Cert.Decoder.τ).loc Cert.Decoder.main_arg7) = m ((c.tc : Thread Cert.Decoder.nD Cert.Decoder.τ).loc Cert.Decoder.main_arg7)
      ∧ r.2.mem ((c.tc : Thread Cert.Decoder.nD Cert.Decoder.τ).loc Cert.Decoder.main_arg8) = m ((c.tc : Thread Cert.Decoder.nD Cert.Decoder.τ).loc Cert.Decoder.main_arg8)
      ∧ r.2.mem ((c.tc : Thread Cert.Decoder.nD Cert.Decoder.τ).loc Cert.Decoder.main_arg9) = m ((c.tc : Thread Cert.Decoder.nD Cert.Decoder.τ).loc Cert.Decoder.main_arg9)
      ∧ r.2.mem ((c.tc : Thread Cert.Decoder.nD Cert.Decoder.τ).loc Cert.Decoder.main_arg10) = m ((c.tc : Thread Cert.Decoder.nD Cert.Decoder.τ).loc Cert.Decoder.main_arg10)
      ∧ r.2.mem ((c.tc : Thread Cert.Decoder.nD Cert.Decoder.τ).loc Cert.Decoder.main_arg11) = m ((c.tc : Thread Cert.Decoder.nD Cert.Decoder.τ).loc Cert.Decoder.main_arg11)
      ∧ r.2.mem ((c.tc : Thread Cert.Decoder.nD Cert.Decoder.τ).loc Cert.Decoder.main_arg12) = m ((c.tc : Thread Cert.Decoder.nD Cert.Decoder.τ).loc Cert.Decoder.main_arg12)
      ∧ r.2.mem ((c.tc : Thread Cert.Decoder.nD Cert.Decoder.τ).loc Cert.Decoder.main_arg13) = m ((c.tc : Thread Cert.Decoder.nD Cert.Decoder.τ).loc Cert.Decoder.main_arg13)
      ∧ r.2.mem ((c.tc : Thread Cert.Decoder.nD Cert.Decoder.τ).loc Cert.Decoder.main_arg14) = m ((c.tc : Thread Cert.Decoder.nD Cert.Decoder.τ).loc Cert.Decoder.main_arg14))
      ∧ r.2.sem = fun _ => 0)

def quiescent_DecoderIdeal [hDecoderIdeal : Cert.DecoderIdeal.Facts] : Prop :=
  ∀ (m : (ℓ : Loc Cert.DecoderIdeal.nD Cert.DecoderIdeal.τ Cert.DecoderIdeal.sig) → Buf (Elt Ideal) ℓ) (g : Dev Cert.DecoderIdeal.nD → PrngReg), Pre_DecoderIdeal m →
    θ_run (Cert.DecoderIdeal.defs (F := Ideal)) (onTc (τ := Cert.DecoderIdeal.τ) (Cert.DecoderIdeal.main (F := Ideal))) ⟨m, fun _ => 0, g⟩ (fun r => (∀ c : Dev Cert.DecoderIdeal.nD,
      r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
      ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
      ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
      ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
      ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4)
      ∧ r.2.mem ((c.tc : Thread Cert.DecoderIdeal.nD Cert.DecoderIdeal.τ).loc Cert.DecoderIdeal.main_arg5) = m ((c.tc : Thread Cert.DecoderIdeal.nD Cert.DecoderIdeal.τ).loc Cert.DecoderIdeal.main_arg5)
      ∧ r.2.mem ((c.tc : Thread Cert.DecoderIdeal.nD Cert.DecoderIdeal.τ).loc Cert.DecoderIdeal.main_arg6) = m ((c.tc : Thread Cert.DecoderIdeal.nD Cert.DecoderIdeal.τ).loc Cert.DecoderIdeal.main_arg6)
      ∧ r.2.mem ((c.tc : Thread Cert.DecoderIdeal.nD Cert.DecoderIdeal.τ).loc Cert.DecoderIdeal.main_arg7) = m ((c.tc : Thread Cert.DecoderIdeal.nD Cert.DecoderIdeal.τ).loc Cert.DecoderIdeal.main_arg7)
      ∧ r.2.mem ((c.tc : Thread Cert.DecoderIdeal.nD Cert.DecoderIdeal.τ).loc Cert.DecoderIdeal.main_arg8) = m ((c.tc : Thread Cert.DecoderIdeal.nD Cert.DecoderIdeal.τ).loc Cert.DecoderIdeal.main_arg8)
      ∧ r.2.mem ((c.tc : Thread Cert.DecoderIdeal.nD Cert.DecoderIdeal.τ).loc Cert.DecoderIdeal.main_arg9) = m ((c.tc : Thread Cert.DecoderIdeal.nD Cert.DecoderIdeal.τ).loc Cert.DecoderIdeal.main_arg9)
      ∧ r.2.mem ((c.tc : Thread Cert.DecoderIdeal.nD Cert.DecoderIdeal.τ).loc Cert.DecoderIdeal.main_arg10) = m ((c.tc : Thread Cert.DecoderIdeal.nD Cert.DecoderIdeal.τ).loc Cert.DecoderIdeal.main_arg10)
      ∧ r.2.mem ((c.tc : Thread Cert.DecoderIdeal.nD Cert.DecoderIdeal.τ).loc Cert.DecoderIdeal.main_arg11) = m ((c.tc : Thread Cert.DecoderIdeal.nD Cert.DecoderIdeal.τ).loc Cert.DecoderIdeal.main_arg11)
      ∧ r.2.mem ((c.tc : Thread Cert.DecoderIdeal.nD Cert.DecoderIdeal.τ).loc Cert.DecoderIdeal.main_arg12) = m ((c.tc : Thread Cert.DecoderIdeal.nD Cert.DecoderIdeal.τ).loc Cert.DecoderIdeal.main_arg12)
      ∧ r.2.mem ((c.tc : Thread Cert.DecoderIdeal.nD Cert.DecoderIdeal.τ).loc Cert.DecoderIdeal.main_arg13) = m ((c.tc : Thread Cert.DecoderIdeal.nD Cert.DecoderIdeal.τ).loc Cert.DecoderIdeal.main_arg13)
      ∧ r.2.mem ((c.tc : Thread Cert.DecoderIdeal.nD Cert.DecoderIdeal.τ).loc Cert.DecoderIdeal.main_arg14) = m ((c.tc : Thread Cert.DecoderIdeal.nD Cert.DecoderIdeal.τ).loc Cert.DecoderIdeal.main_arg14))
      ∧ r.2.sem = fun _ => 0)

def quiescent_DecoderIdeal_pre_filters_finite [hDecoderIdeal : Cert.DecoderIdeal.Facts] [hPre_filters_finite : Cert.Pre_filters_finite.Facts] : Prop :=
  ∀ (m : (ℓ : Loc Cert.DecoderIdeal.nD Cert.DecoderIdeal.τ Cert.DecoderIdeal.sig) → Buf (Elt Ideal) ℓ) (g : Dev Cert.DecoderIdeal.nD → PrngReg), Pre_DecoderIdeal_filters_finite m →
    θ_run (Cert.DecoderIdeal.defs (F := Ideal)) (onTc (τ := Cert.DecoderIdeal.τ) (Cert.DecoderIdeal.main (F := Ideal))) ⟨m, fun _ => 0, g⟩ (fun r => (∀ c : Dev Cert.DecoderIdeal.nD,
      r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
      ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
      ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
      ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
      ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4)
      ∧ r.2.mem ((c.tc : Thread Cert.DecoderIdeal.nD Cert.DecoderIdeal.τ).loc Cert.DecoderIdeal.main_arg5) = m ((c.tc : Thread Cert.DecoderIdeal.nD Cert.DecoderIdeal.τ).loc Cert.DecoderIdeal.main_arg5)
      ∧ r.2.mem ((c.tc : Thread Cert.DecoderIdeal.nD Cert.DecoderIdeal.τ).loc Cert.DecoderIdeal.main_arg6) = m ((c.tc : Thread Cert.DecoderIdeal.nD Cert.DecoderIdeal.τ).loc Cert.DecoderIdeal.main_arg6)
      ∧ r.2.mem ((c.tc : Thread Cert.DecoderIdeal.nD Cert.DecoderIdeal.τ).loc Cert.DecoderIdeal.main_arg7) = m ((c.tc : Thread Cert.DecoderIdeal.nD Cert.DecoderIdeal.τ).loc Cert.DecoderIdeal.main_arg7)
      ∧ r.2.mem ((c.tc : Thread Cert.DecoderIdeal.nD Cert.DecoderIdeal.τ).loc Cert.DecoderIdeal.main_arg8) = m ((c.tc : Thread Cert.DecoderIdeal.nD Cert.DecoderIdeal.τ).loc Cert.DecoderIdeal.main_arg8)
      ∧ r.2.mem ((c.tc : Thread Cert.DecoderIdeal.nD Cert.DecoderIdeal.τ).loc Cert.DecoderIdeal.main_arg9) = m ((c.tc : Thread Cert.DecoderIdeal.nD Cert.DecoderIdeal.τ).loc Cert.DecoderIdeal.main_arg9)
      ∧ r.2.mem ((c.tc : Thread Cert.DecoderIdeal.nD Cert.DecoderIdeal.τ).loc Cert.DecoderIdeal.main_arg10) = m ((c.tc : Thread Cert.DecoderIdeal.nD Cert.DecoderIdeal.τ).loc Cert.DecoderIdeal.main_arg10)
      ∧ r.2.mem ((c.tc : Thread Cert.DecoderIdeal.nD Cert.DecoderIdeal.τ).loc Cert.DecoderIdeal.main_arg11) = m ((c.tc : Thread Cert.DecoderIdeal.nD Cert.DecoderIdeal.τ).loc Cert.DecoderIdeal.main_arg11)
      ∧ r.2.mem ((c.tc : Thread Cert.DecoderIdeal.nD Cert.DecoderIdeal.τ).loc Cert.DecoderIdeal.main_arg12) = m ((c.tc : Thread Cert.DecoderIdeal.nD Cert.DecoderIdeal.τ).loc Cert.DecoderIdeal.main_arg12)
      ∧ r.2.mem ((c.tc : Thread Cert.DecoderIdeal.nD Cert.DecoderIdeal.τ).loc Cert.DecoderIdeal.main_arg13) = m ((c.tc : Thread Cert.DecoderIdeal.nD Cert.DecoderIdeal.τ).loc Cert.DecoderIdeal.main_arg13)
      ∧ r.2.mem ((c.tc : Thread Cert.DecoderIdeal.nD Cert.DecoderIdeal.τ).loc Cert.DecoderIdeal.main_arg14) = m ((c.tc : Thread Cert.DecoderIdeal.nD Cert.DecoderIdeal.τ).loc Cert.DecoderIdeal.main_arg14))
      ∧ r.2.sem = fun _ => 0)

def quiescent_DecoderRefIdeal [hDecoderRefIdeal : Cert.DecoderRefIdeal.Facts] : Prop :=
  ∀ (m : (ℓ : Loc Cert.DecoderRefIdeal.nD Cert.DecoderRefIdeal.τ Cert.DecoderRefIdeal.sig) → Buf (Elt Ideal) ℓ) (g : Dev Cert.DecoderRefIdeal.nD → PrngReg), Pre_DecoderRefIdeal m →
    θ_run (Cert.DecoderRefIdeal.defs (F := Ideal)) (onTc (τ := Cert.DecoderRefIdeal.τ) (Cert.DecoderRefIdeal.main (F := Ideal))) ⟨m, fun _ => 0, g⟩ (fun r => (∀ c : Dev Cert.DecoderRefIdeal.nD,
      r.2.mem ((c.tc : Thread Cert.DecoderRefIdeal.nD Cert.DecoderRefIdeal.τ).loc Cert.DecoderRefIdeal.main_arg0) = m ((c.tc : Thread Cert.DecoderRefIdeal.nD Cert.DecoderRefIdeal.τ).loc Cert.DecoderRefIdeal.main_arg0)
      ∧ r.2.mem ((c.tc : Thread Cert.DecoderRefIdeal.nD Cert.DecoderRefIdeal.τ).loc Cert.DecoderRefIdeal.main_arg1) = m ((c.tc : Thread Cert.DecoderRefIdeal.nD Cert.DecoderRefIdeal.τ).loc Cert.DecoderRefIdeal.main_arg1)
      ∧ r.2.mem ((c.tc : Thread Cert.DecoderRefIdeal.nD Cert.DecoderRefIdeal.τ).loc Cert.DecoderRefIdeal.main_arg2) = m ((c.tc : Thread Cert.DecoderRefIdeal.nD Cert.DecoderRefIdeal.τ).loc Cert.DecoderRefIdeal.main_arg2)
      ∧ r.2.mem ((c.tc : Thread Cert.DecoderRefIdeal.nD Cert.DecoderRefIdeal.τ).loc Cert.DecoderRefIdeal.main_arg3) = m ((c.tc : Thread Cert.DecoderRefIdeal.nD Cert.DecoderRefIdeal.τ).loc Cert.DecoderRefIdeal.main_arg3)
      ∧ r.2.mem ((c.tc : Thread Cert.DecoderRefIdeal.nD Cert.DecoderRefIdeal.τ).loc Cert.DecoderRefIdeal.main_arg4) = m ((c.tc : Thread Cert.DecoderRefIdeal.nD Cert.DecoderRefIdeal.τ).loc Cert.DecoderRefIdeal.main_arg4)
      ∧ r.2.mem ((c.tc : Thread Cert.DecoderRefIdeal.nD Cert.DecoderRefIdeal.τ).loc Cert.DecoderRefIdeal.main_arg5) = m ((c.tc : Thread Cert.DecoderRefIdeal.nD Cert.DecoderRefIdeal.τ).loc Cert.DecoderRefIdeal.main_arg5)
      ∧ r.2.mem ((c.tc : Thread Cert.DecoderRefIdeal.nD Cert.DecoderRefIdeal.τ).loc Cert.DecoderRefIdeal.main_arg6) = m ((c.tc : Thread Cert.DecoderRefIdeal.nD Cert.DecoderRefIdeal.τ).loc Cert.DecoderRefIdeal.main_arg6)
      ∧ r.2.mem ((c.tc : Thread Cert.DecoderRefIdeal.nD Cert.DecoderRefIdeal.τ).loc Cert.DecoderRefIdeal.main_arg7) = m ((c.tc : Thread Cert.DecoderRefIdeal.nD Cert.DecoderRefIdeal.τ).loc Cert.DecoderRefIdeal.main_arg7)
      ∧ r.2.mem ((c.tc : Thread Cert.DecoderRefIdeal.nD Cert.DecoderRefIdeal.τ).loc Cert.DecoderRefIdeal.main_arg8) = m ((c.tc : Thread Cert.DecoderRefIdeal.nD Cert.DecoderRefIdeal.τ).loc Cert.DecoderRefIdeal.main_arg8)
      ∧ r.2.mem ((c.tc : Thread Cert.DecoderRefIdeal.nD Cert.DecoderRefIdeal.τ).loc Cert.DecoderRefIdeal.main_arg9) = m ((c.tc : Thread Cert.DecoderRefIdeal.nD Cert.DecoderRefIdeal.τ).loc Cert.DecoderRefIdeal.main_arg9)
      ∧ r.2.mem ((c.tc : Thread Cert.DecoderRefIdeal.nD Cert.DecoderRefIdeal.τ).loc Cert.DecoderRefIdeal.main_arg10) = m ((c.tc : Thread Cert.DecoderRefIdeal.nD Cert.DecoderRefIdeal.τ).loc Cert.DecoderRefIdeal.main_arg10)
      ∧ r.2.mem ((c.tc : Thread Cert.DecoderRefIdeal.nD Cert.DecoderRefIdeal.τ).loc Cert.DecoderRefIdeal.main_arg11) = m ((c.tc : Thread Cert.DecoderRefIdeal.nD Cert.DecoderRefIdeal.τ).loc Cert.DecoderRefIdeal.main_arg11)
      ∧ r.2.mem ((c.tc : Thread Cert.DecoderRefIdeal.nD Cert.DecoderRefIdeal.τ).loc Cert.DecoderRefIdeal.main_arg12) = m ((c.tc : Thread Cert.DecoderRefIdeal.nD Cert.DecoderRefIdeal.τ).loc Cert.DecoderRefIdeal.main_arg12)
      ∧ r.2.mem ((c.tc : Thread Cert.DecoderRefIdeal.nD Cert.DecoderRefIdeal.τ).loc Cert.DecoderRefIdeal.main_arg13) = m ((c.tc : Thread Cert.DecoderRefIdeal.nD Cert.DecoderRefIdeal.τ).loc Cert.DecoderRefIdeal.main_arg13)
      ∧ r.2.mem ((c.tc : Thread Cert.DecoderRefIdeal.nD Cert.DecoderRefIdeal.τ).loc Cert.DecoderRefIdeal.main_arg14) = m ((c.tc : Thread Cert.DecoderRefIdeal.nD Cert.DecoderRefIdeal.τ).loc Cert.DecoderRefIdeal.main_arg14))
      ∧ r.2.sem = fun _ => 0)

def quiescent_DecoderRefIdeal_pre_filters_finite [hDecoderRefIdeal : Cert.DecoderRefIdeal.Facts] [hPre_filters_finite : Cert.Pre_filters_finite.Facts] : Prop :=
  ∀ (m : (ℓ : Loc Cert.DecoderRefIdeal.nD Cert.DecoderRefIdeal.τ Cert.DecoderRefIdeal.sig) → Buf (Elt Ideal) ℓ) (g : Dev Cert.DecoderRefIdeal.nD → PrngReg), Pre_DecoderRefIdeal_filters_finite m →
    θ_run (Cert.DecoderRefIdeal.defs (F := Ideal)) (onTc (τ := Cert.DecoderRefIdeal.τ) (Cert.DecoderRefIdeal.main (F := Ideal))) ⟨m, fun _ => 0, g⟩ (fun r => (∀ c : Dev Cert.DecoderRefIdeal.nD,
      r.2.mem ((c.tc : Thread Cert.DecoderRefIdeal.nD Cert.DecoderRefIdeal.τ).loc Cert.DecoderRefIdeal.main_arg0) = m ((c.tc : Thread Cert.DecoderRefIdeal.nD Cert.DecoderRefIdeal.τ).loc Cert.DecoderRefIdeal.main_arg0)
      ∧ r.2.mem ((c.tc : Thread Cert.DecoderRefIdeal.nD Cert.DecoderRefIdeal.τ).loc Cert.DecoderRefIdeal.main_arg1) = m ((c.tc : Thread Cert.DecoderRefIdeal.nD Cert.DecoderRefIdeal.τ).loc Cert.DecoderRefIdeal.main_arg1)
      ∧ r.2.mem ((c.tc : Thread Cert.DecoderRefIdeal.nD Cert.DecoderRefIdeal.τ).loc Cert.DecoderRefIdeal.main_arg2) = m ((c.tc : Thread Cert.DecoderRefIdeal.nD Cert.DecoderRefIdeal.τ).loc Cert.DecoderRefIdeal.main_arg2)
      ∧ r.2.mem ((c.tc : Thread Cert.DecoderRefIdeal.nD Cert.DecoderRefIdeal.τ).loc Cert.DecoderRefIdeal.main_arg3) = m ((c.tc : Thread Cert.DecoderRefIdeal.nD Cert.DecoderRefIdeal.τ).loc Cert.DecoderRefIdeal.main_arg3)
      ∧ r.2.mem ((c.tc : Thread Cert.DecoderRefIdeal.nD Cert.DecoderRefIdeal.τ).loc Cert.DecoderRefIdeal.main_arg4) = m ((c.tc : Thread Cert.DecoderRefIdeal.nD Cert.DecoderRefIdeal.τ).loc Cert.DecoderRefIdeal.main_arg4)
      ∧ r.2.mem ((c.tc : Thread Cert.DecoderRefIdeal.nD Cert.DecoderRefIdeal.τ).loc Cert.DecoderRefIdeal.main_arg5) = m ((c.tc : Thread Cert.DecoderRefIdeal.nD Cert.DecoderRefIdeal.τ).loc Cert.DecoderRefIdeal.main_arg5)
      ∧ r.2.mem ((c.tc : Thread Cert.DecoderRefIdeal.nD Cert.DecoderRefIdeal.τ).loc Cert.DecoderRefIdeal.main_arg6) = m ((c.tc : Thread Cert.DecoderRefIdeal.nD Cert.DecoderRefIdeal.τ).loc Cert.DecoderRefIdeal.main_arg6)
      ∧ r.2.mem ((c.tc : Thread Cert.DecoderRefIdeal.nD Cert.DecoderRefIdeal.τ).loc Cert.DecoderRefIdeal.main_arg7) = m ((c.tc : Thread Cert.DecoderRefIdeal.nD Cert.DecoderRefIdeal.τ).loc Cert.DecoderRefIdeal.main_arg7)
      ∧ r.2.mem ((c.tc : Thread Cert.DecoderRefIdeal.nD Cert.DecoderRefIdeal.τ).loc Cert.DecoderRefIdeal.main_arg8) = m ((c.tc : Thread Cert.DecoderRefIdeal.nD Cert.DecoderRefIdeal.τ).loc Cert.DecoderRefIdeal.main_arg8)
      ∧ r.2.mem ((c.tc : Thread Cert.DecoderRefIdeal.nD Cert.DecoderRefIdeal.τ).loc Cert.DecoderRefIdeal.main_arg9) = m ((c.tc : Thread Cert.DecoderRefIdeal.nD Cert.DecoderRefIdeal.τ).loc Cert.DecoderRefIdeal.main_arg9)
      ∧ r.2.mem ((c.tc : Thread Cert.DecoderRefIdeal.nD Cert.DecoderRefIdeal.τ).loc Cert.DecoderRefIdeal.main_arg10) = m ((c.tc : Thread Cert.DecoderRefIdeal.nD Cert.DecoderRefIdeal.τ).loc Cert.DecoderRefIdeal.main_arg10)
      ∧ r.2.mem ((c.tc : Thread Cert.DecoderRefIdeal.nD Cert.DecoderRefIdeal.τ).loc Cert.DecoderRefIdeal.main_arg11) = m ((c.tc : Thread Cert.DecoderRefIdeal.nD Cert.DecoderRefIdeal.τ).loc Cert.DecoderRefIdeal.main_arg11)
      ∧ r.2.mem ((c.tc : Thread Cert.DecoderRefIdeal.nD Cert.DecoderRefIdeal.τ).loc Cert.DecoderRefIdeal.main_arg12) = m ((c.tc : Thread Cert.DecoderRefIdeal.nD Cert.DecoderRefIdeal.τ).loc Cert.DecoderRefIdeal.main_arg12)
      ∧ r.2.mem ((c.tc : Thread Cert.DecoderRefIdeal.nD Cert.DecoderRefIdeal.τ).loc Cert.DecoderRefIdeal.main_arg13) = m ((c.tc : Thread Cert.DecoderRefIdeal.nD Cert.DecoderRefIdeal.τ).loc Cert.DecoderRefIdeal.main_arg13)
      ∧ r.2.mem ((c.tc : Thread Cert.DecoderRefIdeal.nD Cert.DecoderRefIdeal.τ).loc Cert.DecoderRefIdeal.main_arg14) = m ((c.tc : Thread Cert.DecoderRefIdeal.nD Cert.DecoderRefIdeal.τ).loc Cert.DecoderRefIdeal.main_arg14))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v5) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_LayerOne_LayerOneIdeal : Prop :=
  True

def algebraic_LayerOneIdeal_LayerOneRefIdeal_pre_lengths_in_one [hLayerOneIdeal : Cert.LayerOneIdeal.Facts] [hLayerOneRefIdeal : Cert.LayerOneRefIdeal.Facts] [hPre_lengths_in_one : Cert.Pre_lengths_in_one.Facts] : Prop :=
  ∀ (m : (ℓ : Loc Cert.LayerOneIdeal.nD Cert.LayerOneIdeal.τ Cert.LayerOneIdeal.sig) → Buf (Elt Ideal) ℓ) (g : Dev Cert.LayerOneIdeal.nD → PrngReg)
    (m' : (ℓ : Loc Cert.LayerOneRefIdeal.nD Cert.LayerOneRefIdeal.τ Cert.LayerOneRefIdeal.sig) → Buf (Elt Ideal) ℓ) (g' : Dev Cert.LayerOneRefIdeal.nD → PrngReg), Pre_LayerOneIdeal_lengths_in_one m →
    (∀ c : Dev Cert.LayerOneIdeal.nD,
      m' ((c.tc : Thread Cert.LayerOneRefIdeal.nD Cert.LayerOneRefIdeal.τ).loc Cert.LayerOneRefIdeal.main_arg0) = m ((c.tc : Thread Cert.LayerOneIdeal.nD Cert.LayerOneIdeal.τ).loc Cert.LayerOneIdeal.main_arg0)
      ∧ m' ((c.tc : Thread Cert.LayerOneRefIdeal.nD Cert.LayerOneRefIdeal.τ).loc Cert.LayerOneRefIdeal.main_arg1) = m ((c.tc : Thread Cert.LayerOneIdeal.nD Cert.LayerOneIdeal.τ).loc Cert.LayerOneIdeal.main_arg1)
      ∧ m' ((c.tc : Thread Cert.LayerOneRefIdeal.nD Cert.LayerOneRefIdeal.τ).loc Cert.LayerOneRefIdeal.main_arg2) = m ((c.tc : Thread Cert.LayerOneIdeal.nD Cert.LayerOneIdeal.τ).loc Cert.LayerOneIdeal.main_arg2)
      ∧ m' ((c.tc : Thread Cert.LayerOneRefIdeal.nD Cert.LayerOneRefIdeal.τ).loc Cert.LayerOneRefIdeal.main_arg3) = m ((c.tc : Thread Cert.LayerOneIdeal.nD Cert.LayerOneIdeal.τ).loc Cert.LayerOneIdeal.main_arg3)
      ∧ m' ((c.tc : Thread Cert.LayerOneRefIdeal.nD Cert.LayerOneRefIdeal.τ).loc Cert.LayerOneRefIdeal.main_arg4) = m ((c.tc : Thread Cert.LayerOneIdeal.nD Cert.LayerOneIdeal.τ).loc Cert.LayerOneIdeal.main_arg4)
      ∧ m' ((c.tc : Thread Cert.LayerOneRefIdeal.nD Cert.LayerOneRefIdeal.τ).loc Cert.LayerOneRefIdeal.main_arg5) = m ((c.tc : Thread Cert.LayerOneIdeal.nD Cert.LayerOneIdeal.τ).loc Cert.LayerOneIdeal.main_arg5)
      ∧ m' ((c.tc : Thread Cert.LayerOneRefIdeal.nD Cert.LayerOneRefIdeal.τ).loc Cert.LayerOneRefIdeal.main_arg6) = m ((c.tc : Thread Cert.LayerOneIdeal.nD Cert.LayerOneIdeal.τ).loc Cert.LayerOneIdeal.main_arg6)
      ∧ m' ((c.tc : Thread Cert.LayerOneRefIdeal.nD Cert.LayerOneRefIdeal.τ).loc Cert.LayerOneRefIdeal.main_arg7) = m ((c.tc : Thread Cert.LayerOneIdeal.nD Cert.LayerOneIdeal.τ).loc Cert.LayerOneIdeal.main_arg7)) →
    ∃ (v0 : (c : Dev Cert.LayerOneIdeal.nD) → Buf (Elt Ideal) ((c.tc : Thread Cert.LayerOneIdeal.nD Cert.LayerOneIdeal.τ).loc Cert.LayerOneIdeal.main_v19)),
      θ_run (Cert.LayerOneIdeal.defs (F := Ideal)) (onTc (τ := Cert.LayerOneIdeal.τ) (Cert.LayerOneIdeal.main (F := Ideal))) ⟨m, fun _ => 0, g⟩ (fun r => ∀ c : Dev Cert.LayerOneIdeal.nD,
          r.2.mem ((c.tc : Thread Cert.LayerOneIdeal.nD Cert.LayerOneIdeal.τ).loc Cert.LayerOneIdeal.main_v19) = v0 c
          ∧ r.2.mem ((c.tc : Thread Cert.LayerOneIdeal.nD Cert.LayerOneIdeal.τ).loc Cert.LayerOneIdeal.main_arg0) = m ((c.tc : Thread Cert.LayerOneIdeal.nD Cert.LayerOneIdeal.τ).loc Cert.LayerOneIdeal.main_arg0)
          ∧ r.2.mem ((c.tc : Thread Cert.LayerOneIdeal.nD Cert.LayerOneIdeal.τ).loc Cert.LayerOneIdeal.main_arg1) = m ((c.tc : Thread Cert.LayerOneIdeal.nD Cert.LayerOneIdeal.τ).loc Cert.LayerOneIdeal.main_arg1)
          ∧ r.2.mem ((c.tc : Thread Cert.LayerOneIdeal.nD Cert.LayerOneIdeal.τ).loc Cert.LayerOneIdeal.main_arg2) = m ((c.tc : Thread Cert.LayerOneIdeal.nD Cert.LayerOneIdeal.τ).loc Cert.LayerOneIdeal.main_arg2)
          ∧ r.2.mem ((c.tc : Thread Cert.LayerOneIdeal.nD Cert.LayerOneIdeal.τ).loc Cert.LayerOneIdeal.main_arg3) = m ((c.tc : Thread Cert.LayerOneIdeal.nD Cert.LayerOneIdeal.τ).loc Cert.LayerOneIdeal.main_arg3)
          ∧ r.2.mem ((c.tc : Thread Cert.LayerOneIdeal.nD Cert.LayerOneIdeal.τ).loc Cert.LayerOneIdeal.main_arg4) = m ((c.tc : Thread Cert.LayerOneIdeal.nD Cert.LayerOneIdeal.τ).loc Cert.LayerOneIdeal.main_arg4)
          ∧ r.2.mem ((c.tc : Thread Cert.LayerOneIdeal.nD Cert.LayerOneIdeal.τ).loc Cert.LayerOneIdeal.main_arg5) = m ((c.tc : Thread Cert.LayerOneIdeal.nD Cert.LayerOneIdeal.τ).loc Cert.LayerOneIdeal.main_arg5)
          ∧ r.2.mem ((c.tc : Thread Cert.LayerOneIdeal.nD Cert.LayerOneIdeal.τ).loc Cert.LayerOneIdeal.main_arg6) = m ((c.tc : Thread Cert.LayerOneIdeal.nD Cert.LayerOneIdeal.τ).loc Cert.LayerOneIdeal.main_arg6)
          ∧ r.2.mem ((c.tc : Thread Cert.LayerOneIdeal.nD Cert.LayerOneIdeal.τ).loc Cert.LayerOneIdeal.main_arg7) = m ((c.tc : Thread Cert.LayerOneIdeal.nD Cert.LayerOneIdeal.τ).loc Cert.LayerOneIdeal.main_arg7))
      ∧ θ_run (Cert.LayerOneRefIdeal.defs (F := Ideal)) (onTc (τ := Cert.LayerOneRefIdeal.τ) (Cert.LayerOneRefIdeal.main (F := Ideal))) ⟨m', fun _ => 0, g'⟩ (fun r => ∀ c : Dev Cert.LayerOneRefIdeal.nD,
          r.2.mem ((c.tc : Thread Cert.LayerOneRefIdeal.nD Cert.LayerOneRefIdeal.τ).loc Cert.LayerOneRefIdeal.main_v42) = v0 c
          ∧ r.2.mem ((c.tc : Thread Cert.LayerOneRefIdeal.nD Cert.LayerOneRefIdeal.τ).loc Cert.LayerOneRefIdeal.main_arg0) = m' ((c.tc : Thread Cert.LayerOneRefIdeal.nD Cert.LayerOneRefIdeal.τ).loc Cert.LayerOneRefIdeal.main_arg0)
          ∧ r.2.mem ((c.tc : Thread Cert.LayerOneRefIdeal.nD Cert.LayerOneRefIdeal.τ).loc Cert.LayerOneRefIdeal.main_arg1) = m' ((c.tc : Thread Cert.LayerOneRefIdeal.nD Cert.LayerOneRefIdeal.τ).loc Cert.LayerOneRefIdeal.main_arg1)
          ∧ r.2.mem ((c.tc : Thread Cert.LayerOneRefIdeal.nD Cert.LayerOneRefIdeal.τ).loc Cert.LayerOneRefIdeal.main_arg2) = m' ((c.tc : Thread Cert.LayerOneRefIdeal.nD Cert.LayerOneRefIdeal.τ).loc Cert.LayerOneRefIdeal.main_arg2)
          ∧ r.2.mem ((c.tc : Thread Cert.LayerOneRefIdeal.nD Cert.LayerOneRefIdeal.τ).loc Cert.LayerOneRefIdeal.main_arg3) = m' ((c.tc : Thread Cert.LayerOneRefIdeal.nD Cert.LayerOneRefIdeal.τ).loc Cert.LayerOneRefIdeal.main_arg3)
          ∧ r.2.mem ((c.tc : Thread Cert.LayerOneRefIdeal.nD Cert.LayerOneRefIdeal.τ).loc Cert.LayerOneRefIdeal.main_arg4) = m' ((c.tc : Thread Cert.LayerOneRefIdeal.nD Cert.LayerOneRefIdeal.τ).loc Cert.LayerOneRefIdeal.main_arg4)
          ∧ r.2.mem ((c.tc : Thread Cert.LayerOneRefIdeal.nD Cert.LayerOneRefIdeal.τ).loc Cert.LayerOneRefIdeal.main_arg5) = m' ((c.tc : Thread Cert.LayerOneRefIdeal.nD Cert.LayerOneRefIdeal.τ).loc Cert.LayerOneRefIdeal.main_arg5)
          ∧ r.2.mem ((c.tc : Thread Cert.LayerOneRefIdeal.nD Cert.LayerOneRefIdeal.τ).loc Cert.LayerOneRefIdeal.main_arg6) = m' ((c.tc : Thread Cert.LayerOneRefIdeal.nD Cert.LayerOneRefIdeal.τ).loc Cert.LayerOneRefIdeal.main_arg6)
          ∧ r.2.mem ((c.tc : Thread Cert.LayerOneRefIdeal.nD Cert.LayerOneRefIdeal.τ).loc Cert.LayerOneRefIdeal.main_arg7) = m' ((c.tc : Thread Cert.LayerOneRefIdeal.nD Cert.LayerOneRefIdeal.τ).loc Cert.LayerOneRefIdeal.main_arg7))

def preserves_LayerTwo_LayerTwoIdeal : Prop :=
  True

def algebraic_LayerTwoIdeal_LayerTwoRefIdeal_pre_lengths_in_two [hLayerTwoIdeal : Cert.LayerTwoIdeal.Facts] [hLayerTwoRefIdeal : Cert.LayerTwoRefIdeal.Facts] [hPre_lengths_in_two : Cert.Pre_lengths_in_two.Facts] : Prop :=
  ∀ (m : (ℓ : Loc Cert.LayerTwoIdeal.nD Cert.LayerTwoIdeal.τ Cert.LayerTwoIdeal.sig) → Buf (Elt Ideal) ℓ) (g : Dev Cert.LayerTwoIdeal.nD → PrngReg)
    (m' : (ℓ : Loc Cert.LayerTwoRefIdeal.nD Cert.LayerTwoRefIdeal.τ Cert.LayerTwoRefIdeal.sig) → Buf (Elt Ideal) ℓ) (g' : Dev Cert.LayerTwoRefIdeal.nD → PrngReg), Pre_LayerTwoIdeal_lengths_in_two m →
    (∀ c : Dev Cert.LayerTwoIdeal.nD,
      m' ((c.tc : Thread Cert.LayerTwoRefIdeal.nD Cert.LayerTwoRefIdeal.τ).loc Cert.LayerTwoRefIdeal.main_arg0) = m ((c.tc : Thread Cert.LayerTwoIdeal.nD Cert.LayerTwoIdeal.τ).loc Cert.LayerTwoIdeal.main_arg0)
      ∧ m' ((c.tc : Thread Cert.LayerTwoRefIdeal.nD Cert.LayerTwoRefIdeal.τ).loc Cert.LayerTwoRefIdeal.main_arg1) = m ((c.tc : Thread Cert.LayerTwoIdeal.nD Cert.LayerTwoIdeal.τ).loc Cert.LayerTwoIdeal.main_arg1)
      ∧ m' ((c.tc : Thread Cert.LayerTwoRefIdeal.nD Cert.LayerTwoRefIdeal.τ).loc Cert.LayerTwoRefIdeal.main_arg2) = m ((c.tc : Thread Cert.LayerTwoIdeal.nD Cert.LayerTwoIdeal.τ).loc Cert.LayerTwoIdeal.main_arg2)
      ∧ m' ((c.tc : Thread Cert.LayerTwoRefIdeal.nD Cert.LayerTwoRefIdeal.τ).loc Cert.LayerTwoRefIdeal.main_arg3) = m ((c.tc : Thread Cert.LayerTwoIdeal.nD Cert.LayerTwoIdeal.τ).loc Cert.LayerTwoIdeal.main_arg3)
      ∧ m' ((c.tc : Thread Cert.LayerTwoRefIdeal.nD Cert.LayerTwoRefIdeal.τ).loc Cert.LayerTwoRefIdeal.main_arg4) = m ((c.tc : Thread Cert.LayerTwoIdeal.nD Cert.LayerTwoIdeal.τ).loc Cert.LayerTwoIdeal.main_arg4)
      ∧ m' ((c.tc : Thread Cert.LayerTwoRefIdeal.nD Cert.LayerTwoRefIdeal.τ).loc Cert.LayerTwoRefIdeal.main_arg5) = m ((c.tc : Thread Cert.LayerTwoIdeal.nD Cert.LayerTwoIdeal.τ).loc Cert.LayerTwoIdeal.main_arg5)) →
    ∃ (v0 : (c : Dev Cert.LayerTwoIdeal.nD) → Buf (Elt Ideal) ((c.tc : Thread Cert.LayerTwoIdeal.nD Cert.LayerTwoIdeal.τ).loc Cert.LayerTwoIdeal.main_v14)),
      θ_run (Cert.LayerTwoIdeal.defs (F := Ideal)) (onTc (τ := Cert.LayerTwoIdeal.τ) (Cert.LayerTwoIdeal.main (F := Ideal))) ⟨m, fun _ => 0, g⟩ (fun r => ∀ c : Dev Cert.LayerTwoIdeal.nD,
          r.2.mem ((c.tc : Thread Cert.LayerTwoIdeal.nD Cert.LayerTwoIdeal.τ).loc Cert.LayerTwoIdeal.main_v14) = v0 c
          ∧ r.2.mem ((c.tc : Thread Cert.LayerTwoIdeal.nD Cert.LayerTwoIdeal.τ).loc Cert.LayerTwoIdeal.main_arg0) = m ((c.tc : Thread Cert.LayerTwoIdeal.nD Cert.LayerTwoIdeal.τ).loc Cert.LayerTwoIdeal.main_arg0)
          ∧ r.2.mem ((c.tc : Thread Cert.LayerTwoIdeal.nD Cert.LayerTwoIdeal.τ).loc Cert.LayerTwoIdeal.main_arg1) = m ((c.tc : Thread Cert.LayerTwoIdeal.nD Cert.LayerTwoIdeal.τ).loc Cert.LayerTwoIdeal.main_arg1)
          ∧ r.2.mem ((c.tc : Thread Cert.LayerTwoIdeal.nD Cert.LayerTwoIdeal.τ).loc Cert.LayerTwoIdeal.main_arg2) = m ((c.tc : Thread Cert.LayerTwoIdeal.nD Cert.LayerTwoIdeal.τ).loc Cert.LayerTwoIdeal.main_arg2)
          ∧ r.2.mem ((c.tc : Thread Cert.LayerTwoIdeal.nD Cert.LayerTwoIdeal.τ).loc Cert.LayerTwoIdeal.main_arg3) = m ((c.tc : Thread Cert.LayerTwoIdeal.nD Cert.LayerTwoIdeal.τ).loc Cert.LayerTwoIdeal.main_arg3)
          ∧ r.2.mem ((c.tc : Thread Cert.LayerTwoIdeal.nD Cert.LayerTwoIdeal.τ).loc Cert.LayerTwoIdeal.main_arg4) = m ((c.tc : Thread Cert.LayerTwoIdeal.nD Cert.LayerTwoIdeal.τ).loc Cert.LayerTwoIdeal.main_arg4)
          ∧ r.2.mem ((c.tc : Thread Cert.LayerTwoIdeal.nD Cert.LayerTwoIdeal.τ).loc Cert.LayerTwoIdeal.main_arg5) = m ((c.tc : Thread Cert.LayerTwoIdeal.nD Cert.LayerTwoIdeal.τ).loc Cert.LayerTwoIdeal.main_arg5))
      ∧ θ_run (Cert.LayerTwoRefIdeal.defs (F := Ideal)) (onTc (τ := Cert.LayerTwoRefIdeal.τ) (Cert.LayerTwoRefIdeal.main (F := Ideal))) ⟨m', fun _ => 0, g'⟩ (fun r => ∀ c : Dev Cert.LayerTwoRefIdeal.nD,
          r.2.mem ((c.tc : Thread Cert.LayerTwoRefIdeal.nD Cert.LayerTwoRefIdeal.τ).loc Cert.LayerTwoRefIdeal.main_v42) = v0 c
          ∧ r.2.mem ((c.tc : Thread Cert.LayerTwoRefIdeal.nD Cert.LayerTwoRefIdeal.τ).loc Cert.LayerTwoRefIdeal.main_arg0) = m' ((c.tc : Thread Cert.LayerTwoRefIdeal.nD Cert.LayerTwoRefIdeal.τ).loc Cert.LayerTwoRefIdeal.main_arg0)
          ∧ r.2.mem ((c.tc : Thread Cert.LayerTwoRefIdeal.nD Cert.LayerTwoRefIdeal.τ).loc Cert.LayerTwoRefIdeal.main_arg1) = m' ((c.tc : Thread Cert.LayerTwoRefIdeal.nD Cert.LayerTwoRefIdeal.τ).loc Cert.LayerTwoRefIdeal.main_arg1)
          ∧ r.2.mem ((c.tc : Thread Cert.LayerTwoRefIdeal.nD Cert.LayerTwoRefIdeal.τ).loc Cert.LayerTwoRefIdeal.main_arg2) = m' ((c.tc : Thread Cert.LayerTwoRefIdeal.nD Cert.LayerTwoRefIdeal.τ).loc Cert.LayerTwoRefIdeal.main_arg2)
          ∧ r.2.mem ((c.tc : Thread Cert.LayerTwoRefIdeal.nD Cert.LayerTwoRefIdeal.τ).loc Cert.LayerTwoRefIdeal.main_arg3) = m' ((c.tc : Thread Cert.LayerTwoRefIdeal.nD Cert.LayerTwoRefIdeal.τ).loc Cert.LayerTwoRefIdeal.main_arg3)
          ∧ r.2.mem ((c.tc : Thread Cert.LayerTwoRefIdeal.nD Cert.LayerTwoRefIdeal.τ).loc Cert.LayerTwoRefIdeal.main_arg4) = m' ((c.tc : Thread Cert.LayerTwoRefIdeal.nD Cert.LayerTwoRefIdeal.τ).loc Cert.LayerTwoRefIdeal.main_arg4)
          ∧ r.2.mem ((c.tc : Thread Cert.LayerTwoRefIdeal.nD Cert.LayerTwoRefIdeal.τ).loc Cert.LayerTwoRefIdeal.main_arg5) = m' ((c.tc : Thread Cert.LayerTwoRefIdeal.nD Cert.LayerTwoRefIdeal.τ).loc Cert.LayerTwoRefIdeal.main_arg5))

def preserves_Decoder_DecoderIdeal : Prop :=
  True

def algebraic_DecoderIdeal_DecoderRefIdeal_pre_filters_finite [hDecoderIdeal : Cert.DecoderIdeal.Facts] [hDecoderRefIdeal : Cert.DecoderRefIdeal.Facts] [hPre_filters_finite : Cert.Pre_filters_finite.Facts] : Prop :=
  ∀ (m : (ℓ : Loc Cert.DecoderIdeal.nD Cert.DecoderIdeal.τ Cert.DecoderIdeal.sig) → Buf (Elt Ideal) ℓ) (g : Dev Cert.DecoderIdeal.nD → PrngReg)
    (m' : (ℓ : Loc Cert.DecoderRefIdeal.nD Cert.DecoderRefIdeal.τ Cert.DecoderRefIdeal.sig) → Buf (Elt Ideal) ℓ) (g' : Dev Cert.DecoderRefIdeal.nD → PrngReg), Pre_DecoderIdeal_filters_finite m →
    (∀ c : Dev Cert.DecoderIdeal.nD,
      m' ((c.tc : Thread Cert.DecoderRefIdeal.nD Cert.DecoderRefIdeal.τ).loc Cert.DecoderRefIdeal.main_arg0) = m ((c.tc : Thread Cert.DecoderIdeal.nD Cert.DecoderIdeal.τ).loc Cert.DecoderIdeal.main_arg0)
      ∧ m' ((c.tc : Thread Cert.DecoderRefIdeal.nD Cert.DecoderRefIdeal.τ).loc Cert.DecoderRefIdeal.main_arg1) = m ((c.tc : Thread Cert.DecoderIdeal.nD Cert.DecoderIdeal.τ).loc Cert.DecoderIdeal.main_arg1)
      ∧ m' ((c.tc : Thread Cert.DecoderRefIdeal.nD Cert.DecoderRefIdeal.τ).loc Cert.DecoderRefIdeal.main_arg2) = m ((c.tc : Thread Cert.DecoderIdeal.nD Cert.DecoderIdeal.τ).loc Cert.DecoderIdeal.main_arg2)
      ∧ m' ((c.tc : Thread Cert.DecoderRefIdeal.nD Cert.DecoderRefIdeal.τ).loc Cert.DecoderRefIdeal.main_arg3) = m ((c.tc : Thread Cert.DecoderIdeal.nD Cert.DecoderIdeal.τ).loc Cert.DecoderIdeal.main_arg3)
      ∧ m' ((c.tc : Thread Cert.DecoderRefIdeal.nD Cert.DecoderRefIdeal.τ).loc Cert.DecoderRefIdeal.main_arg4) = m ((c.tc : Thread Cert.DecoderIdeal.nD Cert.DecoderIdeal.τ).loc Cert.DecoderIdeal.main_arg4)
      ∧ m' ((c.tc : Thread Cert.DecoderRefIdeal.nD Cert.DecoderRefIdeal.τ).loc Cert.DecoderRefIdeal.main_arg5) = m ((c.tc : Thread Cert.DecoderIdeal.nD Cert.DecoderIdeal.τ).loc Cert.DecoderIdeal.main_arg5)
      ∧ m' ((c.tc : Thread Cert.DecoderRefIdeal.nD Cert.DecoderRefIdeal.τ).loc Cert.DecoderRefIdeal.main_arg6) = m ((c.tc : Thread Cert.DecoderIdeal.nD Cert.DecoderIdeal.τ).loc Cert.DecoderIdeal.main_arg6)
      ∧ m' ((c.tc : Thread Cert.DecoderRefIdeal.nD Cert.DecoderRefIdeal.τ).loc Cert.DecoderRefIdeal.main_arg7) = m ((c.tc : Thread Cert.DecoderIdeal.nD Cert.DecoderIdeal.τ).loc Cert.DecoderIdeal.main_arg7)
      ∧ m' ((c.tc : Thread Cert.DecoderRefIdeal.nD Cert.DecoderRefIdeal.τ).loc Cert.DecoderRefIdeal.main_arg8) = m ((c.tc : Thread Cert.DecoderIdeal.nD Cert.DecoderIdeal.τ).loc Cert.DecoderIdeal.main_arg8)
      ∧ m' ((c.tc : Thread Cert.DecoderRefIdeal.nD Cert.DecoderRefIdeal.τ).loc Cert.DecoderRefIdeal.main_arg9) = m ((c.tc : Thread Cert.DecoderIdeal.nD Cert.DecoderIdeal.τ).loc Cert.DecoderIdeal.main_arg9)
      ∧ m' ((c.tc : Thread Cert.DecoderRefIdeal.nD Cert.DecoderRefIdeal.τ).loc Cert.DecoderRefIdeal.main_arg10) = m ((c.tc : Thread Cert.DecoderIdeal.nD Cert.DecoderIdeal.τ).loc Cert.DecoderIdeal.main_arg10)
      ∧ m' ((c.tc : Thread Cert.DecoderRefIdeal.nD Cert.DecoderRefIdeal.τ).loc Cert.DecoderRefIdeal.main_arg11) = m ((c.tc : Thread Cert.DecoderIdeal.nD Cert.DecoderIdeal.τ).loc Cert.DecoderIdeal.main_arg11)
      ∧ m' ((c.tc : Thread Cert.DecoderRefIdeal.nD Cert.DecoderRefIdeal.τ).loc Cert.DecoderRefIdeal.main_arg12) = m ((c.tc : Thread Cert.DecoderIdeal.nD Cert.DecoderIdeal.τ).loc Cert.DecoderIdeal.main_arg12)
      ∧ m' ((c.tc : Thread Cert.DecoderRefIdeal.nD Cert.DecoderRefIdeal.τ).loc Cert.DecoderRefIdeal.main_arg13) = m ((c.tc : Thread Cert.DecoderIdeal.nD Cert.DecoderIdeal.τ).loc Cert.DecoderIdeal.main_arg13)
      ∧ m' ((c.tc : Thread Cert.DecoderRefIdeal.nD Cert.DecoderRefIdeal.τ).loc Cert.DecoderRefIdeal.main_arg14) = m ((c.tc : Thread Cert.DecoderIdeal.nD Cert.DecoderIdeal.τ).loc Cert.DecoderIdeal.main_arg14)) →
    ∃ (v0 : (c : Dev Cert.DecoderIdeal.nD) → Buf (Elt Ideal) ((c.tc : Thread Cert.DecoderIdeal.nD Cert.DecoderIdeal.τ).loc Cert.DecoderIdeal.main_v24_0)) (v1 : (c : Dev Cert.DecoderIdeal.nD) → Buf (Elt Ideal) ((c.tc : Thread Cert.DecoderIdeal.nD Cert.DecoderIdeal.τ).loc Cert.DecoderIdeal.main_v24_1)) (v2 : (c : Dev Cert.DecoderIdeal.nD) → Buf (Elt Ideal) ((c.tc : Thread Cert.DecoderIdeal.nD Cert.DecoderIdeal.τ).loc Cert.DecoderIdeal.main_v24_2)),
      θ_run (Cert.DecoderIdeal.defs (F := Ideal)) (onTc (τ := Cert.DecoderIdeal.τ) (Cert.DecoderIdeal.main (F := Ideal))) ⟨m, fun _ => 0, g⟩ (fun r => ∀ c : Dev Cert.DecoderIdeal.nD,
          r.2.mem ((c.tc : Thread Cert.DecoderIdeal.nD Cert.DecoderIdeal.τ).loc Cert.DecoderIdeal.main_v24_0) = v0 c
          ∧ r.2.mem ((c.tc : Thread Cert.DecoderIdeal.nD Cert.DecoderIdeal.τ).loc Cert.DecoderIdeal.main_v24_1) = v1 c
          ∧ r.2.mem ((c.tc : Thread Cert.DecoderIdeal.nD Cert.DecoderIdeal.τ).loc Cert.DecoderIdeal.main_v24_2) = v2 c
          ∧ r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
          ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
          ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
          ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
          ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4)
          ∧ r.2.mem ((c.tc : Thread Cert.DecoderIdeal.nD Cert.DecoderIdeal.τ).loc Cert.DecoderIdeal.main_arg5) = m ((c.tc : Thread Cert.DecoderIdeal.nD Cert.DecoderIdeal.τ).loc Cert.DecoderIdeal.main_arg5)
          ∧ r.2.mem ((c.tc : Thread Cert.DecoderIdeal.nD Cert.DecoderIdeal.τ).loc Cert.DecoderIdeal.main_arg6) = m ((c.tc : Thread Cert.DecoderIdeal.nD Cert.DecoderIdeal.τ).loc Cert.DecoderIdeal.main_arg6)
          ∧ r.2.mem ((c.tc : Thread Cert.DecoderIdeal.nD Cert.DecoderIdeal.τ).loc Cert.DecoderIdeal.main_arg7) = m ((c.tc : Thread Cert.DecoderIdeal.nD Cert.DecoderIdeal.τ).loc Cert.DecoderIdeal.main_arg7)
          ∧ r.2.mem ((c.tc : Thread Cert.DecoderIdeal.nD Cert.DecoderIdeal.τ).loc Cert.DecoderIdeal.main_arg8) = m ((c.tc : Thread Cert.DecoderIdeal.nD Cert.DecoderIdeal.τ).loc Cert.DecoderIdeal.main_arg8)
          ∧ r.2.mem ((c.tc : Thread Cert.DecoderIdeal.nD Cert.DecoderIdeal.τ).loc Cert.DecoderIdeal.main_arg9) = m ((c.tc : Thread Cert.DecoderIdeal.nD Cert.DecoderIdeal.τ).loc Cert.DecoderIdeal.main_arg9)
          ∧ r.2.mem ((c.tc : Thread Cert.DecoderIdeal.nD Cert.DecoderIdeal.τ).loc Cert.DecoderIdeal.main_arg10) = m ((c.tc : Thread Cert.DecoderIdeal.nD Cert.DecoderIdeal.τ).loc Cert.DecoderIdeal.main_arg10)
          ∧ r.2.mem ((c.tc : Thread Cert.DecoderIdeal.nD Cert.DecoderIdeal.τ).loc Cert.DecoderIdeal.main_arg11) = m ((c.tc : Thread Cert.DecoderIdeal.nD Cert.DecoderIdeal.τ).loc Cert.DecoderIdeal.main_arg11)
          ∧ r.2.mem ((c.tc : Thread Cert.DecoderIdeal.nD Cert.DecoderIdeal.τ).loc Cert.DecoderIdeal.main_arg12) = m ((c.tc : Thread Cert.DecoderIdeal.nD Cert.DecoderIdeal.τ).loc Cert.DecoderIdeal.main_arg12)
          ∧ r.2.mem ((c.tc : Thread Cert.DecoderIdeal.nD Cert.DecoderIdeal.τ).loc Cert.DecoderIdeal.main_arg13) = m ((c.tc : Thread Cert.DecoderIdeal.nD Cert.DecoderIdeal.τ).loc Cert.DecoderIdeal.main_arg13)
          ∧ r.2.mem ((c.tc : Thread Cert.DecoderIdeal.nD Cert.DecoderIdeal.τ).loc Cert.DecoderIdeal.main_arg14) = m ((c.tc : Thread Cert.DecoderIdeal.nD Cert.DecoderIdeal.τ).loc Cert.DecoderIdeal.main_arg14))
      ∧ θ_run (Cert.DecoderRefIdeal.defs (F := Ideal)) (onTc (τ := Cert.DecoderRefIdeal.τ) (Cert.DecoderRefIdeal.main (F := Ideal))) ⟨m', fun _ => 0, g'⟩ (fun r => ∀ c : Dev Cert.DecoderRefIdeal.nD,
          r.2.mem ((c.tc : Thread Cert.DecoderRefIdeal.nD Cert.DecoderRefIdeal.τ).loc Cert.DecoderRefIdeal.main_v14_21) = v0 c
          ∧ r.2.mem ((c.tc : Thread Cert.DecoderRefIdeal.nD Cert.DecoderRefIdeal.τ).loc Cert.DecoderRefIdeal.main_v14_22) = v1 c
          ∧ r.2.mem ((c.tc : Thread Cert.DecoderRefIdeal.nD Cert.DecoderRefIdeal.τ).loc Cert.DecoderRefIdeal.main_v14_23) = v2 c
          ∧ r.2.mem ((c.tc : Thread Cert.DecoderRefIdeal.nD Cert.DecoderRefIdeal.τ).loc Cert.DecoderRefIdeal.main_arg0) = m' ((c.tc : Thread Cert.DecoderRefIdeal.nD Cert.DecoderRefIdeal.τ).loc Cert.DecoderRefIdeal.main_arg0)
          ∧ r.2.mem ((c.tc : Thread Cert.DecoderRefIdeal.nD Cert.DecoderRefIdeal.τ).loc Cert.DecoderRefIdeal.main_arg1) = m' ((c.tc : Thread Cert.DecoderRefIdeal.nD Cert.DecoderRefIdeal.τ).loc Cert.DecoderRefIdeal.main_arg1)
          ∧ r.2.mem ((c.tc : Thread Cert.DecoderRefIdeal.nD Cert.DecoderRefIdeal.τ).loc Cert.DecoderRefIdeal.main_arg2) = m' ((c.tc : Thread Cert.DecoderRefIdeal.nD Cert.DecoderRefIdeal.τ).loc Cert.DecoderRefIdeal.main_arg2)
          ∧ r.2.mem ((c.tc : Thread Cert.DecoderRefIdeal.nD Cert.DecoderRefIdeal.τ).loc Cert.DecoderRefIdeal.main_arg3) = m' ((c.tc : Thread Cert.DecoderRefIdeal.nD Cert.DecoderRefIdeal.τ).loc Cert.DecoderRefIdeal.main_arg3)
          ∧ r.2.mem ((c.tc : Thread Cert.DecoderRefIdeal.nD Cert.DecoderRefIdeal.τ).loc Cert.DecoderRefIdeal.main_arg4) = m' ((c.tc : Thread Cert.DecoderRefIdeal.nD Cert.DecoderRefIdeal.τ).loc Cert.DecoderRefIdeal.main_arg4)
          ∧ r.2.mem ((c.tc : Thread Cert.DecoderRefIdeal.nD Cert.DecoderRefIdeal.τ).loc Cert.DecoderRefIdeal.main_arg5) = m' ((c.tc : Thread Cert.DecoderRefIdeal.nD Cert.DecoderRefIdeal.τ).loc Cert.DecoderRefIdeal.main_arg5)
          ∧ r.2.mem ((c.tc : Thread Cert.DecoderRefIdeal.nD Cert.DecoderRefIdeal.τ).loc Cert.DecoderRefIdeal.main_arg6) = m' ((c.tc : Thread Cert.DecoderRefIdeal.nD Cert.DecoderRefIdeal.τ).loc Cert.DecoderRefIdeal.main_arg6)
          ∧ r.2.mem ((c.tc : Thread Cert.DecoderRefIdeal.nD Cert.DecoderRefIdeal.τ).loc Cert.DecoderRefIdeal.main_arg7) = m' ((c.tc : Thread Cert.DecoderRefIdeal.nD Cert.DecoderRefIdeal.τ).loc Cert.DecoderRefIdeal.main_arg7)
          ∧ r.2.mem ((c.tc : Thread Cert.DecoderRefIdeal.nD Cert.DecoderRefIdeal.τ).loc Cert.DecoderRefIdeal.main_arg8) = m' ((c.tc : Thread Cert.DecoderRefIdeal.nD Cert.DecoderRefIdeal.τ).loc Cert.DecoderRefIdeal.main_arg8)
          ∧ r.2.mem ((c.tc : Thread Cert.DecoderRefIdeal.nD Cert.DecoderRefIdeal.τ).loc Cert.DecoderRefIdeal.main_arg9) = m' ((c.tc : Thread Cert.DecoderRefIdeal.nD Cert.DecoderRefIdeal.τ).loc Cert.DecoderRefIdeal.main_arg9)
          ∧ r.2.mem ((c.tc : Thread Cert.DecoderRefIdeal.nD Cert.DecoderRefIdeal.τ).loc Cert.DecoderRefIdeal.main_arg10) = m' ((c.tc : Thread Cert.DecoderRefIdeal.nD Cert.DecoderRefIdeal.τ).loc Cert.DecoderRefIdeal.main_arg10)
          ∧ r.2.mem ((c.tc : Thread Cert.DecoderRefIdeal.nD Cert.DecoderRefIdeal.τ).loc Cert.DecoderRefIdeal.main_arg11) = m' ((c.tc : Thread Cert.DecoderRefIdeal.nD Cert.DecoderRefIdeal.τ).loc Cert.DecoderRefIdeal.main_arg11)
          ∧ r.2.mem ((c.tc : Thread Cert.DecoderRefIdeal.nD Cert.DecoderRefIdeal.τ).loc Cert.DecoderRefIdeal.main_arg12) = m' ((c.tc : Thread Cert.DecoderRefIdeal.nD Cert.DecoderRefIdeal.τ).loc Cert.DecoderRefIdeal.main_arg12)
          ∧ r.2.mem ((c.tc : Thread Cert.DecoderRefIdeal.nD Cert.DecoderRefIdeal.τ).loc Cert.DecoderRefIdeal.main_arg13) = m' ((c.tc : Thread Cert.DecoderRefIdeal.nD Cert.DecoderRefIdeal.τ).loc Cert.DecoderRefIdeal.main_arg13)
          ∧ r.2.mem ((c.tc : Thread Cert.DecoderRefIdeal.nD Cert.DecoderRefIdeal.τ).loc Cert.DecoderRefIdeal.main_arg14) = m' ((c.tc : Thread Cert.DecoderRefIdeal.nD Cert.DecoderRefIdeal.τ).loc Cert.DecoderRefIdeal.main_arg14))

def Claim : Prop :=
  ∃ (hInProj : Cert.InProj.Facts) (hInProjIdeal : Cert.InProjIdeal.Facts) (hInProjRefIdeal : Cert.InProjRefIdeal.Facts) (hLayerOne : Cert.LayerOne.Facts) (hLayerOneIdeal : Cert.LayerOneIdeal.Facts) (hLayerOneRefIdeal : Cert.LayerOneRefIdeal.Facts) (hLayerTwo : Cert.LayerTwo.Facts) (hLayerTwoIdeal : Cert.LayerTwoIdeal.Facts) (hLayerTwoRefIdeal : Cert.LayerTwoRefIdeal.Facts) (hDecoder : Cert.Decoder.Facts) (hDecoderIdeal : Cert.DecoderIdeal.Facts) (hDecoderRefIdeal : Cert.DecoderRefIdeal.Facts) (hPre_lengths_in_one : Cert.Pre_lengths_in_one.Facts) (hPre_lengths_in_two : Cert.Pre_lengths_in_two.Facts) (hPre_filters_finite : Cert.Pre_filters_finite.Facts),
    quiescent_InProj (hInProj := hInProj)
    ∧ quiescent_InProjIdeal (hInProjIdeal := hInProjIdeal)
    ∧ quiescent_InProjRefIdeal (hInProjRefIdeal := hInProjRefIdeal)
    ∧ quiescent_LayerOne (hLayerOne := hLayerOne)
    ∧ quiescent_LayerOneIdeal (hLayerOneIdeal := hLayerOneIdeal)
    ∧ quiescent_LayerOneIdeal_pre_lengths_in_one (hLayerOneIdeal := hLayerOneIdeal) (hPre_lengths_in_one := hPre_lengths_in_one)
    ∧ quiescent_LayerOneRefIdeal (hLayerOneRefIdeal := hLayerOneRefIdeal)
    ∧ quiescent_LayerOneRefIdeal_pre_lengths_in_one (hLayerOneRefIdeal := hLayerOneRefIdeal) (hPre_lengths_in_one := hPre_lengths_in_one)
    ∧ quiescent_LayerTwo (hLayerTwo := hLayerTwo)
    ∧ quiescent_LayerTwoIdeal (hLayerTwoIdeal := hLayerTwoIdeal)
    ∧ quiescent_LayerTwoIdeal_pre_lengths_in_two (hLayerTwoIdeal := hLayerTwoIdeal) (hPre_lengths_in_two := hPre_lengths_in_two)
    ∧ quiescent_LayerTwoRefIdeal (hLayerTwoRefIdeal := hLayerTwoRefIdeal)
    ∧ quiescent_LayerTwoRefIdeal_pre_lengths_in_two (hLayerTwoRefIdeal := hLayerTwoRefIdeal) (hPre_lengths_in_two := hPre_lengths_in_two)
    ∧ quiescent_Decoder (hDecoder := hDecoder)
    ∧ quiescent_DecoderIdeal (hDecoderIdeal := hDecoderIdeal)
    ∧ quiescent_DecoderIdeal_pre_filters_finite (hDecoderIdeal := hDecoderIdeal) (hPre_filters_finite := hPre_filters_finite)
    ∧ quiescent_DecoderRefIdeal (hDecoderRefIdeal := hDecoderRefIdeal)
    ∧ quiescent_DecoderRefIdeal_pre_filters_finite (hDecoderRefIdeal := hDecoderRefIdeal) (hPre_filters_finite := hPre_filters_finite)
    ∧ preserves_InProj_InProjIdeal
    ∧ algebraic_InProjIdeal_InProjRefIdeal (hInProjIdeal := hInProjIdeal) (hInProjRefIdeal := hInProjRefIdeal)
    ∧ preserves_LayerOne_LayerOneIdeal
    ∧ algebraic_LayerOneIdeal_LayerOneRefIdeal_pre_lengths_in_one (hLayerOneIdeal := hLayerOneIdeal) (hLayerOneRefIdeal := hLayerOneRefIdeal) (hPre_lengths_in_one := hPre_lengths_in_one)
    ∧ preserves_LayerTwo_LayerTwoIdeal
    ∧ algebraic_LayerTwoIdeal_LayerTwoRefIdeal_pre_lengths_in_two (hLayerTwoIdeal := hLayerTwoIdeal) (hLayerTwoRefIdeal := hLayerTwoRefIdeal) (hPre_lengths_in_two := hPre_lengths_in_two)
    ∧ preserves_Decoder_DecoderIdeal
    ∧ algebraic_DecoderIdeal_DecoderRefIdeal_pre_filters_finite (hDecoderIdeal := hDecoderIdeal) (hDecoderRefIdeal := hDecoderRefIdeal) (hPre_filters_finite := hPre_filters_finite)
-- ==== Pre_filters_finite.lean ====
abbrev S161x32x512 : Shape := ⟨3, ![161, 32, 512]⟩
abbrev S32 : Shape := ⟨1, ![32]⟩
abbrev S32x800x512 : Shape := ⟨3, ![32, 800, 512]⟩
abbrev S2048x1024 : Shape := ⟨2, ![2048, 1024]⟩
abbrev S2048x512 : Shape := ⟨2, ![2048, 512]⟩
abbrev S2048 : Shape := ⟨1, ![2048]⟩
abbrev S128x512 : Shape := ⟨2, ![128, 512]⟩
abbrev S32x2x31 : Shape := ⟨3, ![32, 2, 31]⟩
abbrev S128x32 : Shape := ⟨2, ![128, 32]⟩
abbrev S1x128 : Shape := ⟨2, ![1, 128]⟩
abbrev S512x1024 : Shape := ⟨2, ![512, 1024]⟩
abbrev S512 : Shape := ⟨1, ![512]⟩
abbrev S101x512 : Shape := ⟨2, ![101, 512]⟩
abbrev S101 : Shape := ⟨1, ![101]⟩
abbrev S_ : Shape := ⟨0, ![]⟩

class Facts : Prop where
  bcast_S_S32x2x31 : S_.BroadcastsInDim S32x2x31 (![] : Fin 0 → Fin S32x2x31.rank)
  reducesTo_S32x2x31_S_d0_1_2 : S32x2x31.ReducesTo [0, 1, 2] S_
  h_S_ : 0 < S_.numel
  bcast_S_S128x32 : S_.BroadcastsInDim S128x32 (![] : Fin 0 → Fin S128x32.rank)
  reducesTo_S128x32_S_d0_1 : S128x32.ReducesTo [0, 1] S_
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S161x32x512 .f32) (main_arg1 : IVec S32 32) (main_arg2 : FVec F S32x800x512 .f32) (main_arg3 : FVec F S2048x1024 .f32) (main_arg4 : FVec F S2048x512 .f32) (main_arg5 : FVec F S2048 .f32) (main_arg6 : FVec F S128x512 .f32) (main_arg7 : FVec F S128x512 .f32) (main_arg8 : FVec F S32x2x31 .f32) (main_arg9 : FVec F S128x32 .f32) (main_arg10 : FVec F S1x128 .f32) (main_arg11 : FVec F S512x1024 .f32) (main_arg12 : FVec F S512 .f32) (main_arg13 : FVec F S101x512 .f32) (main_arg14 : FVec F S101 .f32) : IVec S_ 1 :=
  let main_v0 : FVec F S32x2x31 .f32 := Host.absf main_arg8
  let main_cst : FVec F S_ .f32 := constant S_ .f32 0x7F800000#32
  let main_v1 : FVec F S32x2x31 .f32 := broadcastInDim S32x2x31 ![] bcast_S_S32x2x31 main_cst
  let main_v2 : IVec S32x2x31 1 := cmpf .olt main_v0 main_v1
  let main_c : IVec S_ 1 := constantI S_ 1 1#1
  let main_v3 : IVec S_ 1 := (fun x v => Host.reduce IntOp.andi x v reducesTo_S32x2x31_S_d0_1_2 h_S_) main_v2 main_c
  let main_v4 : FVec F S128x32 .f32 := Host.absf main_arg9
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S1x128 .f32 := Host.absf main_arg10
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Pre_lengths_in_one.lean ====
abbrev S32x80x1600 : Shape := ⟨3, ![32, 80, 1600]⟩
abbrev S32 : Shape := ⟨1, ![32]⟩
abbrev S1024x80 : Shape := ⟨2, ![1024, 80]⟩
abbrev S1024x256 : Shape := ⟨2, ![1024, 256]⟩
abbrev S1024 : Shape := ⟨1, ![1024]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x80x1600 .f32) (main_arg1 : IVec S32 32) (main_arg2 : FVec F S1024x80 .f32) (main_arg3 : FVec F S1024x256 .f32) (main_arg4 : FVec F S1024 .f32) (main_arg5 : FVec F S1024x80 .f32) (main_arg6 : FVec F S1024x256 .f32) (main_arg7 : FVec F S1024 .f32) : IVec S32 1 :=
  let main_c : IVec S_ 32 := constantI S_ 32 800#32
  let main_v0 : IVec S32 32 := broadcastInDim S32 ![] bcast_S_S32 main_c
  let main_v1 : IVec S32 1 := cmpi .sge main_arg1 main_v0
  let main_c_0 : IVec S_ 32 := constantI S_ 32 1600#32
  let main_v2 : IVec S32 32 := broadcastInDim S32 ![] bcast_S_S32 main_c_0
  let main_v3 : IVec S32 1 := cmpi .sle main_arg1 main_v2
  let main_v4 : IVec S32 1 := andi main_v1 main_v3
  main_v4
-- ==== Pre_lengths_in_two.lean ====
abbrev S25600x2048 : Shape := ⟨2, ![25600, 2048]⟩
abbrev S32 : Shape := ⟨1, ![32]⟩
abbrev S1024x256 : Shape := ⟨2, ![1024, 256]⟩
abbrev S1024 : Shape := ⟨1, ![1024]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S25600x2048 .bf16) (main_arg1 : IVec S32 32) (main_arg2 : FVec F S1024x256 .f32) (main_arg3 : FVec F S1024 .f32) (main_arg4 : FVec F S1024x256 .f32) (main_arg5 : FVec F S1024 .f32) : IVec S32 1 :=
  let main_c : IVec S_ 32 := constantI S_ 32 400#32
  let main_v0 : IVec S32 32 := broadcastInDim S32 ![] bcast_S_S32 main_c
  let main_v1 : IVec S32 1 := cmpi .sge main_arg1 main_v0
  let main_c_0 : IVec S_ 32 := constantI S_ 32 800#32
  let main_v2 : IVec S32 32 := broadcastInDim S32 ![] bcast_S_S32 main_c_0
  let main_v3 : IVec S32 1 := cmpi .sle main_arg1 main_v2
  let main_v4 : IVec S32 1 := andi main_v1 main_v3
  main_v4
-- ==== InProj.lean ====
abbrev S25600x1024 : Shape := ⟨2, ![25600, 1024]⟩
abbrev S1024x1024 : Shape := ⟨2, ![1024, 1024]⟩
abbrev S1024x2048 : Shape := ⟨2, ![1024, 2048]⟩
abbrev S25600x2048 : Shape := ⟨2, ![25600, 2048]⟩

abbrev nBuf : Space → Nat
  | .hbm => 8
  | .vmem => 5
  | .smem => 0
  | _ => 0

abbrev bufTy : (tb : Table) → Fin (tcTables nBuf tb) → BufTy
  | .hbm, ⟨0, _⟩ => ⟨S25600x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x2048, .f32⟩
  | .hbm, ⟨6, _⟩ => ⟨S1024x2048, .bf16⟩
  | .hbm, ⟨7, _⟩ => ⟨S25600x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | _, _ => ⟨S25600x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InProjRefIdeal.lean ====
abbrev S25600x1024 : Shape := ⟨2, ![25600, 1024]⟩
abbrev S1024x1024 : Shape := ⟨2, ![1024, 1024]⟩
abbrev S25600x2048 : Shape := ⟨2, ![25600, 2048]⟩

abbrev nBuf : Space → Nat
  | .hbm => 9
  | .vmem => 0
  | .smem => 0
  | _ => 0

abbrev bufTy : (tb : Table) → Fin (tcTables nBuf tb) → BufTy
  | .hbm, ⟨0, _⟩ => ⟨S25600x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S25600x1024, .f32⟩
  | .hbm, ⟨5, _⟩ => ⟨S1024x1024, .f32⟩
  | .hbm, ⟨6, _⟩ => ⟨S25600x1024, .f32⟩
  | .hbm, ⟨7, _⟩ => ⟨S25600x2048, .f32⟩
  | .hbm, ⟨8, _⟩ => ⟨S25600x2048, .bf16⟩
  | _, _ => ⟨S25600x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== LayerOne.lean ====
abbrev S32x80x1600 : Shape := ⟨3, ![32, 80, 1600]⟩
abbrev S32 : Shape := ⟨1, ![32]⟩
abbrev S1024x80 : Shape := ⟨2, ![1024, 80]⟩
abbrev S1024x256 : Shape := ⟨2, ![1024, 256]⟩
abbrev S1024 : Shape := ⟨1, ![1024]⟩
abbrev S1600x32x80 : Shape := ⟨3, ![1600, 32, 80]⟩
abbrev S1x1600x32x80 : Shape := ⟨4, ![1, 1600, 32, 80]⟩
abbrev S2x1600x32x80 : Shape := ⟨4, ![2, 1600, 32, 80]⟩
abbrev S80x1024 : Shape := ⟨2, ![80, 1024]⟩
abbrev S1x80x1024 : Shape := ⟨3, ![1, 80, 1024]⟩
abbrev S2x80x1024 : Shape := ⟨3, ![2, 80, 1024]⟩
abbrev S256x1024 : Shape := ⟨2, ![256, 1024]⟩
abbrev S1x256x1024 : Shape := ⟨3, ![1, 256, 1024]⟩
abbrev S2x256x1024 : Shape := ⟨3, ![2, 256, 1024]⟩
abbrev S1x1024 : Shape := ⟨2, ![1, 1024]⟩
abbrev S1x1x1024 : Shape := ⟨3, ![1, 1, 1024]⟩
abbrev S2x1x1024 : Shape := ⟨3, ![2, 1, 1024]⟩
abbrev S32x1 : Shape := ⟨2, ![32, 1]⟩
abbrev S1600x32x512 : Shape := ⟨3, ![1600, 32, 512]⟩
abbrev S1x2x32x80 : Shape := ⟨4, ![1, 2, 32, 80]⟩
abbrev S2x32x256 : Shape := ⟨3, ![2, 32, 256]⟩
abbrev S32x256 : Shape := ⟨2, ![32, 256]⟩
abbrev S2x32x80 : Shape := ⟨3, ![2, 32, 80]⟩
abbrev S1x32x80 : Shape := ⟨3, ![1, 32, 80]⟩
abbrev S32x80 : Shape := ⟨2, ![32, 80]⟩
abbrev S32x1024 : Shape := ⟨2, ![32, 1024]⟩
abbrev S1x32x256 : Shape := ⟨3, ![1, 32, 256]⟩

abbrev nBuf : Space → Nat
  | .hbm => 28
  | .vmem => 13
  | .smem => 0
  | _ => 0

abbrev bufTy : (tb : Table) → Fin (tcTables nBuf tb) → BufTy
  | .hbm, ⟨0, _⟩ => ⟨S32x80x1600, .f32⟩
  | .hbm, ⟨1, _⟩ => ⟨S32, .i32⟩
  | .hbm, ⟨2, _⟩ => ⟨S1024x80, .f32⟩
  | .hbm, ⟨3, _⟩ => ⟨S1024x256, .f32⟩
  | .hbm, ⟨4, _⟩ => ⟨S1024, .f32⟩
  | .hbm, ⟨5, _⟩ => ⟨S1024x80, .f32⟩
  | .hbm, ⟨6, _⟩ => ⟨S1024x256, .f32⟩
  | .hbm, ⟨7, _⟩ => ⟨S1024, .f32⟩
  | .hbm, ⟨8, _⟩ => ⟨S1600x32x80, .f32⟩
  | .hbm, ⟨9, _⟩ => ⟨S1x1600x32x80, .f32⟩
  | .hbm, ⟨10, _⟩ => ⟨S2x1600x32x80, .f32⟩
  | .hbm, ⟨11, _⟩ => ⟨S80x1024, .f32⟩
  | .hbm, ⟨12, _⟩ => ⟨S80x1024, .f32⟩
  | .hbm, ⟨13, _⟩ => ⟨S1x80x1024, .f32⟩
  | .hbm, ⟨14, _⟩ => ⟨S1x80x1024, .f32⟩
  | .hbm, ⟨15, _⟩ => ⟨S2x80x1024, .f32⟩
  | .hbm, ⟨16, _⟩ => ⟨S256x1024, .f32⟩
  | .hbm, ⟨17, _⟩ => ⟨S256x1024, .f32⟩
  | .hbm, ⟨18, _⟩ => ⟨S1x256x1024, .f32⟩
  | .hbm, ⟨19, _⟩ => ⟨S1x256x1024, .f32⟩
  | .hbm, ⟨20, _⟩ => ⟨S2x256x1024, .f32⟩
  | .hbm, ⟨21, _⟩ => ⟨S1x1024, .f32⟩
  | .hbm, ⟨22, _⟩ => ⟨S1x1024, .f32⟩
  | .hbm, ⟨23, _⟩ => ⟨S1x1x1024, .f32⟩
  | .hbm, ⟨24, _⟩ => ⟨S1x1x1024, .f32⟩
  | .hbm, ⟨25, _⟩ => ⟨S2x1x1024, .f32⟩
  | .hbm, ⟨26, _⟩ => ⟨S32x1, .i32⟩
  | .hbm, ⟨27, _⟩ => ⟨S1600x32x512, .f32⟩
  | .local _ .vmem, ⟨0, _⟩ => ⟨S32x1, .i32⟩
  | .local _ .vmem, ⟨1, _⟩ => ⟨S1x2x32x80, .f32⟩
  | .local _ .vmem, ⟨2, _⟩ => ⟨S1x2x32x80, .f32⟩
  | .local _ .vmem, ⟨3, _⟩ => ⟨S1x80x1024, .f32⟩
  | .local _ .vmem, ⟨4, _⟩ => ⟨S1x80x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x1x1024, .f32⟩
  | .local _ .vmem, ⟨8, _⟩ => ⟨S1x1x1024, .f32⟩
  | .local _ .vmem, ⟨9, _⟩ => ⟨S2x32x256, .f32⟩
  | .local _ .vmem, ⟨10, _⟩ => ⟨S2x32x256, .f32⟩
  | .local _ .vmem, ⟨11, _⟩ => ⟨S32x256, .f32⟩
  | .local _ .vmem, ⟨12, _⟩ => ⟨S32x256, .f32⟩
  | _, _ => ⟨S32x80x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 800], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c799_i32 : BitVec 32 := 799#32
  let v1 : BitVec 32 := Scalar.subi c799_i32 arg1
  let v2 : BitVec 32 := Scalar.select v0 arg1 v1
  let c0_i32_0 : BitVec 32 := 0#32
  let c0_i32_1 : BitVec 32 := 0#32
  let c0_i32_2 : BitVec 32 := 0#32
  ![arg0.toNat, v2.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c799_i32 : BitVec 32 := 799#32
  let v1 : BitVec 32 := Scalar.subi c799_i32 arg1
  let v2 : BitVec 32 := Scalar.select v0 arg1 v1
  let c0_i32_0 : BitVec 32 := 0#32
  let c0_i32_1 : BitVec 32 := 0#32
  ![v2.toNat, c0_i32_0.toNat, arg0.toNat]

abbrev stage0_0 : Fin 1 → Memref sig .tc .vmem S32x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2x32x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x80x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LayerOneRefIdeal.lean ====
abbrev S32x80x1600 : Shape := ⟨3, ![32, 80, 1600]⟩
abbrev S32 : Shape := ⟨1, ![32]⟩
abbrev S1024x80 : Shape := ⟨2, ![1024, 80]⟩
abbrev S1024x256 : Shape := ⟨2, ![1024, 256]⟩
abbrev S1024 : Shape := ⟨1, ![1024]⟩
abbrev S1600x32x80 : Shape := ⟨3, ![1600, 32, 80]⟩
abbrev S1600 : Shape := ⟨1, ![1600]⟩
abbrev S1x32 : Shape := ⟨2, ![1, 32]⟩
abbrev S_ : Shape := ⟨0, ![]⟩
abbrev S1600x1 : Shape := ⟨2, ![1600, 1]⟩
abbrev S1600x32 : Shape := ⟨2, ![1600, 32]⟩
abbrev S1600x32x1 : Shape := ⟨3, ![1600, 32, 1]⟩
abbrev S1600x1x32x80 : Shape := ⟨4, ![1600, 1, 32, 80]⟩
abbrev S1600x2x32x80 : Shape := ⟨4, ![1600, 2, 32, 80]⟩
abbrev S1x1024x80 : Shape := ⟨3, ![1, 1024, 80]⟩
abbrev S2x1024x80 : Shape := ⟨3, ![2, 1024, 80]⟩
abbrev S1x1024x256 : Shape := ⟨3, ![1, 1024, 256]⟩
abbrev S2x1024x256 : Shape := ⟨3, ![2, 1024, 256]⟩
abbrev S1x1024 : Shape := ⟨2, ![1, 1024]⟩
abbrev S2x1024 : Shape := ⟨2, ![2, 1024]⟩
abbrev S2x32x256 : Shape := ⟨3, ![2, 32, 256]⟩
abbrev S1600x2x32x256 : Shape := ⟨4, ![1600, 2, 32, 256]⟩
abbrev S1x2x32x80 : Shape := ⟨4, ![1, 2, 32, 80]⟩
abbrev S2x32x80 : Shape := ⟨3, ![2, 32, 80]⟩
abbrev S1 : Shape := ⟨1, ![1]⟩
abbrev S2x32x1024 : Shape := ⟨3, ![2, 32, 1024]⟩
abbrev S2x1x1024 : Shape := ⟨3, ![2, 1, 1024]⟩
abbrev S1x32x1 : Shape := ⟨3, ![1, 32, 1]⟩
abbrev S1x2x32x256 : Shape := ⟨4, ![1, 2, 32, 256]⟩
abbrev S1600x1x32x256 : Shape := ⟨4, ![1600, 1, 32, 256]⟩
abbrev S1600x32x256 : Shape := ⟨3, ![1600, 32, 256]⟩
abbrev S1600x32x512 : Shape := ⟨3, ![1600, 32, 512]⟩

abbrev nBuf : Space → Nat
  | .hbm => 148
  | .vmem => 0
  | .smem => 0
  | _ => 0

abbrev hbmTy0_0 (i : Nat) : BufTy := match i % 128 with
  | 0 => ⟨S32x80x1600, .f32⟩
  | 1 => ⟨S32, .i32⟩
  | 2 => ⟨S1024x80, .f32⟩
  | 3 => ⟨S1024x256, .f32⟩
  | 4 => ⟨S1024, .f32⟩
  | 5 => ⟨S1024x80, .f32⟩
  | 6 => ⟨S1024x256, .f32⟩
  | 7 => ⟨S1024, .f32⟩
  | 8 => ⟨S1600x32x80, .f32⟩
  | 9 => ⟨S1600, .i32⟩
  | 10 => ⟨S1x32, .i32⟩
  | 11 => ⟨S_, .i32⟩
  | 12 => ⟨S1x32, .i32⟩
  | 13 => ⟨S1x32, .i32⟩
  | 14 => ⟨S1600x1, .i32⟩
  | 15 => ⟨S1600x32, .i32⟩
  | 16 => ⟨S1600x32, .i32⟩
  | 17 => ⟨S1600x32, .i32⟩
  | 18 => ⟨S1600x32x1, .i32⟩
  | 19 => ⟨S_, .i32⟩
  | 20 => ⟨S1600x32x1, .i32⟩
  | 21 => ⟨S1600x32x1, .i1⟩
  | 22 => ⟨S_, .i32⟩
  | 23 => ⟨S1600x32x1, .i32⟩
  | 24 => ⟨S1600x32x1, .i32⟩
  | 25 => ⟨S1600x32x1, .i32⟩
  | 26 => ⟨S1600x32x80, .f32⟩
  | 27 => ⟨S1600x1x32x80, .f32⟩
  | 28 => ⟨S1600x1x32x80, .f32⟩
  | 29 => ⟨S1600x2x32x80, .f32⟩
  | 30 => ⟨S1x1024x80, .f32⟩
  | 31 => ⟨S1x1024x80, .f32⟩
  | 32 => ⟨S2x1024x80, .f32⟩
  | 33 => ⟨S1x1024x256, .f32⟩
  | 34 => ⟨S1x1024x256, .f32⟩
  | 35 => ⟨S2x1024x256, .f32⟩
  | 36 => ⟨S1x1024, .f32⟩
  | 37 => ⟨S1x1024, .f32⟩
  | 38 => ⟨S2x1024, .f32⟩
  | 39 => ⟨S_, .f32⟩
  | 40 => ⟨S2x32x256, .f32⟩
  | 41 => ⟨S_, .f32⟩
  | 42 => ⟨S2x32x256, .f32⟩
  | 43 => ⟨S1600, .i32⟩
  | 44 => ⟨S_, .f32⟩
  | 45 => ⟨S1600x2x32x256, .f32⟩
  | 46 => ⟨S_, .i32⟩
  | 47 => ⟨S1600x2x32x80, .f32⟩
  | 48 => ⟨S1600, .i32⟩
  | 49 => ⟨S2x1024x80, .f32⟩
  | 50 => ⟨S2x1024x256, .f32⟩
  | 51 => ⟨S2x1024, .f32⟩
  | 52 => ⟨S32, .i32⟩
  | 53 => ⟨S_, .i32⟩
  | 54 => ⟨S2x32x256, .f32⟩
  | 55 => ⟨S2x32x256, .f32⟩
  | 56 => ⟨S1600x2x32x256, .f32⟩
  | 57 => ⟨S_, .i32⟩
  | 58 => ⟨S_, .i1⟩
  | 59 => ⟨S_, .i32⟩
  | 60 => ⟨S_, .i32⟩
  | 61 => ⟨S_, .i32⟩
  | 62 => ⟨S1x2x32x80, .f32⟩
  | 63 => ⟨S2x32x80, .f32⟩
  | 64 => ⟨S1, .i32⟩
  | 65 => ⟨S_, .i32⟩
  | 66 => ⟨S2x32x1024, .f32⟩
  | 67 => ⟨S2x32x1024, .f32⟩
  | 68 => ⟨S2x32x1024, .f32⟩
  | 69 => ⟨S2x1x1024, .f32⟩
  | 70 => ⟨S2x32x1024, .f32⟩
  | 71 => ⟨S2x32x1024, .f32⟩
  | 72 => ⟨S2x32x256, .f32⟩
  | 73 => ⟨S2x32x256, .f32⟩
  | 74 => ⟨S2x32x256, .f32⟩
  | 75 => ⟨S2x32x256, .f32⟩
  | 76 => ⟨S2x32x256, .f32⟩
  | 77 => ⟨S2x32x256, .f32⟩
  | 78 => ⟨S_, .f32⟩
  | 79 => ⟨S2x32x256, .f32⟩
  | 80 => ⟨S2x32x256, .f32⟩
  | 81 => ⟨S_, .f32⟩
  | 82 => ⟨S2x32x256, .f32⟩
  | 83 => ⟨S2x32x256, .f32⟩
  | 84 => ⟨S2x32x256, .f32⟩
  | 85 => ⟨S2x32x256, .f32⟩
  | 86 => ⟨S2x32x256, .f32⟩
  | 87 => ⟨S_, .f32⟩
  | 88 => ⟨S2x32x256, .f32⟩
  | 89 => ⟨S2x32x256, .f32⟩
  | 90 => ⟨S_, .f32⟩
  | 91 => ⟨S2x32x256, .f32⟩
  | 92 => ⟨S2x32x256, .f32⟩
  | 93 => ⟨S2x32x256, .f32⟩
  | 94 => ⟨S2x32x256, .f32⟩
  | 95 => ⟨S2x32x256, .f32⟩
  | 96 => ⟨S2x32x256, .f32⟩
  | 97 => ⟨S2x32x256, .f32⟩
  | 98 => ⟨S_, .f32⟩
  | 99 => ⟨S2x32x256, .f32⟩
  | 100 => ⟨S2x32x256, .f32⟩
  | 101 => ⟨S_, .f32⟩
  | 102 => ⟨S2x32x256, .f32⟩
  | 103 => ⟨S2x32x256, .f32⟩
  | 104 => ⟨S2x32x256, .f32⟩
  | 105 => ⟨S2x32x256, .f32⟩
  | 106 => ⟨S32, .i32⟩
  | 107 => ⟨S32, .i1⟩
  | 108 => ⟨S1x32x1, .i1⟩
  | 109 => ⟨S2x32x256, .i1⟩
  | 110 => ⟨S2x32x256, .f32⟩
  | 111 => ⟨S2x32x256, .i1⟩
  | 112 => ⟨S2x32x256, .f32⟩
  | 113 => ⟨S_, .f32⟩
  | 114 => ⟨S_, .f32⟩
  | 115 => ⟨S2x32x256, .i1⟩
  | 116 => ⟨S2x32x256, .f32⟩
  | 117 => ⟨S2x32x256, .f32⟩
  | 118 => ⟨S1x2x32x256, .f32⟩
  | 119 => ⟨S_, .i32⟩
  | 120 => ⟨S_, .i32⟩
  | 121 => ⟨S_, .i32⟩
  | 122 => ⟨S1600x2x32x256, .f32⟩
  | 123 => ⟨S_, .i32⟩
  | 124 => ⟨S_, .i32⟩
  | 125 => ⟨S1600, .i32⟩
  | 126 => ⟨S1x32, .i32⟩
  | 127 => ⟨S_, .i32⟩
  | _ => ⟨S32x80x1600, .f32⟩

abbrev hbmTy0_1 (i : Nat) : BufTy := match i % 128 with
  | 0 => ⟨S1x32, .i32⟩
  | 1 => ⟨S1x32, .i32⟩
  | 2 => ⟨S1600x1, .i32⟩
  | 3 => ⟨S1600x32, .i32⟩
  | 4 => ⟨S1600x32, .i32⟩
  | 5 => ⟨S1600x32, .i32⟩
  | 6 => ⟨S1600x32x1, .i32⟩
  | 7 => ⟨S1600x1x32x256, .f32⟩
  | 8 => ⟨S1600x32x256, .f32⟩
  | 9 => ⟨S1600x1x32x256, .f32⟩
  | 10 => ⟨S1600x32x256, .f32⟩
  | 11 => ⟨S_, .i32⟩
  | 12 => ⟨S1600x32x1, .i32⟩
  | 13 => ⟨S1600x32x1, .i1⟩
  | 14 => ⟨S_, .i32⟩
  | 15 => ⟨S1600x32x1, .i32⟩
  | 16 => ⟨S1600x32x1, .i32⟩
  | 17 => ⟨S1600x32x1, .i32⟩
  | 18 => ⟨S1600x32x256, .f32⟩
  | 19 => ⟨S1600x32x512, .f32⟩
  | _ => ⟨S32x80x1600, .f32⟩

abbrev hbmTy (i : Nat) : BufTy := match i / 128 with
  | 0 => hbmTy0_0 i
  | 1 => hbmTy0_1 i
  | _ => ⟨S32x80x1600, .f32⟩

abbrev bufTy : (tb : Table) → Fin (tcTables nBuf tb) → BufTy
  | .hbm, ⟨i, _⟩ => hbmTy i
  | _, _ => ⟨S32x80x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_c_2 : Ref sig .tc := ⟨.hbm, 46, rfl⟩
abbrev main_v27_0 : Ref sig .tc := ⟨.hbm, 47, rfl⟩
abbrev main_v27_1 : Ref sig .tc := ⟨.hbm, 48, rfl⟩
abbrev main_v27_2 : Ref sig .tc := ⟨.hbm, 49, rfl⟩
abbrev main_v27_3 : Ref sig .tc := ⟨.hbm, 50, rfl⟩
abbrev main_v27_4 : Ref sig .tc := ⟨.hbm, 51, rfl⟩
abbrev main_v27_5 : Ref sig .tc := ⟨.hbm, 52, rfl⟩
abbrev main_v27_6 : Ref sig .tc := ⟨.hbm, 53, rfl⟩
abbrev main_v27_7 : Ref sig .tc := ⟨.hbm, 54, rfl⟩
abbrev main_v27_8 : Ref sig .tc := ⟨.hbm, 55, rfl⟩
abbrev main_v27_9 : Ref sig .tc := ⟨.hbm, 56, rfl⟩
abbrev main_while0c_c_13 : Ref sig .tc := ⟨.hbm, 57, rfl⟩
abbrev main_while0c_v43 : Ref sig .tc := ⟨.hbm, 58, rfl⟩
abbrev main_while0b_call1_c : Ref sig .tc := ⟨.hbm, 59, rfl⟩
abbrev main_while0b_call1_c_0 : Ref sig .tc := ⟨.hbm, 60, rfl⟩
abbrev main_while0b_call1_c_1 : Ref sig .tc := ⟨.hbm, 61, rfl⟩
abbrev main_while0b_call1_v0 : Ref sig .tc := ⟨.hbm, 62, rfl⟩
abbrev main_while0b_v43 : Ref sig .tc := ⟨.hbm, 63, rfl⟩
abbrev main_while0b_call2_v0 : Ref sig .tc := ⟨.hbm, 64, rfl⟩
abbrev main_while0b_v44 : Ref sig .tc := ⟨.hbm, 65, rfl⟩
abbrev main_while0b_v45 : Ref sig .tc := ⟨.hbm, 66, rfl⟩
abbrev main_while0b_v46 : Ref sig .tc := ⟨.hbm, 67, rfl⟩
abbrev main_while0b_v47 : Ref sig .tc := ⟨.hbm, 68, rfl⟩
abbrev main_while0b_v48 : Ref sig .tc := ⟨.hbm, 69, rfl⟩
abbrev main_while0b_v49 : Ref sig .tc := ⟨.hbm, 70, rfl⟩
abbrev main_while0b_v50 : Ref sig .tc := ⟨.hbm, 71, rfl⟩
abbrev main_while0b_v51 : Ref sig .tc := ⟨.hbm, 72, rfl⟩
abbrev main_while0b_v52 : Ref sig .tc := ⟨.hbm, 73, rfl⟩
abbrev main_while0b_v53 : Ref sig .tc := ⟨.hbm, 74, rfl⟩
abbrev main_while0b_v54 : Ref sig .tc := ⟨.hbm, 75, rfl⟩
abbrev main_while0b_v55 : Ref sig .tc := ⟨.hbm, 76, rfl⟩
abbrev main_while0b_v56 : Ref sig .tc := ⟨.hbm, 77, rfl⟩
abbrev main_while0b_cst_13 : Ref sig .tc := ⟨.hbm, 78, rfl⟩
abbrev main_while0b_v57 : Ref sig .tc := ⟨.hbm, 79, rfl⟩
abbrev main_while0b_v58 : Ref sig .tc := ⟨.hbm, 80, rfl⟩
abbrev main_while0b_cst_14 : Ref sig .tc := ⟨.hbm, 81, rfl⟩
abbrev main_while0b_v59 : Ref sig .tc := ⟨.hbm, 82, rfl⟩
abbrev main_while0b_v60 : Ref sig .tc := ⟨.hbm, 83, rfl⟩
abbrev main_while0b_v61 : Ref sig .tc := ⟨.hbm, 84, rfl⟩
abbrev main_while0b_v62 : Ref sig .tc := ⟨.hbm, 85, rfl⟩
abbrev main_while0b_v63 : Ref sig .tc := ⟨.hbm, 86, rfl⟩
abbrev main_while0b_cst_15 : Ref sig .tc := ⟨.hbm, 87, rfl⟩
abbrev main_while0b_v64 : Ref sig .tc := ⟨.hbm, 88, rfl⟩
abbrev main_while0b_v65 : Ref sig .tc := ⟨.hbm, 89, rfl⟩
abbrev main_while0b_cst_16 : Ref sig .tc := ⟨.hbm, 90, rfl⟩
abbrev main_while0b_v66 : Ref sig .tc := ⟨.hbm, 91, rfl⟩
abbrev main_while0b_v67 : Ref sig .tc := ⟨.hbm, 92, rfl⟩
abbrev main_while0b_v68 : Ref sig .tc := ⟨.hbm, 93, rfl⟩
abbrev main_while0b_v69 : Ref sig .tc := ⟨.hbm, 94, rfl⟩
abbrev main_while0b_v70 : Ref sig .tc := ⟨.hbm, 95, rfl⟩
abbrev main_while0b_v71 : Ref sig .tc := ⟨.hbm, 96, rfl⟩
abbrev main_while0b_v72 : Ref sig .tc := ⟨.hbm, 97, rfl⟩
abbrev main_while0b_cst_17 : Ref sig .tc := ⟨.hbm, 98, rfl⟩
abbrev main_while0b_v73 : Ref sig .tc := ⟨.hbm, 99, rfl⟩
abbrev main_while0b_v74 : Ref sig .tc := ⟨.hbm, 100, rfl⟩
abbrev main_while0b_cst_18 : Ref sig .tc := ⟨.hbm, 101, rfl⟩
abbrev main_while0b_v75 : Ref sig .tc := ⟨.hbm, 102, rfl⟩
abbrev main_while0b_v76 : Ref sig .tc := ⟨.hbm, 103, rfl⟩
abbrev main_while0b_v77 : Ref sig .tc := ⟨.hbm, 104, rfl⟩
abbrev main_while0b_v78 : Ref sig .tc := ⟨.hbm, 105, rfl⟩
abbrev main_while0b_v79 : Ref sig .tc := ⟨.hbm, 106, rfl⟩
abbrev main_while0b_v80 : Ref sig .tc := ⟨.hbm, 107, rfl⟩
abbrev main_while0b_v81 : Ref sig .tc := ⟨.hbm, 108, rfl⟩
abbrev main_while0b_call3_v0 : Ref sig .tc := ⟨.hbm, 109, rfl⟩
abbrev main_while0b_v82 : Ref sig .tc := ⟨.hbm, 110, rfl⟩
abbrev main_while0b_call4_v0 : Ref sig .tc := ⟨.hbm, 111, rfl⟩
abbrev main_while0b_v83 : Ref sig .tc := ⟨.hbm, 112, rfl⟩
abbrev main_while0b_cst_19 : Ref sig .tc := ⟨.hbm, 113, rfl⟩
abbrev main_while0b_call5_v0 : Ref sig .tc := ⟨.hbm, 114, rfl⟩
abbrev main_while0b_call5_v1 : Ref sig .tc := ⟨.hbm, 115, rfl⟩
abbrev main_while0b_call5_v2 : Ref sig .tc := ⟨.hbm, 116, rfl⟩
abbrev main_while0b_v84 : Ref sig .tc := ⟨.hbm, 117, rfl⟩
abbrev main_while0b_call6_v0 : Ref sig .tc := ⟨.hbm, 118, rfl⟩
abbrev main_while0b_call6_c : Ref sig .tc := ⟨.hbm, 119, rfl⟩
abbrev main_while0b_call6_c_0 : Ref sig .tc := ⟨.hbm, 120, rfl⟩
abbrev main_while0b_call6_c_1 : Ref sig .tc := ⟨.hbm, 121, rfl⟩
abbrev main_while0b_v85 : Ref sig .tc := ⟨.hbm, 122, rfl⟩
abbrev main_while0b_c_20 : Ref sig .tc := ⟨.hbm, 123, rfl⟩
abbrev main_while0b_v86 : Ref sig .tc := ⟨.hbm, 124, rfl⟩
abbrev main_v28 : Ref sig .tc := ⟨.hbm, 125, rfl⟩
abbrev main_v29 : Ref sig .tc := ⟨.hbm, 126, rfl⟩
abbrev main_c_3 : Ref sig .tc := ⟨.hbm, 127, rfl⟩
abbrev main_v30 : Ref sig .tc := ⟨.hbm, 128, rfl⟩
abbrev main_v31 : Ref sig .tc := ⟨.hbm, 129, rfl⟩
abbrev main_v32 : Ref sig .tc := ⟨.hbm, 130, rfl⟩
abbrev main_v33 : Ref sig .tc := ⟨.hbm, 131, rfl⟩
abbrev main_v34 : Ref sig .tc := ⟨.hbm, 132, rfl⟩
abbrev main_v35 : Ref sig .tc := ⟨.hbm, 133, rfl⟩
abbrev main_v36 : Ref sig .tc := ⟨.hbm, 134, rfl⟩
abbrev main_v37 : Ref sig .tc := ⟨.hbm, 135, rfl⟩
abbrev main_v38 : Ref sig .tc := ⟨.hbm, 136, rfl⟩
abbrev main_v39 : Ref sig .tc := ⟨.hbm, 137, rfl⟩
abbrev main_v40 : Ref sig .tc := ⟨.hbm, 138, rfl⟩
abbrev main_call7_c : Ref sig .tc := ⟨.hbm, 139, rfl⟩
abbrev main_call7_v0 : Ref sig .tc := ⟨.hbm, 140, rfl⟩
abbrev main_call7_v1 : Ref sig .tc := ⟨.hbm, 141, rfl⟩
abbrev main_call7_c_0 : Ref sig .tc := ⟨.hbm, 142, rfl⟩
abbrev main_call7_v2 : Ref sig .tc := ⟨.hbm, 143, rfl⟩
abbrev main_call7_v3 : Ref sig .tc := ⟨.hbm, 144, rfl⟩
abbrev main_call7_v4 : Ref sig .tc := ⟨.hbm, 145, rfl⟩
abbrev main_v41 : Ref sig .tc := ⟨.hbm, 146, rfl⟩
abbrev main_v42 : Ref sig .tc := ⟨.hbm, 147, rfl⟩

abbrev nD : Nat := 1
abbrev τ : Topo := Topo.v7x

variable {F : FTy → Type} [FloatOps F]

abbrev main_while0_count : Scf.Loop 32 := ⟨0#32, 1600#32, 1#32⟩
-- ==== LayerTwo.lean ====
abbrev S25600x2048 : Shape := ⟨2, ![25600, 2048]⟩
abbrev S32 : Shape := ⟨1, ![32]⟩
abbrev S1024x256 : Shape := ⟨2, ![1024, 256]⟩
abbrev S1024 : Shape := ⟨1, ![1024]⟩
abbrev S800x32x2x1024 : Shape := ⟨4, ![800, 32, 2, 1024]⟩
abbrev S2x800x32x1024 : Shape := ⟨4, ![2, 800, 32, 1024]⟩
abbrev S_ : Shape := ⟨0, ![]⟩
abbrev S2x1x1024 : Shape := ⟨3, ![2, 1, 1024]⟩
abbrev S256x1024 : Shape := ⟨2, ![256, 1024]⟩
abbrev S1x256x1024 : Shape := ⟨3, ![1, 256, 1024]⟩
abbrev S2x256x1024 : Shape := ⟨3, ![2, 256, 1024]⟩
abbrev S1x1024 : Shape := ⟨2, ![1, 1024]⟩
abbrev S1x1x1024 : Shape := ⟨3, ![1, 1, 1024]⟩
abbrev S32x1 : Shape := ⟨2, ![32, 1]⟩
abbrev S800x32x512 : Shape := ⟨3, ![800, 32, 512]⟩
abbrev S1x2x32x1024 : Shape := ⟨4, ![1, 2, 32, 1024]⟩
abbrev S2x32x256 : Shape := ⟨3, ![2, 32, 256]⟩
abbrev S32x256 : Shape := ⟨2, ![32, 256]⟩
abbrev S2x32x1024 : Shape := ⟨3, ![2, 32, 1024]⟩
abbrev S1x32x1024 : Shape := ⟨3, ![1, 32, 1024]⟩
abbrev S32x1024 : Shape := ⟨2, ![32, 1024]⟩
abbrev S1x32x256 : Shape := ⟨3, ![1, 32, 256]⟩

abbrev nBuf : Space → Nat
  | .hbm => 22
  | .vmem => 13
  | .smem => 0
  | _ => 0

abbrev bufTy : (tb : Table) → Fin (tcTables nBuf tb) → BufTy
  | .hbm, ⟨0, _⟩ => ⟨S25600x2048, .bf16⟩
  | .hbm, ⟨1, _⟩ => ⟨S32, .i32⟩
  | .hbm, ⟨2, _⟩ => ⟨S1024x256, .f32⟩
  | .hbm, ⟨3, _⟩ => ⟨S1024, .f32⟩
  | .hbm, ⟨4, _⟩ => ⟨S1024x256, .f32⟩
  | .hbm, ⟨5, _⟩ => ⟨S1024, .f32⟩
  | .hbm, ⟨6, _⟩ => ⟨S800x32x2x1024, .bf16⟩
  | .hbm, ⟨7, _⟩ => ⟨S2x800x32x1024, .bf16⟩
  | .hbm, ⟨8, _⟩ => ⟨S_, .f32⟩
  | .hbm, ⟨9, _⟩ => ⟨S2x1x1024, .f32⟩
  | .hbm, ⟨10, _⟩ => ⟨S256x1024, .f32⟩
  | .hbm, ⟨11, _⟩ => ⟨S256x1024, .f32⟩
  | .hbm, ⟨12, _⟩ => ⟨S1x256x1024, .f32⟩
  | .hbm, ⟨13, _⟩ => ⟨S1x256x1024, .f32⟩
  | .hbm, ⟨14, _⟩ => ⟨S2x256x1024, .f32⟩
  | .hbm, ⟨15, _⟩ => ⟨S1x1024, .f32⟩
  | .hbm, ⟨16, _⟩ => ⟨S1x1024, .f32⟩
  | .hbm, ⟨17, _⟩ => ⟨S1x1x1024, .f32⟩
  | .hbm, ⟨18, _⟩ => ⟨S1x1x1024, .f32⟩
  | .hbm, ⟨19, _⟩ => ⟨S2x1x1024, .f32⟩
  | .hbm, ⟨20, _⟩ => ⟨S32x1, .i32⟩
  | .hbm, ⟨21, _⟩ => ⟨S800x32x512, .f32⟩
  | .local _ .vmem, ⟨0, _⟩ => ⟨S32x1, .i32⟩
  | .local _ .vmem, ⟨1, _⟩ => ⟨S1x2x32x1024, .bf16⟩
  | .local _ .vmem, ⟨2, _⟩ => ⟨S1x2x32x1024, .bf16⟩
  | .local _ .vmem, ⟨3, _⟩ => ⟨S1x1x1024, .f32⟩
  | .local _ .vmem, ⟨4, _⟩ => ⟨S1x1x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x1x1024, .f32⟩
  | .local _ .vmem, ⟨8, _⟩ => ⟨S1x1x1024, .f32⟩
  | .local _ .vmem, ⟨9, _⟩ => ⟨S2x32x256, .f32⟩
  | .local _ .vmem, ⟨10, _⟩ => ⟨S2x32x256, .f32⟩
  | .local _ .vmem, ⟨11, _⟩ => ⟨S32x256, .f32⟩
  | .local _ .vmem, ⟨12, _⟩ => ⟨S32x256, .f32⟩
  | _, _ => ⟨S25600x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 400], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c399_i32 : BitVec 32 := 399#32
  let v1 : BitVec 32 := Scalar.subi c399_i32 arg1
  let v2 : BitVec 32 := Scalar.select v0 arg1 v1
  let c0_i32_0 : BitVec 32 := 0#32
  let c0_i32_1 : BitVec 32 := 0#32
  let c0_i32_2 : BitVec 32 := 0#32
  ![arg0.toNat, v2.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c399_i32 : BitVec 32 := 399#32
  let v1 : BitVec 32 := Scalar.subi c399_i32 arg1
  let v2 : BitVec 32 := Scalar.select v0 arg1 v1
  let c0_i32_0 : BitVec 32 := 0#32
  let c0_i32_1 : BitVec 32 := 0#32
  ![v2.toNat, c0_i32_0.toNat, arg0.toNat]

abbrev stage0_0 : Fin 1 → Memref sig .tc .vmem S32x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LayerTwoRefIdeal.lean ====
abbrev S25600x2048 : Shape := ⟨2, ![25600, 2048]⟩
abbrev S32 : Shape := ⟨1, ![32]⟩
abbrev S1024x256 : Shape := ⟨2, ![1024, 256]⟩
abbrev S1024 : Shape := ⟨1, ![1024]⟩
abbrev S800x32x2048 : Shape := ⟨3, ![800, 32, 2048]⟩
abbrev S800 : Shape := ⟨1, ![800]⟩
abbrev S1x32 : Shape := ⟨2, ![1, 32]⟩
abbrev S_ : Shape := ⟨0, ![]⟩
abbrev S800x1 : Shape := ⟨2, ![800, 1]⟩
abbrev S800x32 : Shape := ⟨2, ![800, 32]⟩
abbrev S800x32x1 : Shape := ⟨3, ![800, 32, 1]⟩
abbrev S800x32x1024 : Shape := ⟨3, ![800, 32, 1024]⟩
abbrev S800x1x32x1024 : Shape := ⟨4, ![800, 1, 32, 1024]⟩
abbrev S800x2x32x1024 : Shape := ⟨4, ![800, 2, 32, 1024]⟩
abbrev S1x1024x256 : Shape := ⟨3, ![1, 1024, 256]⟩
abbrev S2x1024x256 : Shape := ⟨3, ![2, 1024, 256]⟩
abbrev S1x1024 : Shape := ⟨2, ![1, 1024]⟩
abbrev S2x1024 : Shape := ⟨2, ![2, 1024]⟩
abbrev S2x32x256 : Shape := ⟨3, ![2, 32, 256]⟩
abbrev S800x2x32x256 : Shape := ⟨4, ![800, 2, 32, 256]⟩
abbrev S1x2x32x1024 : Shape := ⟨4, ![1, 2, 32, 1024]⟩
abbrev S2x32x1024 : Shape := ⟨3, ![2, 32, 1024]⟩
abbrev S1 : Shape := ⟨1, ![1]⟩
abbrev S2x1x1024 : Shape := ⟨3, ![2, 1, 1024]⟩
abbrev S1x32x1 : Shape := ⟨3, ![1, 32, 1]⟩
abbrev S1x2x32x256 : Shape := ⟨4, ![1, 2, 32, 256]⟩
abbrev S800x1x32x256 : Shape := ⟨4, ![800, 1, 32, 256]⟩
abbrev S800x32x256 : Shape := ⟨3, ![800, 32, 256]⟩
abbrev S800x32x512 : Shape := ⟨3, ![800, 32, 512]⟩

abbrev nBuf : Space → Nat
  | .hbm => 144
  | .vmem => 0
  | .smem => 0
  | _ => 0

abbrev hbmTy0_0 (i : Nat) : BufTy := match i % 128 with
  | 0 => ⟨S25600x2048, .bf16⟩
  | 1 => ⟨S32, .i32⟩
  | 2 => ⟨S1024x256, .f32⟩
  | 3 => ⟨S1024, .f32⟩
  | 4 => ⟨S1024x256, .f32⟩
  | 5 => ⟨S1024, .f32⟩
  | 6 => ⟨S25600x2048, .f32⟩
  | 7 => ⟨S800x32x2048, .f32⟩
  | 8 => ⟨S800, .i32⟩
  | 9 => ⟨S1x32, .i32⟩
  | 10 => ⟨S_, .i32⟩
  | 11 => ⟨S1x32, .i32⟩
  | 12 => ⟨S1x32, .i32⟩
  | 13 => ⟨S800x1, .i32⟩
  | 14 => ⟨S800x32, .i32⟩
  | 15 => ⟨S800x32, .i32⟩
  | 16 => ⟨S800x32, .i32⟩
  | 17 => ⟨S800x32x1, .i32⟩
  | 18 => ⟨S800x32x1024, .f32⟩
  | 19 => ⟨S800x32x1024, .f32⟩
  | 20 => ⟨S_, .i32⟩
  | 21 => ⟨S800x32x1, .i32⟩
  | 22 => ⟨S800x32x1, .i1⟩
  | 23 => ⟨S_, .i32⟩
  | 24 => ⟨S800x32x1, .i32⟩
  | 25 => ⟨S800x32x1, .i32⟩
  | 26 => ⟨S800x32x1, .i32⟩
  | 27 => ⟨S800x32x1024, .f32⟩
  | 28 => ⟨S800x1x32x1024, .f32⟩
  | 29 => ⟨S800x1x32x1024, .f32⟩
  | 30 => ⟨S800x2x32x1024, .f32⟩
  | 31 => ⟨S1x1024x256, .f32⟩
  | 32 => ⟨S1x1024x256, .f32⟩
  | 33 => ⟨S2x1024x256, .f32⟩
  | 34 => ⟨S1x1024, .f32⟩
  | 35 => ⟨S1x1024, .f32⟩
  | 36 => ⟨S2x1024, .f32⟩
  | 37 => ⟨S_, .f32⟩
  | 38 => ⟨S2x32x256, .f32⟩
  | 39 => ⟨S_, .f32⟩
  | 40 => ⟨S2x32x256, .f32⟩
  | 41 => ⟨S800, .i32⟩
  | 42 => ⟨S_, .f32⟩
  | 43 => ⟨S800x2x32x256, .f32⟩
  | 44 => ⟨S_, .i32⟩
  | 45 => ⟨S800x2x32x1024, .f32⟩
  | 46 => ⟨S800, .i32⟩
  | 47 => ⟨S2x1024x256, .f32⟩
  | 48 => ⟨S2x1024, .f32⟩
  | 49 => ⟨S32, .i32⟩
  | 50 => ⟨S_, .i32⟩
  | 51 => ⟨S2x32x256, .f32⟩
  | 52 => ⟨S2x32x256, .f32⟩
  | 53 => ⟨S800x2x32x256, .f32⟩
  | 54 => ⟨S_, .i32⟩
  | 55 => ⟨S_, .i1⟩
  | 56 => ⟨S_, .i32⟩
  | 57 => ⟨S_, .i32⟩
  | 58 => ⟨S_, .i32⟩
  | 59 => ⟨S1x2x32x1024, .f32⟩
  | 60 => ⟨S2x32x1024, .f32⟩
  | 61 => ⟨S1, .i32⟩
  | 62 => ⟨S_, .i32⟩
  | 63 => ⟨S2x32x1024, .f32⟩
  | 64 => ⟨S2x32x1024, .f32⟩
  | 65 => ⟨S2x1x1024, .f32⟩
  | 66 => ⟨S2x32x1024, .f32⟩
  | 67 => ⟨S2x32x1024, .f32⟩
  | 68 => ⟨S2x32x256, .f32⟩
  | 69 => ⟨S2x32x256, .f32⟩
  | 70 => ⟨S2x32x256, .f32⟩
  | 71 => ⟨S2x32x256, .f32⟩
  | 72 => ⟨S2x32x256, .f32⟩
  | 73 => ⟨S2x32x256, .f32⟩
  | 74 => ⟨S_, .f32⟩
  | 75 => ⟨S2x32x256, .f32⟩
  | 76 => ⟨S2x32x256, .f32⟩
  | 77 => ⟨S_, .f32⟩
  | 78 => ⟨S2x32x256, .f32⟩
  | 79 => ⟨S2x32x256, .f32⟩
  | 80 => ⟨S2x32x256, .f32⟩
  | 81 => ⟨S2x32x256, .f32⟩
  | 82 => ⟨S2x32x256, .f32⟩
  | 83 => ⟨S_, .f32⟩
  | 84 => ⟨S2x32x256, .f32⟩
  | 85 => ⟨S2x32x256, .f32⟩
  | 86 => ⟨S_, .f32⟩
  | 87 => ⟨S2x32x256, .f32⟩
  | 88 => ⟨S2x32x256, .f32⟩
  | 89 => ⟨S2x32x256, .f32⟩
  | 90 => ⟨S2x32x256, .f32⟩
  | 91 => ⟨S2x32x256, .f32⟩
  | 92 => ⟨S2x32x256, .f32⟩
  | 93 => ⟨S2x32x256, .f32⟩
  | 94 => ⟨S_, .f32⟩
  | 95 => ⟨S2x32x256, .f32⟩
  | 96 => ⟨S2x32x256, .f32⟩
  | 97 => ⟨S_, .f32⟩
  | 98 => ⟨S2x32x256, .f32⟩
  | 99 => ⟨S2x32x256, .f32⟩
  | 100 => ⟨S2x32x256, .f32⟩
  | 101 => ⟨S2x32x256, .f32⟩
  | 102 => ⟨S32, .i32⟩
  | 103 => ⟨S32, .i1⟩
  | 104 => ⟨S1x32x1, .i1⟩
  | 105 => ⟨S2x32x256, .i1⟩
  | 106 => ⟨S2x32x256, .f32⟩
  | 107 => ⟨S2x32x256, .i1⟩
  | 108 => ⟨S2x32x256, .f32⟩
  | 109 => ⟨S_, .f32⟩
  | 110 => ⟨S_, .f32⟩
  | 111 => ⟨S2x32x256, .i1⟩
  | 112 => ⟨S2x32x256, .f32⟩
  | 113 => ⟨S2x32x256, .f32⟩
  | 114 => ⟨S1x2x32x256, .f32⟩
  | 115 => ⟨S_, .i32⟩
  | 116 => ⟨S_, .i32⟩
  | 117 => ⟨S_, .i32⟩
  | 118 => ⟨S800x2x32x256, .f32⟩
  | 119 => ⟨S_, .i32⟩
  | 120 => ⟨S_, .i32⟩
  | 121 => ⟨S800, .i32⟩
  | 122 => ⟨S1x32, .i32⟩
  | 123 => ⟨S_, .i32⟩
  | 124 => ⟨S1x32, .i32⟩
  | 125 => ⟨S1x32, .i32⟩
  | 126 => ⟨S800x1, .i32⟩
  | 127 => ⟨S800x32, .i32⟩
  | _ => ⟨S25600x2048, .bf16⟩

abbrev hbmTy0_1 (i : Nat) : BufTy := match i % 128 with
  | 0 => ⟨S800x32, .i32⟩
  | 1 => ⟨S800x32, .i32⟩
  | 2 => ⟨S800x32x1, .i32⟩
  | 3 => ⟨S800x1x32x256, .f32⟩
  | 4 => ⟨S800x32x256, .f32⟩
  | 5 => ⟨S800x1x32x256, .f32⟩
  | 6 => ⟨S800x32x256, .f32⟩
  | 7 => ⟨S_, .i32⟩
  | 8 => ⟨S800x32x1, .i32⟩
  | 9 => ⟨S800x32x1, .i1⟩
  | 10 => ⟨S_, .i32⟩
  | 11 => ⟨S800x32x1, .i32⟩
  | 12 => ⟨S800x32x1, .i32⟩
  | 13 => ⟨S800x32x1, .i32⟩
  | 14 => ⟨S800x32x256, .f32⟩
  | 15 => ⟨S800x32x512, .f32⟩
  | _ => ⟨S25600x2048, .bf16⟩

abbrev hbmTy (i : Nat) : BufTy := match i / 128 with
  | 0 => hbmTy0_0 i
  | 1 => hbmTy0_1 i
  | _ => ⟨S25600x2048, .bf16⟩

abbrev bufTy : (tb : Table) → Fin (tcTables nBuf tb) → BufTy
  | .hbm, ⟨i, _⟩ => hbmTy i
  | _, _ => ⟨S25600x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_cst_0 : Ref sig .tc := ⟨.hbm, 39, rfl⟩
abbrev main_v24 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_c_2 : Ref sig .tc := ⟨.hbm, 44, rfl⟩
abbrev main_v27_0 : Ref sig .tc := ⟨.hbm, 45, rfl⟩
abbrev main_v27_1 : Ref sig .tc := ⟨.hbm, 46, rfl⟩
abbrev main_v27_2 : Ref sig .tc := ⟨.hbm, 47, rfl⟩
abbrev main_v27_3 : Ref sig .tc := ⟨.hbm, 48, rfl⟩
abbrev main_v27_4 : Ref sig .tc := ⟨.hbm, 49, rfl⟩
abbrev main_v27_5 : Ref sig .tc := ⟨.hbm, 50, rfl⟩
abbrev main_v27_6 : Ref sig .tc := ⟨.hbm, 51, rfl⟩
abbrev main_v27_7 : Ref sig .tc := ⟨.hbm, 52, rfl⟩
abbrev main_v27_8 : Ref sig .tc := ⟨.hbm, 53, rfl⟩
abbrev main_while0c_c_12 : Ref sig .tc := ⟨.hbm, 54, rfl⟩
abbrev main_while0c_v43 : Ref sig .tc := ⟨.hbm, 55, rfl⟩
abbrev main_while0b_call1_c : Ref sig .tc := ⟨.hbm, 56, rfl⟩
abbrev main_while0b_call1_c_0 : Ref sig .tc := ⟨.hbm, 57, rfl⟩
abbrev main_while0b_call1_c_1 : Ref sig .tc := ⟨.hbm, 58, rfl⟩
abbrev main_while0b_call1_v0 : Ref sig .tc := ⟨.hbm, 59, rfl⟩
abbrev main_while0b_v43 : Ref sig .tc := ⟨.hbm, 60, rfl⟩
abbrev main_while0b_call2_v0 : Ref sig .tc := ⟨.hbm, 61, rfl⟩
abbrev main_while0b_v44 : Ref sig .tc := ⟨.hbm, 62, rfl⟩
abbrev main_while0b_v45 : Ref sig .tc := ⟨.hbm, 63, rfl⟩
abbrev main_while0b_v46 : Ref sig .tc := ⟨.hbm, 64, rfl⟩
abbrev main_while0b_v47 : Ref sig .tc := ⟨.hbm, 65, rfl⟩
abbrev main_while0b_v48 : Ref sig .tc := ⟨.hbm, 66, rfl⟩
abbrev main_while0b_v49 : Ref sig .tc := ⟨.hbm, 67, rfl⟩
abbrev main_while0b_v50 : Ref sig .tc := ⟨.hbm, 68, rfl⟩
abbrev main_while0b_v51 : Ref sig .tc := ⟨.hbm, 69, rfl⟩
abbrev main_while0b_v52 : Ref sig .tc := ⟨.hbm, 70, rfl⟩
abbrev main_while0b_v53 : Ref sig .tc := ⟨.hbm, 71, rfl⟩
abbrev main_while0b_v54 : Ref sig .tc := ⟨.hbm, 72, rfl⟩
abbrev main_while0b_v55 : Ref sig .tc := ⟨.hbm, 73, rfl⟩
abbrev main_while0b_cst_12 : Ref sig .tc := ⟨.hbm, 74, rfl⟩
abbrev main_while0b_v56 : Ref sig .tc := ⟨.hbm, 75, rfl⟩
abbrev main_while0b_v57 : Ref sig .tc := ⟨.hbm, 76, rfl⟩
abbrev main_while0b_cst_13 : Ref sig .tc := ⟨.hbm, 77, rfl⟩
abbrev main_while0b_v58 : Ref sig .tc := ⟨.hbm, 78, rfl⟩
abbrev main_while0b_v59 : Ref sig .tc := ⟨.hbm, 79, rfl⟩
abbrev main_while0b_v60 : Ref sig .tc := ⟨.hbm, 80, rfl⟩
abbrev main_while0b_v61 : Ref sig .tc := ⟨.hbm, 81, rfl⟩
abbrev main_while0b_v62 : Ref sig .tc := ⟨.hbm, 82, rfl⟩
abbrev main_while0b_cst_14 : Ref sig .tc := ⟨.hbm, 83, rfl⟩
abbrev main_while0b_v63 : Ref sig .tc := ⟨.hbm, 84, rfl⟩
abbrev main_while0b_v64 : Ref sig .tc := ⟨.hbm, 85, rfl⟩
abbrev main_while0b_cst_15 : Ref sig .tc := ⟨.hbm, 86, rfl⟩
abbrev main_while0b_v65 : Ref sig .tc := ⟨.hbm, 87, rfl⟩
abbrev main_while0b_v66 : Ref sig .tc := ⟨.hbm, 88, rfl⟩
abbrev main_while0b_v67 : Ref sig .tc := ⟨.hbm, 89, rfl⟩
abbrev main_while0b_v68 : Ref sig .tc := ⟨.hbm, 90, rfl⟩
abbrev main_while0b_v69 : Ref sig .tc := ⟨.hbm, 91, rfl⟩
abbrev main_while0b_v70 : Ref sig .tc := ⟨.hbm, 92, rfl⟩
abbrev main_while0b_v71 : Ref sig .tc := ⟨.hbm, 93, rfl⟩
abbrev main_while0b_cst_16 : Ref sig .tc := ⟨.hbm, 94, rfl⟩
abbrev main_while0b_v72 : Ref sig .tc := ⟨.hbm, 95, rfl⟩
abbrev main_while0b_v73 : Ref sig .tc := ⟨.hbm, 96, rfl⟩
abbrev main_while0b_cst_17 : Ref sig .tc := ⟨.hbm, 97, rfl⟩
abbrev main_while0b_v74 : Ref sig .tc := ⟨.hbm, 98, rfl⟩
abbrev main_while0b_v75 : Ref sig .tc := ⟨.hbm, 99, rfl⟩
abbrev main_while0b_v76 : Ref sig .tc := ⟨.hbm, 100, rfl⟩
abbrev main_while0b_v77 : Ref sig .tc := ⟨.hbm, 101, rfl⟩
abbrev main_while0b_v78 : Ref sig .tc := ⟨.hbm, 102, rfl⟩
abbrev main_while0b_v79 : Ref sig .tc := ⟨.hbm, 103, rfl⟩
abbrev main_while0b_v80 : Ref sig .tc := ⟨.hbm, 104, rfl⟩
abbrev main_while0b_call3_v0 : Ref sig .tc := ⟨.hbm, 105, rfl⟩
abbrev main_while0b_v81 : Ref sig .tc := ⟨.hbm, 106, rfl⟩
abbrev main_while0b_call4_v0 : Ref sig .tc := ⟨.hbm, 107, rfl⟩
abbrev main_while0b_v82 : Ref sig .tc := ⟨.hbm, 108, rfl⟩
abbrev main_while0b_cst_18 : Ref sig .tc := ⟨.hbm, 109, rfl⟩
abbrev main_while0b_call5_v0 : Ref sig .tc := ⟨.hbm, 110, rfl⟩
abbrev main_while0b_call5_v1 : Ref sig .tc := ⟨.hbm, 111, rfl⟩
abbrev main_while0b_call5_v2 : Ref sig .tc := ⟨.hbm, 112, rfl⟩
abbrev main_while0b_v83 : Ref sig .tc := ⟨.hbm, 113, rfl⟩
abbrev main_while0b_call6_v0 : Ref sig .tc := ⟨.hbm, 114, rfl⟩
abbrev main_while0b_call6_c : Ref sig .tc := ⟨.hbm, 115, rfl⟩
abbrev main_while0b_call6_c_0 : Ref sig .tc := ⟨.hbm, 116, rfl⟩
abbrev main_while0b_call6_c_1 : Ref sig .tc := ⟨.hbm, 117, rfl⟩
abbrev main_while0b_v84 : Ref sig .tc := ⟨.hbm, 118, rfl⟩
abbrev main_while0b_c_19 : Ref sig .tc := ⟨.hbm, 119, rfl⟩
abbrev main_while0b_v85 : Ref sig .tc := ⟨.hbm, 120, rfl⟩
abbrev main_v28 : Ref sig .tc := ⟨.hbm, 121, rfl⟩
abbrev main_v29 : Ref sig .tc := ⟨.hbm, 122, rfl⟩
abbrev main_c_3 : Ref sig .tc := ⟨.hbm, 123, rfl⟩
abbrev main_v30 : Ref sig .tc := ⟨.hbm, 124, rfl⟩
abbrev main_v31 : Ref sig .tc := ⟨.hbm, 125, rfl⟩
abbrev main_v32 : Ref sig .tc := ⟨.hbm, 126, rfl⟩
abbrev main_v33 : Ref sig .tc := ⟨.hbm, 127, rfl⟩
abbrev main_v34 : Ref sig .tc := ⟨.hbm, 128, rfl⟩
abbrev main_v35 : Ref sig .tc := ⟨.hbm, 129, rfl⟩
abbrev main_v36 : Ref sig .tc := ⟨.hbm, 130, rfl⟩
abbrev main_v37 : Ref sig .tc := ⟨.hbm, 131, rfl⟩
abbrev main_v38 : Ref sig .tc := ⟨.hbm, 132, rfl⟩
abbrev main_v39 : Ref sig .tc := ⟨.hbm, 133, rfl⟩
abbrev main_v40 : Ref sig .tc := ⟨.hbm, 134, rfl⟩
abbrev main_call7_c : Ref sig .tc := ⟨.hbm, 135, rfl⟩
abbrev main_call7_v0 : Ref sig .tc := ⟨.hbm, 136, rfl⟩
abbrev main_call7_v1 : Ref sig .tc := ⟨.hbm, 137, rfl⟩
abbrev main_call7_c_0 : Ref sig .tc := ⟨.hbm, 138, rfl⟩
abbrev main_call7_v2 : Ref sig .tc := ⟨.hbm, 139, rfl⟩
abbrev main_call7_v3 : Ref sig .tc := ⟨.hbm, 140, rfl⟩
abbrev main_call7_v4 : Ref sig .tc := ⟨.hbm, 141, rfl⟩
abbrev main_v41 : Ref sig .tc := ⟨.hbm, 142, rfl⟩
abbrev main_v42 : Ref sig .tc := ⟨.hbm, 143, rfl⟩

abbrev nD : Nat := 1
abbrev τ : Topo := Topo.v7x

variable {F : FTy → Type} [FloatOps F]

abbrev main_while0_count : Scf.Loop 32 := ⟨0#32, 800#32, 1#32⟩
-- ==== Decoder.lean ====
abbrev S161x32x512 : Shape := ⟨3, ![161, 32, 512]⟩
abbrev S32 : Shape := ⟨1, ![32]⟩
abbrev S32x800x512 : Shape := ⟨3, ![32, 800, 512]⟩
abbrev S2048x1024 : Shape := ⟨2, ![2048, 1024]⟩
abbrev S2048x512 : Shape := ⟨2, ![2048, 512]⟩
abbrev S2048 : Shape := ⟨1, ![2048]⟩
abbrev S128x512 : Shape := ⟨2, ![128, 512]⟩
abbrev S32x2x31 : Shape := ⟨3, ![32, 2, 31]⟩
abbrev S128x32 : Shape := ⟨2, ![128, 32]⟩
abbrev S1x128 : Shape := ⟨2, ![1, 128]⟩
abbrev S512x1024 : Shape := ⟨2, ![512, 1024]⟩
abbrev S512 : Shape := ⟨1, ![512]⟩
abbrev S101x512 : Shape := ⟨2, ![101, 512]⟩
abbrev S101 : Shape := ⟨1, ![101]⟩
abbrev S128x2x31 : Shape := ⟨3, ![128, 2, 31]⟩
abbrev S_ : Shape := ⟨0, ![]⟩
abbrev S128x64 : Shape := ⟨2, ![128, 64]⟩
abbrev S128x1x31 : Shape := ⟨3, ![128, 1, 31]⟩
abbrev S128x31 : Shape := ⟨2, ![128, 31]⟩
abbrev S1 : Shape := ⟨1, ![1]⟩
abbrev S32x1 : Shape := ⟨2, ![32, 1]⟩
abbrev S1024x2048 : Shape := ⟨2, ![1024, 2048]⟩
abbrev S512x2048 : Shape := ⟨2, ![512, 2048]⟩
abbrev S1x2048 : Shape := ⟨2, ![1, 2048]⟩
abbrev S512x128 : Shape := ⟨2, ![512, 128]⟩
abbrev S1024x512 : Shape := ⟨2, ![1024, 512]⟩
abbrev S1x512 : Shape := ⟨2, ![1, 512]⟩
abbrev S512x101 : Shape := ⟨2, ![512, 101]⟩
abbrev S1x101 : Shape := ⟨2, ![1, 101]⟩
abbrev S161x32x101 : Shape := ⟨3, ![161, 32, 101]⟩
abbrev S161x32x800 : Shape := ⟨3, ![161, 32, 800]⟩
abbrev S1x32x512 : Shape := ⟨3, ![1, 32, 512]⟩
abbrev S1x32x101 : Shape := ⟨3, ![1, 32, 101]⟩
abbrev S1x32x800 : Shape := ⟨3, ![1, 32, 800]⟩
abbrev S32x512 : Shape := ⟨2, ![32, 512]⟩
abbrev S32x832 : Shape := ⟨2, ![32, 832]⟩
abbrev S64x32x800 : Shape := ⟨3, ![64, 32, 800]⟩
abbrev S128x32x800 : Shape := ⟨3, ![128, 32, 800]⟩
abbrev S4x800x512 : Shape := ⟨3, ![4, 800, 512]⟩
abbrev S128x4x800 : Shape := ⟨3, ![128, 4, 800]⟩
abbrev S32x1024 : Shape := ⟨2, ![32, 1024]⟩
abbrev S32x2048 : Shape := ⟨2, ![32, 2048]⟩
abbrev S32x800 : Shape := ⟨2, ![32, 800]⟩
abbrev S32x128 : Shape := ⟨2, ![32, 128]⟩
abbrev S128x32x1 : Shape := ⟨3, ![128, 32, 1]⟩
abbrev S128 : Shape := ⟨1, ![128]⟩
abbrev S128x1x1 : Shape := ⟨3, ![128, 1, 1]⟩
abbrev S64x4x800 : Shape := ⟨3, ![64, 4, 800]⟩
abbrev S128x4x1 : Shape := ⟨3, ![128, 4, 1]⟩
abbrev S4x800 : Shape := ⟨2, ![4, 800]⟩
abbrev S1x800 : Shape := ⟨2, ![1, 800]⟩
abbrev S32x800x1 : Shape := ⟨3, ![32, 800, 1]⟩
abbrev S32x101 : Shape := ⟨2, ![32, 101]⟩

abbrev nBuf : Space → Nat
  | .hbm => 45
  | .vmem => 28
  | .smem => 0
  | _ => 0

abbrev bufTy : (tb : Table) → Fin (tcTables nBuf tb) → BufTy
  | .hbm, ⟨0, _⟩ => ⟨S161x32x512, .f32⟩
  | .hbm, ⟨1, _⟩ => ⟨S32, .i32⟩
  | .hbm, ⟨2, _⟩ => ⟨S32x800x512, .f32⟩
  | .hbm, ⟨3, _⟩ => ⟨S2048x1024, .f32⟩
  | .hbm, ⟨4, _⟩ => ⟨S2048x512, .f32⟩
  | .hbm, ⟨5, _⟩ => ⟨S2048, .f32⟩
  | .hbm, ⟨6, _⟩ => ⟨S128x512, .f32⟩
  | .hbm, ⟨7, _⟩ => ⟨S128x512, .f32⟩
  | .hbm, ⟨8, _⟩ => ⟨S32x2x31, .f32⟩
  | .hbm, ⟨9, _⟩ => ⟨S128x32, .f32⟩
  | .hbm, ⟨10, _⟩ => ⟨S1x128, .f32⟩
  | .hbm, ⟨11, _⟩ => ⟨S512x1024, .f32⟩
  | .hbm, ⟨12, _⟩ => ⟨S512, .f32⟩
  | .hbm, ⟨13, _⟩ => ⟨S101x512, .f32⟩
  | .hbm, ⟨14, _⟩ => ⟨S101, .f32⟩
  | .hbm, ⟨15, _⟩ => ⟨S128x2x31, .f32⟩
  | .hbm, ⟨16, _⟩ => ⟨S_, .f32⟩
  | .hbm, ⟨17, _⟩ => ⟨S128x64, .f32⟩
  | .hbm, ⟨18, _⟩ => ⟨S128x1x31, .f32⟩
  | .hbm, ⟨19, _⟩ => ⟨S128x31, .f32⟩
  | .hbm, ⟨20, _⟩ => ⟨S_, .i32⟩
  | .hbm, ⟨21, _⟩ => ⟨S1, .i32⟩
  | .hbm, ⟨22, _⟩ => ⟨S128x64, .f32⟩
  | .hbm, ⟨23, _⟩ => ⟨S128x1x31, .f32⟩
  | .hbm, ⟨24, _⟩ => ⟨S128x31, .f32⟩
  | .hbm, ⟨25, _⟩ => ⟨S_, .i32⟩
  | .hbm, ⟨26, _⟩ => ⟨S1, .i32⟩
  | .hbm, ⟨27, _⟩ => ⟨S128x64, .f32⟩
  | .hbm, ⟨28, _⟩ => ⟨S32x800x512, .bf16⟩
  | .hbm, ⟨29, _⟩ => ⟨S32x1, .i32⟩
  | .hbm, ⟨30, _⟩ => ⟨S1024x2048, .f32⟩
  | .hbm, ⟨31, _⟩ => ⟨S1024x2048, .bf16⟩
  | .hbm, ⟨32, _⟩ => ⟨S512x2048, .f32⟩
  | .hbm, ⟨33, _⟩ => ⟨S512x2048, .bf16⟩
  | .hbm, ⟨34, _⟩ => ⟨S1x2048, .f32⟩
  | .hbm, ⟨35, _⟩ => ⟨S512x128, .f32⟩
  | .hbm, ⟨36, _⟩ => ⟨S128x64, .bf16⟩
  | .hbm, ⟨37, _⟩ => ⟨S1024x512, .f32⟩
  | .hbm, ⟨38, _⟩ => ⟨S1024x512, .bf16⟩
  | .hbm, ⟨39, _⟩ => ⟨S1x512, .f32⟩
  | .hbm, ⟨40, _⟩ => ⟨S512x101, .f32⟩
  | .hbm, ⟨41, _⟩ => ⟨S1x101, .f32⟩
  | .hbm, ⟨42, _⟩ => ⟨S161x32x512, .f32⟩
  | .hbm, ⟨43, _⟩ => ⟨S161x32x101, .f32⟩
  | .hbm, ⟨44, _⟩ => ⟨S161x32x800, .f32⟩
  | .local _ .vmem, ⟨0, _⟩ => ⟨S32x1, .i32⟩
  | .local _ .vmem, ⟨1, _⟩ => ⟨S1x32x512, .f32⟩
  | .local _ .vmem, ⟨2, _⟩ => ⟨S1x32x512, .f32⟩
  | .local _ .vmem, ⟨3, _⟩ => ⟨S32x800x512, .bf16⟩
  | .local _ .vmem, ⟨4, _⟩ => ⟨S128x512, .f32⟩
  | .local _ .vmem, ⟨5, _⟩ => ⟨S1024x2048, .bf16⟩
  | .local _ .vmem, ⟨6, _⟩ => ⟨S512x2048, .bf16⟩
  | .local _ .vmem, ⟨7, _⟩ => ⟨S1x2048, .f32⟩
  | .local _ .vmem, ⟨8, _⟩ => ⟨S512x128, .f32⟩
  | .local _ .vmem, ⟨9, _⟩ => ⟨S128x64, .bf16⟩
  | .local _ .vmem, ⟨10, _⟩ => ⟨S1x128, .f32⟩
  | .local _ .vmem, ⟨11, _⟩ => ⟨S1024x512, .bf16⟩
  | .local _ .vmem, ⟨12, _⟩ => ⟨S1x512, .f32⟩
  | .local _ .vmem, ⟨13, _⟩ => ⟨S512x101, .f32⟩
  | .local _ .vmem, ⟨14, _⟩ => ⟨S1x101, .f32⟩
  | .local _ .vmem, ⟨15, _⟩ => ⟨S1x32x512, .f32⟩
  | .local _ .vmem, ⟨16, _⟩ => ⟨S1x32x512, .f32⟩
  | .local _ .vmem, ⟨17, _⟩ => ⟨S1x32x101, .f32⟩
  | .local _ .vmem, ⟨18, _⟩ => ⟨S1x32x101, .f32⟩
  | .local _ .vmem, ⟨19, _⟩ => ⟨S1x32x800, .f32⟩
  | .local _ .vmem, ⟨20, _⟩ => ⟨S1x32x800, .f32⟩
  | .local _ .vmem, ⟨21, _⟩ => ⟨S32x512, .f32⟩
  | .local _ .vmem, ⟨22, _⟩ => ⟨S32x512, .f32⟩
  | .local _ .vmem, ⟨23, _⟩ => ⟨S32x512, .f32⟩
  | .local _ .vmem, ⟨24, _⟩ => ⟨S32x832, .f32⟩
  | .local _ .vmem, ⟨25, _⟩ => ⟨S32x832, .f32⟩
  | .local _ .vmem, ⟨26, _⟩ => ⟨S64x32x800, .bf16⟩
  | .local _ .vmem, ⟨27, _⟩ => ⟨S128x32x800, .bf16⟩
  | _, _ => ⟨S161x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v24_2 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨2, ![1, 161], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S32x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x800x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x101 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x101 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x32x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x32x101 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x32x800 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== DecoderRefIdeal.lean ====
abbrev S161x32x512 : Shape := ⟨3, ![161, 32, 512]⟩
abbrev S32 : Shape := ⟨1, ![32]⟩
abbrev S32x800x512 : Shape := ⟨3, ![32, 800, 512]⟩
abbrev S2048x1024 : Shape := ⟨2, ![2048, 1024]⟩
abbrev S2048x512 : Shape := ⟨2, ![2048, 512]⟩
abbrev S2048 : Shape := ⟨1, ![2048]⟩
abbrev S128x512 : Shape := ⟨2, ![128, 512]⟩
abbrev S32x2x31 : Shape := ⟨3, ![32, 2, 31]⟩
abbrev S128x32 : Shape := ⟨2, ![128, 32]⟩
abbrev S1x128 : Shape := ⟨2, ![1, 128]⟩
abbrev S512x1024 : Shape := ⟨2, ![512, 1024]⟩
abbrev S512 : Shape := ⟨1, ![512]⟩
abbrev S101x512 : Shape := ⟨2, ![101, 512]⟩
abbrev S101 : Shape := ⟨1, ![101]⟩
abbrev S800 : Shape := ⟨1, ![800]⟩
abbrev S1x800 : Shape := ⟨2, ![1, 800]⟩
abbrev S32x1 : Shape := ⟨2, ![32, 1]⟩
abbrev S32x800 : Shape := ⟨2, ![32, 800]⟩
abbrev S512x128 : Shape := ⟨2, ![512, 128]⟩
abbrev S32x800x128 : Shape := ⟨3, ![32, 800, 128]⟩
abbrev S_ : Shape := ⟨0, ![]⟩
abbrev S32x512 : Shape := ⟨2, ![32, 512]⟩
abbrev S161x32x101 : Shape := ⟨3, ![161, 32, 101]⟩
abbrev S161x32x800 : Shape := ⟨3, ![161, 32, 800]⟩
abbrev S1x32x512 : Shape := ⟨3, ![1, 32, 512]⟩
abbrev S32x1024 : Shape := ⟨2, ![32, 1024]⟩
abbrev S1024x2048 : Shape := ⟨2, ![1024, 2048]⟩
abbrev S32x2048 : Shape := ⟨2, ![32, 2048]⟩
abbrev S512x2048 : Shape := ⟨2, ![512, 2048]⟩
abbrev S1x2048 : Shape := ⟨2, ![1, 2048]⟩
abbrev S32x1x800 : Shape := ⟨3, ![32, 1, 800]⟩
abbrev S32x2x800 : Shape := ⟨3, ![32, 2, 800]⟩
abbrev S32x2x830 : Shape := ⟨3, ![32, 2, 830]⟩
abbrev S800x1 : Shape := ⟨2, ![800, 1]⟩
abbrev S31 : Shape := ⟨1, ![31]⟩
abbrev S1x31 : Shape := ⟨2, ![1, 31]⟩
abbrev S800x31 : Shape := ⟨2, ![800, 31]⟩
abbrev S800x31x1 : Shape := ⟨3, ![800, 31, 1]⟩
abbrev S32x2x800x31 : Shape := ⟨4, ![32, 2, 800, 31]⟩
abbrev S32x32x800 : Shape := ⟨3, ![32, 32, 800]⟩
abbrev S32x800x32 : Shape := ⟨3, ![32, 800, 32]⟩
abbrev S32x128 : Shape := ⟨2, ![32, 128]⟩
abbrev S32x1x128 : Shape := ⟨3, ![32, 1, 128]⟩
abbrev S128x1 : Shape := ⟨2, ![128, 1]⟩
abbrev S32x800x1 : Shape := ⟨3, ![32, 800, 1]⟩
abbrev S1024x512 : Shape := ⟨2, ![1024, 512]⟩
abbrev S1x512 : Shape := ⟨2, ![1, 512]⟩
abbrev S512x101 : Shape := ⟨2, ![512, 101]⟩
abbrev S32x101 : Shape := ⟨2, ![32, 101]⟩
abbrev S1x101 : Shape := ⟨2, ![1, 101]⟩
abbrev S1x32x101 : Shape := ⟨3, ![1, 32, 101]⟩
abbrev S1x32x800 : Shape := ⟨3, ![1, 32, 800]⟩

abbrev nBuf : Space → Nat
  | .hbm => 194
  | .vmem => 0
  | .smem => 0
  | _ => 0

abbrev hbmTy0_0 (i : Nat) : BufTy := match i % 128 with
  | 0 => ⟨S161x32x512, .f32⟩
  | 1 => ⟨S32, .i32⟩
  | 2 => ⟨S32x800x512, .f32⟩
  | 3 => ⟨S2048x1024, .f32⟩
  | 4 => ⟨S2048x512, .f32⟩
  | 5 => ⟨S2048, .f32⟩
  | 6 => ⟨S128x512, .f32⟩
  | 7 => ⟨S128x512, .f32⟩
  | 8 => ⟨S32x2x31, .f32⟩
  | 9 => ⟨S128x32, .f32⟩
  | 10 => ⟨S1x128, .f32⟩
  | 11 => ⟨S512x1024, .f32⟩
  | 12 => ⟨S512, .f32⟩
  | 13 => ⟨S101x512, .f32⟩
  | 14 => ⟨S101, .f32⟩
  | 15 => ⟨S800, .i32⟩
  | 16 => ⟨S1x800, .i32⟩
  | 17 => ⟨S32x1, .i32⟩
  | 18 => ⟨S32x800, .i32⟩
  | 19 => ⟨S32x800, .i32⟩
  | 20 => ⟨S32x800, .i1⟩
  | 21 => ⟨S512x128, .f32⟩
  | 22 => ⟨S32x800x128, .f32⟩
  | 23 => ⟨S_, .f32⟩
  | 24 => ⟨S32x512, .f32⟩
  | 25 => ⟨S_, .f32⟩
  | 26 => ⟨S32x800, .f32⟩
  | 27 => ⟨S_, .f32⟩
  | 28 => ⟨S32x800, .f32⟩
  | 29 => ⟨S_, .f32⟩
  | 30 => ⟨S161x32x512, .f32⟩
  | 31 => ⟨S_, .f32⟩
  | 32 => ⟨S161x32x101, .f32⟩
  | 33 => ⟨S_, .f32⟩
  | 34 => ⟨S161x32x800, .f32⟩
  | 35 => ⟨S_, .i32⟩
  | 36 => ⟨S161x32x512, .f32⟩
  | 37 => ⟨S2048x1024, .f32⟩
  | 38 => ⟨S2048x512, .f32⟩
  | 39 => ⟨S2048, .f32⟩
  | 40 => ⟨S32x2x31, .f32⟩
  | 41 => ⟨S128x32, .f32⟩
  | 42 => ⟨S128x512, .f32⟩
  | 43 => ⟨S32x800x128, .f32⟩
  | 44 => ⟨S1x128, .f32⟩
  | 45 => ⟨S32x800, .i1⟩
  | 46 => ⟨S32x800x512, .f32⟩
  | 47 => ⟨S512x1024, .f32⟩
  | 48 => ⟨S512, .f32⟩
  | 49 => ⟨S101x512, .f32⟩
  | 50 => ⟨S101, .f32⟩
  | 51 => ⟨S_, .i32⟩
  | 52 => ⟨S32x512, .f32⟩
  | 53 => ⟨S32x512, .f32⟩
  | 54 => ⟨S32x800, .f32⟩
  | 55 => ⟨S32x800, .f32⟩
  | 56 => ⟨S32x512, .f32⟩
  | 57 => ⟨S161x32x512, .f32⟩
  | 58 => ⟨S161x32x101, .f32⟩
  | 59 => ⟨S161x32x800, .f32⟩
  | 60 => ⟨S_, .i32⟩
  | 61 => ⟨S_, .i1⟩
  | 62 => ⟨S_, .i32⟩
  | 63 => ⟨S_, .i32⟩
  | 64 => ⟨S1x32x512, .f32⟩
  | 65 => ⟨S32x512, .f32⟩
  | 66 => ⟨S32x1024, .f32⟩
  | 67 => ⟨S1024x2048, .f32⟩
  | 68 => ⟨S32x2048, .f32⟩
  | 69 => ⟨S512x2048, .f32⟩
  | 70 => ⟨S32x2048, .f32⟩
  | 71 => ⟨S32x2048, .f32⟩
  | 72 => ⟨S1x2048, .f32⟩
  | 73 => ⟨S32x2048, .f32⟩
  | 74 => ⟨S32x2048, .f32⟩
  | 75 => ⟨S32x512, .f32⟩
  | 76 => ⟨S32x512, .f32⟩
  | 77 => ⟨S32x512, .f32⟩
  | 78 => ⟨S32x512, .f32⟩
  | 79 => ⟨S32x512, .f32⟩
  | 80 => ⟨S32x512, .f32⟩
  | 81 => ⟨S_, .f32⟩
  | 82 => ⟨S32x512, .f32⟩
  | 83 => ⟨S32x512, .f32⟩
  | 84 => ⟨S_, .f32⟩
  | 85 => ⟨S32x512, .f32⟩
  | 86 => ⟨S32x512, .f32⟩
  | 87 => ⟨S32x512, .f32⟩
  | 88 => ⟨S32x512, .f32⟩
  | 89 => ⟨S32x512, .f32⟩
  | 90 => ⟨S_, .f32⟩
  | 91 => ⟨S32x512, .f32⟩
  | 92 => ⟨S32x512, .f32⟩
  | 93 => ⟨S_, .f32⟩
  | 94 => ⟨S32x512, .f32⟩
  | 95 => ⟨S32x512, .f32⟩
  | 96 => ⟨S32x512, .f32⟩
  | 97 => ⟨S32x512, .f32⟩
  | 98 => ⟨S32x512, .f32⟩
  | 99 => ⟨S32x512, .f32⟩
  | 100 => ⟨S32x512, .f32⟩
  | 101 => ⟨S_, .f32⟩
  | 102 => ⟨S32x512, .f32⟩
  | 103 => ⟨S32x512, .f32⟩
  | 104 => ⟨S_, .f32⟩
  | 105 => ⟨S32x512, .f32⟩
  | 106 => ⟨S32x512, .f32⟩
  | 107 => ⟨S32x512, .f32⟩
  | 108 => ⟨S32x512, .f32⟩
  | 109 => ⟨S32x1x800, .f32⟩
  | 110 => ⟨S32x1x800, .f32⟩
  | 111 => ⟨S32x2x800, .f32⟩
  | 112 => ⟨S_, .i32⟩
  | 113 => ⟨S_, .f32⟩
  | 114 => ⟨S32x2x830, .f32⟩
  | 115 => ⟨S800, .i32⟩
  | 116 => ⟨S800x1, .i32⟩
  | 117 => ⟨S31, .i32⟩
  | 118 => ⟨S1x31, .i32⟩
  | 119 => ⟨S800x31, .i32⟩
  | 120 => ⟨S800x31, .i32⟩
  | 121 => ⟨S800x31, .i32⟩
  | 122 => ⟨S_, .i32⟩
  | 123 => ⟨S800x31, .i32⟩
  | 124 => ⟨S800x31, .i1⟩
  | 125 => ⟨S_, .i32⟩
  | 126 => ⟨S800x31, .i32⟩
  | 127 => ⟨S800x31, .i32⟩
  | _ => ⟨S161x32x512, .f32⟩

abbrev hbmTy0_1 (i : Nat) : BufTy := match i % 128 with
  | 0 => ⟨S800x31, .i32⟩
  | 1 => ⟨S800x31x1, .i32⟩
  | 2 => ⟨S32x2x800x31, .f32⟩
  | 3 => ⟨S32x32x800, .f32⟩
  | 4 => ⟨S32x32x800, .f32⟩
  | 5 => ⟨S32x800x32, .f32⟩
  | 6 => ⟨S32x128, .f32⟩
  | 7 => ⟨S32x800x128, .f32⟩
  | 8 => ⟨S512x128, .f32⟩
  | 9 => ⟨S32x128, .f32⟩
  | 10 => ⟨S32x1x128, .f32⟩
  | 11 => ⟨S32x800x128, .f32⟩
  | 12 => ⟨S32x800x128, .f32⟩
  | 13 => ⟨S32x800x128, .f32⟩
  | 14 => ⟨S32x800x128, .f32⟩
  | 15 => ⟨S128x1, .f32⟩
  | 16 => ⟨S32x800x1, .f32⟩
  | 17 => ⟨S32x800, .f32⟩
  | 18 => ⟨S_, .f32⟩
  | 19 => ⟨S_, .f32⟩
  | 20 => ⟨S32x800, .f32⟩
  | 21 => ⟨S32x800, .f32⟩
  | 22 => ⟨S_, .f32⟩
  | 23 => ⟨S32, .f32⟩
  | 24 => ⟨S_, .f32⟩
  | 25 => ⟨S32, .f32⟩
  | 26 => ⟨S32, .f32⟩
  | 27 => ⟨S32x1, .f32⟩
  | 28 => ⟨S32x800, .f32⟩
  | 29 => ⟨S32x800, .f32⟩
  | 30 => ⟨S32x800, .f32⟩
  | 31 => ⟨S_, .f32⟩
  | 32 => ⟨S32, .f32⟩
  | 33 => ⟨S32x1, .f32⟩
  | 34 => ⟨S32x800, .f32⟩
  | 35 => ⟨S32x800, .f32⟩
  | 36 => ⟨S32x512, .f32⟩
  | 37 => ⟨S32x800, .f32⟩
  | 38 => ⟨S32x1024, .f32⟩
  | 39 => ⟨S1024x512, .f32⟩
  | 40 => ⟨S32x512, .f32⟩
  | 41 => ⟨S1x512, .f32⟩
  | 42 => ⟨S32x512, .f32⟩
  | 43 => ⟨S32x512, .f32⟩
  | 44 => ⟨S_, .f32⟩
  | 45 => ⟨S32x512, .f32⟩
  | 46 => ⟨S32x512, .f32⟩
  | 47 => ⟨S512x101, .f32⟩
  | 48 => ⟨S32x101, .f32⟩
  | 49 => ⟨S1x101, .f32⟩
  | 50 => ⟨S32x101, .f32⟩
  | 51 => ⟨S32x101, .f32⟩
  | 52 => ⟨S1x32x512, .f32⟩
  | 53 => ⟨S_, .i32⟩
  | 54 => ⟨S_, .i32⟩
  | 55 => ⟨S161x32x512, .f32⟩
  | 56 => ⟨S1x32x101, .f32⟩
  | 57 => ⟨S_, .i32⟩
  | 58 => ⟨S_, .i32⟩
  | 59 => ⟨S161x32x101, .f32⟩
  | 60 => ⟨S1x32x800, .f32⟩
  | 61 => ⟨S_, .i32⟩
  | 62 => ⟨S_, .i32⟩
  | 63 => ⟨S161x32x800, .f32⟩
  | 64 => ⟨S_, .i32⟩
  | 65 => ⟨S_, .i32⟩
  | _ => ⟨S161x32x512, .f32⟩

abbrev hbmTy (i : Nat) : BufTy := match i / 128 with
  | 0 => hbmTy0_0 i
  | 1 => hbmTy0_1 i
  | _ => ⟨S161x32x512, .f32⟩

abbrev bufTy : (tb : Table) → Fin (tcTables nBuf tb) → BufTy
  | .hbm, ⟨i, _⟩ => hbmTy i
  | _, _ => ⟨S161x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_c : Ref sig .tc := ⟨.hbm, 35, rfl⟩
abbrev main_v14_0 : Ref sig .tc := ⟨.hbm, 36, rfl⟩
abbrev main_v14_1 : Ref sig .tc := ⟨.hbm, 37, rfl⟩
abbrev main_v14_2 : Ref sig .tc := ⟨.hbm, 38, rfl⟩
abbrev main_v14_3 : Ref sig .tc := ⟨.hbm, 39, rfl⟩
abbrev main_v14_4 : Ref sig .tc := ⟨.hbm, 40, rfl⟩
abbrev main_v14_5 : Ref sig .tc := ⟨.hbm, 41, rfl⟩
abbrev main_v14_6 : Ref sig .tc := ⟨.hbm, 42, rfl⟩
abbrev main_v14_7 : Ref sig .tc := ⟨.hbm, 43, rfl⟩
abbrev main_v14_8 : Ref sig .tc := ⟨.hbm, 44, rfl⟩
abbrev main_v14_9 : Ref sig .tc := ⟨.hbm, 45, rfl⟩
abbrev main_v14_10 : Ref sig .tc := ⟨.hbm, 46, rfl⟩
abbrev main_v14_11 : Ref sig .tc := ⟨.hbm, 47, rfl⟩
abbrev main_v14_12 : Ref sig .tc := ⟨.hbm, 48, rfl⟩
abbrev main_v14_13 : Ref sig .tc := ⟨.hbm, 49, rfl⟩
abbrev main_v14_14 : Ref sig .tc := ⟨.hbm, 50, rfl⟩
abbrev main_v14_15 : Ref sig .tc := ⟨.hbm, 51, rfl⟩
abbrev main_v14_16 : Ref sig .tc := ⟨.hbm, 52, rfl⟩
abbrev main_v14_17 : Ref sig .tc := ⟨.hbm, 53, rfl⟩
abbrev main_v14_18 : Ref sig .tc := ⟨.hbm, 54, rfl⟩
abbrev main_v14_19 : Ref sig .tc := ⟨.hbm, 55, rfl⟩
abbrev main_v14_20 : Ref sig .tc := ⟨.hbm, 56, rfl⟩
abbrev main_v14_21 : Ref sig .tc := ⟨.hbm, 57, rfl⟩
abbrev main_v14_22 : Ref sig .tc := ⟨.hbm, 58, rfl⟩
abbrev main_v14_23 : Ref sig .tc := ⟨.hbm, 59, rfl⟩
abbrev main_while0c_c_28 : Ref sig .tc := ⟨.hbm, 60, rfl⟩
abbrev main_while0c_v15 : Ref sig .tc := ⟨.hbm, 61, rfl⟩
abbrev main_while0b_call0_c : Ref sig .tc := ⟨.hbm, 62, rfl⟩
abbrev main_while0b_call0_c_0 : Ref sig .tc := ⟨.hbm, 63, rfl⟩
abbrev main_while0b_call0_v0 : Ref sig .tc := ⟨.hbm, 64, rfl⟩
abbrev main_while0b_v15 : Ref sig .tc := ⟨.hbm, 65, rfl⟩
abbrev main_while0b_v16 : Ref sig .tc := ⟨.hbm, 66, rfl⟩
abbrev main_while0b_v17 : Ref sig .tc := ⟨.hbm, 67, rfl⟩
abbrev main_while0b_v18 : Ref sig .tc := ⟨.hbm, 68, rfl⟩
abbrev main_while0b_v19 : Ref sig .tc := ⟨.hbm, 69, rfl⟩
abbrev main_while0b_v20 : Ref sig .tc := ⟨.hbm, 70, rfl⟩
abbrev main_while0b_v21 : Ref sig .tc := ⟨.hbm, 71, rfl⟩
abbrev main_while0b_v22 : Ref sig .tc := ⟨.hbm, 72, rfl⟩
abbrev main_while0b_v23 : Ref sig .tc := ⟨.hbm, 73, rfl⟩
abbrev main_while0b_v24 : Ref sig .tc := ⟨.hbm, 74, rfl⟩
abbrev main_while0b_v25 : Ref sig .tc := ⟨.hbm, 75, rfl⟩
abbrev main_while0b_v26 : Ref sig .tc := ⟨.hbm, 76, rfl⟩
abbrev main_while0b_v27 : Ref sig .tc := ⟨.hbm, 77, rfl⟩
abbrev main_while0b_v28 : Ref sig .tc := ⟨.hbm, 78, rfl⟩
abbrev main_while0b_v29 : Ref sig .tc := ⟨.hbm, 79, rfl⟩
abbrev main_while0b_v30 : Ref sig .tc := ⟨.hbm, 80, rfl⟩
abbrev main_while0b_cst_28 : Ref sig .tc := ⟨.hbm, 81, rfl⟩
abbrev main_while0b_v31 : Ref sig .tc := ⟨.hbm, 82, rfl⟩
abbrev main_while0b_v32 : Ref sig .tc := ⟨.hbm, 83, rfl⟩
abbrev main_while0b_cst_29 : Ref sig .tc := ⟨.hbm, 84, rfl⟩
abbrev main_while0b_v33 : Ref sig .tc := ⟨.hbm, 85, rfl⟩
abbrev main_while0b_v34 : Ref sig .tc := ⟨.hbm, 86, rfl⟩
abbrev main_while0b_v35 : Ref sig .tc := ⟨.hbm, 87, rfl⟩
abbrev main_while0b_v36 : Ref sig .tc := ⟨.hbm, 88, rfl⟩
abbrev main_while0b_v37 : Ref sig .tc := ⟨.hbm, 89, rfl⟩
abbrev main_while0b_cst_30 : Ref sig .tc := ⟨.hbm, 90, rfl⟩
abbrev main_while0b_v38 : Ref sig .tc := ⟨.hbm, 91, rfl⟩
abbrev main_while0b_v39 : Ref sig .tc := ⟨.hbm, 92, rfl⟩
abbrev main_while0b_cst_31 : Ref sig .tc := ⟨.hbm, 93, rfl⟩
abbrev main_while0b_v40 : Ref sig .tc := ⟨.hbm, 94, rfl⟩
abbrev main_while0b_v41 : Ref sig .tc := ⟨.hbm, 95, rfl⟩
abbrev main_while0b_v42 : Ref sig .tc := ⟨.hbm, 96, rfl⟩
abbrev main_while0b_v43 : Ref sig .tc := ⟨.hbm, 97, rfl⟩
abbrev main_while0b_v44 : Ref sig .tc := ⟨.hbm, 98, rfl⟩
abbrev main_while0b_v45 : Ref sig .tc := ⟨.hbm, 99, rfl⟩
abbrev main_while0b_v46 : Ref sig .tc := ⟨.hbm, 100, rfl⟩
abbrev main_while0b_cst_32 : Ref sig .tc := ⟨.hbm, 101, rfl⟩
abbrev main_while0b_v47 : Ref sig .tc := ⟨.hbm, 102, rfl⟩
abbrev main_while0b_v48 : Ref sig .tc := ⟨.hbm, 103, rfl⟩
abbrev main_while0b_cst_33 : Ref sig .tc := ⟨.hbm, 104, rfl⟩
abbrev main_while0b_v49 : Ref sig .tc := ⟨.hbm, 105, rfl⟩
abbrev main_while0b_v50 : Ref sig .tc := ⟨.hbm, 106, rfl⟩
abbrev main_while0b_v51 : Ref sig .tc := ⟨.hbm, 107, rfl⟩
abbrev main_while0b_v52 : Ref sig .tc := ⟨.hbm, 108, rfl⟩
abbrev main_while0b_v53 : Ref sig .tc := ⟨.hbm, 109, rfl⟩
abbrev main_while0b_v54 : Ref sig .tc := ⟨.hbm, 110, rfl⟩
abbrev main_while0b_v55 : Ref sig .tc := ⟨.hbm, 111, rfl⟩
abbrev main_while0b_c_34 : Ref sig .tc := ⟨.hbm, 112, rfl⟩
abbrev main_while0b_call1_v0 : Ref sig .tc := ⟨.hbm, 113, rfl⟩
abbrev main_while0b_v56 : Ref sig .tc := ⟨.hbm, 114, rfl⟩
abbrev main_while0b_v57 : Ref sig .tc := ⟨.hbm, 115, rfl⟩
abbrev main_while0b_v58 : Ref sig .tc := ⟨.hbm, 116, rfl⟩
abbrev main_while0b_v59 : Ref sig .tc := ⟨.hbm, 117, rfl⟩
abbrev main_while0b_v60 : Ref sig .tc := ⟨.hbm, 118, rfl⟩
abbrev main_while0b_v61 : Ref sig .tc := ⟨.hbm, 119, rfl⟩
abbrev main_while0b_v62 : Ref sig .tc := ⟨.hbm, 120, rfl⟩
abbrev main_while0b_v63 : Ref sig .tc := ⟨.hbm, 121, rfl⟩
abbrev main_while0b_c_35 : Ref sig .tc := ⟨.hbm, 122, rfl⟩
abbrev main_while0b_v64 : Ref sig .tc := ⟨.hbm, 123, rfl⟩
abbrev main_while0b_v65 : Ref sig .tc := ⟨.hbm, 124, rfl⟩
abbrev main_while0b_c_36 : Ref sig .tc := ⟨.hbm, 125, rfl⟩
abbrev main_while0b_v66 : Ref sig .tc := ⟨.hbm, 126, rfl⟩
abbrev main_while0b_v67 : Ref sig .tc := ⟨.hbm, 127, rfl⟩
abbrev main_while0b_v68 : Ref sig .tc := ⟨.hbm, 128, rfl⟩
abbrev main_while0b_v69 : Ref sig .tc := ⟨.hbm, 129, rfl⟩
abbrev main_while0b_v70 : Ref sig .tc := ⟨.hbm, 130, rfl⟩
abbrev main_while0b_v71 : Ref sig .tc := ⟨.hbm, 131, rfl⟩
abbrev main_while0b_v72 : Ref sig .tc := ⟨.hbm, 132, rfl⟩
abbrev main_while0b_v73 : Ref sig .tc := ⟨.hbm, 133, rfl⟩
abbrev main_while0b_v74 : Ref sig .tc := ⟨.hbm, 134, rfl⟩
abbrev main_while0b_v75 : Ref sig .tc := ⟨.hbm, 135, rfl⟩
abbrev main_while0b_v76 : Ref sig .tc := ⟨.hbm, 136, rfl⟩
abbrev main_while0b_v77 : Ref sig .tc := ⟨.hbm, 137, rfl⟩
abbrev main_while0b_v78 : Ref sig .tc := ⟨.hbm, 138, rfl⟩
abbrev main_while0b_v79 : Ref sig .tc := ⟨.hbm, 139, rfl⟩
abbrev main_while0b_v80 : Ref sig .tc := ⟨.hbm, 140, rfl⟩
abbrev main_while0b_v81 : Ref sig .tc := ⟨.hbm, 141, rfl⟩
abbrev main_while0b_v82 : Ref sig .tc := ⟨.hbm, 142, rfl⟩
abbrev main_while0b_v83 : Ref sig .tc := ⟨.hbm, 143, rfl⟩
abbrev main_while0b_v84 : Ref sig .tc := ⟨.hbm, 144, rfl⟩
abbrev main_while0b_v85 : Ref sig .tc := ⟨.hbm, 145, rfl⟩
abbrev main_while0b_cst_37 : Ref sig .tc := ⟨.hbm, 146, rfl⟩
abbrev main_while0b_call2_v0 : Ref sig .tc := ⟨.hbm, 147, rfl⟩
abbrev main_while0b_call2_v1 : Ref sig .tc := ⟨.hbm, 148, rfl⟩
abbrev main_while0b_v86 : Ref sig .tc := ⟨.hbm, 149, rfl⟩
abbrev main_while0b_cst_38 : Ref sig .tc := ⟨.hbm, 150, rfl⟩
abbrev main_while0b_v87 : Ref sig .tc := ⟨.hbm, 151, rfl⟩
abbrev main_while0b_cst_39 : Ref sig .tc := ⟨.hbm, 152, rfl⟩
abbrev main_while0b_v88 : Ref sig .tc := ⟨.hbm, 153, rfl⟩
abbrev main_while0b_v89 : Ref sig .tc := ⟨.hbm, 154, rfl⟩
abbrev main_while0b_v90 : Ref sig .tc := ⟨.hbm, 155, rfl⟩
abbrev main_while0b_v91 : Ref sig .tc := ⟨.hbm, 156, rfl⟩
abbrev main_while0b_v92 : Ref sig .tc := ⟨.hbm, 157, rfl⟩
abbrev main_while0b_v93 : Ref sig .tc := ⟨.hbm, 158, rfl⟩
abbrev main_while0b_cst_40 : Ref sig .tc := ⟨.hbm, 159, rfl⟩
abbrev main_while0b_v94 : Ref sig .tc := ⟨.hbm, 160, rfl⟩
abbrev main_while0b_v95 : Ref sig .tc := ⟨.hbm, 161, rfl⟩
abbrev main_while0b_v96 : Ref sig .tc := ⟨.hbm, 162, rfl⟩
abbrev main_while0b_v97 : Ref sig .tc := ⟨.hbm, 163, rfl⟩
abbrev main_while0b_v98 : Ref sig .tc := ⟨.hbm, 164, rfl⟩
abbrev main_while0b_v99 : Ref sig .tc := ⟨.hbm, 165, rfl⟩
abbrev main_while0b_v100 : Ref sig .tc := ⟨.hbm, 166, rfl⟩
abbrev main_while0b_v101 : Ref sig .tc := ⟨.hbm, 167, rfl⟩
abbrev main_while0b_v102 : Ref sig .tc := ⟨.hbm, 168, rfl⟩
abbrev main_while0b_v103 : Ref sig .tc := ⟨.hbm, 169, rfl⟩
abbrev main_while0b_v104 : Ref sig .tc := ⟨.hbm, 170, rfl⟩
abbrev main_while0b_v105 : Ref sig .tc := ⟨.hbm, 171, rfl⟩
abbrev main_while0b_call3_cst : Ref sig .tc := ⟨.hbm, 172, rfl⟩
abbrev main_while0b_call3_v0 : Ref sig .tc := ⟨.hbm, 173, rfl⟩
abbrev main_while0b_v106 : Ref sig .tc := ⟨.hbm, 174, rfl⟩
abbrev main_while0b_v107 : Ref sig .tc := ⟨.hbm, 175, rfl⟩
abbrev main_while0b_v108 : Ref sig .tc := ⟨.hbm, 176, rfl⟩
abbrev main_while0b_v109 : Ref sig .tc := ⟨.hbm, 177, rfl⟩
abbrev main_while0b_v110 : Ref sig .tc := ⟨.hbm, 178, rfl⟩
abbrev main_while0b_v111 : Ref sig .tc := ⟨.hbm, 179, rfl⟩
abbrev main_while0b_call4_v0 : Ref sig .tc := ⟨.hbm, 180, rfl⟩
abbrev main_while0b_call4_c : Ref sig .tc := ⟨.hbm, 181, rfl⟩
abbrev main_while0b_call4_c_0 : Ref sig .tc := ⟨.hbm, 182, rfl⟩
abbrev main_while0b_v112 : Ref sig .tc := ⟨.hbm, 183, rfl⟩
abbrev main_while0b_call5_v0 : Ref sig .tc := ⟨.hbm, 184, rfl⟩
abbrev main_while0b_call5_c : Ref sig .tc := ⟨.hbm, 185, rfl⟩
abbrev main_while0b_call5_c_0 : Ref sig .tc := ⟨.hbm, 186, rfl⟩
abbrev main_while0b_v113 : Ref sig .tc := ⟨.hbm, 187, rfl⟩
abbrev main_while0b_call6_v0 : Ref sig .tc := ⟨.hbm, 188, rfl⟩
abbrev main_while0b_call6_c : Ref sig .tc := ⟨.hbm, 189, rfl⟩
abbrev main_while0b_call6_c_0 : Ref sig .tc := ⟨.hbm, 190, rfl⟩
abbrev main_while0b_v114 : Ref sig .tc := ⟨.hbm, 191, rfl⟩
abbrev main_while0b_c_41 : Ref sig .tc := ⟨.hbm, 192, rfl⟩
abbrev main_while0b_v115 : Ref sig .tc := ⟨.hbm, 193, rfl⟩

abbrev nD : Nat := 1
abbrev τ : Topo := Topo.v7x

variable {F : FTy → Type} [FloatOps F]

abbrev main_while0_count : Scf.Loop 32 := ⟨0#32, 161#32, 1#32⟩
-- ==== Proof.InProjValue.lean ====
/- Hand-written, untrusted: THE INPUT PROJECTION'S RESULT at the ideal values. -/
module

public import proofs.«01_k».proof.Proof.Gen.InProjIdeal.Value
public import proofs.«01_k».proof.Proof.Gen.InProjRefIdeal.Run
public import Idealize.ShloMosaic.Lib.Pointwise
public import proofs.«01_k».proof.Defs

@[expose] public section

set_option maxRecDepth 16384

noncomputable section

namespace Cert.Proof.InProjValue

open Cert.InProjIdeal Cert.InProjIdeal.Gen Cert.InProjIdeal.Value Idealize.ShloMosaic Idealize.ShloMosaic.TcCoe Idealize.SL.Sem

variable (m : (ℓ : Loc nD τ sig) → Buf (Elt Ideal) ℓ) (ρ : Dev nD → PrngReg)

/-- The weights of the two directions side by side: column `n` is row `n` of the first array, then of the second. -/
def side (wf wb : Vec Ideal S1024x1024 .f32) (k : Fin 1024) (n : Fin 2048) : EReal :=
  if h : n.val < 1024 then wf (ix2 (⟨n.val, h⟩ : Fin 1024) k) else wb (ix2 (⟨n.val - 1024, by omega⟩ : Fin 1024) k)

/-- The product of the inputs with the weights side by side. -/
def G (x : Vec Ideal S25600x1024 .f32) (wf wb : Vec Ideal S1024x1024 .f32) : Vec Ideal S25600x2048 .bf16 := fun i =>
  ∑ k : Fin 1024, (x (ix2 (i 0) k) : EReal) * side wf wb k (i 1)

/-- The array of both directions' weights, as the host operations leave it. -/
def W (wf wb : Vec Ideal S1024x1024 .f32) : Vec Ideal S1024x2048 .bf16 :=
  truncf .bf16 (concatenate S1024x2048 1
      [⟨S1024x1024, transpose S1024x1024 [1, 0] wf transposes_S1024x1024_S1024x1024_1_0⟩,
       ⟨S1024x1024, transpose S1024x1024 [1, 0] wb transposes_S1024x1024_S1024x1024_1_0⟩]
      concatenates_S1024x1024_S1024x1024_S1024x2048_d1 : FVec Ideal S1024x2048 .f32) bitsLt_bf16_f32

theorem V_main_v3 (c : Dev nD) : V m c main_v3 = W (m ((c : Thread nD τ).loc main_arg1)) (m ((c : Thread nD τ).loc main_arg2)) := by
  show StableHlo.after hostOps0 _ (Proc.devRef .tc main_v3) = _
  after_results
  rfl

theorem side_lt (wf wb : Vec Ideal S1024x1024 .f32) (k : Fin 1024) (n : Fin 2048) (h : n.val < 1024) :
    (wf (ix2 (⟨n.val, h⟩ : Fin 1024) k) : EReal) = side wf wb k n := by
  unfold side
  split
  · rfl
  · contradiction

theorem side_ge (wf wb : Vec Ideal S1024x1024 .f32) (k : Fin 1024) (n : Fin 2048) (h : ¬ n.val < 1024) :
    (wb (ix2 (⟨n.val - 1024, by omega⟩ : Fin 1024) k) : EReal) = side wf wb k n := by
  unfold side
  split
  · contradiction
  · rfl

theorem W_apply (wf wb : Vec Ideal S1024x1024 .f32) (j : S1024x2048.Idx) : W wf wb j = side wf wb (j 0) (j 1) := by
  unfold W side
  idx_vars j
  simp only [pointwise]
  rfl

theorem hz : (![0, 0] : Fin 2 → Nat) = fun _ => 0 := funext fun a => by fin_cases a <;> rfl

/-- What a point stores: the product of its rows with the weights. -/
theorem out_apply (x0 : Vec Ideal S1024x1024 .f32) (x1 : Vec Ideal S1024x2048 .bf16) (j : S1024x2048.Idx) :
    out0_2 x0 x1 j = ∑ k : Fin 1024, (x0 (ix2 (j 0) k) : EReal) * x1 (ix2 k (j 1)) := by
  unfold out0_2
  rw [View.canon_unit_zero hz, View.ld_unit_zero hz, View.ld_unit_zero hz]
  unfold k0_pay1
  idx_vars j
  simp only [pointwise]
  exact zero_add _

/-- Each window's block index at a point. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem N_eq : cfg0.N = 25 := by decide

/-- What point `t` writes back is its block of `G` of the arguments. -/
theorem flushed_eq (c : Dev nD) (t : Fin cfg0.N) : (dats m 0 c).flushed 2 t = ((cfg0.win 2).blk t).view.read (Elt Ideal)
    (G (m ((c : Thread nD τ).loc main_arg0)) (m ((c : Thread nD τ).loc main_arg1)) (m ((c : Thread nD τ).loc main_arg2))) := by
  obtain ⟨a0, a1⟩ := idx0 t
  obtain ⟨b0, b1⟩ := idx1 t
  obtain ⟨c0, c1⟩ := idx2 t
  rw [flushed2]
  funext j
  show out0_2 (iblk m c 0 t) (iblk m c 1 t) j = G _ _ _ (((cfg0.win 2).blk t).view.emb j)
  have e0 : (((cfg0.win 2).blk t).view.emb j 0 : Fin 25600).val = t.val * 1024 + (j 0).val := by
    show win0_2.index t (0 : Fin 2) * 1024 + 1 * (j 0).val = _; omega
  have e1 : (((cfg0.win 2).blk t).view.emb j 1 : Fin 2048) = j 1 := by
    apply Fin.ext; show win0_2.index t (1 : Fin 2) * 2048 + 1 * (j 1).val = _; omega
  refine (out_apply _ _ j).trans (Finset.sum_congr rfl fun k _ => ?_)
  have hx : iblk m c 0 t (ix2 (j 0) k) = m ((c : Thread nD τ).loc main_arg0) (ix2 (((cfg0.win 2).blk t).view.emb j 0) k) := by
    show V m c main_arg0 (((cfg0.win 0).blk t).view.emb (ix2 (j 0) k)) = _
    rw [V_main_arg0]
    congr 1; funext a; apply Fin.ext
    match a with
    | ⟨0, _⟩ => exact Eq.trans (show win0_0.index t (0 : Fin 2) * 1024 + 1 * (j 0).val = t.val * 1024 + (j 0).val by omega) e0.symm
    | ⟨1, _⟩ => show win0_0.index t (1 : Fin 2) * 1024 + 1 * k.val = k.val; omega
  have hw : iblk m c 1 t (ix2 k (j 1)) = W (m ((c : Thread nD τ).loc main_arg1)) (m ((c : Thread nD τ).loc main_arg2)) (ix2 k (j 1)) := by
    show V m c main_v3 (((cfg0.win 1).blk t).view.emb (ix2 k (j 1))) = _
    rw [V_main_v3]
    congr 1; funext a; apply Fin.ext
    match a with
    | ⟨0, _⟩ => show win0_1.index t (0 : Fin 2) * 1024 + 1 * k.val = k.val; omega
    | ⟨1, _⟩ => show win0_1.index t (1 : Fin 2) * 2048 + 1 * (j 1).val = (j 1).val; omega
  rw [hx, hw, W_apply, e1]
  rfl

/-- Every index of the result is in a point's block. -/
theorem cover (i : S25600x2048.Idx) : ∃ t : Fin cfg0.N, (cfg0.win 2).flush t = true ∧ i ∈ ((cfg0.win 2).blk t).view.set := by
  have h0 : (i 0).val < 25600 := (i 0).isLt
  let t : Fin cfg0.N := ⟨(i 0).val / 1024, by rw [N_eq]; omega⟩
  obtain ⟨c0, c1⟩ := idx2 t
  have ht : t.val = (i 0).val / 1024 := rfl
  refine ⟨t, flush0_2 t, ?_⟩
  let j : S1024x2048.Idx := ix2 (⟨(i 0).val % 1024, Nat.mod_lt _ (by decide)⟩ : Fin 1024) (i 1)
  have h := ((cfg0.win 2).blk t).view.emb_mem_set j
  have e : ((cfg0.win 2).blk t).view.emb j = i := by
    funext a; apply Fin.ext
    match a with
    | ⟨0, _⟩ => show win0_2.index t (0 : Fin 2) * 1024 + 1 * ((i 0).val % 1024) = (i 0).val; omega
    | ⟨1, _⟩ => show win0_2.index t (1 : Fin 2) * 2048 + 1 * (i 1).val = (i 1).val; omega
  rwa [e] at h

/-- The result array after the run. -/
theorem final (c : Dev nD) : (dats m 0 c).arrAt 2 cfg0.N
    = G (m ((c : Thread nD τ).loc main_arg0)) (m ((c : Thread nD τ).loc main_arg1)) (m ((c : Thread nD τ).loc main_arg2)) :=
  (dats m 0 c).arrAt_eq_of_cover 2 _ (fun t _ => flushed_eq m c t) cover

end Cert.Proof.InProjValue

namespace Cert.Proof.InProjRefValue

open Idealize.ShloMosaic Idealize.ShloMosaic.TcCoe Idealize.SL.Sem
open Cert.InProjRefIdeal Cert.InProjRefIdeal.Gen

/-- The reference's product of the inputs with one direction's weights. -/
def proj (x : FVec Ideal S25600x1024 .f32) (w : FVec Ideal S1024x1024 .f32) : FVec Ideal S25600x1024 .f32 :=
  Host.dotGeneral dot_S25600x1024_S1024x1024_S25600x1024_1_0_0_1_n_n none x (transpose S1024x1024 [1, 0] w transposes_S1024x1024_S1024x1024_1_0)

/-- The reference's result. -/
def result (x : FVec Ideal S25600x1024 .f32) (wf wb : FVec Ideal S1024x1024 .f32) : FVec Ideal S25600x2048 .bf16 :=
  truncf .bf16 (concatenate S25600x2048 1 [⟨S25600x1024, proj x wf⟩, ⟨S25600x1024, proj x wb⟩]
    concatenates_S25600x1024_S25600x1024_S25600x2048_d1 : FVec Ideal S25600x2048 .f32) bitsLt_bf16_f32

/-- It is the same function. -/
theorem result_eq (x : FVec Ideal S25600x1024 .f32) (wf wb : FVec Ideal S1024x1024 .f32) : result x wf wb = InProjValue.G x wf wb := by
  funext j
  unfold InProjValue.G result proj
  idx_vars j
  simp only [pointwise]
  by_cases h : j1.val < 1024
  · rw [dif_pos h, zero_add]
    exact Finset.sum_congr rfl fun k _ => congrArg (fun z : EReal => (x (ix2 j0 k) : EReal) * z) (InProjValue.side_lt wf wb k j1 h)
  · rw [dif_neg h, zero_add]
    exact Finset.sum_congr rfl fun k _ => congrArg (fun z : EReal => (x (ix2 j0 k) : EReal) * z) (InProjValue.side_ge wf wb k j1 h)

end Cert.Proof.InProjRefValue

namespace Cert.Proof.InProjValue

open Idealize.ShloMosaic Idealize.ShloMosaic.TcCoe Idealize.SL.Sem

/-- The value claim: both runs leave the product of the inputs with the weights side by side. -/
theorem algebraic : Cert.algebraic_InProjIdeal_InProjRefIdeal := by
  intro m ρ m' ρ' _ hag
  refine ⟨fun c => G (m ((c : Thread Cert.InProjIdeal.nD Cert.InProjIdeal.τ).loc Cert.InProjIdeal.main_arg0))
    (m ((c : Thread Cert.InProjIdeal.nD Cert.InProjIdeal.τ).loc Cert.InProjIdeal.main_arg1))
    (m ((c : Thread Cert.InProjIdeal.nD Cert.InProjIdeal.τ).loc Cert.InProjIdeal.main_arg2)), ?_, ?_⟩
  · exact (θ_run _ _ _).mono (fun r h c => ⟨(h c).1.trans (final m c), (h c).2⟩) (Cert.InProjIdeal.Value.run_blocks m ρ)
  · refine (θ_run _ _ _).mono (fun r h c => ⟨(h c).1.trans ?_, (h c).2⟩) (Cert.InProjRefIdeal.Value.run m' ρ')
    obtain ⟨h0, h1, h2⟩ := hag c
    rw [h0, h1, h2]
    exact InProjRefValue.result_eq _ _ _

end Cert.Proof.InProjValue

end
-- ==== Proof.Lstm.lean ====
/- Hand-written, untrusted: ONE ROW OF A MASKED LSTM over the ideal values, apart from any program: the cell, the state after
   `n` steps, and the one fact the backward direction needs — reading a sequence from its far end with the state frozen
   outside the valid length is reading the valid part in reverse. -/
module

public import Idealize.ShloMosaic.Lib.Pointwise

@[expose] public section

noncomputable section

namespace Cert.Proof.Lstm

open Idealize.ShloMosaic

/-- The hidden row and the cell row. -/
abbrev St := (Fin 256 → EReal) × (Fin 256 → EReal)

/-- The places of unit `u` in the four gate groups. -/
def gI (u : Fin 256) : Fin 1024 := ⟨u.val, by omega⟩
def gF (u : Fin 256) : Fin 1024 := ⟨256 + u.val, by omega⟩
def gG (u : Fin 256) : Fin 1024 := ⟨512 + u.val, by omega⟩
def gO (u : Fin 256) : Fin 1024 := ⟨768 + u.val, by omega⟩

/-- The gates before their functions: the input's part, the hidden row's part, the bias. -/
def pre (gx : Fin 1024 → EReal) (w : Fin 1024 → Fin 256 → EReal) (b : Fin 1024 → EReal) (h : Fin 256 → EReal) (g : Fin 1024) : EReal :=
  gx g + ∑ k : Fin 256, h k * w g k + b g

/-- The new cell row, of the gates. -/
def newC (p : Fin 1024 → EReal) (c : Fin 256 → EReal) (u : Fin 256) : EReal :=
  Ideal.logistic (p (gF u)) * c u + Ideal.logistic (p (gI u)) * Ideal.tanh (p (gG u))

/-- The new hidden row, of the gates. -/
def newH (p : Fin 1024 → EReal) (c : Fin 256 → EReal) (u : Fin 256) : EReal :=
  Ideal.logistic (p (gO u)) * Ideal.tanh (newC p c u)

open Classical in
/-- One masked step. -/
def step (m : Prop) (gx : Fin 1024 → EReal) (w : Fin 1024 → Fin 256 → EReal) (b : Fin 1024 → EReal) (s : St) : St :=
  if m then (newH (pre gx w b s.1) s.2, newC (pre gx w b s.1) s.2) else s

/-- The state after `n` steps from zero, step `n` reading `gx n` where `mask n` holds. -/
def run (mask : ℕ → Prop) (gx : ℕ → Fin 1024 → EReal) (w : Fin 1024 → Fin 256 → EReal) (b : Fin 1024 → EReal) : ℕ → St
  | 0 => (fun _ => 0, fun _ => 0)
  | n + 1 => step (mask n) (gx n) w b (run mask gx w b n)

theorem step_pos {m : Prop} (h : m) (gx : Fin 1024 → EReal) (w : Fin 1024 → Fin 256 → EReal) (b : Fin 1024 → EReal) (s : St) :
    step m gx w b s = (newH (pre gx w b s.1) s.2, newC (pre gx w b s.1) s.2) := if_pos h

theorem step_neg {m : Prop} (h : ¬ m) (gx : Fin 1024 → EReal) (w : Fin 1024 → Fin 256 → EReal) (b : Fin 1024 → EReal) (s : St) :
    step m gx w b s = s := if_neg h

theorem run_pos (mask : ℕ → Prop) (gx : ℕ → Fin 1024 → EReal) (w : Fin 1024 → Fin 256 → EReal) (b : Fin 1024 → EReal) (n : ℕ) (h : mask n) :
    run mask gx w b (n + 1) = (newH (pre (gx n) w b (run mask gx w b n).1) (run mask gx w b n).2,
      newC (pre (gx n) w b (run mask gx w b n).1) (run mask gx w b n).2) := by
  simp only [run, step_pos h]

theorem run_neg (mask : ℕ → Prop) (gx : ℕ → Fin 1024 → EReal) (w : Fin 1024 → Fin 256 → EReal) (b : Fin 1024 → EReal) (n : ℕ) (h : ¬ mask n) :
    run mask gx w b (n + 1) = run mask gx w b n := by
  simp only [run, step_neg h]

/-- While no mask holds the state stays at zero. -/
theorem run_zero (mask : ℕ → Prop) (gx : ℕ → Fin 1024 → EReal) (w : Fin 1024 → Fin 256 → EReal) (b : Fin 1024 → EReal) (n : ℕ)
    (h : ∀ k, k < n → ¬ mask k) : run mask gx w b n = (fun _ => 0, fun _ => 0) := by
  induction n with
  | zero => rfl
  | succ n ih => rw [run_neg _ _ _ _ _ (h n (Nat.lt_succ_self n)), ih fun k hk => h k (Nat.lt_succ_of_lt hk)]

/-- The backward direction: reading places `T - 1, T - 2, …` of a row with the state frozen at the places not below its
    length `L` passes, from step `T - L` on, through the states that reading `L - 1, L - 2, …` passes through. -/
theorem run_back {T L : ℕ} (hL : L ≤ T) (x y : ℕ → Fin 1024 → EReal) (w : Fin 1024 → Fin 256 → EReal) (b : Fin 1024 → EReal)
    (hy : ∀ n, n < L → y n = x (L - 1 - n)) (q : ℕ) (hq : q ≤ L) :
    run (fun n => T - 1 - n < L) (fun n => x (T - 1 - n)) w b (T - L + q) = run (fun n => n < L) y w b q := by
  induction q with
  | zero =>
    refine (run_zero _ _ _ _ _ fun k hk => ?_).trans rfl
    show ¬ (T - 1 - k < L)
    omega
  | succ q ih =>
    have e : T - 1 - (T - L + q) = L - 1 - q := by omega
    refine (run_pos (fun n => T - 1 - n < L) _ w b (T - L + q) (by show T - 1 - (T - L + q) < L; omega)).trans ?_
    refine Eq.trans ?_ (run_pos (fun n => n < L) y w b q (by show q < L; omega)).symm
    rw [ih (by omega), hy q (by omega)]
    simp only [e]

/-- The forward direction reads the same at every step that counts; two rows that agree below the length pass through the same states. -/
theorem run_congr {mask mask' : ℕ → Prop} {x y : ℕ → Fin 1024 → EReal} (w : Fin 1024 → Fin 256 → EReal) (b : Fin 1024 → EReal)
    (n : ℕ) (hm : ∀ k, k < n → (mask k ↔ mask' k)) (hx : ∀ k, k < n → mask k → x k = y k) :
    run mask x w b n = run mask' y w b n := by
  induction n with
  | zero => rfl
  | succ n ih =>
    have e := ih (fun k hk => hm k (Nat.lt_succ_of_lt hk)) (fun k hk => hx k (Nat.lt_succ_of_lt hk))
    by_cases h : mask n
    · rw [run_pos _ _ _ _ _ h, run_pos _ _ _ _ _ ((hm n (Nat.lt_succ_self n)).mp h), e, hx n (Nat.lt_succ_self n) h]
    · rw [run_neg _ _ _ _ _ h, run_neg _ _ _ _ _ (fun h' => h ((hm n (Nat.lt_succ_self n)).mpr h')), e]

/-- The place the kernel's step `n` of direction `d` reads, of `T` places. -/
def time (T : ℕ) (d : Fin 2) (n : ℕ) : ℕ := if d.val = 0 then n else T - 1 - n

/-- The state after `n` steps of direction `d` over `T` places, with the state frozen outside the length `L`. -/
def state (T : ℕ) (L : ℤ) (d : Fin 2) (x : ℕ → Fin 1024 → EReal) (w : Fin 1024 → Fin 256 → EReal) (b : Fin 1024 → EReal) (n : ℕ) : St :=
  run (fun n => (time T d n : ℤ) < L) (fun n => x (time T d n)) w b n

theorem state_succ (T : ℕ) (L : ℤ) (d : Fin 2) (x : ℕ → Fin 1024 → EReal) (w : Fin 1024 → Fin 256 → EReal) (b : Fin 1024 → EReal) (n : ℕ) :
    state T L d x w b (n + 1) = step ((time T d n : ℤ) < L) (x (time T d n)) w b (state T L d x w b n) := rfl

open Classical in
/-- The output at place `t`. -/
def out (T : ℕ) (L : ℤ) (d : Fin 2) (x : ℕ → Fin 1024 → EReal) (w : Fin 1024 → Fin 256 → EReal) (b : Fin 1024 → EReal) (t : ℕ)
    (u : Fin 256) : EReal :=
  if (t : ℤ) < L then (state T L d x w b (time T d t + 1)).1 u else 0

theorem time_time {T : ℕ} (d : Fin 2) {n : ℕ} (h : n < T) : time T d (time T d n) = n := by
  unfold time; split <;> omega

theorem out_pos {T : ℕ} {L : ℤ} (d : Fin 2) (x : ℕ → Fin 1024 → EReal) (w : Fin 1024 → Fin 256 → EReal) (b : Fin 1024 → EReal) {t : ℕ}
    (u : Fin 256) (h : (t : ℤ) < L) : out T L d x w b t u = (state T L d x w b (time T d t + 1)).1 u := if_pos h

theorem out_neg {T : ℕ} {L : ℤ} (d : Fin 2) (x : ℕ → Fin 1024 → EReal) (w : Fin 1024 → Fin 256 → EReal) (b : Fin 1024 → EReal) {t : ℕ}
    (u : Fin 256) (h : ¬ (t : ℤ) < L) : out T L d x w b t u = 0 := if_neg h

/-- Forward, the output is the state of the plain run. -/
theorem out_fwd {T : ℕ} {L : ℤ} (x y : ℕ → Fin 1024 → EReal) (w : Fin 1024 → Fin 256 → EReal) (b : Fin 1024 → EReal) {t : ℕ} (u : Fin 256)
    (h : (t : ℤ) < L) (hy : ∀ n : ℕ, (n : ℤ) < L → y n = x n) :
    out T L 0 x w b t u = (run (fun n => (n : ℤ) < L) y w b (t + 1)).1 u := by
  rw [out_pos 0 x w b u h]
  refine congrArg (fun s : St => s.1 u) ?_
  exact run_congr w b (t + 1) (fun _ _ => Iff.rfl) fun k _ hk => (hy k hk).symm

/-- Backward, the output at `t` is the state of the run over the reversed valid part, after the step that reads `t`. -/
theorem out_bwd {T : ℕ} {L : ℤ} (hL0 : 0 ≤ L) (hLT : L ≤ T) (x y : ℕ → Fin 1024 → EReal) (w : Fin 1024 → Fin 256 → EReal)
    (b : Fin 1024 → EReal) {t : ℕ} (u : Fin 256) (h : (t : ℤ) < L) (hy : ∀ n : ℕ, (n : ℤ) < L → y n = x (L - 1 - n).toNat) :
    out T L 1 x w b t u = (run (fun n => (n : ℤ) < L) y w b ((L - 1 - t).toNat + 1)).1 u := by
  rw [out_pos 1 x w b u h]
  refine congrArg (fun s : St => s.1 u) ?_
  obtain ⟨l, rfl⟩ := Int.eq_ofNat_of_zero_le hL0
  have hl : l ≤ T := by omega
  have e1 : time T 1 t + 1 = T - l + (l - 1 - t + 1) := by
    show T - 1 - t + 1 = _
    omega
  have e2 : ((l : ℤ) - 1 - t).toNat + 1 = l - 1 - t + 1 := by omega
  rw [e1, e2]
  have hr := run_back hl x y w b (fun n hn => (hy n (by omega)).trans (congrArg x (by omega))) (l - 1 - t + 1) (by omega)
  refine Eq.trans ?_ (hr.trans ?_)
  · exact run_congr w b _ (fun k _ => by show ((T - 1 - k : ℕ) : ℤ) < l ↔ T - 1 - k < l; omega) fun _ _ _ => rfl
  · exact run_congr w b _ (fun k _ => by show k < l ↔ (k : ℤ) < l; omega) fun _ _ _ => rfl

end Cert.Proof.Lstm

end
-- ==== Proof.LayerOneStep.lean ====
/- Hand-written, untrusted: WHAT LAYER ONE'S BODY COMPUTES — its payloads read at one index, as steps of the masked LSTM row. -/
module

public import proofs.«01_k».proof.Proof.Gen.LayerOneIdeal.Frame
public import proofs.«01_k».proof.Proof.Lstm
public import Idealize.ShloMosaic.Lib.Pointwise

@[expose] public section

set_option maxRecDepth 16384

noncomputable section

namespace Cert.Proof.LayerOneStep

open Cert.LayerOneIdeal Cert.LayerOneIdeal.Gen Idealize.ShloMosaic Idealize.ShloMosaic.TcCoe Idealize.SL.Sem
open Cert.Proof

/-- A row named by its offset from zero. -/
def zb (b : Fin 32) : Fin 32 := ⟨0 + b.val, by omega⟩

theorem zb_eq (b : Fin 32) : zb b = b := Fin.ext (Nat.zero_add _)

/-- A choice on a signed comparison, as a choice on the integers. -/
theorem select_sgt {α : Type} (x y : BitVec 32) (a b : α) :
    Scalar.select (IntOp.cmpi CmpIPredicate.sgt x y) a b = if y.toInt < x.toInt then a else b := by
  by_cases h : y.toInt < x.toInt <;> simp [Scalar.select, IntOp.cmpi, BitVec.slt, h]

/-! ## The gates -/

/-- The gate inputs that the first and the second step read: a place's inputs times the input weights. -/
def gxOne (i : grid0.Coords) (x : Vec Ideal S1x2x32x80 .f32) (wi : Vec Ideal S1x80x1024 .f32) (b : Fin 32) (g : Fin 1024) : EReal :=
  ∑ k : Fin 80, Scalar.select (Scalar.cmpi .eq (BitVec.ofNat 32 (i 0).val) 0#32) (x (ix4 0 0 b k) : EReal) (x (ix4 0 1 b k)) * wi (ix3 0 k g)
def gxTwo (i : grid0.Coords) (x : Vec Ideal S1x2x32x80 .f32) (wi : Vec Ideal S1x80x1024 .f32) (b : Fin 32) (g : Fin 1024) : EReal :=
  ∑ k : Fin 80, Scalar.select (Scalar.cmpi .eq (BitVec.ofNat 32 (i 0).val) 0#32) (x (ix4 0 1 b k) : EReal) (x (ix4 0 0 b k)) * wi (ix3 0 k g)

theorem select_row {s : Shape} (p : BitVec 1) (a a' : FVec Ideal s .f32) (j : s.Idx) :
    (Scalar.select p a a') j = Scalar.select p (a j) (a' j) := by
  unfold Scalar.select; split <;> rfl

theorem pay6_row (i : grid0.Coords) (x : Vec Ideal S1x2x32x80 .f32) (b : Fin 32) (k : Fin 80) :
    (k0_pay6 i x (ix2 b k) : EReal)
      = Scalar.select (Scalar.cmpi .eq (BitVec.ofNat 32 (i 0).val) 0#32) (x (ix4 0 1 b k)) (x (ix4 0 0 b k)) := by
  unfold k0_pay6 k0_pay5
  simp only [pointwise]
  simp [Nat.zero_add, Fin.eta]

theorem pay8_row (i : grid0.Coords) (x : Vec Ideal S1x2x32x80 .f32) (wi : Vec Ideal S1x80x1024 .f32) (b : Fin 32) (g : Fin 1024) :
    (k0_pay8 i x wi (ix2 b g) : EReal) = gxOne i x wi b g := by
  unfold k0_pay8 k0_pay5 gxOne
  simp only [pointwise]
  simp [Nat.zero_add, Fin.eta]

/-- The first step's gates. -/
theorem gates_first (i : grid0.Coords) (x : Vec Ideal S1x2x32x80 .f32) (wi : Vec Ideal S1x80x1024 .f32) (h : Vec Ideal S32x256 .f32) (w : Vec Ideal S1x256x1024 .f32)
    (v : Vec Ideal S1x1x1024 .f32) (b : Fin 32) (g : Fin 1024) :
    (k0_pay9 (k0_pay8 i x wi) h w v (ix2 b g) : EReal)
      = Lstm.pre (gxOne i x wi b) (fun g k => w (ix3 0 k g)) (fun g => v (ix3 0 0 g)) (fun k => h (ix2 b k)) g := by
  have e := pay8_row i x wi b g
  unfold k0_pay9
  simp only [pointwise]
  rw [e, zero_add]; rfl

/-- The second step's gates. -/
theorem gates_second (i : grid0.Coords) (x : Vec Ideal S1x2x32x80 .f32) (wi : Vec Ideal S1x80x1024 .f32) (h : Vec Ideal S32x256 .f32) (w : Vec Ideal S1x256x1024 .f32)
    (v : Vec Ideal S1x1x1024 .f32) (b : Fin 32) (g : Fin 1024) :
    (k0_pay16 (k0_pay6 i x) wi h w v (ix2 b g) : EReal)
      = Lstm.pre (gxTwo i x wi b) (fun g k => w (ix3 0 k g)) (fun g => v (ix3 0 0 g)) (fun k => h (ix2 b k)) g := by
  have e := pay6_row i x b
  unfold k0_pay16
  simp only [pointwise]
  simp only [e, zero_add]; rfl

/-! ## The new rows -/

theorem pay7_row (len : Vec Ideal S32x1 .i32) (b : Fin 32) : k0_pay7 len (ix2 b 0) = len (ix2 b 0) := by
  unfold k0_pay7; simp only [pointwise]

theorem pay13_row (v7 : BitVec 32) (len : IVec S32x1 32) (y : FVec Ideal S32x1024 .f32) (hp : Vec Ideal S32x256 .f32) (w : Vec Ideal S1x256x1024 .f32)
    (v : Vec Ideal S1x1x1024 .f32) (c h : Vec Ideal S32x256 .f32) (b : Fin 32) (u : Fin 256) :
    (k0_pay13 v7 len y hp w v c h (ix2 b u) : EReal)
      = if v7.toInt < (len (ix2 b 0)).toInt then Lstm.newH (fun g => k0_pay9 y hp w v (ix2 b g)) (fun u => c (ix2 b u)) u else h (ix2 b u) := by
  rw [← select_sgt]
  unfold k0_pay13 k0_pay11 k0_pay12 k0_pay10
  simp only [pointwise]
  simp [Nat.zero_add, Fin.eta]
  rfl

theorem pay14_row (v7 : BitVec 32) (len : IVec S32x1 32) (y : FVec Ideal S32x1024 .f32) (hp : Vec Ideal S32x256 .f32) (w : Vec Ideal S1x256x1024 .f32)
    (v : Vec Ideal S1x1x1024 .f32) (c c' : Vec Ideal S32x256 .f32) (b : Fin 32) (u : Fin 256) :
    (k0_pay14 v7 len y hp w v c c' (ix2 b u) : EReal)
      = if v7.toInt < (len (ix2 b 0)).toInt then Lstm.newC (fun g => k0_pay9 y hp w v (ix2 b g)) (fun u => c (ix2 b u)) u else c' (ix2 b u) := by
  rw [← select_sgt]
  unfold k0_pay14 k0_pay12 k0_pay10
  simp only [pointwise]
  simp [Nat.zero_add, Fin.eta]
  rfl

theorem pay15_row (v7 : BitVec 32) (len : IVec S32x1 32) (y : FVec Ideal S32x1024 .f32) (hp : Vec Ideal S32x256 .f32) (w : Vec Ideal S1x256x1024 .f32)
    (v : Vec Ideal S1x1x1024 .f32) (c : Vec Ideal S32x256 .f32) (b : Fin 32) (u : Fin 256) :
    (k0_pay15 v7 len y hp w v c (ix2 b u) : EReal)
      = if v7.toInt < (len (ix2 b 0)).toInt then Lstm.newH (fun g => k0_pay9 y hp w v (ix2 b g)) (fun u => c (ix2 b u)) u else 0 := by
  rw [← select_sgt]
  unfold k0_pay15 k0_pay11 k0_pay12 k0_pay10
  simp only [pointwise]
  simp [Nat.zero_add, Fin.eta]
  rfl

theorem pay20_row (v12 : BitVec 32) (y : FVec Ideal S32x80 .f32) (len : IVec S32x1 32) (wi : Vec Ideal S1x80x1024 .f32) (hp : Vec Ideal S32x256 .f32) (w : Vec Ideal S1x256x1024 .f32)
    (v : Vec Ideal S1x1x1024 .f32) (c h : Vec Ideal S32x256 .f32) (b : Fin 32) (u : Fin 256) :
    (k0_pay20 v12 y len wi hp w v c h (ix2 b u) : EReal)
      = if v12.toInt < (len (ix2 b 0)).toInt then Lstm.newH (fun g => k0_pay16 y wi hp w v (ix2 b g)) (fun u => c (ix2 b u)) u else h (ix2 b u) := by
  rw [← select_sgt]
  unfold k0_pay20 k0_pay18 k0_pay19 k0_pay17
  simp only [pointwise]
  simp [Nat.zero_add, Fin.eta]
  rfl

theorem pay21_row (v12 : BitVec 32) (y : FVec Ideal S32x80 .f32) (len : IVec S32x1 32) (wi : Vec Ideal S1x80x1024 .f32) (hp : Vec Ideal S32x256 .f32) (w : Vec Ideal S1x256x1024 .f32)
    (v : Vec Ideal S1x1x1024 .f32) (c c' : Vec Ideal S32x256 .f32) (b : Fin 32) (u : Fin 256) :
    (k0_pay1 (k0_pay21 v12 y len wi hp w v c c') (ix2 b u) : EReal)
      = if v12.toInt < (len (ix2 b 0)).toInt then Lstm.newC (fun g => k0_pay16 y wi hp w v (ix2 b g)) (fun u => c (ix2 b u)) u else c' (ix2 b u) := by
  rw [← select_sgt]
  unfold k0_pay1 k0_pay21 k0_pay19 k0_pay17
  simp only [pointwise]
  simp [Nat.zero_add, Fin.eta]
  rfl

theorem pay18_row (y : FVec Ideal S32x80 .f32) (wi : Vec Ideal S1x80x1024 .f32) (hp : Vec Ideal S32x256 .f32) (w : Vec Ideal S1x256x1024 .f32)
    (v : Vec Ideal S1x1x1024 .f32) (c : Vec Ideal S32x256 .f32) (b : Fin 32) (u : Fin 256) :
    (k0_pay18 y wi hp w v c (ix2 b u) : EReal)
      = Lstm.newH (fun g => k0_pay16 y wi hp w v (ix2 b g)) (fun u => c (ix2 b u)) u := by
  unfold k0_pay18 k0_pay17
  simp only [pointwise]
  simp [Nat.zero_add, Fin.eta]
  rfl

/-- A masked array, zero where the mask does not hold. -/
def masked (v12 : BitVec 32) (len : IVec S32x1 32) (e : FVec Ideal S32x256 .f32) : FVec Ideal S32x256 .f32 :=
  select (broadcastTo S32x256 (shapeCast S32x1 (k0_pay19 v12 len) shapeCasts_S32x1_S32x1) broadcasts_S32x1_S32x256) e
    (broadcast S32x256 (Scalar.ofBits .f32 0x00000000#32))
theorem masked_row (v12 : BitVec 32) (len : IVec S32x1 32) (e : FVec Ideal S32x256 .f32) (b : Fin 32) (u : Fin 256) :
    (masked v12 len e (ix2 b u) : EReal) = if v12.toInt < (len (ix2 b 0)).toInt then e (ix2 b u) else 0 := by
  rw [← select_sgt]
  unfold masked k0_pay19
  simp only [pointwise]
  simp [Nat.zero_add, Fin.eta]

/-- The output block: its early row and its late row. -/
theorem stack_row (a a' : FVec Ideal S32x256 .f32) (q : Fin 2) (b : Fin 32) (u : Fin 256) :
    (concatenate S2x32x256 0 [⟨S1x32x256, (shapeCast S1x32x256 a shapeCasts_S32x256_S1x32x256 : FVec Ideal S1x32x256 .f32)⟩,
        ⟨S1x32x256, (shapeCast S1x32x256 a' shapeCasts_S32x256_S1x32x256 : FVec Ideal S1x32x256 .f32)⟩] concatenates_S1x32x256_S1x32x256_S2x32x256_d0 (ix3 q b u) : EReal)
      = if q.val = 0 then a (ix2 b u) else a' (ix2 b u) := by
  fin_cases q
  · refine Eq.trans (b := (a (ix2 b u) : EReal)) ?_ rfl
    refine (concatenate_pair_apply _ _ _ _ _).trans ?_
    refine (dif_pos (show (0 : ℕ) < 1 from Nat.one_pos)).trans ?_
    exact (congrArg _ (by funext k; fin_cases k <;> rfl : _ = ix3 0 b u)).trans (by simp only [pointwise])
  · refine Eq.trans (b := (a' (ix2 b u) : EReal)) ?_ rfl
    refine (concatenate_pair_apply _ _ _ _ _).trans ?_
    refine (dif_neg (show ¬ (1 : ℕ) < 1 from lt_irrefl 1)).trans ?_
    exact (congrArg _ (by funext k; fin_cases k <;> rfl : _ = ix3 0 b u)).trans (by simp only [pointwise])

theorem pay2_row (v3 : BitVec 1) (a e : FVec Ideal S32x256 .f32) (v12 : BitVec 32) (len : IVec S32x1 32) (q : Fin 2) (b : Fin 32) (u : Fin 256) :
    (k0_pay2 v3 a e (k0_pay19 v12 len) (ix3 q b u) : EReal)
      = if (q.val = 0 ↔ v3 = 1#1) then a (ix2 b u) else masked v12 len e (ix2 b u) := by
  refine (stack_row (Scalar.select v3 a (masked v12 len e)) (Scalar.select v3 (masked v12 len e) a) q b u).trans ?_
  rw [select_row, select_row]
  by_cases hv : v3 = 1#1
  · subst hv
    by_cases hq : q.val = 0
    · simp [hq, Scalar.select]
    · simp [hq, Scalar.select]
  · by_cases hq : q.val = 0
    · simp [hq, Scalar.select, hv]
    · simp [hq, Scalar.select, hv]

/-! ## Both steps of a grid point -/

section
variable (i : grid0.Coords) (v7 v12 : BitVec 32) (len : Vec Ideal S32x1 .i32) (x : Vec Ideal S1x2x32x80 .f32) (wi : Vec Ideal S1x80x1024 .f32)
  (w : Vec Ideal S1x256x1024 .f32) (v : Vec Ideal S1x1x1024 .f32) (h c : Vec Ideal S32x256 .f32)

/-- The rows after the point's first step. -/
def hOne : Vec Ideal S32x256 .f32 := k0_pay13 v7 (k0_pay7 len) (k0_pay8 i x wi) h w v c h
def cOne : Vec Ideal S32x256 .f32 := k0_pay14 v7 (k0_pay7 len) (k0_pay8 i x wi) h w v c c

/-- The rows after its second step. -/
def hTwo : Vec Ideal S32x256 .f32 :=
  k0_pay20 v12 (k0_pay6 i x) (k0_pay7 len) wi (hOne i v7 len x wi w v h c) w v (cOne i v7 len x wi w v h c) (hOne i v7 len x wi w v h c)
def cTwo : Vec Ideal S32x256 .f32 :=
  k0_pay1 (k0_pay21 v12 (k0_pay6 i x) (k0_pay7 len) wi (hOne i v7 len x wi w v h c) w v (cOne i v7 len x wi w v h c) (cOne i v7 len x wi w v h c))

/-- The block it stores. -/
def outBoth (v3 : BitVec 1) : Vec Ideal S2x32x256 .f32 :=
  k0_pay2 v3 (k0_pay15 v7 (k0_pay7 len) (k0_pay8 i x wi) h w v c)
    (k0_pay18 (k0_pay6 i x) wi (hOne i v7 len x wi w v h c) w v (cOne i v7 len x wi w v h c)) (k0_pay19 v12 (k0_pay7 len))

/-- A row of the two scratch arrays. -/
def row (h c : Vec Ideal S32x256 .f32) (b : Fin 32) : Lstm.St := (fun u => h (ix2 b u), fun u => c (ix2 b u))

theorem row_one (b : Fin 32) : row (hOne i v7 len x wi w v h c) (cOne i v7 len x wi w v h c) b
    = Lstm.step (v7.toInt < (len (ix2 b 0)).toInt) (gxOne i x wi b) (fun g k => w (ix3 0 k g)) (fun g => v (ix3 0 0 g)) (row h c b) := by
  by_cases hm : v7.toInt < (len (ix2 b 0)).toInt
  · rw [Lstm.step_pos hm]
    refine Prod.ext (funext fun u => ?_) (funext fun u => ?_)
    · refine (pay13_row v7 _ _ _ _ _ c h b u).trans ?_
      rw [pay7_row, if_pos hm]
      simp only [gates_first]; rfl
    · refine (pay14_row v7 _ _ _ _ _ c c b u).trans ?_
      rw [pay7_row, if_pos hm]
      simp only [gates_first]; rfl
  · rw [Lstm.step_neg hm]
    refine Prod.ext (funext fun u => ?_) (funext fun u => ?_)
    · refine (pay13_row v7 _ _ _ _ _ c h b u).trans ?_
      rw [pay7_row, if_neg hm]; rfl
    · refine (pay14_row v7 _ _ _ _ _ c c b u).trans ?_
      rw [pay7_row, if_neg hm]; rfl

theorem row_two (b : Fin 32) : row (hTwo i v7 v12 len x wi w v h c) (cTwo i v7 v12 len x wi w v h c) b
    = Lstm.step (v12.toInt < (len (ix2 b 0)).toInt) (gxTwo i x wi b) (fun g k => w (ix3 0 k g)) (fun g => v (ix3 0 0 g))
        (row (hOne i v7 len x wi w v h c) (cOne i v7 len x wi w v h c) b) := by
  by_cases hm : v12.toInt < (len (ix2 b 0)).toInt
  · rw [Lstm.step_pos hm]
    refine Prod.ext (funext fun u => ?_) (funext fun u => ?_)
    · refine (pay20_row v12 _ _ _ _ _ _ _ _ b u).trans ?_
      rw [pay7_row, if_pos hm]
      simp only [gates_second]; rfl
    · refine (pay21_row v12 _ _ _ _ _ _ _ _ b u).trans ?_
      rw [pay7_row, if_pos hm]
      simp only [gates_second]; rfl
  · rw [Lstm.step_neg hm]
    refine Prod.ext (funext fun u => ?_) (funext fun u => ?_)
    · refine (pay20_row v12 _ _ _ _ _ _ _ _ b u).trans ?_
      rw [pay7_row, if_neg hm]; rfl
    · refine (pay21_row v12 _ _ _ _ _ _ _ _ b u).trans ?_
      rw [pay7_row, if_neg hm]; rfl

/-- What the first step emits: its new hidden row where the mask holds, else zero. -/
theorem emit_one (b : Fin 32) (u : Fin 256) : (k0_pay15 v7 (k0_pay7 len) (k0_pay8 i x wi) h w v c (ix2 b u) : EReal)
    = if v7.toInt < (len (ix2 b 0)).toInt then (row (hOne i v7 len x wi w v h c) (cOne i v7 len x wi w v h c) b).1 u else 0 := by
  refine (pay15_row v7 _ _ _ _ _ c b u).trans ?_
  rw [pay7_row]
  by_cases hm : v7.toInt < (len (ix2 b 0)).toInt
  · rw [if_pos hm, if_pos hm]
    refine Eq.trans ?_ (pay13_row v7 _ _ _ _ _ c h b u).symm
    rw [pay7_row, if_pos hm]
  · rw [if_neg hm, if_neg hm]

theorem emit_two (b : Fin 32) (u : Fin 256) :
    (masked v12 (k0_pay7 len) (k0_pay18 (k0_pay6 i x) wi (hOne i v7 len x wi w v h c) w v (cOne i v7 len x wi w v h c)) (ix2 b u) : EReal)
    = if v12.toInt < (len (ix2 b 0)).toInt then (row (hTwo i v7 v12 len x wi w v h c) (cTwo i v7 v12 len x wi w v h c) b).1 u else 0 := by
  refine (masked_row v12 _ _ b u).trans ?_
  rw [pay7_row]
  by_cases hm : v12.toInt < (len (ix2 b 0)).toInt
  · rw [if_pos hm, if_pos hm]
    refine Eq.trans ?_ (pay20_row v12 _ _ _ _ _ _ _ _ b u).symm
    rw [pay7_row, if_pos hm]
    exact pay18_row _ _ _ _ _ _ b u
  · rw [if_neg hm, if_neg hm]

/-- The stored block: the forward direction's first step is its early row, the backward direction's its late one. -/
theorem out_row (v3 : BitVec 1) (q : Fin 2) (b : Fin 32) (u : Fin 256) : (outBoth i v7 v12 len x wi w v h c v3 (ix3 q b u) : EReal)
    = if (q.val = 0 ↔ v3 = 1#1) then
        (if v7.toInt < (len (ix2 b 0)).toInt then (row (hOne i v7 len x wi w v h c) (cOne i v7 len x wi w v h c) b).1 u else 0)
      else (if v12.toInt < (len (ix2 b 0)).toInt then (row (hTwo i v7 v12 len x wi w v h c) (cTwo i v7 v12 len x wi w v h c) b).1 u else 0) := by
  rw [← emit_one, ← emit_two]
  exact pay2_row v3 _ _ v12 _ q b u

end

end Cert.Proof.LayerOneStep

end
-- ==== Proof.LayerOneCase.lean ====
/- Hand-written, untrusted: WHAT A POINT OF LAYER ONE LEAVES in the two scratch arrays and in its output block, as the step terms. -/
module

public import proofs.«01_k».proof.Proof.LayerOneStep
public import Idealize.ShloMosaic.Lib.VecWindow

@[expose] public section

set_option maxRecDepth 16384

noncomputable section

namespace Cert.Proof.LayerOneStep

open Cert.LayerOneIdeal Cert.LayerOneIdeal.Gen Idealize.ShloMosaic Idealize.ShloMosaic.TcCoe Idealize.SL.Sem
open Idealize.ShloMosaic.Tactic

/-- The step numbers of a point, as the body computes them. -/
def vOne (i : grid0.Coords) : BitVec 32 :=
  Scalar.select (Scalar.cmpi .eq (BitVec.ofNat 32 (i 0).val) 0#32) (Scalar.muli 2#32 (BitVec.ofNat 32 (i 1).val))
    (Scalar.subi 1599#32 (Scalar.muli 2#32 (BitVec.ofNat 32 (i 1).val)))
def vTwo (i : grid0.Coords) : BitVec 32 :=
  Scalar.select (Scalar.cmpi .eq (BitVec.ofNat 32 (i 0).val) 0#32) (Scalar.addi (Scalar.muli 2#32 (BitVec.ofNat 32 (i 1).val)) 1#32)
    (Scalar.subi 1598#32 (Scalar.muli 2#32 (BitVec.ofNat 32 (i 1).val)))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! Whole loads read the array, and a whole load after a whole store reads what was stored. -/

theorem ldS (x : Vec Ideal S32x256 .f32) (h) : View.ld x (Rect.unit ![0, 0] ![32, 256] h) = x := View.ld_unit_zero hz2 h x
theorem ldL (x : Vec Ideal S32x1 .i32) (h) : View.ld x (Rect.unit ![0, 0] ![32, 1] h) = x := View.ld_unit_zero hz2 h x
theorem ldB (x : Vec Ideal S1x1x1024 .f32) (h) : View.ld x (Rect.unit ![0, 0, 0] ![1, 1, 1024] h) = x := View.ld_unit_zero hz3 h x
theorem ldI (x : Vec Ideal S1x80x1024 .f32) (h) : View.ld x (Rect.unit ![0, 0, 0] ![1, 80, 1024] h) = x := View.ld_unit_zero hz3 h x
theorem ldW (x : Vec Ideal S1x256x1024 .f32) (h) : View.ld x (Rect.unit ![0, 0, 0] ![1, 256, 1024] h) = x := View.ld_unit_zero hz3 h x
theorem ldX (x : Vec Ideal S1x2x32x80 .f32) (h) : View.ld x (Rect.unit ![0, 0, 0, 0] ![1, 2, 32, 80] h) = x := View.ld_unit_zero hz4 h x

theorem rcS (v : View sig .tc .vmem S32x256 .f32) (h h') (w : Vec Ideal S32x256 .f32) (L : List (View.Piece (Elt Ideal) S32x256 .f32)) :
    v.readCov (⟨Rect.unit ![0, 0] ![32, 256] h', w⟩ :: L) (Rect.unit ![0, 0] ![32, 256] h).toLoadRect = w := View.readCov_full v h h' w L

section
variable (c : Dev nD) (i : grid0.Coords) (arg2 : Memref sig .tc .vmem S32x1 .i32) (harg2 : arg2.IsWhole) (arg3 : Memref sig .tc .vmem S1x2x32x80 .f32) (harg3 : arg3.IsWhole)
  (arg4 : Memref sig .tc .vmem S1x80x1024 .f32) (harg4 : arg4.IsWhole) (arg5 : Memref sig .tc .vmem S1x256x1024 .f32) (harg5 : arg5.IsWhole)
  (arg6 : Memref sig .tc .vmem S1x1x1024 .f32) (harg6 : arg6.IsWhole) (arg7 : Memref sig .tc .vmem S2x32x256 .f32) (harg7 : arg7.IsWhole)
  (arg8 : Memref sig .tc .vmem S32x256 .f32) (harg8 : arg8.IsWhole) (arg9 : Memref sig .tc .vmem S32x256 .f32) (harg9 : arg9.IsWhole)
  (x0 : Vec Ideal S32x1 .i32) (x1 : Vec Ideal S1x2x32x80 .f32) (x2 : Vec Ideal S1x80x1024 .f32) (x3 : Vec Ideal S1x256x1024 .f32)
  (x4 : Vec Ideal S1x1x1024 .f32) (xs0 xs1 : Vec Ideal S32x256 .f32)

theorem sout_B_0 (hc0 : ¬cond0_0 i) :
    sout0_B_0 c i arg2 harg2 arg3 harg3 arg4 harg4 arg5 harg5 arg6 harg6 arg7 harg7 arg8 harg8 arg9 harg9 hc0 x0 x1 x2 x3 x4 xs0 xs1
      = hTwo i (vOne i) (vTwo i) x0 x1 x2 x3 x4 xs0 xs1 := by
  unfold sout0_B_0
  refine (View.read_writes_full _ _ _ _ _).trans ?_
  sl_unfold_run_names
  simp only [View.readAt_eq_ld, Memref.IsWhole.read_unread, ldS, ldL, ldB, ldI, ldW, ldX, rcS]
  rfl

theorem sout_B_1 (hc0 : ¬cond0_0 i) :
    sout0_B_1 c i arg2 harg2 arg3 harg3 arg4 harg4 arg5 harg5 arg6 harg6 arg7 harg7 arg8 harg8 arg9 harg9 hc0 x0 x1 x2 x3 x4 xs0 xs1
      = cTwo i (vOne i) (vTwo i) x0 x1 x2 x3 x4 xs0 xs1 := by
  unfold sout0_B_1
  refine (View.read_writes_full _ _ _ _ _).trans ?_
  sl_unfold_run_names
  simp only [View.readAt_eq_ld, Memref.IsWhole.read_unread, ldS, ldL, ldB, ldI, ldW, ldX, rcS]
  rfl

theorem out_B (hc0 : ¬cond0_0 i) :
    out0_B_5 c i arg2 harg2 arg3 harg3 arg4 harg4 arg5 harg5 arg6 harg6 arg7 harg7 arg8 harg8 arg9 harg9 hc0 x0 x1 x2 x3 x4 xs0 xs1
      = outBoth i (vOne i) (vTwo i) x0 x1 x2 x3 x4 xs0 xs1 (Scalar.cmpi .eq (BitVec.ofNat 32 (i 0).val) 0#32) := by
  unfold out0_B_5
  refine (View.read_writes_full _ _ _ _ _).trans ?_
  sl_unfold_run_names
  simp only [View.readAt_eq_ld, Memref.IsWhole.read_unread, ldS, ldL, ldB, ldI, ldW, ldX, rcS]
  rfl

theorem sout_A_0 (hc0 : cond0_0 i) :
    sout0_A_0 c i arg2 harg2 arg3 harg3 arg4 harg4 arg5 harg5 arg6 harg6 arg7 harg7 arg8 harg8 arg9 harg9 hc0 x0 x1 x2 x3 x4
      = hTwo i (vOne i) (vTwo i) x0 x1 x2 x3 x4  (k0_pay3 (F := Ideal)) (k0_pay4 (F := Ideal)) := by
  unfold sout0_A_0
  refine (View.read_writes_full _ _ _ _ _).trans ?_
  sl_unfold_run_names
  simp only [View.readAt_eq_ld, Memref.IsWhole.read_unread, ldS, ldL, ldB, ldI, ldW, ldX, rcS]
  rfl

theorem sout_A_1 (hc0 : cond0_0 i) :
    sout0_A_1 c i arg2 harg2 arg3 harg3 arg4 harg4 arg5 harg5 arg6 harg6 arg7 harg7 arg8 harg8 arg9 harg9 hc0 x0 x1 x2 x3 x4
      = cTwo i (vOne i) (vTwo i) x0 x1 x2 x3 x4  (k0_pay3 (F := Ideal)) (k0_pay4 (F := Ideal)) := by
  unfold sout0_A_1
  refine (View.read_writes_full _ _ _ _ _).trans ?_
  sl_unfold_run_names
  simp only [View.readAt_eq_ld, Memref.IsWhole.read_unread, ldS, ldL, ldB, ldI, ldW, ldX, rcS]
  rfl

theorem out_A (hc0 : cond0_0 i) :
    out0_A_5 c i arg2 harg2 arg3 harg3 arg4 harg4 arg5 harg5 arg6 harg6 arg7 harg7 arg8 harg8 arg9 harg9 hc0 x0 x1 x2 x3 x4
      = outBoth i (vOne i) (vTwo i) x0 x1 x2 x3 x4  (k0_pay3 (F := Ideal)) (k0_pay4 (F := Ideal)) (Scalar.cmpi .eq (BitVec.ofNat 32 (i 0).val) 0#32) := by
  unfold out0_A_5
  refine (View.read_writes_full _ _ _ _ _).trans ?_
  sl_unfold_run_names
  simp only [View.readAt_eq_ld, Memref.IsWhole.read_unread, ldS, ldL, ldB, ldI, ldW, ldX, rcS]
  rfl

end

end Cert.Proof.LayerOneStep

end
-- ==== Proof.LayerOneKernel.lean ====
/- Hand-written, untrusted: WHAT LAYER ONE'S KERNEL LEAVES — its operand arrays as readings of the arguments, the state of the two
   scratch arrays after every point of the grid, and the result array. -/
module

public import proofs.«01_k».proof.Proof.Gen.LayerOneIdeal.Value
public import proofs.«01_k».proof.Proof.LayerOneCase

@[expose] public section

set_option maxRecDepth 16384

noncomputable section

namespace Cert.Proof.LayerOneValue

open Cert.LayerOneIdeal Cert.LayerOneIdeal.Gen Cert.LayerOneIdeal.Value Idealize.ShloMosaic Idealize.ShloMosaic.TcCoe Idealize.SL.Sem
open Cert.Proof.LayerOneStep

/-! ## The mathematics: the arguments' rows, and the result -/

/-- The inputs at a place of a row, zero past the sequence. -/
def xs (ml : Vec Ideal S32x80x1600 .f32) (b : Fin 32) (t : ℕ) (k : Fin 80) : EReal := if h : t < 1600 then ml (ix3 b k ⟨t, h⟩) else 0
/-- Direction `d`'s input weights. -/
def wi (wif wib : Vec Ideal S1024x80 .f32) (d : Fin 2) (g : Fin 1024) (k : Fin 80) : EReal := if d.val = 0 then wif (ix2 g k) else wib (ix2 g k)
/-- The gate inputs at a place. -/
def gx (ml : Vec Ideal S32x80x1600 .f32) (wif wib : Vec Ideal S1024x80 .f32) (d : Fin 2) (b : Fin 32) (t : ℕ) (g : Fin 1024) : EReal :=
  ∑ k : Fin 80, xs ml b t k * wi wif wib d g k
/-- Direction `d`'s recurrent weights. -/
def wh (wf wb : Vec Ideal S1024x256 .f32) (d : Fin 2) (g : Fin 1024) (k : Fin 256) : EReal := if d.val = 0 then wf (ix2 g k) else wb (ix2 g k)
/-- Direction `d`'s bias. -/
def bi (bf bb : Vec Ideal S1024 .f32) (d : Fin 2) (g : Fin 1024) : EReal := if d.val = 0 then bf (ix1 g) else bb (ix1 g)
/-- Row `b`'s length. -/
def len (l : Vec Ideal S32 .i32) (b : Fin 32) : ℤ := (l (ix1 b) : BitVec 32).toInt

variable (ml : Vec Ideal S32x80x1600 .f32) (l : Vec Ideal S32 .i32) (wif : Vec Ideal S1024x80 .f32) (wf : Vec Ideal S1024x256 .f32) (bf : Vec Ideal S1024 .f32)
  (wib : Vec Ideal S1024x80 .f32) (wb : Vec Ideal S1024x256 .f32) (bb : Vec Ideal S1024 .f32)

/-- The state after `n` steps of direction `d` on row `b`. -/
def K (d : Fin 2) (b : Fin 32) (n : ℕ) : Lstm.St := Lstm.state 1600 (len l b) d (gx ml wif wib d b) (wh wf wb d) (bi bf bb d) n

/-- The result at a place, a row and a unit of a direction. -/
def Gd (t : ℕ) (b : Fin 32) (d : Fin 2) (u : Fin 256) : EReal := Lstm.out 1600 (len l b) d (gx ml wif wib d b) (wh wf wb d) (bi bf bb d) t u

/-- The result array. -/
def G : Vec Ideal S1600x32x512 .f32 := fun i =>
  Gd ml l wif wf bf wib wb bb (i 0).val (i 1) ⟨(i 2).val / 256, by have := (i 2).isLt; change (i 2).val < 512 at this; omega⟩
    ⟨(i 2).val % 256, Nat.mod_lt _ (by decide)⟩

/-! ## The operand arrays -/

/-- The inputs, once for each direction. -/
def X : Vec Ideal S2x1600x32x80 .f32 :=
  broadcastInDim S2x1600x32x80 ![0, 1, 2, 3] bcast_S1x1600x32x80_S2x1600x32x80_0_1_2_3
    (broadcastInDim S1x1600x32x80 ![1, 2, 3] bcast_S1600x32x80_S1x1600x32x80_1_2_3 (transpose S1600x32x80 [2, 0, 1] ml transposes_S32x80x1600_S1600x32x80_2_0_1))
/-- The input weights, transposed, one direction after the other. -/
def I : Vec Ideal S2x80x1024 .f32 :=
  concatenate S2x80x1024 0 [⟨S1x80x1024, broadcastInDim S1x80x1024 ![1, 2] bcast_S80x1024_S1x80x1024_1_2 (transpose S80x1024 [1, 0] wif transposes_S1024x80_S80x1024_1_0)⟩,
    ⟨S1x80x1024, broadcastInDim S1x80x1024 ![1, 2] bcast_S80x1024_S1x80x1024_1_2 (transpose S80x1024 [1, 0] wib transposes_S1024x80_S80x1024_1_0)⟩] concatenates_S1x80x1024_S1x80x1024_S2x80x1024_d0
/-- The recurrent weights, transposed, one direction after the other. -/
def W : Vec Ideal S2x256x1024 .f32 :=
  concatenate S2x256x1024 0 [⟨S1x256x1024, broadcastInDim S1x256x1024 ![1, 2] bcast_S256x1024_S1x256x1024_1_2 (transpose S256x1024 [1, 0] wf transposes_S1024x256_S256x1024_1_0)⟩,
    ⟨S1x256x1024, broadcastInDim S1x256x1024 ![1, 2] bcast_S256x1024_S1x256x1024_1_2 (transpose S256x1024 [1, 0] wb transposes_S1024x256_S256x1024_1_0)⟩] concatenates_S1x256x1024_S1x256x1024_S2x256x1024_d0

theorem X_apply (d : Fin 2) (t : Fin 1600) (b : Fin 32) (k : Fin 80) : (X ml (ix4 d t b k) : EReal) = xs ml b t.val k := by
  unfold X xs
  rw [dif_pos t.isLt]
  simp only [pointwise]
  simp
theorem I_apply (d : Fin 2) (k : Fin 80) (g : Fin 1024) : (I wif wib (ix3 d k g) : EReal) = wi wif wib d g k := by
  unfold I wi
  simp only [pointwise]
  fin_cases d <;> simp
theorem W_apply (d : Fin 2) (k : Fin 256) (g : Fin 1024) : (W wf wb (ix3 d k g) : EReal) = wh wf wb d g k := by
  unfold W wh
  simp only [pointwise]
  fin_cases d <;> simp

variable (m : (ℓ : Loc nD τ sig) → Buf (Elt Ideal) ℓ) (c : Dev nD)

theorem V_main_v2 : V m c main_v2 = X (m ((c : Thread nD τ).loc main_arg0)) := by
  show StableHlo.after hostOps0 _ (Proc.devRef .tc main_v2) = _
  after_results
  rfl
theorem V_main_v7 : V m c main_v7 = I (m ((c : Thread nD τ).loc main_arg2)) (m ((c : Thread nD τ).loc main_arg5)) := by
  show StableHlo.after hostOps0 _ (Proc.devRef .tc main_v7) = _
  after_results
  rfl
theorem V_main_v12 : V m c main_v12 = W (m ((c : Thread nD τ).loc main_arg3)) (m ((c : Thread nD τ).loc main_arg6)) := by
  show StableHlo.after hostOps0 _ (Proc.devRef .tc main_v12) = _
  after_results
  rfl
theorem V_main_v17 (d : Fin 2) (g : Fin 1024) : (V m c main_v17 (ix3 d 0 g) : EReal)
    = bi (m ((c : Thread nD τ).loc main_arg4)) (m ((c : Thread nD τ).loc main_arg7)) d g := by
  show StableHlo.after hostOps0 _ (Proc.devRef .tc main_v17) _ = _
  after_results
  unfold bi
  simp only [pointwise]
  fin_cases d <;> simp
theorem V_main_v18 (b : Fin 32) : V m c main_v18 (ix2 b 0) = (m ((c : Thread nD τ).loc main_arg1)) (ix1 b) := by
  show StableHlo.after hostOps0 _ (Proc.devRef .tc main_v18) _ = _
  after_results
  simp only [pointwise]
  rfl

/-! ## The grid's points -/

theorem N_eq : cfg0.N = 1600 := by decide

/-- A point's direction. -/
def dir (t : Fin cfg0.N) : Fin 2 := ⟨t.val / 800, by have h : t.val < 1600 := lt_of_lt_of_eq t.isLt N_eq; omega⟩
/-- Which pair of places a point reads. -/
def pair (t : Fin cfg0.N) : ℕ := if t.val / 800 = 0 then t.val % 800 else 799 - t.val % 800

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 4) = t.val / 800 ∧ win0_1.index t (1 : Fin 4) = pair t
    ∧ win0_1.index t (2 : Fin 4) = 0 ∧ win0_1.index t (3 : Fin 4) = 0 :=
  (by decide +kernel : ∀ t : Fin grid0.N, _)
theorem idx2 : ∀ t : Fin cfg0.N, win0_2.index t (0 : Fin 3) = t.val / 800 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 800 ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val / 800 ∧ win0_4.index t (1 : Fin 3) = 0 ∧ win0_4.index t (2 : Fin 3) = 0 :=
  (by decide +kernel : ∀ t : Fin grid0.N, _)
theorem idx5 : ∀ t : Fin cfg0.N, win0_5.index t (0 : Fin 3) = pair t ∧ win0_5.index t (1 : Fin 3) = 0 ∧ win0_5.index t (2 : Fin 3) = t.val / 800 :=
  (by decide +kernel : ∀ t : Fin grid0.N, _)
theorem dirBit : ∀ t : Fin cfg0.N, Scalar.cmpi .eq (BitVec.ofNat 32 (grid0.coords t 0).val) 0#32 = if t.val / 800 = 0 then 1#1 else 0#1 :=
  (by decide +kernel : ∀ t : Fin grid0.N, _)
theorem vOne_eq : ∀ t : Fin cfg0.N, (vOne (grid0.coords t)).toInt = (Lstm.time 1600 (dir t) (2 * (t.val % 800)) : ℤ) :=
  (by decide +kernel : ∀ t : Fin grid0.N, _)
theorem vTwo_eq : ∀ t : Fin cfg0.N, (vTwo (grid0.coords t)).toInt = (Lstm.time 1600 (dir t) (2 * (t.val % 800) + 1) : ℤ) :=
  (by decide +kernel : ∀ t : Fin grid0.N, _)

/-! ## The blocks a point reads -/

theorem blk0 (t : Fin cfg0.N) (b : Fin 32) : iblk m c 0 t (ix2 b 0) = (m ((c : Thread nD τ).loc main_arg1)) (ix1 b) := by
  obtain ⟨a0, a1⟩ := idx0 t
  refine Eq.trans ?_ (V_main_v18 m c b)
  show V m c main_v18 (((cfg0.win 0).blk t).view.emb (ix2 b 0)) = _
  congr 1; funext a; apply Fin.ext
  match a with
  | ⟨0, _⟩ => show win0_0.index t (0 : Fin 2) * 32 + 1 * b.val = b.val; omega
  | ⟨1, _⟩ => show win0_0.index t (1 : Fin 2) * 1 + 1 * 0 = 0; omega

theorem blk1 (t : Fin cfg0.N) (q : Fin 2) (b : Fin 32) (k : Fin 80) : (iblk m c 1 t (ix4 0 q b k) : EReal)
    = xs (m ((c : Thread nD τ).loc main_arg0)) b (2 * pair t + q.val) k := by
  obtain ⟨a0, a1, a2, a3⟩ := idx1 t
  have ht : t.val < 1600 := lt_of_lt_of_eq t.isLt N_eq
  have hp : pair t < 800 := by unfold pair; split <;> omega
  refine Eq.trans ?_ (X_apply _ (dir t) ⟨2 * pair t + q.val, by omega⟩ b k)
  show V m c main_v2 (((cfg0.win 1).blk t).view.emb (ix4 0 q b k)) = _
  rw [V_main_v2]
  congr 1; funext a; apply Fin.ext
  match a with
  | ⟨0, _⟩ => show win0_1.index t (0 : Fin 4) * 1 + 1 * 0 = t.val / 800; omega
  | ⟨1, _⟩ => show win0_1.index t (1 : Fin 4) * 2 + 1 * q.val = 2 * pair t + q.val; omega
  | ⟨2, _⟩ => show win0_1.index t (2 : Fin 4) * 32 + 1 * b.val = b.val; omega
  | ⟨3, _⟩ => show win0_1.index t (3 : Fin 4) * 80 + 1 * k.val = k.val; omega

theorem blk2 (t : Fin cfg0.N) (k : Fin 80) (g : Fin 1024) : (iblk m c 2 t (ix3 0 k g) : EReal)
    = wi (m ((c : Thread nD τ).loc main_arg2)) (m ((c : Thread nD τ).loc main_arg5)) (dir t) g k := by
  obtain ⟨a0, a1, a2⟩ := idx2 t
  refine Eq.trans ?_ (I_apply _ _ (dir t) k g)
  show V m c main_v7 (((cfg0.win 2).blk t).view.emb (ix3 0 k g)) = _
  rw [V_main_v7]
  congr 1; funext a; apply Fin.ext
  match a with
  | ⟨0, _⟩ => show win0_2.index t (0 : Fin 3) * 1 + 1 * 0 = t.val / 800; omega
  | ⟨1, _⟩ => show win0_2.index t (1 : Fin 3) * 80 + 1 * k.val = k.val; omega
  | ⟨2, _⟩ => show win0_2.index t (2 : Fin 3) * 1024 + 1 * g.val = g.val; omega

theorem blk3 (t : Fin cfg0.N) (k : Fin 256) (g : Fin 1024) : (iblk m c 3 t (ix3 0 k g) : EReal)
    = wh (m ((c : Thread nD τ).loc main_arg3)) (m ((c : Thread nD τ).loc main_arg6)) (dir t) g k := by
  obtain ⟨a0, a1, a2⟩ := idx3 t
  refine Eq.trans ?_ (W_apply _ _ (dir t) k g)
  show V m c main_v12 (((cfg0.win 3).blk t).view.emb (ix3 0 k g)) = _
  rw [V_main_v12]
  congr 1; funext a; apply Fin.ext
  match a with
  | ⟨0, _⟩ => show win0_3.index t (0 : Fin 3) * 1 + 1 * 0 = t.val / 800; omega
  | ⟨1, _⟩ => show win0_3.index t (1 : Fin 3) * 256 + 1 * k.val = k.val; omega
  | ⟨2, _⟩ => show win0_3.index t (2 : Fin 3) * 1024 + 1 * g.val = g.val; omega

theorem blk4 (t : Fin cfg0.N) (g : Fin 1024) : (iblk m c 4 t (ix3 0 0 g) : EReal)
    = bi (m ((c : Thread nD τ).loc main_arg4)) (m ((c : Thread nD τ).loc main_arg7)) (dir t) g := by
  obtain ⟨a0, a1, a2⟩ := idx4 t
  refine Eq.trans ?_ (V_main_v17 m c (dir t) g)
  show V m c main_v17 (((cfg0.win 4).blk t).view.emb (ix3 0 0 g)) = _
  congr 1; funext a; apply Fin.ext
  match a with
  | ⟨0, _⟩ => show win0_4.index t (0 : Fin 3) * 1 + 1 * 0 = t.val / 800; omega
  | ⟨1, _⟩ => show win0_4.index t (1 : Fin 3) * 1 + 1 * 0 = 0; omega
  | ⟨2, _⟩ => show win0_4.index t (2 : Fin 3) * 1024 + 1 * g.val = g.val; omega

/-! ## The two steps of a point -/

/-- The kernel's states and results, over the arguments. -/
abbrev Km (d : Fin 2) (b : Fin 32) (n : ℕ) : Lstm.St :=
  K (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7)) d b n
abbrev Gm : Vec Ideal S1600x32x512 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7))

theorem gxOne_eq (t : Fin cfg0.N) (b : Fin 32) : gxOne (grid0.coords t) (iblk m c 1 t) (iblk m c 2 t) b
    = gx (m ((c : Thread nD τ).loc main_arg0)) (m ((c : Thread nD τ).loc main_arg2)) (m ((c : Thread nD τ).loc main_arg5)) (dir t) b
        (Lstm.time 1600 (dir t) (2 * (t.val % 800))) := by
  have ht : t.val < 1600 := lt_of_lt_of_eq t.isLt N_eq
  funext g
  unfold gxOne gx
  refine Finset.sum_congr rfl fun k _ => ?_
  rw [dirBit t, blk1, blk1, blk2]
  refine congrArg (fun z : EReal => z * _) ?_
  have hd : (dir t).val = t.val / 800 := rfl
  by_cases h : t.val / 800 = 0
  · rw [if_pos h]
    refine Eq.trans (if_pos rfl) (congrArg (fun n => xs _ b n k) ?_)
    simp [pair, Lstm.time, hd, h]
  · rw [if_neg h]
    refine Eq.trans (if_neg (by decide)) (congrArg (fun n => xs _ b n k) ?_)
    simp only [pair, Lstm.time, hd, if_neg h]
    show 2 * (799 - t.val % 800) + 1 = _
    omega

theorem gxTwo_eq (t : Fin cfg0.N) (b : Fin 32) : gxTwo (grid0.coords t) (iblk m c 1 t) (iblk m c 2 t) b
    = gx (m ((c : Thread nD τ).loc main_arg0)) (m ((c : Thread nD τ).loc main_arg2)) (m ((c : Thread nD τ).loc main_arg5)) (dir t) b
        (Lstm.time 1600 (dir t) (2 * (t.val % 800) + 1)) := by
  have ht : t.val < 1600 := lt_of_lt_of_eq t.isLt N_eq
  funext g
  unfold gxTwo gx
  refine Finset.sum_congr rfl fun k _ => ?_
  rw [dirBit t, blk1, blk1, blk2]
  refine congrArg (fun z : EReal => z * _) ?_
  have hd : (dir t).val = t.val / 800 := rfl
  by_cases h : t.val / 800 = 0
  · rw [if_pos h]
    refine Eq.trans (if_pos rfl) (congrArg (fun n => xs _ b n k) ?_)
    simp [pair, Lstm.time, hd, h]
  · rw [if_neg h]
    refine Eq.trans (if_neg (by decide)) (congrArg (fun n => xs _ b n k) ?_)
    simp only [pair, Lstm.time, hd, if_neg h]
    show 2 * (799 - t.val % 800) + 0 = _
    omega

/-- The first step of a point, from a state of the row. -/
theorem one_eq (t : Fin cfg0.N) (h' c' : Vec Ideal S32x256 .f32) (b : Fin 32) (hs : row h' c' b = Km m c (dir t) b (2 * (t.val % 800))) :
    row (hOne (grid0.coords t) (vOne (grid0.coords t)) (iblk m c 0 t) (iblk m c 1 t) (iblk m c 2 t) (iblk m c 3 t) (iblk m c 4 t) h' c')
      (cOne (grid0.coords t) (vOne (grid0.coords t)) (iblk m c 0 t) (iblk m c 1 t) (iblk m c 2 t) (iblk m c 3 t) (iblk m c 4 t) h' c') b
      = Km m c (dir t) b (2 * (t.val % 800) + 1) := by
  refine (row_one _ _ _ _ _ _ _ _ _ b).trans ?_
  rw [hs, gxOne_eq, vOne_eq, blk0]
  simp only [blk3, blk4]
  rfl

/-- The second. -/
theorem two_eq (t : Fin cfg0.N) (h' c' : Vec Ideal S32x256 .f32) (b : Fin 32) (hs : row h' c' b = Km m c (dir t) b (2 * (t.val % 800))) :
    row (hTwo (grid0.coords t) (vOne (grid0.coords t)) (vTwo (grid0.coords t)) (iblk m c 0 t) (iblk m c 1 t) (iblk m c 2 t) (iblk m c 3 t) (iblk m c 4 t) h' c')
      (cTwo (grid0.coords t) (vOne (grid0.coords t)) (vTwo (grid0.coords t)) (iblk m c 0 t) (iblk m c 1 t) (iblk m c 2 t) (iblk m c 3 t) (iblk m c 4 t) h' c') b
      = Km m c (dir t) b (2 * (t.val % 800) + 2) := by
  refine (row_two _ _ _ _ _ _ _ _ _ _ b).trans ?_
  rw [one_eq m c t h' c' b hs, gxTwo_eq, vTwo_eq, blk0]
  simp only [blk3, blk4]
  rfl

/-- The output block of a point, from a state of every row. -/
theorem both_eq (t : Fin cfg0.N) (h' c' : Vec Ideal S32x256 .f32) (hs : ∀ b, row h' c' b = Km m c (dir t) b (2 * (t.val % 800)))
    (q : Fin 2) (b : Fin 32) (u : Fin 256) :
    (outBoth (grid0.coords t) (vOne (grid0.coords t)) (vTwo (grid0.coords t)) (iblk m c 0 t) (iblk m c 1 t) (iblk m c 2 t) (iblk m c 3 t) (iblk m c 4 t) h' c'
      (Scalar.cmpi .eq (BitVec.ofNat 32 (grid0.coords t 0).val) 0#32) (ix3 q b u) : EReal)
      = Gd (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7))
          (2 * pair t + q.val) b (dir t) u := by
  have ht : t.val < 1600 := lt_of_lt_of_eq t.isLt N_eq
  have hd : (dir t).val = t.val / 800 := rfl
  have hq : q.val < 2 := q.isLt
  refine (out_row _ _ _ _ _ _ _ _ _ _ _ q b u).trans ?_
  rw [one_eq m c t h' c' b (hs b), two_eq m c t h' c' b (hs b), vOne_eq, vTwo_eq, blk0, dirBit]
  by_cases hf : (q.val = 0 ↔ (if t.val / 800 = 0 then 1#1 else 0#1) = 1#1)
  · rw [if_pos hf]
    have e : 2 * pair t + q.val = Lstm.time 1600 (dir t) (2 * (t.val % 800)) := by
      unfold pair Lstm.time
      rw [hd]
      by_cases h : t.val / 800 = 0
      · simp only [if_pos h, iff_true] at hf ⊢; omega
      · rw [if_neg h] at hf; have : ¬ q.val = 0 := fun hz => absurd (hf.mp hz) (by decide)
        simp only [if_neg h]; omega
    rw [e]
    by_cases hm : (Lstm.time 1600 (dir t) (2 * (t.val % 800)) : ℤ) < len (m ((c : Thread nD τ).loc main_arg1)) b
    · refine (if_pos hm).trans ?_
      unfold Gd
      rw [Lstm.out_pos _ _ _ _ _ hm, Lstm.time_time _ (by omega)]
      rfl
    · refine (if_neg hm).trans (Lstm.out_neg _ _ _ _ _ hm).symm
  · rw [if_neg hf]
    have e : 2 * pair t + q.val = Lstm.time 1600 (dir t) (2 * (t.val % 800) + 1) := by
      unfold pair Lstm.time
      rw [hd]
      by_cases h : t.val / 800 = 0
      · simp only [if_pos h, iff_true] at hf ⊢; omega
      · rw [if_neg h] at hf; have : q.val = 0 := by
          by_contra hz; exact hf ⟨fun h => absurd h hz, fun h => absurd h (by decide)⟩
        simp only [if_neg h]; omega
    rw [e]
    by_cases hm : (Lstm.time 1600 (dir t) (2 * (t.val % 800) + 1) : ℤ) < len (m ((c : Thread nD τ).loc main_arg1)) b
    · refine (if_pos hm).trans ?_
      unfold Gd
      rw [Lstm.out_pos _ _ _ _ _ hm, Lstm.time_time _ (by omega)]
      rfl
    · refine (if_neg hm).trans (Lstm.out_neg _ _ _ _ _ hm).symm

/-! ## The points, one after the other -/

/-- The state at the start is zero. -/
theorem row_start (b : Fin 32) : row (k0_pay3 (F := Ideal)) (k0_pay4 (F := Ideal)) b = (fun _ => 0, fun _ => 0) := by
  unfold row k0_pay3 k0_pay4
  simp only [pointwise]

theorem after_A (t : Fin cfg0.N) (h0 : t.val % 800 = 0) (b : Fin 32) :
    row (outsAt0 m c t.val t.isLt).2.1 (outsAt0 m c t.val t.isLt).2.2 b = Km m c (dir t) b (2 * (t.val % 800) + 2) := by
  rw [outsAt0_A m c t h0]
  dsimp only
  rw [sout_A_0, sout_A_1]
  refine two_eq m c t _ _ b ((row_start b).trans ?_)
  rw [h0]; rfl

theorem after_B (t : Fin cfg0.N) (h0 : ¬t.val % 800 = 0) (b : Fin 32)
    (hs : row (outsAt0 m c (t.val - 1) (Nat.lt_of_le_of_lt (Nat.sub_le _ _) t.isLt)).2.1
      (outsAt0 m c (t.val - 1) (Nat.lt_of_le_of_lt (Nat.sub_le _ _) t.isLt)).2.2 b = Km m c (dir t) b (2 * (t.val % 800))) :
    row (outsAt0 m c t.val t.isLt).2.1 (outsAt0 m c t.val t.isLt).2.2 b = Km m c (dir t) b (2 * (t.val % 800) + 2) := by
  rw [outsAt0_B m c t h0]
  dsimp only
  rw [sout_B_0, sout_B_1]
  exact two_eq m c t _ _ b hs

/-- After every point the two scratch arrays hold the state of every row. -/
theorem scratch (n : ℕ) (hn : n < cfg0.N) (b : Fin 32) :
    row (outsAt0 m c n hn).2.1 (outsAt0 m c n hn).2.2 b = Km m c (dir ⟨n, hn⟩) b (2 * (n % 800) + 2) := by
  induction n with
  | zero =>
    exact after_A m c ⟨0, hn⟩ rfl b
  | succ n ih =>
    have hN : n + 1 < 1600 := lt_of_lt_of_eq hn N_eq
    by_cases h0 : (n + 1) % 800 = 0
    · exact after_A m c ⟨n + 1, hn⟩ h0 b
    · refine after_B m c ⟨n + 1, hn⟩ h0 b ((ih (Nat.lt_of_succ_lt hn)).trans ?_)
      have e : dir ⟨n, Nat.lt_of_succ_lt hn⟩ = dir ⟨n + 1, hn⟩ := Fin.ext (show n / 800 = (n + 1) / 800 by omega)
      rw [e]
      exact congrArg (Km m c _ b) (show 2 * (n % 800) + 2 = 2 * ((n + 1) % 800) by omega)

/-- Every point's output block. -/
theorem block (t : Fin cfg0.N) (q : Fin 2) (b : Fin 32) (u : Fin 256) : ((outsAt0 m c t.val t.isLt).1 (ix3 q b u) : EReal)
    = Gd (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (m ((c : Thread nD τ).loc main_arg7))
        (2 * pair t + q.val) b (dir t) u := by
  by_cases h0 : t.val % 800 = 0
  · rw [outsAt0_A m c t h0, out_A]
    refine both_eq m c t _ _ (fun b => (row_start b).trans ?_) q b u
    rw [h0]; rfl
  · rw [outsAt0_B m c t h0, out_B]
    refine both_eq m c t _ _ (fun b => (scratch m c (t.val - 1) (Nat.lt_of_le_of_lt (Nat.sub_le _ _) t.isLt) b).trans ?_) q b u
    have e : dir ⟨t.val - 1, Nat.lt_of_le_of_lt (Nat.sub_le _ _) t.isLt⟩ = dir t := Fin.ext (show (t.val - 1) / 800 = t.val / 800 by omega)
    rw [e]
    exact congrArg (Km m c _ b) (show 2 * ((t.val - 1) % 800) + 2 = 2 * (t.val % 800) by omega)

/-! ## The result array -/

/-- What a point writes back is its block of the result. -/
theorem flushed_eq (t : Fin cfg0.N) : (dats m 0 c).flushed 5 t = ((cfg0.win 5).blk t).view.read (Elt Ideal) (Gm m c) := by
  obtain ⟨a0, a1, a2⟩ := idx5 t
  rw [flushed5]
  funext j
  show (outsAt0 m c t.val t.isLt).1 j = Gm m c (((cfg0.win 5).blk t).view.emb j)
  have hj : (j : S2x32x256.Idx) = ix3 (j 0 : Fin 2) (j 1 : Fin 32) (j 2 : Fin 256) := by
    funext a; fin_cases a <;> rfl
  have h2 : (j 2).val < 256 := (j 2).isLt
  have e0 : (((cfg0.win 5).blk t).view.emb j 0 : Fin 1600).val = 2 * pair t + (j 0).val := by
    show win0_5.index t (0 : Fin 3) * 2 + 1 * (j 0).val = _; omega
  have e1 : (((cfg0.win 5).blk t).view.emb j 1 : Fin 32) = j 1 := by
    apply Fin.ext; show win0_5.index t (1 : Fin 3) * 32 + 1 * (j 1).val = _; omega
  have e2 : (((cfg0.win 5).blk t).view.emb j 2 : Fin 512).val = t.val / 800 * 256 + (j 2).val := by
    show win0_5.index t (2 : Fin 3) * 256 + 1 * (j 2).val = _; omega
  refine (congrArg (outsAt0 m c t.val t.isLt).1 hj).trans ((block m c t _ _ _).trans ?_)
  show _ = Gd _ _ _ _ _ _ _ _ _ _ _ _
  rw [← e0]
  congr 1
  · exact e1.symm
  · apply Fin.ext; show t.val / 800 = (((cfg0.win 5).blk t).view.emb j 2 : Fin 512).val / 256; omega
  · apply Fin.ext; show (j 2).val = (((cfg0.win 5).blk t).view.emb j 2 : Fin 512).val % 256; omega

/-- Every index of the result is in a point's block. -/
theorem cover (i : S1600x32x512.Idx) : ∃ t : Fin cfg0.N, (cfg0.win 5).flush t = true ∧ i ∈ ((cfg0.win 5).blk t).view.set := by
  have h0 : (i 0).val < 1600 := (i 0).isLt
  have h1 : (i 1).val < 32 := (i 1).isLt
  have h2 : (i 2).val < 512 := (i 2).isLt
  let t : Fin cfg0.N := ⟨(i 2).val / 256 * 800 + (if (i 2).val / 256 = 0 then (i 0).val / 2 else 799 - (i 0).val / 2), by rw [N_eq]; split <;> omega⟩
  have htv : t.val = (i 2).val / 256 * 800 + (if (i 2).val / 256 = 0 then (i 0).val / 2 else 799 - (i 0).val / 2) := rfl
  have hd : t.val / 800 = (i 2).val / 256 := by rw [htv]; split <;> omega
  have hp : pair t = (i 0).val / 2 := by
    unfold pair
    rw [hd]
    by_cases h : (i 2).val / 256 = 0
    · rw [if_pos h, htv, if_pos h]; omega
    · rw [if_neg h, htv, if_neg h]; omega
  obtain ⟨a0, a1, a2⟩ := idx5 t
  refine ⟨t, flush0_5 t, ?_⟩
  let j : S2x32x256.Idx := ix3 (⟨(i 0).val % 2, Nat.mod_lt _ (by decide)⟩ : Fin 2) (i 1) (⟨(i 2).val % 256, Nat.mod_lt _ (by decide)⟩ : Fin 256)
  have h := ((cfg0.win 5).blk t).view.emb_mem_set j
  have e : ((cfg0.win 5).blk t).view.emb j = i := by
    funext a; apply Fin.ext
    match a with
    | ⟨0, _⟩ => show win0_5.index t (0 : Fin 3) * 2 + 1 * ((i 0).val % 2) = (i 0).val; omega
    | ⟨1, _⟩ => show win0_5.index t (1 : Fin 3) * 32 + 1 * (i 1).val = (i 1).val; omega
    | ⟨2, _⟩ => show win0_5.index t (2 : Fin 3) * 256 + 1 * ((i 2).val % 256) = (i 2).val; omega
  rwa [e] at h

/-- The result array after the run. -/
theorem final : (dats m 0 c).arrAt 5 cfg0.N = Gm m c :=
  (dats m 0 c).arrAt_eq_of_cover 5 _ (fun t _ => flushed_eq m c t) cover

end Cert.Proof.LayerOneValue

end
-- ==== Proof.Reverse.lean ====
/- Hand-written, untrusted: READING AN ARRAY BACKWARDS — the gather along the first axis at one place per row, and the places
   `len - 1 - t` that count from the end of the axis where they are negative. -/
module

public import Idealize.ShloMosaic.Lib.Pointwise
public import Idealize.ShloMosaic.Lib.DynamicIndex
public import Idealize.ShloMosaic.Lib.ValueIdxCore

@[expose] public section

noncomputable section

namespace Cert.Proof.Reverse

open Idealize.ShloMosaic

/-- A gather along axis 0 of a three-axis array, the second axis shared with the places and the third taken whole. -/
abbrev dims (T B D : ℕ) (wf : GatherDims.WF ⟨3, ![T, B, D]⟩ ⟨3, ![T, B, 1]⟩ ⟨3, ![T, B, D]⟩ [2] [0] [1] [0] [1] 2 ![1, 1, D]) :
    GatherDims ⟨3, ![T, B, D]⟩ ⟨3, ![T, B, 1]⟩ ⟨3, ![T, B, D]⟩ where
  offsetDims := [2]
  collapsedSliceDims := [0]
  operandBatchingDims := [1]
  startIndicesBatchingDims := [1]
  startIndexMap := [0]
  indexVectorDim := 2
  sliceSizes := ![1, 1, D]
  wf := wf

/-- It reads the place clamped into the axis. -/
theorem gather_at {α : Type} {T B D : ℕ} (hT : 0 < T)
    (wf : GatherDims.WF ⟨3, ![T, B, D]⟩ ⟨3, ![T, B, 1]⟩ ⟨3, ![T, B, D]⟩ [2] [0] [1] [0] [1] 2 ![1, 1, D])
    (x : (⟨3, ![T, B, D]⟩ : Shape).Idx → α) (idx : IVec ⟨3, ![T, B, 1]⟩ 32) (t : Fin T) (b : Fin B) (g : Fin D) :
    Host.gather (dims T B D wf) x idx (ix3 t b g) = x (ix3 ⟨min (idx (ix3 t b 0)).toInt.toNat (T - 1), by omega⟩ b g) := by
  unfold Host.gather
  congr 1
  funext a
  refine Fin.ext ?_
  show (dims T B D wf).start (ix3 t b g) idx a + (dims T B D wf).batchCoord (ix3 t b g) a + (dims T B D wf).offCoord (ix3 t b g) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (dims T B D wf).startIndexMap from List.mem_singleton.mpr rfl)]
    have hsi : (dims T B D wf).siIdx (ix3 t b g) ⟨List.idxOf (0 : Fin 3) (dims T B D wf).startIndexMap,
        List.idxOf_lt_length_iff.2 (List.mem_singleton.mpr rfl)⟩ = ix3 t b 0 := by
      funext e; refine Fin.ext ?_
      match e with
      | ⟨0, _⟩ => rfl
      | ⟨1, _⟩ => rfl
      | ⟨2, _⟩ => rfl
    exact congrArg (fun k => min (idx k).toInt.toNat (T - 1)) hsi
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (1 : Fin 3) ∈ (dims T B D wf).operandBatchingDims from List.mem_singleton.mpr rfl)]
    rfl
  · rw [GatherDims.batchCoord_eq_zero _ _ _ (fun h => by simp at h)]
    unfold GatherDims.start GatherDims.offCoord
    rw [dif_neg (show ¬ (2 : Fin 3) ∈ (dims T B D wf).startIndexMap by simp),
      dif_pos (show (2 : Fin 3) ∈ (dims T B D wf).sKept from (GatherDims.mem_sKept _ _).mpr ⟨by simp, by simp⟩)]
    simp only [Nat.zero_add, Nat.add_zero]
    rfl

/-- The place read at `t` of a row of length `l`, of `T` places. -/
def place (T : ℕ) (l : BitVec 32) (t : ℕ) : ℕ :=
  min (Scalar.select (Scalar.cmpi .slt (Scalar.subi (Scalar.subi l 1#32) (BitVec.ofNat 32 t)) 0#32)
    (Scalar.addi (Scalar.subi (Scalar.subi l 1#32) (BitVec.ofNat 32 t)) (BitVec.ofNat 32 T))
    (Scalar.subi (Scalar.subi l 1#32) (BitVec.ofNat 32 t))).toInt.toNat (T - 1)

theorem place_lt {T : ℕ} (hT : 0 < T) (l : BitVec 32) (t : ℕ) : place T l t < T := by unfold place; omega

/-- Within the length it is the place `len - 1 - t`; past the length, it is past the length too. -/
theorem place_eq {T : ℕ} (hT : T < 2 ^ 20) (l : BitVec 32) (h0 : 0 ≤ l.toInt) (hl : l.toInt ≤ T) (t : ℕ) (ht : t < T) :
    (place T l t : ℤ) = if (t : ℤ) < l.toInt then l.toInt - 1 - t else T + l.toInt - 1 - t := by
  have hsub : (Scalar.subi (Scalar.subi l 1#32) (BitVec.ofNat 32 t)).toInt = l.toInt - 1 - t := by
    simp only [Scalar.subi, IntOp.subi, BitVec.toInt_sub, toInt_ofNat_of_lt (show t < 2 ^ 31 by omega)]
    simp only [Int.bmod_def, show (1#32 : BitVec 32).toInt = 1 from rfl]
    omega
  have hadd : (Scalar.addi (Scalar.subi (Scalar.subi l 1#32) (BitVec.ofNat 32 t)) (BitVec.ofNat 32 T)).toInt = T + l.toInt - 1 - t := by
    show ((Scalar.subi (Scalar.subi l 1#32) (BitVec.ofNat 32 t)) + (BitVec.ofNat 32 T)).toInt = _
    rw [BitVec.toInt_add, hsub, toInt_ofNat_of_lt (show T < 2 ^ 31 by omega)]
    simp only [Int.bmod_def]
    omega
  unfold place
  by_cases h : (t : ℤ) < l.toInt
  · have hs : Scalar.cmpi .slt (Scalar.subi (Scalar.subi l 1#32) (BitVec.ofNat 32 t)) 0#32 = 0#1 := by
      have : ¬ (Scalar.subi (Scalar.subi l 1#32) (BitVec.ofNat 32 t)).toInt < 0 := by rw [hsub]; omega
      simp [Scalar.cmpi, IntOp.cmpi, BitVec.slt, this]
    rw [hs, if_pos h]
    show ((min (Scalar.subi (Scalar.subi l 1#32) (BitVec.ofNat 32 t)).toInt.toNat (T - 1) : ℕ) : ℤ) = _
    rw [hsub]; omega
  · have hs : Scalar.cmpi .slt (Scalar.subi (Scalar.subi l 1#32) (BitVec.ofNat 32 t)) 0#32 = 1#1 := by
      have : (Scalar.subi (Scalar.subi l 1#32) (BitVec.ofNat 32 t)).toInt < 0 := by rw [hsub]; omega
      simp [Scalar.cmpi, IntOp.cmpi, BitVec.slt, this]
    rw [hs, if_neg h]
    show ((min (Scalar.addi (Scalar.subi (Scalar.subi l 1#32) (BitVec.ofNat 32 t)) (BitVec.ofNat 32 T)).toInt.toNat (T - 1) : ℕ) : ℤ) = _
    rw [hadd]; omega

/-- What the comparisons with a range's two ends say. -/
theorem between (l : BitVec 32) {lo hi : ℕ} (hlo : lo < 2 ^ 31 := by decide) (hhi : hi < 2 ^ 31 := by decide)
    (h : IntOp.andi (IntOp.cmpi .sge l (BitVec.ofNat 32 lo)) (IntOp.cmpi .sle l (BitVec.ofNat 32 hi)) = 1#1) :
    0 ≤ l.toInt ∧ l.toInt ≤ hi := by
  unfold IntOp.andi at h
  have h1 : IntOp.cmpi .sge l (BitVec.ofNat 32 lo) = 1#1 := by
    revert h; generalize IntOp.cmpi .sge l (BitVec.ofNat 32 lo) = x; generalize IntOp.cmpi .sle l (BitVec.ofNat 32 hi) = y
    revert x y; decide
  have h2 : IntOp.cmpi .sle l (BitVec.ofNat 32 hi) = 1#1 := by
    revert h; generalize IntOp.cmpi .sge l (BitVec.ofNat 32 lo) = x; generalize IntOp.cmpi .sle l (BitVec.ofNat 32 hi) = y
    revert x y; decide
  have e1 : (BitVec.ofNat 32 lo).sle l = true := by
    unfold IntOp.cmpi at h1; revert h1; generalize (BitVec.ofNat 32 lo).sle l = z; cases z <;> simp
  have e2 : l.sle (BitVec.ofNat 32 hi) = true := by
    unfold IntOp.cmpi at h2; revert h2; generalize l.sle (BitVec.ofNat 32 hi) = z; cases z <;> simp
  rw [BitVec.sle_eq_decide, decide_eq_true_iff, toInt_ofNat_of_lt (by omega)] at e1 e2
  exact ⟨by omega, e2⟩

end Cert.Proof.Reverse

end
-- ==== Proof.LayerOneRef.lean ====
/- Hand-written, untrusted: WHAT LAYER ONE'S REFERENCE LEAVES — one trip of its loop as a step of every row, the loop's entry, and the
   result, which joins the forward outputs with the backward ones put back in order. -/
module

public import proofs.«01_k».proof.Proof.Gen.LayerOneRefIdeal.Run
public import proofs.«01_k».proof.Proof.Lstm
public import proofs.«01_k».proof.Proof.Reverse

@[expose] public section

set_option maxRecDepth 16384

noncomputable section

namespace Cert.Proof.LayerOneRefValue

open Idealize.ShloMosaic.StableHlo Idealize.ShloMosaic.HostLoop
open Cert.LayerOneRefIdeal Cert.LayerOneRefIdeal.Gen Cert.LayerOneRefIdeal.Value Idealize.ShloMosaic Idealize.ShloMosaic.TcCoe Idealize.SL.Sem

/-! ## One trip, over plain arrays -/

/-- The start of the slice that trip `k` reads. -/
def start (k : IVec S_ 32) : Fin 4 → Int :=
  fun a => (((![k, constantI S_ 32 0#32, constantI S_ 32 0#32, constantI S_ 32 0#32] : Fin 4 → IVec S_ 32)) a (Shape.Idx.first h_S_)).toInt

/-- The gates before their functions. -/
def gates (x : FVec Ideal S1600x2x32x80 .f32) (wi : FVec Ideal S2x1024x80 .f32) (w : FVec Ideal S2x1024x256 .f32) (v : FVec Ideal S2x1024 .f32) (k : IVec S_ 32)
    (h : FVec Ideal S2x32x256 .f32) : FVec Ideal S2x32x1024 .f32 :=
  addf (addf (Host.dotGeneral dot_S2x32x80_S2x1024x80_S2x32x1024_2_2_1_1_0_0 none
      (shapeCast S2x32x80 (Host.dynamicSlice S1x2x32x80 x (start k) sliceFits_S1600x2x32x80_S1x2x32x80) shapeCasts_S1x2x32x80_S2x32x80) wi)
    (Host.dotGeneral dot_S2x32x256_S2x1024x256_S2x32x1024_2_2_1_1_0_0 none h w))
    (broadcastInDim S2x32x1024 ![0, 1, 2] bcast_S2x1x1024_S2x32x1024_0_1_2 (broadcastInDim S2x1x1024 ![0, 2] bcast_S2x1024_S2x1x1024_0_2 v))

theorem slices_at (n : ℕ) (hn : n < 1600) : S1600x2x32x80.Slices ![n, 0, 0, 0] S1x2x32x80 :=
  ⟨rfl, fun a => by
    match a with
    | ⟨0, _⟩ => exact (show n + 1 ≤ 1600 by omega)
    | ⟨1, _⟩ => exact (show 0 + 2 ≤ 2 by omega)
    | ⟨2, _⟩ => exact (show 0 + 32 ≤ 32 by omega)
    | ⟨3, _⟩ => exact (show 0 + 80 ≤ 80 by omega)⟩

theorem start_at (n : ℕ) (hn : n < 1600) (a : Fin 4) : start (fun _ => BitVec.ofNat 32 n) a = ((![n, 0, 0, 0] : Fin 4 → ℕ) a : ℤ) := by
  match a with
  | ⟨0, _⟩ => exact toInt_ofNat_of_lt (show n < 2 ^ 31 by omega)
  | ⟨1, _⟩ => rfl
  | ⟨2, _⟩ => rfl
  | ⟨3, _⟩ => rfl

theorem gates_apply (x : FVec Ideal S1600x2x32x80 .f32) (wi : FVec Ideal S2x1024x80 .f32) (w : FVec Ideal S2x1024x256 .f32) (v : FVec Ideal S2x1024 .f32) (n : ℕ) (hn : n < 1600)
    (h : FVec Ideal S2x32x256 .f32) (d : Fin 2) (b : Fin 32) (g : Fin 1024) :
    (gates x wi w v (fun _ => BitVec.ofNat 32 n) h (ix3 d b g) : EReal)
      = Lstm.pre (fun g => ∑ k : Fin 80, x (ix4 ⟨n, hn⟩ d b k) * wi (ix3 d g k)) (fun g k => w (ix3 d g k)) (fun g => v (ix2 d g)) (fun k => h (ix3 d b k)) g := by
  unfold gates Lstm.pre
  rw [Host.dynamicSlice_eq_extractStridedSlice S1x2x32x80 x (start (fun _ => BitVec.ofNat 32 n)) ![n, 0, 0, 0] _ (slices_at n hn) (start_at n hn)]
  simp only [pointwise]
  simp [Nat.zero_add, Fin.eta]

/-- One gate's logistic, as the reference spells it. -/
def sig' (p : FVec Ideal S2x32x256 .f32) : FVec Ideal S2x32x256 .f32 :=
  Host.divf (broadcastInDim S2x32x256 ![] bcast_S_S2x32x256 (constant S_ .f32 0x3F800000#32))
    (addf (broadcastInDim S2x32x256 ![] bcast_S_S2x32x256 (constant S_ .f32 0x3F800000#32)) (Host.exp (Host.negf p)))

theorem sig_apply (p : FVec Ideal S2x32x256 .f32) (i : S2x32x256.Idx) : (sig' p i : EReal) = Ideal.logistic (p i) := by
  unfold sig' Ideal.logistic
  simp only [pointwise]

/-- The new cell array. -/
def cellR (p : FVec Ideal S2x32x1024 .f32) (c : FVec Ideal S2x32x256 .f32) : FVec Ideal S2x32x256 .f32 :=
  addf (mulf (sig' (extractStridedSlice S2x32x256 ![0, 0, 256] p slices_S2x32x1024_S2x32x256_0_0_256)) c)
    (mulf (sig' (extractStridedSlice S2x32x256 ![0, 0, 0] p slices_S2x32x1024_S2x32x256_0_0_0))
      (Host.tanh (extractStridedSlice S2x32x256 ![0, 0, 512] p slices_S2x32x1024_S2x32x256_0_0_512)))

theorem cellR_apply (p : FVec Ideal S2x32x1024 .f32) (c : FVec Ideal S2x32x256 .f32) (d : Fin 2) (b : Fin 32) (u : Fin 256) :
    (cellR p c (ix3 d b u) : EReal) = Lstm.newC (fun g => p (ix3 d b g)) (fun u => c (ix3 d b u)) u := by
  unfold cellR Lstm.newC
  simp only [pointwise, sig_apply]
  simp [Nat.zero_add, Fin.eta, Lstm.gF, Lstm.gI, Lstm.gG]

/-- The new hidden array. -/
def hidR (p : FVec Ideal S2x32x1024 .f32) (c : FVec Ideal S2x32x256 .f32) : FVec Ideal S2x32x256 .f32 :=
  mulf (sig' (extractStridedSlice S2x32x256 ![0, 0, 768] p slices_S2x32x1024_S2x32x256_0_0_768)) (Host.tanh (cellR p c))

theorem hidR_apply (p : FVec Ideal S2x32x1024 .f32) (c : FVec Ideal S2x32x256 .f32) (d : Fin 2) (b : Fin 32) (u : Fin 256) :
    (hidR p c (ix3 d b u) : EReal) = Lstm.newH (fun g => p (ix3 d b g)) (fun u => c (ix3 d b u)) u := by
  unfold hidR Lstm.newH
  simp only [pointwise, sig_apply, cellR_apply]
  simp [Nat.zero_add, Fin.eta, Lstm.gO]

/-- The mask of a trip. -/
def maskR (ts : IVec S1600 32) (k : IVec S_ 32) (l : IVec S32 32) : IVec S2x32x256 1 :=
  broadcastInDim S2x32x256 ![0, 1, 2] bcast_S1x32x1_S2x32x256_0_1_2 (broadcastInDim S1x32x1 ![1] bcast_S32_S1x32x1_1
    (cmpi .slt (broadcastInDim S32 ![] bcast_S_S32 (shapeCast S_ (Host.dynamicSlice S1 ts
      (fun a => (((![k] : Fin 1 → IVec S_ 32)) a (Shape.Idx.first h_S_)).toInt) sliceFits_S1600_S1) shapeCasts_S1_S_)) l))

theorem slices_at1 (n : ℕ) (hn : n < 1600) : S1600.Slices ![n] S1 :=
  ⟨rfl, fun a => by
    match a with
    | ⟨0, _⟩ => exact (show n + 1 ≤ 1600 by omega)⟩

theorem maskR_apply (n : ℕ) (hn : n < 1600) (l : IVec S32 32) (d : Fin 2) (b : Fin 32) (u : Fin 256) :
    maskR (iotaInDim S1600 32 0) (fun _ => BitVec.ofNat 32 n) l (ix3 d b u) = IntOp.cmpi .slt (BitVec.ofNat 32 n) (l (ix1 b)) := by
  unfold maskR
  rw [Host.dynamicSlice_eq_extractStridedSlice S1 (iotaInDim S1600 32 0) _ ![n] _ (slices_at1 n hn) (fun a => by
    match a with
    | ⟨0, _⟩ => exact toInt_ofNat_of_lt (show n < 2 ^ 31 by omega))]
  simp only [pointwise]
  simp

theorem slices_at2 (n : ℕ) (hn : n < 1600) : S1600x2x32x256.Slices ![n, 0, 0, 0] S1x2x32x256 :=
  ⟨rfl, fun a => by
    match a with
    | ⟨0, _⟩ => exact (show n + 1 ≤ 1600 by omega)
    | ⟨1, _⟩ => exact (show 0 + 2 ≤ 2 by omega)
    | ⟨2, _⟩ => exact (show 0 + 32 ≤ 32 by omega)
    | ⟨3, _⟩ => exact (show 0 + 256 ≤ 256 by omega)⟩

/-- A trip's write to the outputs. -/
def putR (y : FVec Ideal S1600x2x32x256 .f32) (k : IVec S_ 32) (o : FVec Ideal S2x32x256 .f32) : FVec Ideal S1600x2x32x256 .f32 :=
  Host.dynamicUpdateSlice y (broadcastInDim S1x2x32x256 ![1, 2, 3] bcast_S2x32x256_S1x2x32x256_1_2_3 o) (start k) updateFits_S1600x2x32x256_S1x2x32x256

theorem putR_apply (y : FVec Ideal S1600x2x32x256 .f32) (n : ℕ) (hn : n < 1600) (o : FVec Ideal S2x32x256 .f32) (t : Fin 1600) (d : Fin 2)
    (b : Fin 32) (u : Fin 256) : (putR y (fun _ => BitVec.ofNat 32 n) o (ix4 t d b u) : EReal) = if t.val = n then o (ix3 d b u) else y (ix4 t d b u) := by
  unfold putR
  refine (congrFun (Host.dynamicUpdateSlice_eq_updateSlice y _ (start (fun _ => BitVec.ofNat 32 n)) updateFits_S1600x2x32x256_S1x2x32x256 ![n, 0, 0, 0]
    (fun a => ?_) (slices_at2 n hn)) _).trans ?_
  · rw [start_at n hn]
    match a with
    | ⟨0, _⟩ => show (min (max (n : ℤ) 0) 1599).toNat = n; omega
    | ⟨1, _⟩ => rfl
    | ⟨2, _⟩ => rfl
    | ⟨3, _⟩ => rfl
  simp only [pointwise]
  by_cases h : t.val = n
  · rw [if_pos h]
    refine (dif_pos (by simp; omega)).trans ?_
    simp
  · rw [if_neg h]
    exact dif_neg (by simp; omega)

/-! ## The trip's results are these -/

variable (V : Valuation τ sig (Elt Ideal))

theorem v50_eq : res_main_while0b_v50 V = gates (V (Proc.devRef .tc main_v27_0)) (V (Proc.devRef .tc main_v27_2)) (V (Proc.devRef .tc main_v27_3)) (V (Proc.devRef .tc main_v27_4))
    (V (Proc.devRef .tc main_v27_6)) (V (Proc.devRef .tc main_v27_7)) := rfl
theorem v70_eq : res_main_while0b_v70 V = cellR (res_main_while0b_v50 V) (V (Proc.devRef .tc main_v27_8)) := rfl
theorem v78_eq : res_main_while0b_v78 V = hidR (res_main_while0b_v50 V) (V (Proc.devRef .tc main_v27_8)) := rfl
theorem v81_eq : broadcastInDim S2x32x256 ![0, 1, 2] bcast_S1x32x1_S2x32x256_0_1_2 (res_main_while0b_v81 V)
    = maskR (V (Proc.devRef .tc main_v27_1)) (V (Proc.devRef .tc main_v27_6)) (V (Proc.devRef .tc main_v27_5)) := rfl
theorem h_eq : step_main_v27_7 V = select (maskR (V (Proc.devRef .tc main_v27_1)) (V (Proc.devRef .tc main_v27_6)) (V (Proc.devRef .tc main_v27_5)))
    (res_main_while0b_v78 V) (V (Proc.devRef .tc main_v27_7)) := rfl
theorem c_eq : step_main_v27_8 V = select (maskR (V (Proc.devRef .tc main_v27_1)) (V (Proc.devRef .tc main_v27_6)) (V (Proc.devRef .tc main_v27_5)))
    (res_main_while0b_v70 V) (V (Proc.devRef .tc main_v27_8)) := rfl
/-- What a trip puts out. -/
def outR : FVec Ideal S2x32x256 .f32 :=
  select (broadcastInDim S2x32x256 ![0, 1, 2] bcast_S1x32x1_S2x32x256_0_1_2 (res_main_while0b_v81 V)) (res_main_while0b_v78 V)
    (broadcastInDim S2x32x256 ![] bcast_S_S2x32x256 (id (constant (F := Ideal) S_ .f32 0x00000000#32)))
theorem y_eq : step_main_v27_9 V = putR (V (Proc.devRef .tc main_v27_9)) (V (Proc.devRef .tc main_v27_6)) (outR V) := by
  unfold step_main_v27_9 putR outR start
  rfl

/-! ## A trip as a step of every row -/

/-- The carried arrays. -/
abbrev xR : FVec Ideal S1600x2x32x80 .f32 := V (Proc.devRef .tc main_v27_0)
abbrev iR : FVec Ideal S2x1024x80 .f32 := V (Proc.devRef .tc main_v27_2)
abbrev wR : FVec Ideal S2x1024x256 .f32 := V (Proc.devRef .tc main_v27_3)
abbrev bR : FVec Ideal S2x1024 .f32 := V (Proc.devRef .tc main_v27_4)
abbrev lR : IVec S32 32 := V (Proc.devRef .tc main_v27_5)
abbrev hR : FVec Ideal S2x32x256 .f32 := V (Proc.devRef .tc main_v27_7)
abbrev cR : FVec Ideal S2x32x256 .f32 := V (Proc.devRef .tc main_v27_8)
abbrev yR : FVec Ideal S1600x2x32x256 .f32 := V (Proc.devRef .tc main_v27_9)

/-- A row's state. -/
def rowR (d : Fin 2) (b : Fin 32) : Lstm.St := (fun u => hR V (ix3 d b u), fun u => cR V (ix3 d b u))

theorem select_slt {α : Type} (x y : BitVec 32) (a b : α) :
    Scalar.select (IntOp.cmpi CmpIPredicate.slt x y) a b = if x.toInt < y.toInt then a else b := by
  by_cases h : x.toInt < y.toInt <;> simp [Scalar.select, IntOp.cmpi, BitVec.slt, h]

section Trip
variable (n : ℕ) (hn : n < 1600) (h6 : V (Proc.devRef .tc main_v27_6) = fun _ => BitVec.ofNat 32 n)
  (h1 : V (Proc.devRef .tc main_v27_1) = iotaInDim S1600 32 0)
include hn h6 h1

theorem pre_row (d : Fin 2) (b : Fin 32) : (fun g : Fin 1024 => (gates (xR V) (iR V) (wR V) (bR V) (V (Proc.devRef .tc main_v27_6)) (hR V) (ix3 d b g) : EReal))
    = Lstm.pre (fun g => ∑ k : Fin 80, xR V (ix4 ⟨n, hn⟩ d b k) * iR V (ix3 d g k)) (fun g k => wR V (ix3 d g k)) (fun g => bR V (ix2 d g)) (rowR V d b).1 := by
  funext g
  rw [h6]
  exact gates_apply _ _ _ _ n hn _ d b g

theorem v78_row (d : Fin 2) (b : Fin 32) (u : Fin 256) : (res_main_while0b_v78 V (ix3 d b u) : EReal)
    = Lstm.newH (Lstm.pre (fun g => ∑ k : Fin 80, xR V (ix4 ⟨n, hn⟩ d b k) * iR V (ix3 d g k)) (fun g k => wR V (ix3 d g k)) (fun g => bR V (ix2 d g)) (rowR V d b).1) (rowR V d b).2 u := by
  rw [v78_eq, v50_eq, ← pre_row V n hn h6 h1 d b]
  exact hidR_apply _ _ d b u

theorem v70_row (d : Fin 2) (b : Fin 32) (u : Fin 256) : (res_main_while0b_v70 V (ix3 d b u) : EReal)
    = Lstm.newC (Lstm.pre (fun g => ∑ k : Fin 80, xR V (ix4 ⟨n, hn⟩ d b k) * iR V (ix3 d g k)) (fun g k => wR V (ix3 d g k)) (fun g => bR V (ix2 d g)) (rowR V d b).1) (rowR V d b).2 u := by
  rw [v70_eq, v50_eq, ← pre_row V n hn h6 h1 d b]
  exact cellR_apply _ _ d b u

theorem mask_row (d : Fin 2) (b : Fin 32) (u : Fin 256) {α : Type} (a a' : α) :
    Scalar.select (maskR (V (Proc.devRef .tc main_v27_1)) (V (Proc.devRef .tc main_v27_6)) (V (Proc.devRef .tc main_v27_5)) (ix3 d b u)) a a'
      = if (n : ℤ) < (lR V (ix1 b)).toInt then a else a' := by
  rw [h6, h1]
  refine (congrArg (fun z => Scalar.select z a a') (maskR_apply n hn (lR V) d b u)).trans ?_
  rw [select_slt, toInt_ofNat_of_lt (show n < 2 ^ 31 by omega)]

theorem step_row (d : Fin 2) (b : Fin 32) : rowR (STEP V) d b = Lstm.step ((n : ℤ) < (lR V (ix1 b)).toInt) (fun g => ∑ k : Fin 80, xR V (ix4 ⟨n, hn⟩ d b k) * iR V (ix3 d g k))
    (fun g k => wR V (ix3 d g k)) (fun g => bR V (ix2 d g)) (rowR V d b) := by
  have eh : ∀ u, (hR (STEP V) (ix3 d b u) : EReal) = if (n : ℤ) < (lR V (ix1 b)).toInt then res_main_while0b_v78 V (ix3 d b u) else hR V (ix3 d b u) := fun u => by
    refine (congrFun ((STEP_main_v27_7 V).trans (h_eq V)) _).trans ?_
    exact mask_row V n hn h6 h1 d b u _ _
  have ec : ∀ u, (cR (STEP V) (ix3 d b u) : EReal) = if (n : ℤ) < (lR V (ix1 b)).toInt then res_main_while0b_v70 V (ix3 d b u) else cR V (ix3 d b u) := fun u => by
    refine (congrFun ((STEP_main_v27_8 V).trans (c_eq V)) _).trans ?_
    exact mask_row V n hn h6 h1 d b u _ _
  by_cases h : (n : ℤ) < (lR V (ix1 b)).toInt
  · rw [Lstm.step_pos h]
    refine Prod.ext (funext fun u => ?_) (funext fun u => ?_)
    · exact (eh u).trans ((if_pos h).trans (v78_row V n hn h6 h1 d b u))
    · exact (ec u).trans ((if_pos h).trans (v70_row V n hn h6 h1 d b u))
  · rw [Lstm.step_neg h]
    refine Prod.ext (funext fun u => ?_) (funext fun u => ?_)
    · exact (eh u).trans (if_neg h)
    · exact (ec u).trans (if_neg h)

theorem step_out (t : Fin 1600) (d : Fin 2) (b : Fin 32) (u : Fin 256) : (yR (STEP V) (ix4 t d b u) : EReal)
    = if t.val = n then (if (n : ℤ) < (lR V (ix1 b)).toInt then (rowR (STEP V) d b).1 u else 0) else yR V (ix4 t d b u) := by
  refine (congrFun ((STEP_main_v27_9 V).trans (y_eq V)) _).trans ?_
  rw [h6]
  refine (putR_apply _ n hn _ t d b u).trans ?_
  refine congrArg (fun z : EReal => if t.val = n then z else yR V (ix4 t d b u)) ?_
  have e : (outR V (ix3 d b u) : EReal) = if (n : ℤ) < (lR V (ix1 b)).toInt then (res_main_while0b_v78 V (ix3 d b u) : EReal) else (0 : EReal) := by
    unfold outR
    rw [v81_eq]
    refine (mask_row V n hn h6 h1 d b u _ _).trans ?_
    refine congrArg (fun z : EReal => if (n : ℤ) < (lR V (ix1 b)).toInt then (res_main_while0b_v78 V (ix3 d b u) : EReal) else z) ?_
    simp only [pointwise, id]
  rw [e]
  by_cases h : (n : ℤ) < (lR V (ix1 b)).toInt
  · rw [if_pos h, if_pos h, step_row V n hn h6 h1 d b, Lstm.step_pos h]
    exact v78_row V n hn h6 h1 d b u
  · rw [if_neg h, if_neg h]

end Trip

/-! ## The loop's entry -/

variable (m : (ℓ : Loc nD τ sig) → Buf (Elt Ideal) ℓ) (c : Dev nD)

/-- The loop's entry. -/
abbrev En : Valuation τ sig (Elt Ideal) := entryContents preI m c

theorem En_ctr : En m c (Proc.devRef .tc main_v27_6) = fun _ => BitVec.ofNat 32 0 := ctr_entry m c
theorem En_iota : En m c (Proc.devRef .tc main_v27_1) = iotaInDim S1600 32 0 := by
  simp only [entryContents, afterL_cons, afterL_nil]
  after_results_entrywise []
theorem En_len : lR (En m c) = m ((c : Thread nD τ).loc main_arg1) := by
  show entryContents preI m c (Proc.devRef .tc main_v27_5) = _
  simp only [entryContents, afterL_cons, afterL_nil]
  after_results_entrywise []
theorem En_h : hR (En m c) = broadcastInDim S2x32x256 ![] bcast_S_S2x32x256 (constant S_ .f32 0x00000000#32) := by
  show entryContents preI m c (Proc.devRef .tc main_v27_7) = _
  simp only [entryContents, afterL_cons, afterL_nil]
  after_results_entrywise []
theorem En_c : cR (En m c) = broadcastInDim S2x32x256 ![] bcast_S_S2x32x256 (constant S_ .f32 0x00000000#32) := by
  show entryContents preI m c (Proc.devRef .tc main_v27_8) = _
  simp only [entryContents, afterL_cons, afterL_nil]
  after_results_entrywise []

theorem En_row (d : Fin 2) (b : Fin 32) : rowR (En m c) d b = (fun _ => 0, fun _ => 0) := by
  unfold rowR
  rw [En_h, En_c]
  simp only [pointwise]

/-- The weights, one direction after the other. -/
def Wr (wf wb : FVec Ideal S1024x256 .f32) : FVec Ideal S2x1024x256 .f32 :=
  concatenate S2x1024x256 0 [⟨S1x1024x256, broadcastInDim S1x1024x256 ![1, 2] bcast_S1024x256_S1x1024x256_1_2 wf⟩,
    ⟨S1x1024x256, broadcastInDim S1x1024x256 ![1, 2] bcast_S1024x256_S1x1024x256_1_2 wb⟩] concatenates_S1x1024x256_S1x1024x256_S2x1024x256_d0
theorem Wr_apply (wf wb : FVec Ideal S1024x256 .f32) (d : Fin 2) (g : Fin 1024) (k : Fin 256) :
    (Wr wf wb (ix3 d g k) : EReal) = if d.val = 0 then wf (ix2 g k) else wb (ix2 g k) := by
  unfold Wr
  simp only [pointwise]
  fin_cases d <;> simp
theorem En_w : wR (En m c) = Wr (m ((c : Thread nD τ).loc main_arg3)) (m ((c : Thread nD τ).loc main_arg6)) := by
  show entryContents preI m c (Proc.devRef .tc main_v27_3) = _
  simp only [entryContents, afterL_cons, afterL_nil]
  unfold Wr
  after_results_entrywise []

/-- The input weights, one direction after the other. -/
def Ir (wf wb : FVec Ideal S1024x80 .f32) : FVec Ideal S2x1024x80 .f32 :=
  concatenate S2x1024x80 0 [⟨S1x1024x80, broadcastInDim S1x1024x80 ![1, 2] bcast_S1024x80_S1x1024x80_1_2 wf⟩,
    ⟨S1x1024x80, broadcastInDim S1x1024x80 ![1, 2] bcast_S1024x80_S1x1024x80_1_2 wb⟩] concatenates_S1x1024x80_S1x1024x80_S2x1024x80_d0
theorem Ir_apply (wf wb : FVec Ideal S1024x80 .f32) (d : Fin 2) (g : Fin 1024) (k : Fin 80) :
    (Ir wf wb (ix3 d g k) : EReal) = if d.val = 0 then wf (ix2 g k) else wb (ix2 g k) := by
  unfold Ir
  simp only [pointwise]
  fin_cases d <;> simp
theorem En_i : iR (En m c) = Ir (m ((c : Thread nD τ).loc main_arg2)) (m ((c : Thread nD τ).loc main_arg5)) := by
  show entryContents preI m c (Proc.devRef .tc main_v27_2) = _
  simp only [entryContents, afterL_cons, afterL_nil]
  unfold Ir
  after_results_entrywise []

/-- The biases. -/
def Br (bf bb : FVec Ideal S1024 .f32) : FVec Ideal S2x1024 .f32 :=
  concatenate S2x1024 0 [⟨S1x1024, broadcastInDim S1x1024 ![1] bcast_S1024_S1x1024_1 bf⟩, ⟨S1x1024, broadcastInDim S1x1024 ![1] bcast_S1024_S1x1024_1 bb⟩]
    concatenates_S1x1024_S1x1024_S2x1024_d0
theorem Br_apply (bf bb : FVec Ideal S1024 .f32) (d : Fin 2) (g : Fin 1024) : (Br bf bb (ix2 d g) : EReal) = if d.val = 0 then bf (ix1 g) else bb (ix1 g) := by
  unfold Br
  simp only [pointwise]
  fin_cases d <;> simp
theorem En_b : bR (En m c) = Br (m ((c : Thread nD τ).loc main_arg4)) (m ((c : Thread nD τ).loc main_arg7)) := by
  show entryContents preI m c (Proc.devRef .tc main_v27_4) = _
  simp only [entryContents, afterL_cons, afterL_nil]
  unfold Br
  after_results_entrywise []

/-- The places read backwards. -/
def places (l : IVec S32 32) : IVec S1600x32x1 32 :=
  select (cmpi .slt (broadcastInDim S1600x32x1 ![0, 1] bcast_S1600x32_S1600x32x1_0_1 (subi (broadcastInDim S1600x32 ![0, 1] bcast_S1x32_S1600x32_0_1 (subi (broadcastInDim S1x32 ![1] bcast_S32_S1x32_1 l) (broadcastInDim S1x32 ![] bcast_S_S1x32 (constantI S_ 32 1#32)))) (broadcastInDim S1600x32 ![0, 1] bcast_S1600x1_S1600x32_0_1 (broadcastInDim S1600x1 ![0] bcast_S1600_S1600x1_0 (iotaInDim S1600 32 0))))) (broadcastInDim S1600x32x1 ![] bcast_S_S1600x32x1 (constantI S_ 32 0#32))) (addi (broadcastInDim S1600x32x1 ![0, 1] bcast_S1600x32_S1600x32x1_0_1 (subi (broadcastInDim S1600x32 ![0, 1] bcast_S1x32_S1600x32_0_1 (subi (broadcastInDim S1x32 ![1] bcast_S32_S1x32_1 l) (broadcastInDim S1x32 ![] bcast_S_S1x32 (constantI S_ 32 1#32)))) (broadcastInDim S1600x32 ![0, 1] bcast_S1600x1_S1600x32_0_1 (broadcastInDim S1600x1 ![0] bcast_S1600_S1600x1_0 (iotaInDim S1600 32 0))))) (broadcastInDim S1600x32x1 ![] bcast_S_S1600x32x1 (constantI S_ 32 1600#32))) (broadcastInDim S1600x32x1 ![0, 1] bcast_S1600x32_S1600x32x1_0_1 (subi (broadcastInDim S1600x32 ![0, 1] bcast_S1x32_S1600x32_0_1 (subi (broadcastInDim S1x32 ![1] bcast_S32_S1x32_1 l) (broadcastInDim S1x32 ![] bcast_S_S1x32 (constantI S_ 32 1#32)))) (broadcastInDim S1600x32 ![0, 1] bcast_S1600x1_S1600x32_0_1 (broadcastInDim S1600x1 ![0] bcast_S1600_S1600x1_0 (iotaInDim S1600 32 0)))))

theorem places_apply (l : IVec S32 32) (t : Fin 1600) (b : Fin 32) :
    min (places l (ix3 t b 0)).toInt.toNat (1600 - 1) = Reverse.place 1600 (l (ix1 b)) t.val := by
  unfold places Reverse.place
  simp only [pointwise]
  rfl

/-- The two directions' sequences of inputs. -/
def Xr (ml : FVec Ideal S32x80x1600 .f32) (l : IVec S32 32) : FVec Ideal S1600x2x32x80 .f32 :=
  concatenate S1600x2x32x80 1 [⟨S1600x1x32x80, broadcastInDim S1600x1x32x80 ![0, 2, 3] bcast_S1600x32x80_S1600x1x32x80_0_2_3
      (transpose S1600x32x80 [2, 0, 1] ml transposes_S32x80x1600_S1600x32x80_2_0_1)⟩,
    ⟨S1600x1x32x80, broadcastInDim S1600x1x32x80 ![0, 2, 3] bcast_S1600x32x80_S1600x1x32x80_0_2_3
      (Host.gather gather_S1600x32x80_S1600x32x1_S1600x32x80_2_0_1_1_0_2_1180
        (transpose S1600x32x80 [2, 0, 1] ml transposes_S32x80x1600_S1600x32x80_2_0_1) (places l))⟩]
    concatenates_S1600x1x32x80_S1600x1x32x80_S1600x2x32x80_d1

theorem En_x : xR (En m c) = Xr (m ((c : Thread nD τ).loc main_arg0)) (m ((c : Thread nD τ).loc main_arg1)) := by
  show entryContents preI m c (Proc.devRef .tc main_v27_0) = _
  simp only [entryContents, afterL_cons, afterL_nil]
  unfold Xr places
  after_results_entrywise []

theorem gather_x (x : FVec Ideal S1600x32x80 .f32) (l : IVec S32 32) (t : Fin 1600) (b : Fin 32) (k : Fin 80) :
    (Host.gather gather_S1600x32x80_S1600x32x1_S1600x32x80_2_0_1_1_0_2_1180 x (places l) (ix3 t b k) : EReal)
      = x (ix3 ⟨Reverse.place 1600 (l (ix1 b)) t.val, Reverse.place_lt (by decide) _ _⟩ b k) := by
  refine (Reverse.gather_at (by decide) gather_S1600x32x80_S1600x32x1_S1600x32x80_2_0_1_1_0_2_1180_wf x (places l) t b k).trans ?_
  exact congrArg x (congrArg (fun j => ix3 j b k) (Fin.ext (places_apply l t b)))

theorem stack_fst (x y : FVec Ideal S1600x1x32x80 .f32) (t : Fin 1600) (b : Fin 32) (k : Fin 80) :
    (concatenate S1600x2x32x80 1 [⟨S1600x1x32x80, x⟩, ⟨S1600x1x32x80, y⟩] concatenates_S1600x1x32x80_S1600x1x32x80_S1600x2x32x80_d1 (ix4 t 0 b k) : EReal)
      = x (ix4 t 0 b k) := by
  refine (concatenate_pair_apply _ _ _ _ _).trans ?_
  refine (dif_pos (show (0 : ℕ) < 1 from Nat.one_pos)).trans ?_
  exact congrArg x (by funext k; fin_cases k <;> rfl)
theorem stack_snd (x y : FVec Ideal S1600x1x32x80 .f32) (t : Fin 1600) (b : Fin 32) (k : Fin 80) :
    (concatenate S1600x2x32x80 1 [⟨S1600x1x32x80, x⟩, ⟨S1600x1x32x80, y⟩] concatenates_S1600x1x32x80_S1600x1x32x80_S1600x2x32x80_d1 (ix4 t 1 b k) : EReal)
      = y (ix4 t 0 b k) := by
  refine (concatenate_pair_apply _ _ _ _ _).trans ?_
  refine (dif_neg (show ¬ (1 : ℕ) < 1 from Nat.lt_irrefl 1)).trans ?_
  exact congrArg y (by funext k; fin_cases k <;> rfl)

theorem lift_apply (x : FVec Ideal S1600x32x80 .f32) (t : Fin 1600) (b : Fin 32) (k : Fin 80) :
    (broadcastInDim S1600x1x32x80 ![0, 2, 3] bcast_S1600x32x80_S1600x1x32x80_0_2_3 x (ix4 t 0 b k) : EReal) = x (ix3 t b k) := by
  simp only [pointwise]
  simp
theorem turn_apply (ml : FVec Ideal S32x80x1600 .f32) (t : Fin 1600) (b : Fin 32) (k : Fin 80) :
    (transpose S1600x32x80 [2, 0, 1] ml transposes_S32x80x1600_S1600x32x80_2_0_1 (ix3 t b k) : EReal) = ml (ix3 b k t) := by
  simp only [pointwise]
theorem Xr_fwd (ml : FVec Ideal S32x80x1600 .f32) (l : IVec S32 32) (t : Fin 1600) (b : Fin 32) (k : Fin 80) :
    (Xr ml l (ix4 t 0 b k) : EReal) = ml (ix3 b k t) := by
  unfold Xr
  rw [stack_fst]
  exact (lift_apply _ t b k).trans (turn_apply ml t b k)
theorem Xr_bwd (ml : FVec Ideal S32x80x1600 .f32) (l : IVec S32 32) (t : Fin 1600) (b : Fin 32) (k : Fin 80) :
    (Xr ml l (ix4 t 1 b k) : EReal) = ml (ix3 b k ⟨Reverse.place 1600 (l (ix1 b)) t.val, Reverse.place_lt (by decide) _ _⟩) := by
  unfold Xr
  rw [stack_snd]
  refine (lift_apply _ t b k).trans ?_
  rw [gather_x]
  exact turn_apply ml _ b k

/-! ## The loop -/

theorem iter_keep (n : ℕ) : (STEP^[n] (En m c)) (Proc.devRef .tc main_v27_0) = En m c (Proc.devRef .tc main_v27_0)
    ∧ (STEP^[n] (En m c)) (Proc.devRef .tc main_v27_1) = En m c (Proc.devRef .tc main_v27_1)
    ∧ (STEP^[n] (En m c)) (Proc.devRef .tc main_v27_2) = En m c (Proc.devRef .tc main_v27_2)
    ∧ (STEP^[n] (En m c)) (Proc.devRef .tc main_v27_3) = En m c (Proc.devRef .tc main_v27_3)
    ∧ (STEP^[n] (En m c)) (Proc.devRef .tc main_v27_4) = En m c (Proc.devRef .tc main_v27_4)
    ∧ (STEP^[n] (En m c)) (Proc.devRef .tc main_v27_5) = En m c (Proc.devRef .tc main_v27_5)
    ∧ (STEP^[n] (En m c)) (Proc.devRef .tc main_v27_6) = fun _ => BitVec.ofNat 32 n := by
  induction n with
  | zero => exact ⟨rfl, rfl, rfl, rfl, rfl, rfl, En_ctr m c⟩
  | succ n ih =>
    obtain ⟨h0, h1, h2, h3, h4, h5, h6⟩ := ih
    rw [Function.iterate_succ_apply']
    refine ⟨(STEP_main_v27_0 _).trans h0, (STEP_main_v27_1 _).trans h1, (STEP_main_v27_2 _).trans h2, (STEP_main_v27_3 _).trans h3,
      (STEP_main_v27_4 _).trans h4, (STEP_main_v27_5 _).trans h5, (STEP_main_v27_6 _).trans ?_⟩
    unfold step_main_v27_6
    rw [h6]
    funext i
    show BitVec.ofNat 32 n + 1#32 = BitVec.ofNat 32 (n + 1)
    exact (BitVec.ofNat_add n 1).symm

/-- A row's inputs, mask and weights in the loop. -/
abbrev yE (d : Fin 2) (b : Fin 32) (n : ℕ) (g : Fin 1024) : EReal := if h : n < 1600 then ∑ k : Fin 80, xR (En m c) (ix4 ⟨n, h⟩ d b k) * iR (En m c) (ix3 d g k) else 0
abbrev runE (d : Fin 2) (b : Fin 32) (n : ℕ) : Lstm.St :=
  Lstm.run (fun n => (n : ℤ) < (lR (En m c) (ix1 b)).toInt) (yE m c d b) (fun g k => wR (En m c) (ix3 d g k)) (fun g => bR (En m c) (ix2 d g)) n

theorem iter_row (n : ℕ) (hn : n ≤ 1600) (d : Fin 2) (b : Fin 32) : rowR (STEP^[n] (En m c)) d b = runE m c d b n := by
  induction n with
  | zero => exact En_row m c d b
  | succ n ih =>
    obtain ⟨h0, h1, h2, h3, h4, h5, h6⟩ := iter_keep m c n
    rw [Function.iterate_succ_apply']
    refine (step_row _ n hn h6 (h1.trans (En_iota m c)) d b).trans ?_
    rw [ih (Nat.le_of_succ_le hn)]
    show Lstm.step _ _ _ _ _ = Lstm.step _ _ _ _ _
    have e : yE m c d b n = fun g => ∑ k : Fin 80, xR (En m c) (ix4 ⟨n, hn⟩ d b k) * iR (En m c) (ix3 d g k) := funext fun g => dif_pos hn
    rw [e]
    unfold xR iR wR bR lR
    rw [h0, h2, h3, h4, h5]

theorem iter_out (n : ℕ) (hn : n ≤ 1600) (t : Fin 1600) (ht : t.val < n) (d : Fin 2) (b : Fin 32) (u : Fin 256) :
    (yR (STEP^[n] (En m c)) (ix4 t d b u) : EReal)
      = if (t.val : ℤ) < (lR (En m c) (ix1 b)).toInt then (runE m c d b (t.val + 1)).1 u else 0 := by
  induction n with
  | zero => exact absurd ht (Nat.not_lt_zero _)
  | succ n ih =>
    obtain ⟨h0, h1, h2, h3, h4, h5, h6⟩ := iter_keep m c n
    have hr := iter_row m c (n + 1) hn d b
    rw [Function.iterate_succ_apply'] at hr ⊢
    refine (step_out _ n hn h6 (h1.trans (En_iota m c)) t d b u).trans ?_
    by_cases h : t.val = n
    · rw [if_pos h, hr, h]
      unfold lR
      rw [h5]
    · rw [if_neg h]
      exact ih (Nat.le_of_succ_le hn) (by omega)

/-! ## The result -/

/-- The forward outputs beside the backward ones put back in order. -/
def joinR (y : FVec Ideal S1600x2x32x256 .f32) (l : IVec S32 32) : FVec Ideal S1600x32x512 .f32 :=
  concatenate S1600x32x512 2 [⟨S1600x32x256, (shapeCast _ (extractStridedSlice S1600x1x32x256 ![0, 0, 0, 0] y slices_S1600x2x32x256_S1600x1x32x256_0_0_0_0) shapeCasts_S1600x1x32x256_S1600x32x256)⟩,
    ⟨S1600x32x256, (Host.gather gather_S1600x32x256_S1600x32x1_S1600x32x256_2_0_1_1_0_2_11256 (shapeCast _ (extractStridedSlice S1600x1x32x256 ![0, 1, 0, 0] y slices_S1600x2x32x256_S1600x1x32x256_0_1_0_0) shapeCasts_S1600x1x32x256_S1600x32x256) (places l))⟩]
    concatenates_S1600x32x256_S1600x32x256_S1600x32x512_d2

theorem out_eq (V : Valuation τ sig (Elt Ideal)) : out_main_v42 V = joinR (yR V) (V (Proc.devRef .tc main_arg1)) := by
  unfold out_main_v42 joinR places
  rfl

theorem joinR_fwd (y : FVec Ideal S1600x2x32x256 .f32) (l : IVec S32 32) (t : Fin 1600) (b : Fin 32) (u : Fin 512) (h : u.val < 256) :
    (joinR y l (ix3 t b u) : EReal) = y (ix4 t 0 b ⟨u.val, h⟩) := by
  unfold joinR
  refine (concatenate_pair_apply _ _ _ _ _).trans ?_
  refine (dif_pos (show u.val < 256 from h)).trans ?_
  refine Eq.trans (congrArg _ (by funext k; fin_cases k <;> rfl : _ = ix3 t b ⟨u.val, h⟩)) ?_
  simp only [pointwise]
  simp

theorem joinR_bwd (y : FVec Ideal S1600x2x32x256 .f32) (l : IVec S32 32) (t : Fin 1600) (b : Fin 32) (u : Fin 512) (h : ¬ u.val < 256) :
    (joinR y l (ix3 t b u) : EReal)
      = y (ix4 ⟨Reverse.place 1600 (l (ix1 b)) t.val, Reverse.place_lt (by decide) _ _⟩ 1 b ⟨u.val - 256, by omega⟩) := by
  unfold joinR
  refine (concatenate_pair_apply _ _ _ _ _).trans ?_
  refine (dif_neg (show ¬ u.val < 256 from h)).trans ?_
  refine Eq.trans (congrArg _ (by funext k; fin_cases k <;> rfl : _ = ix3 t b ⟨u.val - 256, by omega⟩)) ?_
  refine (Reverse.gather_at (by decide) gather_S1600x32x256_S1600x32x1_S1600x32x256_2_0_1_1_0_2_11256_wf _ (places l) t b _).trans ?_
  refine Eq.trans (congrArg _ (congrArg (fun k : Fin 1600 => ix3 k b (⟨u.val - 256, by omega⟩ : Fin 256))
    (Fin.ext (places_apply l t b) : _ = (⟨Reverse.place 1600 (l (ix1 b)) t.val, Reverse.place_lt (by decide) _ _⟩ : Fin 1600)))) ?_
  simp only [pointwise]
  simp

end Cert.Proof.LayerOneRefValue

end
-- ==== Proof.LayerOneValue.lean ====
/- Hand-written, untrusted: THE FIRST LAYER'S VALUE CLAIM — the reference's loop leaves the kernel's array, where every length
   lies in the sequence. -/
module

public import proofs.«01_k».proof.Proof.LayerOneKernel
public import proofs.«01_k».proof.Proof.LayerOneRef
public import proofs.«01_k».proof.Defs

@[expose] public section

set_option maxRecDepth 16384

noncomputable section

namespace Cert.Proof.LayerOneRefValue

open Idealize.ShloMosaic Idealize.ShloMosaic.TcCoe Idealize.SL.Sem
open Cert.LayerOneRefIdeal Cert.LayerOneRefIdeal.Value

variable (m : (ℓ : Loc nD τ sig) → Buf (Elt Ideal) ℓ) (c : Dev nD)

/-- The arguments. -/
abbrev a0 : FVec Ideal S32x80x1600 .f32 := m ((c : Thread nD τ).loc main_arg0)
abbrev a1 : IVec S32 32 := m ((c : Thread nD τ).loc main_arg1)
abbrev a2 : FVec Ideal S1024x80 .f32 := m ((c : Thread nD τ).loc main_arg2)
abbrev a3 : FVec Ideal S1024x256 .f32 := m ((c : Thread nD τ).loc main_arg3)
abbrev a4 : FVec Ideal S1024 .f32 := m ((c : Thread nD τ).loc main_arg4)
abbrev a5 : FVec Ideal S1024x80 .f32 := m ((c : Thread nD τ).loc main_arg5)
abbrev a6 : FVec Ideal S1024x256 .f32 := m ((c : Thread nD τ).loc main_arg6)
abbrev a7 : FVec Ideal S1024 .f32 := m ((c : Thread nD τ).loc main_arg7)

theorem i_eq (d : Fin 2) (g : Fin 1024) (k : Fin 80) : (iR (En m c) (ix3 d g k) : EReal) = LayerOneValue.wi (a2 m c) (a5 m c) d g k := by
  rw [En_i]
  exact Ir_apply _ _ d g k
theorem w_eq (d : Fin 2) : (fun g k => (wR (En m c) (ix3 d g k) : EReal)) = LayerOneValue.wh (a3 m c) (a6 m c) d := by
  funext g k
  rw [En_w]
  exact Wr_apply _ _ d g k
theorem b_eq (d : Fin 2) : (fun g => (bR (En m c) (ix2 d g) : EReal)) = LayerOneValue.bi (a4 m c) (a7 m c) d := by
  funext g
  rw [En_b]
  exact Br_apply _ _ d g
theorem len_eq (b : Fin 32) : (lR (En m c) (ix1 b)).toInt = LayerOneValue.len (a1 m c) b := by
  rw [En_len]; rfl

theorem y_fwd (b : Fin 32) (n : ℕ) (hn : n < 1600) : yE m c 0 b n = LayerOneValue.gx (a0 m c) (a2 m c) (a5 m c) 0 b n := by
  funext g
  unfold yE LayerOneValue.gx
  rw [dif_pos hn]
  refine Finset.sum_congr rfl fun k _ => ?_
  rw [i_eq, En_x]
  refine congrArg (· * LayerOneValue.wi (a2 m c) (a5 m c) 0 g k) ?_
  unfold LayerOneValue.xs
  rw [dif_pos hn]
  exact Xr_fwd _ _ ⟨n, hn⟩ b k

theorem y_bwd (b : Fin 32) (n : ℕ) (h0 : 0 ≤ LayerOneValue.len (a1 m c) b) (hl : LayerOneValue.len (a1 m c) b ≤ 1600)
    (hn : (n : ℤ) < LayerOneValue.len (a1 m c) b) :
    yE m c 1 b n = LayerOneValue.gx (a0 m c) (a2 m c) (a5 m c) 1 b (LayerOneValue.len (a1 m c) b - 1 - n).toNat := by
  funext g
  have hn' : n < 1600 := by omega
  have hp := Reverse.place_eq (T := 1600) (by decide) (a1 m c (ix1 b)) h0 hl n hn'
  rw [if_pos (show (n : ℤ) < (a1 m c (ix1 b)).toInt from hn)] at hp
  have e : Reverse.place 1600 (a1 m c (ix1 b)) n = (LayerOneValue.len (a1 m c) b - 1 - n).toNat := by
    show _ = (((a1 m c (ix1 b)).toInt : ℤ) - 1 - n).toNat
    omega
  unfold yE LayerOneValue.gx
  rw [dif_pos hn']
  refine Finset.sum_congr rfl fun k _ => ?_
  rw [i_eq, En_x]
  refine congrArg (· * LayerOneValue.wi (a2 m c) (a5 m c) 1 g k) ?_
  unfold LayerOneValue.xs
  rw [dif_pos (by omega)]
  refine (Xr_bwd _ _ ⟨n, hn'⟩ b k).trans ?_
  exact congrArg (a0 m c) (congrArg (fun j => ix3 b k j) (Fin.ext e))

theorem run_eq (d : Fin 2) (b : Fin 32) (n : ℕ) : runE m c d b n
    = Lstm.run (fun n => (n : ℤ) < LayerOneValue.len (a1 m c) b) (yE m c d b) (LayerOneValue.wh (a3 m c) (a6 m c) d) (LayerOneValue.bi (a4 m c) (a7 m c) d) n := by
  unfold runE
  rw [w_eq, b_eq, len_eq]

theorem result_eq (h : ∀ b : Fin 32, 0 ≤ LayerOneValue.len (a1 m c) b ∧ LayerOneValue.len (a1 m c) b ≤ 1600) :
    out_main_v42 (STEP^[1600] (En m c)) = LayerOneValue.G (a0 m c) (a1 m c) (a2 m c) (a3 m c) (a4 m c) (a5 m c) (a6 m c) (a7 m c) := by
  have hk : (STEP^[1600] (En m c)) (Proc.devRef .tc main_arg1) = a1 m c := iter_main_arg1 m c 1600
  rw [out_eq, hk]
  funext i
  idx_vars i
  rename' i0 => t, i1 => b, i2 => u
  obtain ⟨h0, hl⟩ := h b
  have hu := u.isLt
  by_cases hlt : u.val < 256
  · refine (joinR_fwd _ _ t b u hlt).trans ?_
    refine (iter_out m c 1600 le_rfl t t.isLt 0 b ⟨u.val, hlt⟩).trans ?_
    rw [len_eq, run_eq]
    have e0 : (⟨u.val / 256, by omega⟩ : Fin 2) = 0 := Fin.ext (by show u.val / 256 = 0; omega)
    have e1 : (⟨u.val % 256, Nat.mod_lt _ (by decide)⟩ : Fin 256) = ⟨u.val, hlt⟩ := Fin.ext (by show u.val % 256 = u.val; omega)
    show _ = LayerOneValue.Gd _ _ _ _ _ _ _ _ t.val b ⟨u.val / 256, _⟩ ⟨u.val % 256, _⟩
    rw [e0, e1]
    unfold LayerOneValue.Gd
    by_cases ht : (t.val : ℤ) < LayerOneValue.len (a1 m c) b
    · rw [if_pos ht]
      exact (Lstm.out_fwd _ _ _ _ _ ht fun n hn => y_fwd m c b n (by omega)).symm
    · rw [if_neg ht]
      exact (Lstm.out_neg _ _ _ _ _ ht).symm
  · refine (joinR_bwd _ _ t b u hlt).trans ?_
    refine (iter_out m c 1600 le_rfl _ (Reverse.place_lt (by decide) _ _) 1 b ⟨u.val - 256, by omega⟩).trans ?_
    rw [len_eq, run_eq]
    have e0 : (⟨u.val / 256, by omega⟩ : Fin 2) = 1 := Fin.ext (by show u.val / 256 = 1; omega)
    have e1 : (⟨u.val % 256, Nat.mod_lt _ (by decide)⟩ : Fin 256) = ⟨u.val - 256, by omega⟩ := Fin.ext (by show u.val % 256 = u.val - 256; omega)
    show _ = LayerOneValue.Gd _ _ _ _ _ _ _ _ t.val b ⟨u.val / 256, _⟩ ⟨u.val % 256, _⟩
    rw [e0, e1]
    unfold LayerOneValue.Gd
    have ht' := t.isLt
    have hp := Reverse.place_eq (T := 1600) (by decide) (a1 m c (ix1 b)) h0 hl t.val t.isLt
    change ((Reverse.place 1600 (a1 m c (ix1 b)) t.val : ℕ) : ℤ) = if (t.val : ℤ) < LayerOneValue.len (a1 m c) b
      then LayerOneValue.len (a1 m c) b - 1 - t.val else 1600 + LayerOneValue.len (a1 m c) b - 1 - t.val at hp
    show (if ((Reverse.place 1600 (a1 m c (ix1 b)) t.val : ℕ) : ℤ) < _ then
      (Lstm.run _ _ _ _ (Reverse.place 1600 (a1 m c (ix1 b)) t.val + 1)).1 _ else 0) = _
    by_cases ht : (t.val : ℤ) < LayerOneValue.len (a1 m c) b
    · rw [if_pos ht] at hp
      rw [if_pos (by omega)]
      refine Eq.trans ?_ (Lstm.out_bwd h0 hl _ _ _ _ _ ht fun n hn => y_bwd m c b n h0 hl hn).symm
      rw [show Reverse.place 1600 (a1 m c (ix1 b)) t.val = (LayerOneValue.len (a1 m c) b - 1 - t.val).toNat by omega]
    · rw [if_neg ht] at hp
      rw [if_neg (by omega)]
      exact (Lstm.out_neg _ _ _ _ _ ht).symm

end Cert.Proof.LayerOneRefValue

namespace Cert.Proof.LayerOneValue

open Idealize.ShloMosaic Idealize.ShloMosaic.TcCoe Idealize.SL.Sem

/-- The precondition says that the lengths lie in the sequence. -/
theorem lengths_of_pre [Cert.Pre_lengths_in_one.Facts] (m : (ℓ : Loc Cert.LayerOneIdeal.nD Cert.LayerOneIdeal.τ Cert.LayerOneIdeal.sig) → Buf (Elt Ideal) ℓ)
    (h : Pre_LayerOneIdeal_lengths_in_one m) (c : Dev Cert.LayerOneIdeal.nD) (b : Fin 32) :
    0 ≤ len (m ((c : Thread Cert.LayerOneIdeal.nD Cert.LayerOneIdeal.τ).loc Cert.LayerOneIdeal.main_arg1)) b
      ∧ len (m ((c : Thread Cert.LayerOneIdeal.nD Cert.LayerOneIdeal.τ).loc Cert.LayerOneIdeal.main_arg1)) b ≤ 1600 := by
  have := congrFun (h c) (ix1 b)
  unfold Cert.Pre_lengths_in_one.fn at this
  simp only [pointwise] at this
  exact Reverse.between _ (h := this)

/-- The one shape fact of the precondition. -/
instance preFacts : Cert.Pre_lengths_in_one.Facts where
  bcast_S_S32 := by decide

/-- The value claim: both runs leave the outputs of the two directions side by side. -/
theorem algebraic : Cert.algebraic_LayerOneIdeal_LayerOneRefIdeal_pre_lengths_in_one := by
  intro m ρ m' ρ' hpre hag
  refine ⟨fun c => Gm m c, ?_, ?_⟩
  · exact (θ_run _ _ _).mono (fun r h c => ⟨(h c).1.trans (final m c), (h c).2⟩) (Cert.LayerOneIdeal.Value.run_blocks m ρ)
  · refine (θ_run _ _ _).mono (fun r h c => ⟨(h c).1.trans ?_, (h c).2⟩) (Cert.LayerOneRefIdeal.Value.run m' ρ')
    obtain ⟨h0, h1, h2, h3, h4, h5, h6, h7⟩ := hag c
    refine (LayerOneRefValue.result_eq m' c ?_).trans ?_
    · intro b
      unfold LayerOneRefValue.a1
      rw [h1]
      exact lengths_of_pre m hpre c b
    · unfold LayerOneRefValue.a0 LayerOneRefValue.a1 LayerOneRefValue.a2 LayerOneRefValue.a3 LayerOneRefValue.a4 LayerOneRefValue.a5 LayerOneRefValue.a6 LayerOneRefValue.a7
      rw [h0, h1, h2, h3, h4, h5, h6, h7]

end Cert.Proof.LayerOneValue

end
-- ==== Proof.LayerTwoStep.lean ====
/- Hand-written, untrusted: WHAT LAYER TWO'S BODY COMPUTES — its payloads read at one index, as steps of the masked LSTM row. -/
module

public import proofs.«01_k».proof.Proof.Gen.LayerTwoIdeal.Frame
public import proofs.«01_k».proof.Proof.Lstm
public import Idealize.ShloMosaic.Lib.Pointwise

@[expose] public section

set_option maxRecDepth 16384

noncomputable section

namespace Cert.Proof.LayerTwoStep

open Cert.LayerTwoIdeal Cert.LayerTwoIdeal.Gen Idealize.ShloMosaic Idealize.ShloMosaic.TcCoe Idealize.SL.Sem
open Cert.Proof

/-- A row named by its offset from zero. -/
def zb (b : Fin 32) : Fin 32 := ⟨0 + b.val, by omega⟩

theorem zb_eq (b : Fin 32) : zb b = b := Fin.ext (Nat.zero_add _)

/-- A choice on a signed comparison, as a choice on the integers. -/
theorem select_sgt {α : Type} (x y : BitVec 32) (a b : α) :
    Scalar.select (IntOp.cmpi CmpIPredicate.sgt x y) a b = if y.toInt < x.toInt then a else b := by
  by_cases h : y.toInt < x.toInt <;> simp [Scalar.select, IntOp.cmpi, BitVec.slt, h]

/-! ## The gates -/

theorem pay8_row (v32 : FVec Ideal S32x1024 .f32) (v33 : Vec Ideal S1x1x1024 .f32) (b : Fin 32) (g : Fin 1024) :
    (k0_pay8 v32 v33 (ix2 b g) : EReal) = v32 (ix2 b g) + v33 (ix3 0 0 g) := by
  unfold k0_pay8; simp only [pointwise]; rfl

/-- The first step's gates before the bias. -/
theorem pay7_row (i : grid0.Coords) (x : Vec Ideal S1x2x32x1024 .bf16) (h : Vec Ideal S32x256 .f32) (w : Vec Ideal S1x256x1024 .f32)
    (b : Fin 32) (g : Fin 1024) :
    (k0_pay7 i x h w (ix2 b g) : EReal)
      = Scalar.select (Scalar.cmpi .eq (BitVec.ofNat 32 (i 0).val) 0#32) (x (ix4 0 0 b g)) (x (ix4 0 1 b g))
        + ∑ k : Fin 256, (h (ix2 b k) : EReal) * w (ix3 0 k g) := by
  unfold k0_pay7 k0_pay4
  simp only [pointwise]
  simp [Nat.zero_add, Fin.eta]

/-- The second step's input row. -/
theorem pay15_row (i : grid0.Coords) (x : Vec Ideal S1x2x32x1024 .bf16) (b : Fin 32) (g : Fin 1024) :
    (k0_pay15 (k0_pay5 i x) (ix2 b g) : EReal)
      = Scalar.select (Scalar.cmpi .eq (BitVec.ofNat 32 (i 0).val) 0#32) (x (ix4 0 1 b g)) (x (ix4 0 0 b g)) := by
  unfold k0_pay15 k0_pay5 k0_pay4
  simp only [pointwise]
  simp [Nat.zero_add, Fin.eta]

/-- The first step's gates. -/
theorem gates_first (i : grid0.Coords) (x : Vec Ideal S1x2x32x1024 .bf16) (h : Vec Ideal S32x256 .f32) (w : Vec Ideal S1x256x1024 .f32)
    (v : Vec Ideal S1x1x1024 .f32) (b : Fin 32) (g : Fin 1024) :
    (k0_pay8 (k0_pay7 i x h w) v (ix2 b g) : EReal)
      = Lstm.pre (fun g => Scalar.select (Scalar.cmpi .eq (BitVec.ofNat 32 (i 0).val) 0#32) (x (ix4 0 0 b g)) (x (ix4 0 1 b g)))
          (fun g k => w (ix3 0 k g)) (fun g => v (ix3 0 0 g)) (fun k => h (ix2 b k)) g := by
  rw [pay8_row, pay7_row]; rfl

/-- The second step's gates. -/
theorem gates_second (i : grid0.Coords) (x : Vec Ideal S1x2x32x1024 .bf16) (h : Vec Ideal S32x256 .f32) (w : Vec Ideal S1x256x1024 .f32)
    (v : Vec Ideal S1x1x1024 .f32) (b : Fin 32) (g : Fin 1024) :
    (k0_pay16 (k0_pay15 (k0_pay5 i x)) h w v (ix2 b g) : EReal)
      = Lstm.pre (fun g => Scalar.select (Scalar.cmpi .eq (BitVec.ofNat 32 (i 0).val) 0#32) (x (ix4 0 1 b g)) (x (ix4 0 0 b g)))
          (fun g k => w (ix3 0 k g)) (fun g => v (ix3 0 0 g)) (fun k => h (ix2 b k)) g := by
  have e := pay15_row i x b g
  unfold k0_pay16
  simp only [pointwise]
  rw [e, zero_add]; rfl

/-! ## The new rows -/

theorem pay6_row (len : Vec Ideal S32x1 .i32) (b : Fin 32) : k0_pay6 len (ix2 b 0) = len (ix2 b 0) := by
  unfold k0_pay6; simp only [pointwise]

theorem pay12_row (v7 : BitVec 32) (len : IVec S32x1 32) (v32 : FVec Ideal S32x1024 .f32) (v33 : Vec Ideal S1x1x1024 .f32)
    (c h : Vec Ideal S32x256 .f32) (b : Fin 32) (u : Fin 256) :
    (k0_pay12 v7 len v32 v33 c h (ix2 b u) : EReal)
      = if v7.toInt < (len (ix2 b 0)).toInt then Lstm.newH (fun g => k0_pay8 v32 v33 (ix2 b g)) (fun u => c (ix2 b u)) u else h (ix2 b u) := by
  rw [← select_sgt]
  unfold k0_pay12 k0_pay10 k0_pay11 k0_pay9
  simp only [pointwise]
  simp [Nat.zero_add, Fin.eta]
  rfl

theorem pay13_row (v7 : BitVec 32) (len : IVec S32x1 32) (v32 : FVec Ideal S32x1024 .f32) (v33 : Vec Ideal S1x1x1024 .f32)
    (c c' : Vec Ideal S32x256 .f32) (b : Fin 32) (u : Fin 256) :
    (k0_pay13 v7 len v32 v33 c c' (ix2 b u) : EReal)
      = if v7.toInt < (len (ix2 b 0)).toInt then Lstm.newC (fun g => k0_pay8 v32 v33 (ix2 b g)) (fun u => c (ix2 b u)) u else c' (ix2 b u) := by
  rw [← select_sgt]
  unfold k0_pay13 k0_pay11 k0_pay9
  simp only [pointwise]
  simp [Nat.zero_add, Fin.eta]
  rfl

theorem pay14_row (v7 : BitVec 32) (len : IVec S32x1 32) (v32 : FVec Ideal S32x1024 .f32) (v33 : Vec Ideal S1x1x1024 .f32)
    (c : Vec Ideal S32x256 .f32) (b : Fin 32) (u : Fin 256) :
    (k0_pay14 v7 len v32 v33 c (ix2 b u) : EReal)
      = if v7.toInt < (len (ix2 b 0)).toInt then Lstm.newH (fun g => k0_pay8 v32 v33 (ix2 b g)) (fun u => c (ix2 b u)) u else 0 := by
  rw [← select_sgt]
  unfold k0_pay14 k0_pay10 k0_pay11 k0_pay9
  simp only [pointwise]
  simp [Nat.zero_add, Fin.eta]
  rfl

theorem pay20_row (v12 : BitVec 32) (len : IVec S32x1 32) (v71 : FVec Ideal S32x1024 .f32) (hp : Vec Ideal S32x256 .f32) (w : Vec Ideal S1x256x1024 .f32)
    (v : Vec Ideal S1x1x1024 .f32) (c h : Vec Ideal S32x256 .f32) (b : Fin 32) (u : Fin 256) :
    (k0_pay20 v12 len v71 hp w v c h (ix2 b u) : EReal)
      = if v12.toInt < (len (ix2 b 0)).toInt then Lstm.newH (fun g => k0_pay16 v71 hp w v (ix2 b g)) (fun u => c (ix2 b u)) u else h (ix2 b u) := by
  rw [← select_sgt]
  unfold k0_pay20 k0_pay18 k0_pay19 k0_pay17
  simp only [pointwise]
  simp [Nat.zero_add, Fin.eta]
  rfl

theorem pay21_row (v12 : BitVec 32) (len : IVec S32x1 32) (v71 : FVec Ideal S32x1024 .f32) (hp : Vec Ideal S32x256 .f32) (w : Vec Ideal S1x256x1024 .f32)
    (v : Vec Ideal S1x1x1024 .f32) (c c' : Vec Ideal S32x256 .f32) (b : Fin 32) (u : Fin 256) :
    (k0_pay21 v12 len v71 hp w v c c' (ix2 b u) : EReal)
      = if v12.toInt < (len (ix2 b 0)).toInt then Lstm.newC (fun g => k0_pay16 v71 hp w v (ix2 b g)) (fun u => c (ix2 b u)) u else c' (ix2 b u) := by
  rw [← select_sgt]
  unfold k0_pay21 k0_pay19 k0_pay17
  simp only [pointwise]
  simp [Nat.zero_add, Fin.eta]
  rfl

theorem pay22_row (v12 : BitVec 32) (len : IVec S32x1 32) (v71 : FVec Ideal S32x1024 .f32) (hp : Vec Ideal S32x256 .f32) (w : Vec Ideal S1x256x1024 .f32)
    (v : Vec Ideal S1x1x1024 .f32) (c : Vec Ideal S32x256 .f32) (b : Fin 32) (u : Fin 256) :
    (k0_pay22 v12 len v71 hp w v c (ix2 b u) : EReal)
      = if v12.toInt < (len (ix2 b 0)).toInt then Lstm.newH (fun g => k0_pay16 v71 hp w v (ix2 b g)) (fun u => c (ix2 b u)) u else 0 := by
  rw [← select_sgt]
  unfold k0_pay22 k0_pay18 k0_pay19 k0_pay17
  simp only [pointwise]
  simp [Nat.zero_add, Fin.eta]
  rfl

/-- The output block: its early row and its late row. -/
theorem pay1_row (a a' : FVec Ideal S32x256 .f32) (q : Fin 2) (b : Fin 32) (u : Fin 256) :
    (k0_pay1 a a' (ix3 q b u) : EReal) = if q.val = 0 then a (ix2 b u) else a' (ix2 b u) := by
  fin_cases q
  · show (k0_pay1 a a' (ix3 0 b u) : EReal) = a (ix2 b u)
    unfold k0_pay1
    refine (concatenate_pair_apply _ _ _ _ _).trans ?_
    refine (dif_pos (show (0 : ℕ) < 1 from Nat.one_pos)).trans ?_
    exact (congrArg _ (by funext k; fin_cases k <;> rfl : _ = ix3 0 b u)).trans (by simp only [pointwise])
  · show (k0_pay1 a a' (ix3 1 b u) : EReal) = a' (ix2 b u)
    unfold k0_pay1
    refine (concatenate_pair_apply _ _ _ _ _).trans ?_
    refine (dif_neg (show ¬ (1 : ℕ) < 1 from lt_irrefl 1)).trans ?_
    exact (congrArg _ (by funext k; fin_cases k <;> rfl : _ = ix3 0 b u)).trans (by simp only [pointwise])

/-! ## Both steps of a grid point -/

section
variable (i : grid0.Coords) (v7 v12 : BitVec 32) (len : Vec Ideal S32x1 .i32) (x : Vec Ideal S1x2x32x1024 .bf16)
  (w : Vec Ideal S1x256x1024 .f32) (v : Vec Ideal S1x1x1024 .f32) (h c : Vec Ideal S32x256 .f32)

/-- The rows after the point's first step. -/
def hOne : Vec Ideal S32x256 .f32 := k0_pay12 v7 (k0_pay6 len) (k0_pay7 i x h w) v c h
def cOne : Vec Ideal S32x256 .f32 := k0_pay13 v7 (k0_pay6 len) (k0_pay7 i x h w) v c c

/-- The rows after its second step. -/
def hTwo : Vec Ideal S32x256 .f32 :=
  k0_pay20 v12 (k0_pay6 len) (k0_pay15 (k0_pay5 i x)) (hOne i v7 len x w v h c) w v (cOne i v7 len x w v h c) (hOne i v7 len x w v h c)
def cTwo : Vec Ideal S32x256 .f32 :=
  k0_pay21 v12 (k0_pay6 len) (k0_pay15 (k0_pay5 i x)) (hOne i v7 len x w v h c) w v (cOne i v7 len x w v h c) (cOne i v7 len x w v h c)

/-- The block it stores. -/
def outBoth (v3 : BitVec 1) : Vec Ideal S2x32x256 .f32 :=
  k0_pay1
    (k0_pay23 v3 v12 (k0_pay6 len) (k0_pay14 v7 (k0_pay6 len) (k0_pay7 i x h w) v c) (k0_pay15 (k0_pay5 i x)) (hOne i v7 len x w v h c) w v (cOne i v7 len x w v h c))
    (k0_pay24 v3 v12 (k0_pay6 len) (k0_pay14 v7 (k0_pay6 len) (k0_pay7 i x h w) v c) (k0_pay15 (k0_pay5 i x)) (hOne i v7 len x w v h c) w v (cOne i v7 len x w v h c))

/-- The gate inputs that the first and the second step read. -/
def gxOne (b : Fin 32) (g : Fin 1024) : EReal :=
  Scalar.select (Scalar.cmpi .eq (BitVec.ofNat 32 (i 0).val) 0#32) (x (ix4 0 0 b g)) (x (ix4 0 1 b g))
def gxTwo (b : Fin 32) (g : Fin 1024) : EReal :=
  Scalar.select (Scalar.cmpi .eq (BitVec.ofNat 32 (i 0).val) 0#32) (x (ix4 0 1 b g)) (x (ix4 0 0 b g))

/-- A row of the two scratch arrays. -/
def row (h c : Vec Ideal S32x256 .f32) (b : Fin 32) : Lstm.St := (fun u => h (ix2 b u), fun u => c (ix2 b u))

theorem row_one (b : Fin 32) : row (hOne i v7 len x w v h c) (cOne i v7 len x w v h c) b
    = Lstm.step (v7.toInt < (len (ix2 b 0)).toInt) (gxOne i x b) (fun g k => w (ix3 0 k g)) (fun g => v (ix3 0 0 g)) (row h c b) := by
  by_cases hm : v7.toInt < (len (ix2 b 0)).toInt
  · rw [Lstm.step_pos hm]
    refine Prod.ext (funext fun u => ?_) (funext fun u => ?_)
    · refine (pay12_row v7 _ _ _ c h b u).trans ?_
      rw [pay6_row, if_pos hm]
      simp only [gates_first]; rfl
    · refine (pay13_row v7 _ _ _ c c b u).trans ?_
      rw [pay6_row, if_pos hm]
      simp only [gates_first]; rfl
  · rw [Lstm.step_neg hm]
    refine Prod.ext (funext fun u => ?_) (funext fun u => ?_)
    · refine (pay12_row v7 _ _ _ c h b u).trans ?_
      rw [pay6_row, if_neg hm]; rfl
    · refine (pay13_row v7 _ _ _ c c b u).trans ?_
      rw [pay6_row, if_neg hm]; rfl

theorem row_two (b : Fin 32) : row (hTwo i v7 v12 len x w v h c) (cTwo i v7 v12 len x w v h c) b
    = Lstm.step (v12.toInt < (len (ix2 b 0)).toInt) (gxTwo i x b) (fun g k => w (ix3 0 k g)) (fun g => v (ix3 0 0 g))
        (row (hOne i v7 len x w v h c) (cOne i v7 len x w v h c) b) := by
  by_cases hm : v12.toInt < (len (ix2 b 0)).toInt
  · rw [Lstm.step_pos hm]
    refine Prod.ext (funext fun u => ?_) (funext fun u => ?_)
    · refine (pay20_row v12 _ _ _ _ _ _ _ b u).trans ?_
      rw [pay6_row, if_pos hm]
      simp only [gates_second]; rfl
    · refine (pay21_row v12 _ _ _ _ _ _ _ b u).trans ?_
      rw [pay6_row, if_pos hm]
      simp only [gates_second]; rfl
  · rw [Lstm.step_neg hm]
    refine Prod.ext (funext fun u => ?_) (funext fun u => ?_)
    · refine (pay20_row v12 _ _ _ _ _ _ _ b u).trans ?_
      rw [pay6_row, if_neg hm]; rfl
    · refine (pay21_row v12 _ _ _ _ _ _ _ b u).trans ?_
      rw [pay6_row, if_neg hm]; rfl

/-- What the first step emits: its new hidden row where the mask holds, else zero. -/
theorem emit_one (b : Fin 32) (u : Fin 256) : (k0_pay14 v7 (k0_pay6 len) (k0_pay7 i x h w) v c (ix2 b u) : EReal)
    = if v7.toInt < (len (ix2 b 0)).toInt then (row (hOne i v7 len x w v h c) (cOne i v7 len x w v h c) b).1 u else 0 := by
  refine (pay14_row v7 _ _ _ c b u).trans ?_
  rw [pay6_row]
  by_cases hm : v7.toInt < (len (ix2 b 0)).toInt
  · rw [if_pos hm, if_pos hm]
    refine Eq.trans ?_ (pay12_row v7 _ _ _ c h b u).symm
    rw [pay6_row, if_pos hm]
  · rw [if_neg hm, if_neg hm]

theorem emit_two (b : Fin 32) (u : Fin 256) :
    (k0_pay22 v12 (k0_pay6 len) (k0_pay15 (k0_pay5 i x)) (hOne i v7 len x w v h c) w v (cOne i v7 len x w v h c) (ix2 b u) : EReal)
    = if v12.toInt < (len (ix2 b 0)).toInt then (row (hTwo i v7 v12 len x w v h c) (cTwo i v7 v12 len x w v h c) b).1 u else 0 := by
  refine (pay22_row v12 _ _ _ _ _ _ b u).trans ?_
  rw [pay6_row]
  by_cases hm : v12.toInt < (len (ix2 b 0)).toInt
  · rw [if_pos hm, if_pos hm]
    refine Eq.trans ?_ (pay20_row v12 _ _ _ _ _ _ _ b u).symm
    rw [pay6_row, if_pos hm]
  · rw [if_neg hm, if_neg hm]

/-- The stored block: the forward direction's first step is its early row, the backward direction's its late one. -/
theorem out_row (v3 : BitVec 1) (q : Fin 2) (b : Fin 32) (u : Fin 256) : (outBoth i v7 v12 len x w v h c v3 (ix3 q b u) : EReal)
    = if (q.val = 0 ↔ v3 = 1#1) then
        (if v7.toInt < (len (ix2 b 0)).toInt then (row (hOne i v7 len x w v h c) (cOne i v7 len x w v h c) b).1 u else 0)
      else (if v12.toInt < (len (ix2 b 0)).toInt then (row (hTwo i v7 v12 len x w v h c) (cTwo i v7 v12 len x w v h c) b).1 u else 0) := by
  rw [← emit_one, ← emit_two]
  refine (pay1_row _ _ q b u).trans ?_
  unfold k0_pay23 k0_pay24
  by_cases hv : v3 = 1#1
  · subst hv
    by_cases hq : q.val = 0
    · simp [hq, Scalar.select]
    · simp [hq, Scalar.select]
  · by_cases hq : q.val = 0
    · simp [hq, Scalar.select, hv]
    · simp [hq, Scalar.select, hv]

end

end Cert.Proof.LayerTwoStep

end
-- ==== Proof.LayerTwoCase.lean ====
/- Hand-written, untrusted: WHAT A POINT OF LAYER TWO LEAVES in the two scratch arrays and in its output block, as the step terms. -/
module

public import proofs.«01_k».proof.Proof.LayerTwoStep
public import Idealize.ShloMosaic.Lib.VecWindow

@[expose] public section

set_option maxRecDepth 16384

noncomputable section

namespace Cert.Proof.LayerTwoStep

open Cert.LayerTwoIdeal Cert.LayerTwoIdeal.Gen Idealize.ShloMosaic Idealize.ShloMosaic.TcCoe Idealize.SL.Sem
open Idealize.ShloMosaic.Tactic

/-- The step numbers of a point, as the body computes them. -/
def vOne (i : grid0.Coords) : BitVec 32 :=
  Scalar.select (Scalar.cmpi .eq (BitVec.ofNat 32 (i 0).val) 0#32) (Scalar.muli 2#32 (BitVec.ofNat 32 (i 1).val))
    (Scalar.subi 799#32 (Scalar.muli 2#32 (BitVec.ofNat 32 (i 1).val)))
def vTwo (i : grid0.Coords) : BitVec 32 :=
  Scalar.select (Scalar.cmpi .eq (BitVec.ofNat 32 (i 0).val) 0#32) (Scalar.addi (Scalar.muli 2#32 (BitVec.ofNat 32 (i 1).val)) 1#32)
    (Scalar.subi 798#32 (Scalar.muli 2#32 (BitVec.ofNat 32 (i 1).val)))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! Whole loads read the array, and a whole load after a whole store reads what was stored. -/

theorem ldS (x : Vec Ideal S32x256 .f32) (h) : View.ld x (Rect.unit ![0, 0] ![32, 256] h) = x := View.ld_unit_zero hz2 h x
theorem ldL (x : Vec Ideal S32x1 .i32) (h) : View.ld x (Rect.unit ![0, 0] ![32, 1] h) = x := View.ld_unit_zero hz2 h x
theorem ldB (x : Vec Ideal S1x1x1024 .f32) (h) : View.ld x (Rect.unit ![0, 0, 0] ![1, 1, 1024] h) = x := View.ld_unit_zero hz3 h x
theorem ldW (x : Vec Ideal S1x256x1024 .f32) (h) : View.ld x (Rect.unit ![0, 0, 0] ![1, 256, 1024] h) = x := View.ld_unit_zero hz3 h x
theorem ldX (x : Vec Ideal S1x2x32x1024 .bf16) (h) : View.ld x (Rect.unit ![0, 0, 0, 0] ![1, 2, 32, 1024] h) = x := View.ld_unit_zero hz4 h x

theorem rcS (v : View sig .tc .vmem S32x256 .f32) (h h') (w : Vec Ideal S32x256 .f32) (L : List (View.Piece (Elt Ideal) S32x256 .f32)) :
    v.readCov (⟨Rect.unit ![0, 0] ![32, 256] h', w⟩ :: L) (Rect.unit ![0, 0] ![32, 256] h).toLoadRect = w := View.readCov_full v h h' w L

section
variable (c : Dev nD) (i : grid0.Coords) (arg2 : Memref sig .tc .vmem S32x1 .i32) (harg2 : arg2.IsWhole) (arg3 : Memref sig .tc .vmem S1x2x32x1024 .bf16) (harg3 : arg3.IsWhole)
  (arg4 : Memref sig .tc .vmem S1x1x1024 .f32) (harg4 : arg4.IsWhole) (arg5 : Memref sig .tc .vmem S1x256x1024 .f32) (harg5 : arg5.IsWhole)
  (arg6 : Memref sig .tc .vmem S1x1x1024 .f32) (harg6 : arg6.IsWhole) (arg7 : Memref sig .tc .vmem S2x32x256 .f32) (harg7 : arg7.IsWhole)
  (arg8 : Memref sig .tc .vmem S32x256 .f32) (harg8 : arg8.IsWhole) (arg9 : Memref sig .tc .vmem S32x256 .f32) (harg9 : arg9.IsWhole)
  (x0 : Vec Ideal S32x1 .i32) (x1 : Vec Ideal S1x2x32x1024 .bf16) (x2 : Vec Ideal S1x1x1024 .f32) (x3 : Vec Ideal S1x256x1024 .f32)
  (x4 : Vec Ideal S1x1x1024 .f32) (xs0 xs1 : Vec Ideal S32x256 .f32)

theorem sout_B_0 (hc0 : ¬cond0_0 i) :
    sout0_B_0 c i arg2 harg2 arg3 harg3 arg4 harg4 arg5 harg5 arg6 harg6 arg7 harg7 arg8 harg8 arg9 harg9 hc0 x0 x1 x2 x3 x4 xs0 xs1
      = hTwo i (vOne i) (vTwo i) x0 x1 x3 x4 xs0 xs1 := by
  unfold sout0_B_0
  refine (View.read_writes_full _ _ _ _ _).trans ?_
  sl_unfold_run_names
  simp only [View.readAt_eq_ld, Memref.IsWhole.read_unread, ldS, ldL, ldB, ldW, ldX, rcS]
  rfl

theorem sout_B_1 (hc0 : ¬cond0_0 i) :
    sout0_B_1 c i arg2 harg2 arg3 harg3 arg4 harg4 arg5 harg5 arg6 harg6 arg7 harg7 arg8 harg8 arg9 harg9 hc0 x0 x1 x2 x3 x4 xs0 xs1
      = cTwo i (vOne i) (vTwo i) x0 x1 x3 x4 xs0 xs1 := by
  unfold sout0_B_1
  refine (View.read_writes_full _ _ _ _ _).trans ?_
  sl_unfold_run_names
  simp only [View.readAt_eq_ld, Memref.IsWhole.read_unread, ldS, ldL, ldB, ldW, ldX, rcS]
  rfl

theorem out_B (hc0 : ¬cond0_0 i) :
    out0_B_5 c i arg2 harg2 arg3 harg3 arg4 harg4 arg5 harg5 arg6 harg6 arg7 harg7 arg8 harg8 arg9 harg9 hc0 x0 x1 x2 x3 x4 xs0 xs1
      = outBoth i (vOne i) (vTwo i) x0 x1 x3 x4 xs0 xs1 (Scalar.cmpi .eq (BitVec.ofNat 32 (i 0).val) 0#32) := by
  unfold out0_B_5
  refine (View.read_writes_full _ _ _ _ _).trans ?_
  sl_unfold_run_names
  simp only [View.readAt_eq_ld, Memref.IsWhole.read_unread, ldS, ldL, ldB, ldW, ldX, rcS]
  rfl

theorem sout_A_0 (hc0 : cond0_0 i) :
    sout0_A_0 c i arg2 harg2 arg3 harg3 arg4 harg4 arg5 harg5 arg6 harg6 arg7 harg7 arg8 harg8 arg9 harg9 hc0 x0 x1 x2 x3 x4
      = hTwo i (vOne i) (vTwo i) x0 x1 x3 x4  (k0_pay2 (F := Ideal)) (k0_pay3 (F := Ideal)) := by
  unfold sout0_A_0
  refine (View.read_writes_full _ _ _ _ _).trans ?_
  sl_unfold_run_names
  simp only [View.readAt_eq_ld, Memref.IsWhole.read_unread, ldS, ldL, ldB, ldW, ldX, rcS]
  rfl

theorem sout_A_1 (hc0 : cond0_0 i) :
    sout0_A_1 c i arg2 harg2 arg3 harg3 arg4 harg4 arg5 harg5 arg6 harg6 arg7 harg7 arg8 harg8 arg9 harg9 hc0 x0 x1 x2 x3 x4
      = cTwo i (vOne i) (vTwo i) x0 x1 x3 x4  (k0_pay2 (F := Ideal)) (k0_pay3 (F := Ideal)) := by
  unfold sout0_A_1
  refine (View.read_writes_full _ _ _ _ _).trans ?_
  sl_unfold_run_names
  simp only [View.readAt_eq_ld, Memref.IsWhole.read_unread, ldS, ldL, ldB, ldW, ldX, rcS]
  rfl

theorem out_A (hc0 : cond0_0 i) :
    out0_A_5 c i arg2 harg2 arg3 harg3 arg4 harg4 arg5 harg5 arg6 harg6 arg7 harg7 arg8 harg8 arg9 harg9 hc0 x0 x1 x2 x3 x4
      = outBoth i (vOne i) (vTwo i) x0 x1 x3 x4  (k0_pay2 (F := Ideal)) (k0_pay3 (F := Ideal)) (Scalar.cmpi .eq (BitVec.ofNat 32 (i 0).val) 0#32) := by
  unfold out0_A_5
  refine (View.read_writes_full _ _ _ _ _).trans ?_
  sl_unfold_run_names
  simp only [View.readAt_eq_ld, Memref.IsWhole.read_unread, ldS, ldL, ldB, ldW, ldX, rcS]
  rfl

end

end Cert.Proof.LayerTwoStep

end
-- ==== Proof.LayerTwoKernel.lean ====
/- Hand-written, untrusted: WHAT LAYER TWO'S KERNEL LEAVES — its operand arrays as readings of the arguments, the state of the two
   scratch arrays after every point of the grid, and the result array. -/
module

public import proofs.«01_k».proof.Proof.Gen.LayerTwoIdeal.Value
public import proofs.«01_k».proof.Proof.LayerTwoCase

@[expose] public section

set_option maxRecDepth 16384

noncomputable section

namespace Cert.Proof.LayerTwoValue

open Cert.LayerTwoIdeal Cert.LayerTwoIdeal.Gen Cert.LayerTwoIdeal.Value Idealize.ShloMosaic Idealize.ShloMosaic.TcCoe Idealize.SL.Sem
open Cert.Proof.LayerTwoStep

/-! ## The mathematics: the arguments' rows, and the result -/

/-- Direction `d`'s projected gates of row `b` at place `t`. -/
def gx (gf : Vec Ideal S25600x2048 .bf16) (d : Fin 2) (b : Fin 32) (t : ℕ) (g : Fin 1024) : EReal :=
  if h : t < 800 then gf (ix2 ⟨t * 32 + b.val, by omega⟩ ⟨d.val * 1024 + g.val, by omega⟩) else 0
/-- Direction `d`'s recurrent weights. -/
def wh (wf wb : Vec Ideal S1024x256 .f32) (d : Fin 2) (g : Fin 1024) (k : Fin 256) : EReal := if d.val = 0 then wf (ix2 g k) else wb (ix2 g k)
/-- Direction `d`'s bias. -/
def bi (bf bb : Vec Ideal S1024 .f32) (d : Fin 2) (g : Fin 1024) : EReal := if d.val = 0 then bf (ix1 g) else bb (ix1 g)
/-- Row `b`'s length. -/
def len (l : Vec Ideal S32 .i32) (b : Fin 32) : ℤ := (l (ix1 b) : BitVec 32).toInt

variable (gf : Vec Ideal S25600x2048 .bf16) (l : Vec Ideal S32 .i32) (wf : Vec Ideal S1024x256 .f32) (bf : Vec Ideal S1024 .f32)
  (wb : Vec Ideal S1024x256 .f32) (bb : Vec Ideal S1024 .f32)

/-- The state after `n` steps of direction `d` on row `b`. -/
def K (d : Fin 2) (b : Fin 32) (n : ℕ) : Lstm.St := Lstm.state 800 (len l b) d (gx gf d b) (wh wf wb d) (bi bf bb d) n

/-- The result at a place, a row and a unit of a direction. -/
def Gd (t : ℕ) (b : Fin 32) (d : Fin 2) (u : Fin 256) : EReal := Lstm.out 800 (len l b) d (gx gf d b) (wh wf wb d) (bi bf bb d) t u

/-- The result array. -/
def G : Vec Ideal S800x32x512 .f32 := fun i =>
  Gd gf l wf bf wb bb (i 0).val (i 1) ⟨(i 2).val / 256, by have := (i 2).isLt; change (i 2).val < 512 at this; omega⟩
    ⟨(i 2).val % 256, Nat.mod_lt _ (by decide)⟩

/-! ## The operand arrays -/

/-- The projected gates, direction-leading. -/
def X : Vec Ideal S2x800x32x1024 .bf16 :=
  transpose S2x800x32x1024 [2, 0, 1, 3] (shapeCast S800x32x2x1024 gf shapeCasts_S25600x2048_S800x32x2x1024) transposes_S800x32x2x1024_S2x800x32x1024_2_0_1_3
/-- The recurrent weights, transposed, one direction after the other. -/
def W : Vec Ideal S2x256x1024 .f32 :=
  concatenate S2x256x1024 0 [⟨S1x256x1024, broadcastInDim S1x256x1024 ![1, 2] bcast_S256x1024_S1x256x1024_1_2 (transpose S256x1024 [1, 0] wf transposes_S1024x256_S256x1024_1_0)⟩,
    ⟨S1x256x1024, broadcastInDim S1x256x1024 ![1, 2] bcast_S256x1024_S1x256x1024_1_2 (transpose S256x1024 [1, 0] wb transposes_S1024x256_S256x1024_1_0)⟩] concatenates_S1x256x1024_S1x256x1024_S2x256x1024_d0

theorem X_apply (d : Fin 2) (t : Fin 800) (b : Fin 32) (g : Fin 1024) : (X gf (ix4 d t b g) : EReal) = gx gf d b t.val g := by
  unfold X gx
  rw [dif_pos t.isLt]
  simp only [pointwise]
theorem W_apply (d : Fin 2) (k : Fin 256) (g : Fin 1024) : (W wf wb (ix3 d k g) : EReal) = wh wf wb d g k := by
  unfold W wh
  simp only [pointwise]
  fin_cases d <;> simp

variable (m : (ℓ : Loc nD τ sig) → Buf (Elt Ideal) ℓ) (c : Dev nD)

theorem V_main_v1 : V m c main_v1 = X (m ((c : Thread nD τ).loc main_arg0)) := by
  show StableHlo.after hostOps0 _ (Proc.devRef .tc main_v1) = _
  after_results
  rfl
theorem V_main_v7 : V m c main_v7 = W (m ((c : Thread nD τ).loc main_arg2)) (m ((c : Thread nD τ).loc main_arg4)) := by
  show StableHlo.after hostOps0 _ (Proc.devRef .tc main_v7) = _
  after_results
  rfl
theorem V_main_v12 (d : Fin 2) (g : Fin 1024) : (V m c main_v12 (ix3 d 0 g) : EReal)
    = bi (m ((c : Thread nD τ).loc main_arg3)) (m ((c : Thread nD τ).loc main_arg5)) d g := by
  show StableHlo.after hostOps0 _ (Proc.devRef .tc main_v12) _ = _
  after_results
  unfold bi
  simp only [pointwise]
  fin_cases d <;> simp
theorem V_main_v13 (b : Fin 32) : V m c main_v13 (ix2 b 0) = (m ((c : Thread nD τ).loc main_arg1)) (ix1 b) := by
  show StableHlo.after hostOps0 _ (Proc.devRef .tc main_v13) _ = _
  after_results
  simp only [pointwise]
  rfl

/-! ## The grid's points -/

theorem N_eq : cfg0.N = 800 := by decide

/-- A point's direction. -/
def dir (t : Fin cfg0.N) : Fin 2 := ⟨t.val / 400, by have h : t.val < 800 := lt_of_lt_of_eq t.isLt N_eq; omega⟩
/-- Which pair of places a point reads. -/
def pair (t : Fin cfg0.N) : ℕ := if t.val / 400 = 0 then t.val % 400 else 399 - t.val % 400

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 4) = t.val / 400 ∧ win0_1.index t (1 : Fin 4) = pair t
    ∧ win0_1.index t (2 : Fin 4) = 0 ∧ win0_1.index t (3 : Fin 4) = 0 :=
  (by decide +kernel : ∀ t : Fin grid0.N, _)
theorem idx3 : ∀ t : Fin cfg0.N, win0_3.index t (0 : Fin 3) = t.val / 400 ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val / 400 ∧ win0_4.index t (1 : Fin 3) = 0 ∧ win0_4.index t (2 : Fin 3) = 0 :=
  (by decide +kernel : ∀ t : Fin grid0.N, _)
theorem idx5 : ∀ t : Fin cfg0.N, win0_5.index t (0 : Fin 3) = pair t ∧ win0_5.index t (1 : Fin 3) = 0 ∧ win0_5.index t (2 : Fin 3) = t.val / 400 :=
  (by decide +kernel : ∀ t : Fin grid0.N, _)
theorem dirBit : ∀ t : Fin cfg0.N, Scalar.cmpi .eq (BitVec.ofNat 32 (grid0.coords t 0).val) 0#32 = if t.val / 400 = 0 then 1#1 else 0#1 :=
  (by decide +kernel : ∀ t : Fin grid0.N, _)
theorem vOne_eq : ∀ t : Fin cfg0.N, (vOne (grid0.coords t)).toInt = (Lstm.time 800 (dir t) (2 * (t.val % 400)) : ℤ) :=
  (by decide +kernel : ∀ t : Fin grid0.N, _)
theorem vTwo_eq : ∀ t : Fin cfg0.N, (vTwo (grid0.coords t)).toInt = (Lstm.time 800 (dir t) (2 * (t.val % 400) + 1) : ℤ) :=
  (by decide +kernel : ∀ t : Fin grid0.N, _)

/-! ## The blocks a point reads -/

theorem blk0 (t : Fin cfg0.N) (b : Fin 32) : iblk m c 0 t (ix2 b 0) = (m ((c : Thread nD τ).loc main_arg1)) (ix1 b) := by
  obtain ⟨a0, a1⟩ := idx0 t
  refine Eq.trans ?_ (V_main_v13 m c b)
  show V m c main_v13 (((cfg0.win 0).blk t).view.emb (ix2 b 0)) = _
  congr 1; funext a; apply Fin.ext
  match a with
  | ⟨0, _⟩ => show win0_0.index t (0 : Fin 2) * 32 + 1 * b.val = b.val; omega
  | ⟨1, _⟩ => show win0_0.index t (1 : Fin 2) * 1 + 1 * 0 = 0; omega

theorem blk1 (t : Fin cfg0.N) (q : Fin 2) (b : Fin 32) (g : Fin 1024) : (iblk m c 1 t (ix4 0 q b g) : EReal)
    = gx (m ((c : Thread nD τ).loc main_arg0)) (dir t) b (2 * pair t + q.val) g := by
  obtain ⟨a0, a1, a2, a3⟩ := idx1 t
  have ht : t.val < 800 := lt_of_lt_of_eq t.isLt N_eq
  have hp : pair t < 400 := by unfold pair; split <;> omega
  refine Eq.trans ?_ (X_apply _ (dir t) ⟨2 * pair t + q.val, by omega⟩ b g)
  show V m c main_v1 (((cfg0.win 1).blk t).view.emb (ix4 0 q b g)) = _
  rw [V_main_v1]
  congr 1; funext a; apply Fin.ext
  match a with
  | ⟨0, _⟩ => show win0_1.index t (0 : Fin 4) * 1 + 1 * 0 = t.val / 400; omega
  | ⟨1, _⟩ => show win0_1.index t (1 : Fin 4) * 2 + 1 * q.val = 2 * pair t + q.val; omega
  | ⟨2, _⟩ => show win0_1.index t (2 : Fin 4) * 32 + 1 * b.val = b.val; omega
  | ⟨3, _⟩ => show win0_1.index t (3 : Fin 4) * 1024 + 1 * g.val = g.val; omega

theorem blk3 (t : Fin cfg0.N) (k : Fin 256) (g : Fin 1024) : (iblk m c 3 t (ix3 0 k g) : EReal)
    = wh (m ((c : Thread nD τ).loc main_arg2)) (m ((c : Thread nD τ).loc main_arg4)) (dir t) g k := by
  obtain ⟨a0, a1, a2⟩ := idx3 t
  refine Eq.trans ?_ (W_apply _ _ (dir t) k g)
  show V m c main_v7 (((cfg0.win 3).blk t).view.emb (ix3 0 k g)) = _
  rw [V_main_v7]
  congr 1; funext a; apply Fin.ext
  match a with
  | ⟨0, _⟩ => show win0_3.index t (0 : Fin 3) * 1 + 1 * 0 = t.val / 400; omega
  | ⟨1, _⟩ => show win0_3.index t (1 : Fin 3) * 256 + 1 * k.val = k.val; omega
  | ⟨2, _⟩ => show win0_3.index t (2 : Fin 3) * 1024 + 1 * g.val = g.val; omega

theorem blk4 (t : Fin cfg0.N) (g : Fin 1024) : (iblk m c 4 t (ix3 0 0 g) : EReal)
    = bi (m ((c : Thread nD τ).loc main_arg3)) (m ((c : Thread nD τ).loc main_arg5)) (dir t) g := by
  obtain ⟨a0, a1, a2⟩ := idx4 t
  refine Eq.trans ?_ (V_main_v12 m c (dir t) g)
  show V m c main_v12 (((cfg0.win 4).blk t).view.emb (ix3 0 0 g)) = _
  congr 1; funext a; apply Fin.ext
  match a with
  | ⟨0, _⟩ => show win0_4.index t (0 : Fin 3) * 1 + 1 * 0 = t.val / 400; omega
  | ⟨1, _⟩ => show win0_4.index t (1 : Fin 3) * 1 + 1 * 0 = 0; omega
  | ⟨2, _⟩ => show win0_4.index t (2 : Fin 3) * 1024 + 1 * g.val = g.val; omega

/-! ## The two steps of a point -/

/-- The kernel's states and results, over the arguments. -/
abbrev Km (d : Fin 2) (b : Fin 32) (n : ℕ) : Lstm.St :=
  K (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) d b n
abbrev Gm : Vec Ideal S800x32x512 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem gxOne_eq (t : Fin cfg0.N) (b : Fin 32) : gxOne (grid0.coords t) (iblk m c 1 t) b
    = gx (m ((c : Thread nD τ).loc main_arg0)) (dir t) b (Lstm.time 800 (dir t) (2 * (t.val % 400))) := by
  have ht : t.val < 800 := lt_of_lt_of_eq t.isLt N_eq
  funext g
  unfold gxOne
  rw [dirBit t, blk1, blk1]
  have hd : (dir t).val = t.val / 400 := rfl
  by_cases h : t.val / 400 = 0
  · rw [if_pos h]
    refine Eq.trans (if_pos rfl) (congrArg (fun n => gx _ (dir t) b n g) ?_)
    simp [pair, Lstm.time, hd, h]
  · rw [if_neg h]
    refine Eq.trans (if_neg (by decide)) (congrArg (fun n => gx _ (dir t) b n g) ?_)
    simp only [pair, Lstm.time, hd, if_neg h]
    show 2 * (399 - t.val % 400) + 1 = _
    omega

theorem gxTwo_eq (t : Fin cfg0.N) (b : Fin 32) : gxTwo (grid0.coords t) (iblk m c 1 t) b
    = gx (m ((c : Thread nD τ).loc main_arg0)) (dir t) b (Lstm.time 800 (dir t) (2 * (t.val % 400) + 1)) := by
  have ht : t.val < 800 := lt_of_lt_of_eq t.isLt N_eq
  funext g
  unfold gxTwo
  rw [dirBit t, blk1, blk1]
  have hd : (dir t).val = t.val / 400 := rfl
  by_cases h : t.val / 400 = 0
  · rw [if_pos h]
    refine Eq.trans (if_pos rfl) (congrArg (fun n => gx _ (dir t) b n g) ?_)
    simp [pair, Lstm.time, hd, h]
  · rw [if_neg h]
    refine Eq.trans (if_neg (by decide)) (congrArg (fun n => gx _ (dir t) b n g) ?_)
    simp only [pair, Lstm.time, hd, if_neg h]
    show 2 * (399 - t.val % 400) + 0 = _
    omega

/-- The first step of a point, from a state of the row. -/
theorem one_eq (t : Fin cfg0.N) (h' c' : Vec Ideal S32x256 .f32) (b : Fin 32) (hs : row h' c' b = Km m c (dir t) b (2 * (t.val % 400))) :
    row (hOne (grid0.coords t) (vOne (grid0.coords t)) (iblk m c 0 t) (iblk m c 1 t) (iblk m c 3 t) (iblk m c 4 t) h' c')
      (cOne (grid0.coords t) (vOne (grid0.coords t)) (iblk m c 0 t) (iblk m c 1 t) (iblk m c 3 t) (iblk m c 4 t) h' c') b
      = Km m c (dir t) b (2 * (t.val % 400) + 1) := by
  refine (row_one _ _ _ _ _ _ _ _ b).trans ?_
  rw [hs, gxOne_eq, vOne_eq, blk0]
  simp only [blk3, blk4]
  rfl

/-- The second. -/
theorem two_eq (t : Fin cfg0.N) (h' c' : Vec Ideal S32x256 .f32) (b : Fin 32) (hs : row h' c' b = Km m c (dir t) b (2 * (t.val % 400))) :
    row (hTwo (grid0.coords t) (vOne (grid0.coords t)) (vTwo (grid0.coords t)) (iblk m c 0 t) (iblk m c 1 t) (iblk m c 3 t) (iblk m c 4 t) h' c')
      (cTwo (grid0.coords t) (vOne (grid0.coords t)) (vTwo (grid0.coords t)) (iblk m c 0 t) (iblk m c 1 t) (iblk m c 3 t) (iblk m c 4 t) h' c') b
      = Km m c (dir t) b (2 * (t.val % 400) + 2) := by
  refine (row_two _ _ _ _ _ _ _ _ _ b).trans ?_
  rw [one_eq m c t h' c' b hs, gxTwo_eq, vTwo_eq, blk0]
  simp only [blk3, blk4]
  rfl

/-- The output block of a point, from a state of every row. -/
theorem both_eq (t : Fin cfg0.N) (h' c' : Vec Ideal S32x256 .f32) (hs : ∀ b, row h' c' b = Km m c (dir t) b (2 * (t.val % 400)))
    (q : Fin 2) (b : Fin 32) (u : Fin 256) :
    (outBoth (grid0.coords t) (vOne (grid0.coords t)) (vTwo (grid0.coords t)) (iblk m c 0 t) (iblk m c 1 t) (iblk m c 3 t) (iblk m c 4 t) h' c'
      (Scalar.cmpi .eq (BitVec.ofNat 32 (grid0.coords t 0).val) 0#32) (ix3 q b u) : EReal)
      = Gd (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
          (2 * pair t + q.val) b (dir t) u := by
  have ht : t.val < 800 := lt_of_lt_of_eq t.isLt N_eq
  have hd : (dir t).val = t.val / 400 := rfl
  have hq : q.val < 2 := q.isLt
  refine (out_row _ _ _ _ _ _ _ _ _ _ q b u).trans ?_
  rw [one_eq m c t h' c' b (hs b), two_eq m c t h' c' b (hs b), vOne_eq, vTwo_eq, blk0, dirBit]
  by_cases hf : (q.val = 0 ↔ (if t.val / 400 = 0 then 1#1 else 0#1) = 1#1)
  · rw [if_pos hf]
    have e : 2 * pair t + q.val = Lstm.time 800 (dir t) (2 * (t.val % 400)) := by
      unfold pair Lstm.time
      rw [hd]
      by_cases h : t.val / 400 = 0
      · simp only [if_pos h, iff_true] at hf ⊢; omega
      · rw [if_neg h] at hf; have : ¬ q.val = 0 := fun hz => absurd (hf.mp hz) (by decide)
        simp only [if_neg h]; omega
    rw [e]
    by_cases hm : (Lstm.time 800 (dir t) (2 * (t.val % 400)) : ℤ) < len (m ((c : Thread nD τ).loc main_arg1)) b
    · refine (if_pos hm).trans ?_
      unfold Gd
      rw [Lstm.out_pos _ _ _ _ _ hm, Lstm.time_time _ (by omega)]
      rfl
    · refine (if_neg hm).trans (Lstm.out_neg _ _ _ _ _ hm).symm
  · rw [if_neg hf]
    have e : 2 * pair t + q.val = Lstm.time 800 (dir t) (2 * (t.val % 400) + 1) := by
      unfold pair Lstm.time
      rw [hd]
      by_cases h : t.val / 400 = 0
      · simp only [if_pos h, iff_true] at hf ⊢; omega
      · rw [if_neg h] at hf; have : q.val = 0 := by
          by_contra hz; exact hf ⟨fun h => absurd h hz, fun h => absurd h (by decide)⟩
        simp only [if_neg h]; omega
    rw [e]
    by_cases hm : (Lstm.time 800 (dir t) (2 * (t.val % 400) + 1) : ℤ) < len (m ((c : Thread nD τ).loc main_arg1)) b
    · refine (if_pos hm).trans ?_
      unfold Gd
      rw [Lstm.out_pos _ _ _ _ _ hm, Lstm.time_time _ (by omega)]
      rfl
    · refine (if_neg hm).trans (Lstm.out_neg _ _ _ _ _ hm).symm

/-! ## The points, one after the other -/

/-- The state at the start is zero. -/
theorem row_start (b : Fin 32) : row (k0_pay2 (F := Ideal)) (k0_pay3 (F := Ideal)) b = (fun _ => 0, fun _ => 0) := by
  unfold row k0_pay2 k0_pay3
  simp only [pointwise]

theorem after_A (t : Fin cfg0.N) (h0 : t.val % 400 = 0) (b : Fin 32) :
    row (outsAt0 m c t.val t.isLt).2.1 (outsAt0 m c t.val t.isLt).2.2 b = Km m c (dir t) b (2 * (t.val % 400) + 2) := by
  rw [outsAt0_A m c t h0]
  dsimp only
  rw [sout_A_0, sout_A_1]
  refine two_eq m c t _ _ b ((row_start b).trans ?_)
  rw [h0]; rfl

theorem after_B (t : Fin cfg0.N) (h0 : ¬t.val % 400 = 0) (b : Fin 32)
    (hs : row (outsAt0 m c (t.val - 1) (Nat.lt_of_le_of_lt (Nat.sub_le _ _) t.isLt)).2.1
      (outsAt0 m c (t.val - 1) (Nat.lt_of_le_of_lt (Nat.sub_le _ _) t.isLt)).2.2 b = Km m c (dir t) b (2 * (t.val % 400))) :
    row (outsAt0 m c t.val t.isLt).2.1 (outsAt0 m c t.val t.isLt).2.2 b = Km m c (dir t) b (2 * (t.val % 400) + 2) := by
  rw [outsAt0_B m c t h0]
  dsimp only
  rw [sout_B_0, sout_B_1]
  exact two_eq m c t _ _ b hs

/-- After every point the two scratch arrays hold the state of every row. -/
theorem scratch (n : ℕ) (hn : n < cfg0.N) (b : Fin 32) :
    row (outsAt0 m c n hn).2.1 (outsAt0 m c n hn).2.2 b = Km m c (dir ⟨n, hn⟩) b (2 * (n % 400) + 2) := by
  induction n with
  | zero =>
    exact after_A m c ⟨0, hn⟩ rfl b
  | succ n ih =>
    have hN : n + 1 < 800 := lt_of_lt_of_eq hn N_eq
    by_cases h0 : (n + 1) % 400 = 0
    · exact after_A m c ⟨n + 1, hn⟩ h0 b
    · refine after_B m c ⟨n + 1, hn⟩ h0 b ((ih (Nat.lt_of_succ_lt hn)).trans ?_)
      have e : dir ⟨n, Nat.lt_of_succ_lt hn⟩ = dir ⟨n + 1, hn⟩ := Fin.ext (show n / 400 = (n + 1) / 400 by omega)
      rw [e]
      exact congrArg (Km m c _ b) (show 2 * (n % 400) + 2 = 2 * ((n + 1) % 400) by omega)

/-- Every point's output block. -/
theorem block (t : Fin cfg0.N) (q : Fin 2) (b : Fin 32) (u : Fin 256) : ((outsAt0 m c t.val t.isLt).1 (ix3 q b u) : EReal)
    = Gd (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (2 * pair t + q.val) b (dir t) u := by
  by_cases h0 : t.val % 400 = 0
  · rw [outsAt0_A m c t h0, out_A]
    refine both_eq m c t _ _ (fun b => (row_start b).trans ?_) q b u
    rw [h0]; rfl
  · rw [outsAt0_B m c t h0, out_B]
    refine both_eq m c t _ _ (fun b => (scratch m c (t.val - 1) (Nat.lt_of_le_of_lt (Nat.sub_le _ _) t.isLt) b).trans ?_) q b u
    have e : dir ⟨t.val - 1, Nat.lt_of_le_of_lt (Nat.sub_le _ _) t.isLt⟩ = dir t := Fin.ext (show (t.val - 1) / 400 = t.val / 400 by omega)
    rw [e]
    exact congrArg (Km m c _ b) (show 2 * ((t.val - 1) % 400) + 2 = 2 * (t.val % 400) by omega)

/-! ## The result array -/

/-- What a point writes back is its block of the result. -/
theorem flushed_eq (t : Fin cfg0.N) : (dats m 0 c).flushed 5 t = ((cfg0.win 5).blk t).view.read (Elt Ideal) (Gm m c) := by
  obtain ⟨a0, a1, a2⟩ := idx5 t
  rw [flushed5]
  funext j
  show (outsAt0 m c t.val t.isLt).1 j = Gm m c (((cfg0.win 5).blk t).view.emb j)
  have hj : (j : S2x32x256.Idx) = ix3 (j 0 : Fin 2) (j 1 : Fin 32) (j 2 : Fin 256) := by
    funext a; fin_cases a <;> rfl
  have h2 : (j 2).val < 256 := (j 2).isLt
  have e0 : (((cfg0.win 5).blk t).view.emb j 0 : Fin 800).val = 2 * pair t + (j 0).val := by
    show win0_5.index t (0 : Fin 3) * 2 + 1 * (j 0).val = _; omega
  have e1 : (((cfg0.win 5).blk t).view.emb j 1 : Fin 32) = j 1 := by
    apply Fin.ext; show win0_5.index t (1 : Fin 3) * 32 + 1 * (j 1).val = _; omega
  have e2 : (((cfg0.win 5).blk t).view.emb j 2 : Fin 512).val = t.val / 400 * 256 + (j 2).val := by
    show win0_5.index t (2 : Fin 3) * 256 + 1 * (j 2).val = _; omega
  refine (congrArg (outsAt0 m c t.val t.isLt).1 hj).trans ((block m c t _ _ _).trans ?_)
  show _ = Gd _ _ _ _ _ _ _ _ _ _
  rw [← e0]
  congr 1
  · exact e1.symm
  · apply Fin.ext; show t.val / 400 = (((cfg0.win 5).blk t).view.emb j 2 : Fin 512).val / 256; omega
  · apply Fin.ext; show (j 2).val = (((cfg0.win 5).blk t).view.emb j 2 : Fin 512).val % 256; omega

/-- Every index of the result is in a point's block. -/
theorem cover (i : S800x32x512.Idx) : ∃ t : Fin cfg0.N, (cfg0.win 5).flush t = true ∧ i ∈ ((cfg0.win 5).blk t).view.set := by
  have h0 : (i 0).val < 800 := (i 0).isLt
  have h1 : (i 1).val < 32 := (i 1).isLt
  have h2 : (i 2).val < 512 := (i 2).isLt
  let t : Fin cfg0.N := ⟨(i 2).val / 256 * 400 + (if (i 2).val / 256 = 0 then (i 0).val / 2 else 399 - (i 0).val / 2), by rw [N_eq]; split <;> omega⟩
  have htv : t.val = (i 2).val / 256 * 400 + (if (i 2).val / 256 = 0 then (i 0).val / 2 else 399 - (i 0).val / 2) := rfl
  have hd : t.val / 400 = (i 2).val / 256 := by rw [htv]; split <;> omega
  have hp : pair t = (i 0).val / 2 := by
    unfold pair
    rw [hd]
    by_cases h : (i 2).val / 256 = 0
    · rw [if_pos h, htv, if_pos h]; omega
    · rw [if_neg h, htv, if_neg h]; omega
  obtain ⟨a0, a1, a2⟩ := idx5 t
  refine ⟨t, flush0_5 t, ?_⟩
  let j : S2x32x256.Idx := ix3 (⟨(i 0).val % 2, Nat.mod_lt _ (by decide)⟩ : Fin 2) (i 1) (⟨(i 2).val % 256, Nat.mod_lt _ (by decide)⟩ : Fin 256)
  have h := ((cfg0.win 5).blk t).view.emb_mem_set j
  have e : ((cfg0.win 5).blk t).view.emb j = i := by
    funext a; apply Fin.ext
    match a with
    | ⟨0, _⟩ => show win0_5.index t (0 : Fin 3) * 2 + 1 * ((i 0).val % 2) = (i 0).val; omega
    | ⟨1, _⟩ => show win0_5.index t (1 : Fin 3) * 32 + 1 * (i 1).val = (i 1).val; omega
    | ⟨2, _⟩ => show win0_5.index t (2 : Fin 3) * 256 + 1 * ((i 2).val % 256) = (i 2).val; omega
  rwa [e] at h

/-- The result array after the run. -/
theorem final : (dats m 0 c).arrAt 5 cfg0.N = Gm m c :=
  (dats m 0 c).arrAt_eq_of_cover 5 _ (fun t _ => flushed_eq m c t) cover

end Cert.Proof.LayerTwoValue

end
-- ==== Proof.LayerTwoRef.lean ====
/- Hand-written, untrusted: WHAT LAYER TWO'S REFERENCE LEAVES — one trip of its loop as a step of every row, the loop's entry, and the
   result, which joins the forward outputs with the backward ones put back in order. -/
module

public import proofs.«01_k».proof.Proof.Gen.LayerTwoRefIdeal.Run
public import proofs.«01_k».proof.Proof.Lstm
public import proofs.«01_k».proof.Proof.Reverse

@[expose] public section

set_option maxRecDepth 16384

noncomputable section

namespace Cert.Proof.LayerTwoRefValue

open Idealize.ShloMosaic.StableHlo Idealize.ShloMosaic.HostLoop
open Cert.LayerTwoRefIdeal Cert.LayerTwoRefIdeal.Gen Cert.LayerTwoRefIdeal.Value Idealize.ShloMosaic Idealize.ShloMosaic.TcCoe Idealize.SL.Sem

/-! ## One trip, over plain arrays -/

/-- The start of the slice that trip `k` reads. -/
def start (k : IVec S_ 32) : Fin 4 → Int :=
  fun a => (((![k, constantI S_ 32 0#32, constantI S_ 32 0#32, constantI S_ 32 0#32] : Fin 4 → IVec S_ 32)) a (Shape.Idx.first h_S_)).toInt

/-- The gates before their functions. -/
def gates (x : FVec Ideal S800x2x32x1024 .f32) (w : FVec Ideal S2x1024x256 .f32) (v : FVec Ideal S2x1024 .f32) (k : IVec S_ 32)
    (h : FVec Ideal S2x32x256 .f32) : FVec Ideal S2x32x1024 .f32 :=
  addf (addf (shapeCast S2x32x1024 (Host.dynamicSlice S1x2x32x1024 x (start k) sliceFits_S800x2x32x1024_S1x2x32x1024) shapeCasts_S1x2x32x1024_S2x32x1024)
    (Host.dotGeneral dot_S2x32x256_S2x1024x256_S2x32x1024_2_2_1_1_0_0 none h w))
    (broadcastInDim S2x32x1024 ![0, 1, 2] bcast_S2x1x1024_S2x32x1024_0_1_2 (broadcastInDim S2x1x1024 ![0, 2] bcast_S2x1024_S2x1x1024_0_2 v))

theorem slices_at (n : ℕ) (hn : n < 800) : S800x2x32x1024.Slices ![n, 0, 0, 0] S1x2x32x1024 :=
  ⟨rfl, fun a => by
    match a with
    | ⟨0, _⟩ => exact (show n + 1 ≤ 800 by omega)
    | ⟨1, _⟩ => exact (show 0 + 2 ≤ 2 by omega)
    | ⟨2, _⟩ => exact (show 0 + 32 ≤ 32 by omega)
    | ⟨3, _⟩ => exact (show 0 + 1024 ≤ 1024 by omega)⟩

theorem start_at (n : ℕ) (hn : n < 800) (a : Fin 4) : start (fun _ => BitVec.ofNat 32 n) a = ((![n, 0, 0, 0] : Fin 4 → ℕ) a : ℤ) := by
  match a with
  | ⟨0, _⟩ => exact toInt_ofNat_of_lt (show n < 2 ^ 31 by omega)
  | ⟨1, _⟩ => rfl
  | ⟨2, _⟩ => rfl
  | ⟨3, _⟩ => rfl

theorem gates_apply (x : FVec Ideal S800x2x32x1024 .f32) (w : FVec Ideal S2x1024x256 .f32) (v : FVec Ideal S2x1024 .f32) (n : ℕ) (hn : n < 800)
    (h : FVec Ideal S2x32x256 .f32) (d : Fin 2) (b : Fin 32) (g : Fin 1024) :
    (gates x w v (fun _ => BitVec.ofNat 32 n) h (ix3 d b g) : EReal)
      = Lstm.pre (fun g => x (ix4 ⟨n, hn⟩ d b g)) (fun g k => w (ix3 d g k)) (fun g => v (ix2 d g)) (fun k => h (ix3 d b k)) g := by
  unfold gates Lstm.pre
  rw [Host.dynamicSlice_eq_extractStridedSlice S1x2x32x1024 x (start (fun _ => BitVec.ofNat 32 n)) ![n, 0, 0, 0] _ (slices_at n hn) (start_at n hn)]
  simp only [pointwise]
  simp [Nat.zero_add, Fin.eta]

/-- One gate's logistic, as the reference spells it. -/
def sig' (p : FVec Ideal S2x32x256 .f32) : FVec Ideal S2x32x256 .f32 :=
  Host.divf (broadcastInDim S2x32x256 ![] bcast_S_S2x32x256 (constant S_ .f32 0x3F800000#32))
    (addf (broadcastInDim S2x32x256 ![] bcast_S_S2x32x256 (constant S_ .f32 0x3F800000#32)) (Host.exp (Host.negf p)))

theorem sig_apply (p : FVec Ideal S2x32x256 .f32) (i : S2x32x256.Idx) : (sig' p i : EReal) = Ideal.logistic (p i) := by
  unfold sig' Ideal.logistic
  simp only [pointwise]

/-- The new cell array. -/
def cellR (p : FVec Ideal S2x32x1024 .f32) (c : FVec Ideal S2x32x256 .f32) : FVec Ideal S2x32x256 .f32 :=
  addf (mulf (sig' (extractStridedSlice S2x32x256 ![0, 0, 256] p slices_S2x32x1024_S2x32x256_0_0_256)) c)
    (mulf (sig' (extractStridedSlice S2x32x256 ![0, 0, 0] p slices_S2x32x1024_S2x32x256_0_0_0))
      (Host.tanh (extractStridedSlice S2x32x256 ![0, 0, 512] p slices_S2x32x1024_S2x32x256_0_0_512)))

theorem cellR_apply (p : FVec Ideal S2x32x1024 .f32) (c : FVec Ideal S2x32x256 .f32) (d : Fin 2) (b : Fin 32) (u : Fin 256) :
    (cellR p c (ix3 d b u) : EReal) = Lstm.newC (fun g => p (ix3 d b g)) (fun u => c (ix3 d b u)) u := by
  unfold cellR Lstm.newC
  simp only [pointwise, sig_apply]
  simp [Nat.zero_add, Fin.eta, Lstm.gF, Lstm.gI, Lstm.gG]

/-- The new hidden array. -/
def hidR (p : FVec Ideal S2x32x1024 .f32) (c : FVec Ideal S2x32x256 .f32) : FVec Ideal S2x32x256 .f32 :=
  mulf (sig' (extractStridedSlice S2x32x256 ![0, 0, 768] p slices_S2x32x1024_S2x32x256_0_0_768)) (Host.tanh (cellR p c))

theorem hidR_apply (p : FVec Ideal S2x32x1024 .f32) (c : FVec Ideal S2x32x256 .f32) (d : Fin 2) (b : Fin 32) (u : Fin 256) :
    (hidR p c (ix3 d b u) : EReal) = Lstm.newH (fun g => p (ix3 d b g)) (fun u => c (ix3 d b u)) u := by
  unfold hidR Lstm.newH
  simp only [pointwise, sig_apply, cellR_apply]
  simp [Nat.zero_add, Fin.eta, Lstm.gO]

/-- The mask of a trip. -/
def maskR (ts : IVec S800 32) (k : IVec S_ 32) (l : IVec S32 32) : IVec S2x32x256 1 :=
  broadcastInDim S2x32x256 ![0, 1, 2] bcast_S1x32x1_S2x32x256_0_1_2 (broadcastInDim S1x32x1 ![1] bcast_S32_S1x32x1_1
    (cmpi .slt (broadcastInDim S32 ![] bcast_S_S32 (shapeCast S_ (Host.dynamicSlice S1 ts
      (fun a => (((![k] : Fin 1 → IVec S_ 32)) a (Shape.Idx.first h_S_)).toInt) sliceFits_S800_S1) shapeCasts_S1_S_)) l))

theorem slices_at1 (n : ℕ) (hn : n < 800) : S800.Slices ![n] S1 :=
  ⟨rfl, fun a => by
    match a with
    | ⟨0, _⟩ => exact (show n + 1 ≤ 800 by omega)⟩

theorem maskR_apply (n : ℕ) (hn : n < 800) (l : IVec S32 32) (d : Fin 2) (b : Fin 32) (u : Fin 256) :
    maskR (iotaInDim S800 32 0) (fun _ => BitVec.ofNat 32 n) l (ix3 d b u) = IntOp.cmpi .slt (BitVec.ofNat 32 n) (l (ix1 b)) := by
  unfold maskR
  rw [Host.dynamicSlice_eq_extractStridedSlice S1 (iotaInDim S800 32 0) _ ![n] _ (slices_at1 n hn) (fun a => by
    match a with
    | ⟨0, _⟩ => exact toInt_ofNat_of_lt (show n < 2 ^ 31 by omega))]
  simp only [pointwise]
  simp

theorem slices_at2 (n : ℕ) (hn : n < 800) : S800x2x32x256.Slices ![n, 0, 0, 0] S1x2x32x256 :=
  ⟨rfl, fun a => by
    match a with
    | ⟨0, _⟩ => exact (show n + 1 ≤ 800 by omega)
    | ⟨1, _⟩ => exact (show 0 + 2 ≤ 2 by omega)
    | ⟨2, _⟩ => exact (show 0 + 32 ≤ 32 by omega)
    | ⟨3, _⟩ => exact (show 0 + 256 ≤ 256 by omega)⟩

/-- A trip's write to the outputs. -/
def putR (y : FVec Ideal S800x2x32x256 .f32) (k : IVec S_ 32) (o : FVec Ideal S2x32x256 .f32) : FVec Ideal S800x2x32x256 .f32 :=
  Host.dynamicUpdateSlice y (broadcastInDim S1x2x32x256 ![1, 2, 3] bcast_S2x32x256_S1x2x32x256_1_2_3 o) (start k) updateFits_S800x2x32x256_S1x2x32x256

theorem putR_apply (y : FVec Ideal S800x2x32x256 .f32) (n : ℕ) (hn : n < 800) (o : FVec Ideal S2x32x256 .f32) (t : Fin 800) (d : Fin 2)
    (b : Fin 32) (u : Fin 256) : (putR y (fun _ => BitVec.ofNat 32 n) o (ix4 t d b u) : EReal) = if t.val = n then o (ix3 d b u) else y (ix4 t d b u) := by
  unfold putR
  refine (congrFun (Host.dynamicUpdateSlice_eq_updateSlice y _ (start (fun _ => BitVec.ofNat 32 n)) updateFits_S800x2x32x256_S1x2x32x256 ![n, 0, 0, 0]
    (fun a => ?_) (slices_at2 n hn)) _).trans ?_
  · rw [start_at n hn]
    match a with
    | ⟨0, _⟩ => show (min (max (n : ℤ) 0) 799).toNat = n; omega
    | ⟨1, _⟩ => rfl
    | ⟨2, _⟩ => rfl
    | ⟨3, _⟩ => rfl
  simp only [pointwise]
  by_cases h : t.val = n
  · rw [if_pos h]
    refine (dif_pos (by simp; omega)).trans ?_
    simp
  · rw [if_neg h]
    exact dif_neg (by simp; omega)

/-! ## The trip's results are these -/

variable (V : Valuation τ sig (Elt Ideal))

theorem v49_eq : res_main_while0b_v49 V = gates (V (Proc.devRef .tc main_v27_0)) (V (Proc.devRef .tc main_v27_2)) (V (Proc.devRef .tc main_v27_3))
    (V (Proc.devRef .tc main_v27_5)) (V (Proc.devRef .tc main_v27_6)) := rfl
theorem v69_eq : res_main_while0b_v69 V = cellR (res_main_while0b_v49 V) (V (Proc.devRef .tc main_v27_7)) := rfl
theorem v77_eq : res_main_while0b_v77 V = hidR (res_main_while0b_v49 V) (V (Proc.devRef .tc main_v27_7)) := rfl
theorem v80_eq : broadcastInDim S2x32x256 ![0, 1, 2] bcast_S1x32x1_S2x32x256_0_1_2 (res_main_while0b_v80 V)
    = maskR (V (Proc.devRef .tc main_v27_1)) (V (Proc.devRef .tc main_v27_5)) (V (Proc.devRef .tc main_v27_4)) := rfl
theorem h_eq : step_main_v27_6 V = select (maskR (V (Proc.devRef .tc main_v27_1)) (V (Proc.devRef .tc main_v27_5)) (V (Proc.devRef .tc main_v27_4)))
    (res_main_while0b_v77 V) (V (Proc.devRef .tc main_v27_6)) := rfl
theorem c_eq : step_main_v27_7 V = select (maskR (V (Proc.devRef .tc main_v27_1)) (V (Proc.devRef .tc main_v27_5)) (V (Proc.devRef .tc main_v27_4)))
    (res_main_while0b_v69 V) (V (Proc.devRef .tc main_v27_7)) := rfl
/-- What a trip puts out. -/
def outR : FVec Ideal S2x32x256 .f32 :=
  select (broadcastInDim S2x32x256 ![0, 1, 2] bcast_S1x32x1_S2x32x256_0_1_2 (res_main_while0b_v80 V)) (res_main_while0b_v77 V)
    (broadcastInDim S2x32x256 ![] bcast_S_S2x32x256 (id (constant (F := Ideal) S_ .f32 0x00000000#32)))
theorem y_eq : step_main_v27_8 V = putR (V (Proc.devRef .tc main_v27_8)) (V (Proc.devRef .tc main_v27_5)) (outR V) := by
  unfold step_main_v27_8 putR outR start
  rfl

/-! ## A trip as a step of every row -/

/-- The carried arrays. -/
abbrev xR : FVec Ideal S800x2x32x1024 .f32 := V (Proc.devRef .tc main_v27_0)
abbrev wR : FVec Ideal S2x1024x256 .f32 := V (Proc.devRef .tc main_v27_2)
abbrev bR : FVec Ideal S2x1024 .f32 := V (Proc.devRef .tc main_v27_3)
abbrev lR : IVec S32 32 := V (Proc.devRef .tc main_v27_4)
abbrev hR : FVec Ideal S2x32x256 .f32 := V (Proc.devRef .tc main_v27_6)
abbrev cR : FVec Ideal S2x32x256 .f32 := V (Proc.devRef .tc main_v27_7)
abbrev yR : FVec Ideal S800x2x32x256 .f32 := V (Proc.devRef .tc main_v27_8)

/-- A row's state. -/
def rowR (d : Fin 2) (b : Fin 32) : Lstm.St := (fun u => hR V (ix3 d b u), fun u => cR V (ix3 d b u))

theorem select_slt {α : Type} (x y : BitVec 32) (a b : α) :
    Scalar.select (IntOp.cmpi CmpIPredicate.slt x y) a b = if x.toInt < y.toInt then a else b := by
  by_cases h : x.toInt < y.toInt <;> simp [Scalar.select, IntOp.cmpi, BitVec.slt, h]

section Trip
variable (n : ℕ) (hn : n < 800) (h5 : V (Proc.devRef .tc main_v27_5) = fun _ => BitVec.ofNat 32 n)
  (h1 : V (Proc.devRef .tc main_v27_1) = iotaInDim S800 32 0)
include hn h5 h1

theorem pre_row (d : Fin 2) (b : Fin 32) : (fun g : Fin 1024 => (gates (xR V) (wR V) (bR V) (V (Proc.devRef .tc main_v27_5)) (hR V) (ix3 d b g) : EReal))
    = Lstm.pre (fun g => xR V (ix4 ⟨n, hn⟩ d b g)) (fun g k => wR V (ix3 d g k)) (fun g => bR V (ix2 d g)) (rowR V d b).1 := by
  funext g
  rw [h5]
  exact gates_apply _ _ _ n hn _ d b g

theorem v77_row (d : Fin 2) (b : Fin 32) (u : Fin 256) : (res_main_while0b_v77 V (ix3 d b u) : EReal)
    = Lstm.newH (Lstm.pre (fun g => xR V (ix4 ⟨n, hn⟩ d b g)) (fun g k => wR V (ix3 d g k)) (fun g => bR V (ix2 d g)) (rowR V d b).1) (rowR V d b).2 u := by
  rw [v77_eq, v49_eq, ← pre_row V n hn h5 h1 d b]
  exact hidR_apply _ _ d b u

theorem v69_row (d : Fin 2) (b : Fin 32) (u : Fin 256) : (res_main_while0b_v69 V (ix3 d b u) : EReal)
    = Lstm.newC (Lstm.pre (fun g => xR V (ix4 ⟨n, hn⟩ d b g)) (fun g k => wR V (ix3 d g k)) (fun g => bR V (ix2 d g)) (rowR V d b).1) (rowR V d b).2 u := by
  rw [v69_eq, v49_eq, ← pre_row V n hn h5 h1 d b]
  exact cellR_apply _ _ d b u

theorem mask_row (d : Fin 2) (b : Fin 32) (u : Fin 256) {α : Type} (a a' : α) :
    Scalar.select (maskR (V (Proc.devRef .tc main_v27_1)) (V (Proc.devRef .tc main_v27_5)) (V (Proc.devRef .tc main_v27_4)) (ix3 d b u)) a a'
      = if (n : ℤ) < (lR V (ix1 b)).toInt then a else a' := by
  rw [h5, h1]
  refine (congrArg (fun z => Scalar.select z a a') (maskR_apply n hn (lR V) d b u)).trans ?_
  rw [select_slt, toInt_ofNat_of_lt (show n < 2 ^ 31 by omega)]

theorem step_row (d : Fin 2) (b : Fin 32) : rowR (STEP V) d b = Lstm.step ((n : ℤ) < (lR V (ix1 b)).toInt) (fun g => xR V (ix4 ⟨n, hn⟩ d b g))
    (fun g k => wR V (ix3 d g k)) (fun g => bR V (ix2 d g)) (rowR V d b) := by
  have eh : ∀ u, (hR (STEP V) (ix3 d b u) : EReal) = if (n : ℤ) < (lR V (ix1 b)).toInt then res_main_while0b_v77 V (ix3 d b u) else hR V (ix3 d b u) := fun u => by
    refine (congrFun ((STEP_main_v27_6 V).trans (h_eq V)) _).trans ?_
    exact mask_row V n hn h5 h1 d b u _ _
  have ec : ∀ u, (cR (STEP V) (ix3 d b u) : EReal) = if (n : ℤ) < (lR V (ix1 b)).toInt then res_main_while0b_v69 V (ix3 d b u) else cR V (ix3 d b u) := fun u => by
    refine (congrFun ((STEP_main_v27_7 V).trans (c_eq V)) _).trans ?_
    exact mask_row V n hn h5 h1 d b u _ _
  by_cases h : (n : ℤ) < (lR V (ix1 b)).toInt
  · rw [Lstm.step_pos h]
    refine Prod.ext (funext fun u => ?_) (funext fun u => ?_)
    · exact (eh u).trans ((if_pos h).trans (v77_row V n hn h5 h1 d b u))
    · exact (ec u).trans ((if_pos h).trans (v69_row V n hn h5 h1 d b u))
  · rw [Lstm.step_neg h]
    refine Prod.ext (funext fun u => ?_) (funext fun u => ?_)
    · exact (eh u).trans (if_neg h)
    · exact (ec u).trans (if_neg h)

theorem step_out (t : Fin 800) (d : Fin 2) (b : Fin 32) (u : Fin 256) : (yR (STEP V) (ix4 t d b u) : EReal)
    = if t.val = n then (if (n : ℤ) < (lR V (ix1 b)).toInt then (rowR (STEP V) d b).1 u else 0) else yR V (ix4 t d b u) := by
  refine (congrFun ((STEP_main_v27_8 V).trans (y_eq V)) _).trans ?_
  rw [h5]
  refine (putR_apply _ n hn _ t d b u).trans ?_
  refine congrArg (fun z : EReal => if t.val = n then z else yR V (ix4 t d b u)) ?_
  have e : (outR V (ix3 d b u) : EReal) = if (n : ℤ) < (lR V (ix1 b)).toInt then (res_main_while0b_v77 V (ix3 d b u) : EReal) else (0 : EReal) := by
    unfold outR
    rw [v80_eq]
    refine (mask_row V n hn h5 h1 d b u _ _).trans ?_
    refine congrArg (fun z : EReal => if (n : ℤ) < (lR V (ix1 b)).toInt then (res_main_while0b_v77 V (ix3 d b u) : EReal) else z) ?_
    simp only [pointwise, id]
  rw [e]
  by_cases h : (n : ℤ) < (lR V (ix1 b)).toInt
  · rw [if_pos h, if_pos h, step_row V n hn h5 h1 d b, Lstm.step_pos h]
    exact v77_row V n hn h5 h1 d b u
  · rw [if_neg h, if_neg h]

end Trip

/-! ## The loop's entry -/

variable (m : (ℓ : Loc nD τ sig) → Buf (Elt Ideal) ℓ) (c : Dev nD)

/-- The loop's entry. -/
abbrev En : Valuation τ sig (Elt Ideal) := entryContents preI m c

theorem En_ctr : En m c (Proc.devRef .tc main_v27_5) = fun _ => BitVec.ofNat 32 0 := ctr_entry m c
theorem En_iota : En m c (Proc.devRef .tc main_v27_1) = iotaInDim S800 32 0 := by
  simp only [entryContents, afterL_cons, afterL_nil]
  after_results_entrywise []
theorem En_len : lR (En m c) = m ((c : Thread nD τ).loc main_arg1) := by
  show entryContents preI m c (Proc.devRef .tc main_v27_4) = _
  simp only [entryContents, afterL_cons, afterL_nil]
  after_results_entrywise []
theorem En_h : hR (En m c) = broadcastInDim S2x32x256 ![] bcast_S_S2x32x256 (constant S_ .f32 0x00000000#32) := by
  show entryContents preI m c (Proc.devRef .tc main_v27_6) = _
  simp only [entryContents, afterL_cons, afterL_nil]
  after_results_entrywise []
theorem En_c : cR (En m c) = broadcastInDim S2x32x256 ![] bcast_S_S2x32x256 (constant S_ .f32 0x00000000#32) := by
  show entryContents preI m c (Proc.devRef .tc main_v27_7) = _
  simp only [entryContents, afterL_cons, afterL_nil]
  after_results_entrywise []

theorem En_row (d : Fin 2) (b : Fin 32) : rowR (En m c) d b = (fun _ => 0, fun _ => 0) := by
  unfold rowR
  rw [En_h, En_c]
  simp only [pointwise]

/-- The weights, one direction after the other. -/
def Wr (wf wb : FVec Ideal S1024x256 .f32) : FVec Ideal S2x1024x256 .f32 :=
  concatenate S2x1024x256 0 [⟨S1x1024x256, broadcastInDim S1x1024x256 ![1, 2] bcast_S1024x256_S1x1024x256_1_2 wf⟩,
    ⟨S1x1024x256, broadcastInDim S1x1024x256 ![1, 2] bcast_S1024x256_S1x1024x256_1_2 wb⟩] concatenates_S1x1024x256_S1x1024x256_S2x1024x256_d0
theorem Wr_apply (wf wb : FVec Ideal S1024x256 .f32) (d : Fin 2) (g : Fin 1024) (k : Fin 256) :
    (Wr wf wb (ix3 d g k) : EReal) = if d.val = 0 then wf (ix2 g k) else wb (ix2 g k) := by
  unfold Wr
  simp only [pointwise]
  fin_cases d <;> simp
theorem En_w : wR (En m c) = Wr (m ((c : Thread nD τ).loc main_arg2)) (m ((c : Thread nD τ).loc main_arg4)) := by
  show entryContents preI m c (Proc.devRef .tc main_v27_2) = _
  simp only [entryContents, afterL_cons, afterL_nil]
  unfold Wr
  after_results_entrywise []

/-- The biases. -/
def Br (bf bb : FVec Ideal S1024 .f32) : FVec Ideal S2x1024 .f32 :=
  concatenate S2x1024 0 [⟨S1x1024, broadcastInDim S1x1024 ![1] bcast_S1024_S1x1024_1 bf⟩, ⟨S1x1024, broadcastInDim S1x1024 ![1] bcast_S1024_S1x1024_1 bb⟩]
    concatenates_S1x1024_S1x1024_S2x1024_d0
theorem Br_apply (bf bb : FVec Ideal S1024 .f32) (d : Fin 2) (g : Fin 1024) : (Br bf bb (ix2 d g) : EReal) = if d.val = 0 then bf (ix1 g) else bb (ix1 g) := by
  unfold Br
  simp only [pointwise]
  fin_cases d <;> simp
theorem En_b : bR (En m c) = Br (m ((c : Thread nD τ).loc main_arg3)) (m ((c : Thread nD τ).loc main_arg5)) := by
  show entryContents preI m c (Proc.devRef .tc main_v27_3) = _
  simp only [entryContents, afterL_cons, afterL_nil]
  unfold Br
  after_results_entrywise []

/-- The places read backwards. -/
def places (l : IVec S32 32) : IVec S800x32x1 32 :=
  select (cmpi .slt (broadcastInDim S800x32x1 ![0, 1] bcast_S800x32_S800x32x1_0_1 (subi (broadcastInDim S800x32 ![0, 1] bcast_S1x32_S800x32_0_1 (subi (broadcastInDim S1x32 ![1] bcast_S32_S1x32_1 l) (broadcastInDim S1x32 ![] bcast_S_S1x32 (constantI S_ 32 1#32)))) (broadcastInDim S800x32 ![0, 1] bcast_S800x1_S800x32_0_1 (broadcastInDim S800x1 ![0] bcast_S800_S800x1_0 (iotaInDim S800 32 0))))) (broadcastInDim S800x32x1 ![] bcast_S_S800x32x1 (constantI S_ 32 0#32))) (addi (broadcastInDim S800x32x1 ![0, 1] bcast_S800x32_S800x32x1_0_1 (subi (broadcastInDim S800x32 ![0, 1] bcast_S1x32_S800x32_0_1 (subi (broadcastInDim S1x32 ![1] bcast_S32_S1x32_1 l) (broadcastInDim S1x32 ![] bcast_S_S1x32 (constantI S_ 32 1#32)))) (broadcastInDim S800x32 ![0, 1] bcast_S800x1_S800x32_0_1 (broadcastInDim S800x1 ![0] bcast_S800_S800x1_0 (iotaInDim S800 32 0))))) (broadcastInDim S800x32x1 ![] bcast_S_S800x32x1 (constantI S_ 32 800#32))) (broadcastInDim S800x32x1 ![0, 1] bcast_S800x32_S800x32x1_0_1 (subi (broadcastInDim S800x32 ![0, 1] bcast_S1x32_S800x32_0_1 (subi (broadcastInDim S1x32 ![1] bcast_S32_S1x32_1 l) (broadcastInDim S1x32 ![] bcast_S_S1x32 (constantI S_ 32 1#32)))) (broadcastInDim S800x32 ![0, 1] bcast_S800x1_S800x32_0_1 (broadcastInDim S800x1 ![0] bcast_S800_S800x1_0 (iotaInDim S800 32 0)))))

theorem places_apply (l : IVec S32 32) (t : Fin 800) (b : Fin 32) :
    min (places l (ix3 t b 0)).toInt.toNat (800 - 1) = Reverse.place 800 (l (ix1 b)) t.val := by
  unfold places Reverse.place
  simp only [pointwise]
  rfl

/-- The two directions' sequences of gates. -/
def Xr (gf : FVec Ideal S25600x2048 .bf16) (l : IVec S32 32) : FVec Ideal S800x2x32x1024 .f32 :=
  concatenate S800x2x32x1024 1 [⟨S800x1x32x1024, broadcastInDim S800x1x32x1024 ![0, 2, 3] bcast_S800x32x1024_S800x1x32x1024_0_2_3
      (extractStridedSlice S800x32x1024 ![0, 0, 0] (shapeCast S800x32x2048 (extf .f32 gf bitsLt_bf16_f32 : FVec Ideal S25600x2048 .f32) shapeCasts_S25600x2048_S800x32x2048) slices_S800x32x2048_S800x32x1024_0_0_0)⟩,
    ⟨S800x1x32x1024, broadcastInDim S800x1x32x1024 ![0, 2, 3] bcast_S800x32x1024_S800x1x32x1024_0_2_3
      (Host.gather gather_S800x32x1024_S800x32x1_S800x32x1024_2_0_1_1_0_2_111024
        (extractStridedSlice S800x32x1024 ![0, 0, 1024] (shapeCast S800x32x2048 (extf .f32 gf bitsLt_bf16_f32 : FVec Ideal S25600x2048 .f32) shapeCasts_S25600x2048_S800x32x2048) slices_S800x32x2048_S800x32x1024_0_0_1024)
        (places l))⟩] concatenates_S800x1x32x1024_S800x1x32x1024_S800x2x32x1024_d1

theorem En_x : xR (En m c) = Xr (m ((c : Thread nD τ).loc main_arg0)) (m ((c : Thread nD τ).loc main_arg1)) := by
  show entryContents preI m c (Proc.devRef .tc main_v27_0) = _
  simp only [entryContents, afterL_cons, afterL_nil]
  unfold Xr places
  after_results_entrywise []

theorem gather_x (x : FVec Ideal S800x32x1024 .f32) (l : IVec S32 32) (t : Fin 800) (b : Fin 32) (g : Fin 1024) :
    (Host.gather gather_S800x32x1024_S800x32x1_S800x32x1024_2_0_1_1_0_2_111024 x (places l) (ix3 t b g) : EReal)
      = x (ix3 ⟨Reverse.place 800 (l (ix1 b)) t.val, Reverse.place_lt (by decide) _ _⟩ b g) := by
  refine (Reverse.gather_at (by decide) gather_S800x32x1024_S800x32x1_S800x32x1024_2_0_1_1_0_2_111024_wf x (places l) t b g).trans ?_
  exact congrArg x (congrArg (fun k => ix3 k b g) (Fin.ext (places_apply l t b)))

theorem stack_fst (x y : FVec Ideal S800x1x32x1024 .f32) (t : Fin 800) (b : Fin 32) (g : Fin 1024) :
    (concatenate S800x2x32x1024 1 [⟨S800x1x32x1024, x⟩, ⟨S800x1x32x1024, y⟩] concatenates_S800x1x32x1024_S800x1x32x1024_S800x2x32x1024_d1 (ix4 t 0 b g) : EReal)
      = x (ix4 t 0 b g) := by
  refine (concatenate_pair_apply _ _ _ _ _).trans ?_
  refine (dif_pos (show (0 : ℕ) < 1 from Nat.one_pos)).trans ?_
  exact congrArg x (by funext k; fin_cases k <;> rfl)
theorem stack_snd (x y : FVec Ideal S800x1x32x1024 .f32) (t : Fin 800) (b : Fin 32) (g : Fin 1024) :
    (concatenate S800x2x32x1024 1 [⟨S800x1x32x1024, x⟩, ⟨S800x1x32x1024, y⟩] concatenates_S800x1x32x1024_S800x1x32x1024_S800x2x32x1024_d1 (ix4 t 1 b g) : EReal)
      = y (ix4 t 0 b g) := by
  refine (concatenate_pair_apply _ _ _ _ _).trans ?_
  refine (dif_neg (show ¬ (1 : ℕ) < 1 from Nat.lt_irrefl 1)).trans ?_
  exact congrArg y (by funext k; fin_cases k <;> rfl)

theorem lift_apply (x : FVec Ideal S800x32x1024 .f32) (t : Fin 800) (b : Fin 32) (g : Fin 1024) :
    (broadcastInDim S800x1x32x1024 ![0, 2, 3] bcast_S800x32x1024_S800x1x32x1024_0_2_3 x (ix4 t 0 b g) : EReal) = x (ix3 t b g) := by
  simp only [pointwise]
  simp
theorem half_apply (gf : FVec Ideal S25600x2048 .bf16) (t : Fin 800) (b : Fin 32) (g : Fin 1024) :
    (extractStridedSlice S800x32x1024 ![0, 0, 1024] (shapeCast S800x32x2048 (extf .f32 gf bitsLt_bf16_f32 : FVec Ideal S25600x2048 .f32) shapeCasts_S25600x2048_S800x32x2048) slices_S800x32x2048_S800x32x1024_0_0_1024 (ix3 t b g) : EReal)
      = gf (ix2 ⟨t.val * 32 + b.val, by omega⟩ ⟨1024 + g.val, by omega⟩) := by
  simp only [pointwise]
  simp
theorem Xr_fwd (gf : FVec Ideal S25600x2048 .bf16) (l : IVec S32 32) (t : Fin 800) (b : Fin 32) (g : Fin 1024) :
    (Xr gf l (ix4 t 0 b g) : EReal) = gf (ix2 ⟨t.val * 32 + b.val, by omega⟩ ⟨g.val, by omega⟩) := by
  unfold Xr
  rw [stack_fst]
  simp only [pointwise]
  simp
theorem Xr_bwd (gf : FVec Ideal S25600x2048 .bf16) (l : IVec S32 32) (t : Fin 800) (b : Fin 32) (g : Fin 1024) :
    (Xr gf l (ix4 t 1 b g) : EReal) = gf (ix2 ⟨Reverse.place 800 (l (ix1 b)) t.val * 32 + b.val, by
      have := Reverse.place_lt (T := 800) (by decide) (l (ix1 b)) t.val; omega⟩ ⟨1024 + g.val, by omega⟩) := by
  unfold Xr
  rw [stack_snd]
  refine (lift_apply _ t b g).trans ?_
  rw [gather_x]
  exact half_apply gf _ b g

/-! ## The loop -/

theorem iter_keep (n : ℕ) : (STEP^[n] (En m c)) (Proc.devRef .tc main_v27_0) = En m c (Proc.devRef .tc main_v27_0)
    ∧ (STEP^[n] (En m c)) (Proc.devRef .tc main_v27_1) = En m c (Proc.devRef .tc main_v27_1)
    ∧ (STEP^[n] (En m c)) (Proc.devRef .tc main_v27_2) = En m c (Proc.devRef .tc main_v27_2)
    ∧ (STEP^[n] (En m c)) (Proc.devRef .tc main_v27_3) = En m c (Proc.devRef .tc main_v27_3)
    ∧ (STEP^[n] (En m c)) (Proc.devRef .tc main_v27_4) = En m c (Proc.devRef .tc main_v27_4)
    ∧ (STEP^[n] (En m c)) (Proc.devRef .tc main_v27_5) = fun _ => BitVec.ofNat 32 n := by
  induction n with
  | zero => exact ⟨rfl, rfl, rfl, rfl, rfl, En_ctr m c⟩
  | succ n ih =>
    obtain ⟨h0, h1, h2, h3, h4, h5⟩ := ih
    rw [Function.iterate_succ_apply']
    refine ⟨(STEP_main_v27_0 _).trans h0, (STEP_main_v27_1 _).trans h1, (STEP_main_v27_2 _).trans h2, (STEP_main_v27_3 _).trans h3,
      (STEP_main_v27_4 _).trans h4, (STEP_main_v27_5 _).trans ?_⟩
    unfold step_main_v27_5
    rw [h5]
    funext i
    show BitVec.ofNat 32 n + 1#32 = BitVec.ofNat 32 (n + 1)
    exact (BitVec.ofNat_add n 1).symm

/-- A row's inputs, mask and weights in the loop. -/
abbrev yE (d : Fin 2) (b : Fin 32) (n : ℕ) (g : Fin 1024) : EReal := if h : n < 800 then xR (En m c) (ix4 ⟨n, h⟩ d b g) else 0
abbrev runE (d : Fin 2) (b : Fin 32) (n : ℕ) : Lstm.St :=
  Lstm.run (fun n => (n : ℤ) < (lR (En m c) (ix1 b)).toInt) (yE m c d b) (fun g k => wR (En m c) (ix3 d g k)) (fun g => bR (En m c) (ix2 d g)) n

theorem iter_row (n : ℕ) (hn : n ≤ 800) (d : Fin 2) (b : Fin 32) : rowR (STEP^[n] (En m c)) d b = runE m c d b n := by
  induction n with
  | zero => exact En_row m c d b
  | succ n ih =>
    obtain ⟨h0, h1, h2, h3, h4, h5⟩ := iter_keep m c n
    rw [Function.iterate_succ_apply']
    refine (step_row _ n hn h5 (h1.trans (En_iota m c)) d b).trans ?_
    rw [ih (Nat.le_of_succ_le hn)]
    show Lstm.step _ _ _ _ _ = Lstm.step _ _ _ _ _
    have e : yE m c d b n = fun g => xR (En m c) (ix4 ⟨n, hn⟩ d b g) := funext fun g => dif_pos hn
    rw [e]
    unfold xR wR bR lR
    rw [h0, h2, h3, h4]

theorem iter_out (n : ℕ) (hn : n ≤ 800) (t : Fin 800) (ht : t.val < n) (d : Fin 2) (b : Fin 32) (u : Fin 256) :
    (yR (STEP^[n] (En m c)) (ix4 t d b u) : EReal)
      = if (t.val : ℤ) < (lR (En m c) (ix1 b)).toInt then (runE m c d b (t.val + 1)).1 u else 0 := by
  induction n with
  | zero => exact absurd ht (Nat.not_lt_zero _)
  | succ n ih =>
    obtain ⟨h0, h1, h2, h3, h4, h5⟩ := iter_keep m c n
    have hr := iter_row m c (n + 1) hn d b
    rw [Function.iterate_succ_apply'] at hr ⊢
    refine (step_out _ n hn h5 (h1.trans (En_iota m c)) t d b u).trans ?_
    by_cases h : t.val = n
    · rw [if_pos h, hr, h]
      unfold lR
      rw [h4]
    · rw [if_neg h]
      exact ih (Nat.le_of_succ_le hn) (by omega)

/-! ## The result -/

/-- The forward outputs beside the backward ones put back in order. -/
def joinR (y : FVec Ideal S800x2x32x256 .f32) (l : IVec S32 32) : FVec Ideal S800x32x512 .f32 :=
  concatenate S800x32x512 2 [⟨S800x32x256, (shapeCast _ (extractStridedSlice S800x1x32x256 ![0, 0, 0, 0] y slices_S800x2x32x256_S800x1x32x256_0_0_0_0) shapeCasts_S800x1x32x256_S800x32x256)⟩,
    ⟨S800x32x256, (Host.gather gather_S800x32x256_S800x32x1_S800x32x256_2_0_1_1_0_2_11256 (shapeCast _ (extractStridedSlice S800x1x32x256 ![0, 1, 0, 0] y slices_S800x2x32x256_S800x1x32x256_0_1_0_0) shapeCasts_S800x1x32x256_S800x32x256) (places l))⟩]
    concatenates_S800x32x256_S800x32x256_S800x32x512_d2

theorem out_eq (V : Valuation τ sig (Elt Ideal)) : out_main_v42 V = joinR (yR V) (V (Proc.devRef .tc main_arg1)) := by
  unfold out_main_v42 joinR places
  rfl

theorem joinR_fwd (y : FVec Ideal S800x2x32x256 .f32) (l : IVec S32 32) (t : Fin 800) (b : Fin 32) (u : Fin 512) (h : u.val < 256) :
    (joinR y l (ix3 t b u) : EReal) = y (ix4 t 0 b ⟨u.val, h⟩) := by
  unfold joinR
  refine (concatenate_pair_apply _ _ _ _ _).trans ?_
  refine (dif_pos (show u.val < 256 from h)).trans ?_
  refine Eq.trans (congrArg _ (by funext k; fin_cases k <;> rfl : _ = ix3 t b ⟨u.val, h⟩)) ?_
  simp only [pointwise]
  simp

theorem joinR_bwd (y : FVec Ideal S800x2x32x256 .f32) (l : IVec S32 32) (t : Fin 800) (b : Fin 32) (u : Fin 512) (h : ¬ u.val < 256) :
    (joinR y l (ix3 t b u) : EReal)
      = y (ix4 ⟨Reverse.place 800 (l (ix1 b)) t.val, Reverse.place_lt (by decide) _ _⟩ 1 b ⟨u.val - 256, by omega⟩) := by
  unfold joinR
  refine (concatenate_pair_apply _ _ _ _ _).trans ?_
  refine (dif_neg (show ¬ u.val < 256 from h)).trans ?_
  refine Eq.trans (congrArg _ (by funext k; fin_cases k <;> rfl : _ = ix3 t b ⟨u.val - 256, by omega⟩)) ?_
  refine (Reverse.gather_at (by decide) gather_S800x32x256_S800x32x1_S800x32x256_2_0_1_1_0_2_11256_wf _ (places l) t b _).trans ?_
  refine Eq.trans (congrArg _ (congrArg (fun k : Fin 800 => ix3 k b (⟨u.val - 256, by omega⟩ : Fin 256))
    (Fin.ext (places_apply l t b) : _ = (⟨Reverse.place 800 (l (ix1 b)) t.val, Reverse.place_lt (by decide) _ _⟩ : Fin 800)))) ?_
  simp only [pointwise]
  simp

end Cert.Proof.LayerTwoRefValue

end
-- ==== Proof.LayerTwoValue.lean ====
/- Hand-written, untrusted: THE SECOND LAYER'S VALUE CLAIM — the reference's loop leaves the kernel's array, where every length
   lies in the sequence. -/
module

public import proofs.«01_k».proof.Proof.LayerTwoKernel
public import proofs.«01_k».proof.Proof.LayerTwoRef
public import proofs.«01_k».proof.Defs

@[expose] public section

set_option maxRecDepth 16384

noncomputable section

namespace Cert.Proof.LayerTwoRefValue

open Idealize.ShloMosaic Idealize.ShloMosaic.TcCoe Idealize.SL.Sem
open Cert.LayerTwoRefIdeal Cert.LayerTwoRefIdeal.Value

variable (m : (ℓ : Loc nD τ sig) → Buf (Elt Ideal) ℓ) (c : Dev nD)

/-- The arguments. -/
abbrev a0 : FVec Ideal S25600x2048 .bf16 := m ((c : Thread nD τ).loc main_arg0)
abbrev a1 : IVec S32 32 := m ((c : Thread nD τ).loc main_arg1)
abbrev a2 : FVec Ideal S1024x256 .f32 := m ((c : Thread nD τ).loc main_arg2)
abbrev a3 : FVec Ideal S1024 .f32 := m ((c : Thread nD τ).loc main_arg3)
abbrev a4 : FVec Ideal S1024x256 .f32 := m ((c : Thread nD τ).loc main_arg4)
abbrev a5 : FVec Ideal S1024 .f32 := m ((c : Thread nD τ).loc main_arg5)

theorem w_eq (d : Fin 2) : (fun g k => (wR (En m c) (ix3 d g k) : EReal)) = LayerTwoValue.wh (a2 m c) (a4 m c) d := by
  funext g k
  rw [En_w]
  exact Wr_apply _ _ d g k
theorem b_eq (d : Fin 2) : (fun g => (bR (En m c) (ix2 d g) : EReal)) = LayerTwoValue.bi (a3 m c) (a5 m c) d := by
  funext g
  rw [En_b]
  exact Br_apply _ _ d g
theorem len_eq (b : Fin 32) : (lR (En m c) (ix1 b)).toInt = LayerTwoValue.len (a1 m c) b := by
  rw [En_len]; rfl

theorem y_fwd (b : Fin 32) (n : ℕ) (hn : n < 800) : yE m c 0 b n = LayerTwoValue.gx (a0 m c) 0 b n := by
  funext g
  unfold yE LayerTwoValue.gx
  rw [dif_pos hn, dif_pos hn, En_x]
  refine (Xr_fwd _ _ ⟨n, hn⟩ b g).trans ?_
  exact congrArg (a0 m c) (congrArg (fun k => ix2 _ k) (Fin.ext (by simp)))

theorem y_bwd (b : Fin 32) (n : ℕ) (h0 : 0 ≤ LayerTwoValue.len (a1 m c) b) (hl : LayerTwoValue.len (a1 m c) b ≤ 800)
    (hn : (n : ℤ) < LayerTwoValue.len (a1 m c) b) :
    yE m c 1 b n = LayerTwoValue.gx (a0 m c) 1 b (LayerTwoValue.len (a1 m c) b - 1 - n).toNat := by
  funext g
  have hn' : n < 800 := by omega
  have hp := Reverse.place_eq (T := 800) (by decide) (a1 m c (ix1 b)) h0 hl n hn'
  rw [if_pos (show (n : ℤ) < (a1 m c (ix1 b)).toInt from hn)] at hp
  unfold yE LayerTwoValue.gx
  rw [dif_pos hn', dif_pos (by omega), En_x]
  refine (Xr_bwd _ _ ⟨n, hn'⟩ b g).trans ?_
  have e : Reverse.place 800 (a1 m c (ix1 b)) n = (LayerTwoValue.len (a1 m c) b - 1 - n).toNat := by
    show _ = (((a1 m c (ix1 b)).toInt : ℤ) - 1 - n).toNat
    omega
  refine congrArg (a0 m c) (congrArg₂ ix2 (Fin.ext ?_) (Fin.ext (by simp)))
  show Reverse.place 800 (a1 m c (ix1 b)) n * 32 + b.val = _
  rw [e]

theorem run_eq (d : Fin 2) (b : Fin 32) (n : ℕ) : runE m c d b n
    = Lstm.run (fun n => (n : ℤ) < LayerTwoValue.len (a1 m c) b) (yE m c d b) (LayerTwoValue.wh (a2 m c) (a4 m c) d) (LayerTwoValue.bi (a3 m c) (a5 m c) d) n := by
  unfold runE
  rw [w_eq, b_eq, len_eq]

theorem result_eq (h : ∀ b : Fin 32, 0 ≤ LayerTwoValue.len (a1 m c) b ∧ LayerTwoValue.len (a1 m c) b ≤ 800) :
    out_main_v42 (STEP^[800] (En m c)) = LayerTwoValue.G (a0 m c) (a1 m c) (a2 m c) (a3 m c) (a4 m c) (a5 m c) := by
  have hk : (STEP^[800] (En m c)) (Proc.devRef .tc main_arg1) = a1 m c := iter_main_arg1 m c 800
  rw [out_eq, hk]
  funext i
  idx_vars i
  rename' i0 => t, i1 => b, i2 => u
  obtain ⟨h0, hl⟩ := h b
  have hu := u.isLt
  by_cases hlt : u.val < 256
  · refine (joinR_fwd _ _ t b u hlt).trans ?_
    refine (iter_out m c 800 le_rfl t t.isLt 0 b ⟨u.val, hlt⟩).trans ?_
    rw [len_eq, run_eq]
    have e0 : (⟨u.val / 256, by omega⟩ : Fin 2) = 0 := Fin.ext (by show u.val / 256 = 0; omega)
    have e1 : (⟨u.val % 256, Nat.mod_lt _ (by decide)⟩ : Fin 256) = ⟨u.val, hlt⟩ := Fin.ext (by show u.val % 256 = u.val; omega)
    show _ = LayerTwoValue.Gd _ _ _ _ _ _ t.val b ⟨u.val / 256, _⟩ ⟨u.val % 256, _⟩
    rw [e0, e1]
    unfold LayerTwoValue.Gd
    by_cases ht : (t.val : ℤ) < LayerTwoValue.len (a1 m c) b
    · rw [if_pos ht]
      exact (Lstm.out_fwd _ _ _ _ _ ht fun n hn => y_fwd m c b n (by omega)).symm
    · rw [if_neg ht]
      exact (Lstm.out_neg _ _ _ _ _ ht).symm
  · refine (joinR_bwd _ _ t b u hlt).trans ?_
    refine (iter_out m c 800 le_rfl _ (Reverse.place_lt (by decide) _ _) 1 b ⟨u.val - 256, by omega⟩).trans ?_
    rw [len_eq, run_eq]
    have e0 : (⟨u.val / 256, by omega⟩ : Fin 2) = 1 := Fin.ext (by show u.val / 256 = 1; omega)
    have e1 : (⟨u.val % 256, Nat.mod_lt _ (by decide)⟩ : Fin 256) = ⟨u.val - 256, by omega⟩ := Fin.ext (by show u.val % 256 = u.val - 256; omega)
    show _ = LayerTwoValue.Gd _ _ _ _ _ _ t.val b ⟨u.val / 256, _⟩ ⟨u.val % 256, _⟩
    rw [e0, e1]
    unfold LayerTwoValue.Gd
    have ht' := t.isLt
    have hp := Reverse.place_eq (T := 800) (by decide) (a1 m c (ix1 b)) h0 hl t.val t.isLt
    change ((Reverse.place 800 (a1 m c (ix1 b)) t.val : ℕ) : ℤ) = if (t.val : ℤ) < LayerTwoValue.len (a1 m c) b
      then LayerTwoValue.len (a1 m c) b - 1 - t.val else 800 + LayerTwoValue.len (a1 m c) b - 1 - t.val at hp
    show (if ((Reverse.place 800 (a1 m c (ix1 b)) t.val : ℕ) : ℤ) < _ then
      (Lstm.run _ _ _ _ (Reverse.place 800 (a1 m c (ix1 b)) t.val + 1)).1 _ else 0) = _
    by_cases ht : (t.val : ℤ) < LayerTwoValue.len (a1 m c) b
    · rw [if_pos ht] at hp
      rw [if_pos (by omega)]
      refine Eq.trans ?_ (Lstm.out_bwd h0 hl _ _ _ _ _ ht fun n hn => y_bwd m c b n h0 hl hn).symm
      rw [show Reverse.place 800 (a1 m c (ix1 b)) t.val = (LayerTwoValue.len (a1 m c) b - 1 - t.val).toNat by omega]
    · rw [if_neg ht] at hp
      rw [if_neg (by omega)]
      exact (Lstm.out_neg _ _ _ _ _ ht).symm

end Cert.Proof.LayerTwoRefValue

namespace Cert.Proof.LayerTwoValue

open Idealize.ShloMosaic Idealize.ShloMosaic.TcCoe Idealize.SL.Sem

/-- The precondition says that the lengths lie in the sequence. -/
theorem lengths_of_pre [Cert.Pre_lengths_in_two.Facts] (m : (ℓ : Loc Cert.LayerTwoIdeal.nD Cert.LayerTwoIdeal.τ Cert.LayerTwoIdeal.sig) → Buf (Elt Ideal) ℓ)
    (h : Pre_LayerTwoIdeal_lengths_in_two m) (c : Dev Cert.LayerTwoIdeal.nD) (b : Fin 32) :
    0 ≤ len (m ((c : Thread Cert.LayerTwoIdeal.nD Cert.LayerTwoIdeal.τ).loc Cert.LayerTwoIdeal.main_arg1)) b
      ∧ len (m ((c : Thread Cert.LayerTwoIdeal.nD Cert.LayerTwoIdeal.τ).loc Cert.LayerTwoIdeal.main_arg1)) b ≤ 800 := by
  have := congrFun (h c) (ix1 b)
  unfold Cert.Pre_lengths_in_two.fn at this
  simp only [pointwise] at this
  exact Reverse.between _ (h := this)

/-- The one shape fact of the precondition. -/
instance preFacts : Cert.Pre_lengths_in_two.Facts where
  bcast_S_S32 := by decide

/-- The value claim: both runs leave the outputs of the two directions side by side. -/
theorem algebraic : Cert.algebraic_LayerTwoIdeal_LayerTwoRefIdeal_pre_lengths_in_two := by
  intro m ρ m' ρ' hpre hag
  refine ⟨fun c => Gm m c, ?_, ?_⟩
  · exact (θ_run _ _ _).mono (fun r h c => ⟨(h c).1.trans (final m c), (h c).2⟩) (Cert.LayerTwoIdeal.Value.run_blocks m ρ)
  · refine (θ_run _ _ _).mono (fun r h c => ⟨(h c).1.trans ?_, (h c).2⟩) (Cert.LayerTwoRefIdeal.Value.run m' ρ')
    obtain ⟨h0, h1, h2, h3, h4, h5⟩ := hag c
    refine (LayerTwoRefValue.result_eq m' c ?_).trans ?_
    · intro b
      unfold LayerTwoRefValue.a1
      rw [h1]
      exact lengths_of_pre m hpre c b
    · unfold LayerTwoRefValue.a0 LayerTwoRefValue.a1 LayerTwoRefValue.a2 LayerTwoRefValue.a3 LayerTwoRefValue.a4 LayerTwoRefValue.a5
      rw [h0, h1, h2, h3, h4, h5]

end Cert.Proof.LayerTwoValue

end
-- ==== Proof.DecoderStep.lean ====
/- Hand-written, untrusted: THE VALUES OF A STEP OF THE DECODER as the kernel's body computes them from the blocks and the carried arrays. -/
module

public import proofs.«01_k».proof.Proof.Gen.DecoderIdeal.Value
public import Idealize.ShloMosaic.Lib.Pointwise

@[expose] public section

set_option maxRecDepth 16384

noncomputable section

namespace Cert.Proof.DecoderStep

open Cert.DecoderIdeal Cert.DecoderIdeal.Gen Idealize.ShloMosaic Idealize.ShloMosaic.TcCoe Idealize.SL.Sem

/-- The new hidden state and the new cell of a step. -/
def hN (x1 : Vec Ideal S1x32x512 .f32) (x4 : Vec Ideal S1024x2048 .bf16) (x5 : Vec Ideal S512x2048 .bf16) (x6 : Vec Ideal S1x2048 .f32)
    (h c ctx : Vec Ideal S32x512 .f32) : Vec Ideal S32x512 .f32 := k0_pay24 x1 ctx x4 h x5 x6 c
def cN (x1 : Vec Ideal S1x32x512 .f32) (x4 : Vec Ideal S1024x2048 .bf16) (x5 : Vec Ideal S512x2048 .bf16) (x6 : Vec Ideal S1x2048 .f32)
    (h c ctx : Vec Ideal S32x512 .f32) : Vec Ideal S32x512 .f32 := k0_pay23 x1 ctx x4 h x5 x6 c

/-- Four rows of the window planes and of the projected memory. -/
abbrev uAt (U : Vec Ideal S64x32x800 .bf16) (n : ℕ) (hb : ∀ a, (![0, n, 0] : Fin 3 → ℕ) a + S64x4x800.size a ≤ S64x32x800.size a) : Vec Ideal S64x4x800 .bf16 :=
  View.ld U (Rect.unit ![0, n, 0] ![64, 4, 800] hb)
abbrev pAt (P : Vec Ideal S128x32x800 .bf16) (n : ℕ) (hb : ∀ a, (![0, n, 0] : Fin 3 → ℕ) a + S128x4x800.size a ≤ S128x32x800.size a) : Vec Ideal S128x4x800 .bf16 :=
  View.ld P (Rect.unit ![0, n, 0] ![128, 4, 800] hb)

/-- The middle of a padded row: what lies between its two margins. -/
abbrev midAt (w : Vec Ideal S32x832 .f32) : Vec Ideal S32x800 .f32 := View.ld w (Rect.unit ![0, 15] ![32, 800] inb_S32x832_S32x800_0_15)

/-- The energies of a step. -/
def eN (h : Vec Ideal S32x512 .f32) (x7 : Vec Ideal S512x128 .f32) (x8 : Vec Ideal S128x64 .bf16) (x9 : Vec Ideal S1x128 .f32)
    (U : Vec Ideal S64x32x800 .bf16) (P : Vec Ideal S128x32x800 .bf16) : Vec Ideal S32x800 .f32 :=
  k0_pay104 (k0_pay95 h x7) (k0_pay96 x9)
    (k0_pay98 (k0_pay95 h x7) (k0_pay96 x9)
      (k0_pay97 (uAt U 0 inb_S64x32x800_S64x4x800_0_0_0) x8 (pAt P 0 inb_S128x32x800_S128x4x800_0_0_0)))
    (k0_pay99 (k0_pay95 h x7) (k0_pay96 x9) (uAt U 4 inb_S64x32x800_S64x4x800_0_4_0) x8 (pAt P 4 inb_S128x32x800_S128x4x800_0_4_0))
    (k0_pay100 (k0_pay95 h x7) (k0_pay96 x9) (uAt U 8 inb_S64x32x800_S64x4x800_0_8_0) x8 (pAt P 8 inb_S128x32x800_S128x4x800_0_8_0))
    (k0_pay101 (k0_pay95 h x7) (k0_pay96 x9) (uAt U 12 inb_S64x32x800_S64x4x800_0_12_0) x8 (pAt P 12 inb_S128x32x800_S128x4x800_0_12_0))
    (k0_pay102 (k0_pay95 h x7) (k0_pay96 x9) (uAt U 16 inb_S64x32x800_S64x4x800_0_16_0) x8 (pAt P 16 inb_S128x32x800_S128x4x800_0_16_0))
    (k0_pay103 (uAt U 20 inb_S64x32x800_S64x4x800_0_20_0) x8 (pAt P 20 inb_S128x32x800_S128x4x800_0_20_0))
    (uAt U 24 inb_S64x32x800_S64x4x800_0_24_0) x8 (pAt P 24 inb_S128x32x800_S128x4x800_0_24_0)
    (uAt U 28 inb_S64x32x800_S64x4x800_0_28_0) x8 (pAt P 28 inb_S128x32x800_S128x4x800_0_28_0)

/-- The places of the memory's frames. -/
abbrev places : IVec S1x800 32 := iota .tc S1x800 32 [1] iota_S1x800_d1_w32

/-- The attention weights, the context and the projection of a step, from the energies. -/
def aN (e : Vec Ideal S32x800 .f32) (x0 : Vec Ideal S32x1 .i32) : Vec Ideal S32x800 .f32 := k0_pay105 e places x0
def xN (e : Vec Ideal S32x800 .f32) (x0 : Vec Ideal S32x1 .i32) (x2 : Vec Ideal S32x800x512 .bf16) : Vec Ideal S32x512 .f32 := k0_pay106 e places x0 x2
def oN (h : Vec Ideal S32x512 .f32) (e : Vec Ideal S32x800 .f32) (x0 : Vec Ideal S32x1 .i32) (x2 : Vec Ideal S32x800x512 .bf16)
    (x10 : Vec Ideal S1024x512 .bf16) : Vec Ideal S32x512 .f32 := k0_pay110 h e places x0 x2 x10

end Cert.Proof.DecoderStep
-- ==== Proof.DecoderCase.lean ====
/- Hand-written, untrusted: WHAT A POINT OF THE DECODER LEAVES in the arrays it carries and in its output blocks, as the step terms. -/
module

public import proofs.«01_k».proof.Proof.DecoderStep
public import Idealize.ShloMosaic.Lib.VecWindow
public import Idealize.ShloMosaic.Lib.Tactic.RunNames

@[expose] public section

set_option maxRecDepth 16384

noncomputable section

namespace Cert.Proof.DecoderStep

open Cert.DecoderIdeal Cert.DecoderIdeal.Gen Idealize.ShloMosaic Idealize.ShloMosaic.TcCoe Idealize.SL.Sem
open Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

/-! Whole loads read the array, and a load after a whole store reads what was stored. -/

theorem ld_S32x1 (x : Vec Ideal S32x1 .i32) (h) : View.ld x (Rect.unit ![0, 0] ![32, 1] h) = x := View.ld_unit_zero hz2 h x
theorem ld_S1x32x512 (x : Vec Ideal S1x32x512 .f32) (h) : View.ld x (Rect.unit ![0, 0, 0] ![1, 32, 512] h) = x := View.ld_unit_zero hz3 h x
theorem ld_S32x800x512 (x : Vec Ideal S32x800x512 .bf16) (h) : View.ld x (Rect.unit ![0, 0, 0] ![32, 800, 512] h) = x := View.ld_unit_zero hz3 h x
theorem ld_S128x512 (x : Vec Ideal S128x512 .f32) (h) : View.ld x (Rect.unit ![0, 0] ![128, 512] h) = x := View.ld_unit_zero hz2 h x
theorem ld_S1024x2048 (x : Vec Ideal S1024x2048 .bf16) (h) : View.ld x (Rect.unit ![0, 0] ![1024, 2048] h) = x := View.ld_unit_zero hz2 h x
theorem ld_S512x2048 (x : Vec Ideal S512x2048 .bf16) (h) : View.ld x (Rect.unit ![0, 0] ![512, 2048] h) = x := View.ld_unit_zero hz2 h x
theorem ld_S1x2048 (x : Vec Ideal S1x2048 .f32) (h) : View.ld x (Rect.unit ![0, 0] ![1, 2048] h) = x := View.ld_unit_zero hz2 h x
theorem ld_S512x128 (x : Vec Ideal S512x128 .f32) (h) : View.ld x (Rect.unit ![0, 0] ![512, 128] h) = x := View.ld_unit_zero hz2 h x
theorem ld_S128x64 (x : Vec Ideal S128x64 .bf16) (h) : View.ld x (Rect.unit ![0, 0] ![128, 64] h) = x := View.ld_unit_zero hz2 h x
theorem ld_S1x128 (x : Vec Ideal S1x128 .f32) (h) : View.ld x (Rect.unit ![0, 0] ![1, 128] h) = x := View.ld_unit_zero hz2 h x
theorem ld_S1024x512 (x : Vec Ideal S1024x512 .bf16) (h) : View.ld x (Rect.unit ![0, 0] ![1024, 512] h) = x := View.ld_unit_zero hz2 h x
theorem ld_S1x512 (x : Vec Ideal S1x512 .f32) (h) : View.ld x (Rect.unit ![0, 0] ![1, 512] h) = x := View.ld_unit_zero hz2 h x
theorem ld_S512x101 (x : Vec Ideal S512x101 .f32) (h) : View.ld x (Rect.unit ![0, 0] ![512, 101] h) = x := View.ld_unit_zero hz2 h x
theorem ld_S1x101 (x : Vec Ideal S1x101 .f32) (h) : View.ld x (Rect.unit ![0, 0] ![1, 101] h) = x := View.ld_unit_zero hz2 h x
theorem ld_S32x512 (x : Vec Ideal S32x512 .f32) (h) : View.ld x (Rect.unit ![0, 0] ![32, 512] h) = x := View.ld_unit_zero hz2 h x

theorem rcH (v : View sig .tc .vmem S32x512 .f32) (h h') (w : Vec Ideal S32x512 .f32) (L : List (View.Piece (Elt Ideal) S32x512 .f32)) :
    v.readCov (⟨Rect.unit ![0, 0] ![32, 512] h', w⟩ :: L) (Rect.unit ![0, 0] ![32, 512] h).toLoadRect = w := View.readCov_full v h h' w L
theorem rcP (v : View sig .tc .vmem S32x832 .f32) (h') (w : Vec Ideal S32x832 .f32) (L : List (View.Piece (Elt Ideal) S32x832 .f32)) (r : Rect S32x832) :
    v.readCov (⟨Rect.unit ![0, 0] ![32, 832] h', w⟩ :: L) r.toLoadRect = View.ld w r :=
  congrArg (fun z => View.ld z r) (View.read_writes_full v v.junk h' w L)

section
variable (c : Dev nD) (i : grid0.Coords) (arg2 : Memref sig .tc .vmem S32x1 .i32) (harg2 : arg2.IsWhole) (arg3 : Memref sig .tc .vmem S1x32x512 .f32) (harg3 : arg3.IsWhole) (arg4 : Memref sig .tc .vmem S32x800x512 .bf16) (harg4 : arg4.IsWhole) (arg5 : Memref sig .tc .vmem S128x512 .f32) (harg5 : arg5.IsWhole) (arg6 : Memref sig .tc .vmem S1024x2048 .bf16) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x128 .f32) (harg9 : arg9.IsWhole) (arg10 : Memref sig .tc .vmem S128x64 .bf16) (harg10 : arg10.IsWhole) (arg11 : Memref sig .tc .vmem S1x128 .f32) (harg11 : arg11.IsWhole) (arg12 : Memref sig .tc .vmem S1024x512 .bf16) (harg12 : arg12.IsWhole) (arg13 : Memref sig .tc .vmem S1x512 .f32) (harg13 : arg13.IsWhole) (arg14 : Memref sig .tc .vmem S512x101 .f32) (harg14 : arg14.IsWhole) (arg15 : Memref sig .tc .vmem S1x101 .f32) (harg15 : arg15.IsWhole) (arg16 : Memref sig .tc .vmem S1x32x512 .f32) (harg16 : arg16.IsWhole) (arg17 : Memref sig .tc .vmem S1x32x101 .f32) (harg17 : arg17.IsWhole) (arg18 : Memref sig .tc .vmem S1x32x800 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S32x512 .f32) (harg21 : arg21.IsWhole) (arg22 : Memref sig .tc .vmem S32x832 .f32) (harg22 : arg22.IsWhole) (arg23 : Memref sig .tc .vmem S32x832 .f32) (harg23 : arg23.IsWhole) (arg24 : Memref sig .tc .vmem S64x32x800 .bf16) (harg24 : arg24.IsWhole) (arg25 : Memref sig .tc .vmem S128x32x800 .bf16) (harg25 : arg25.IsWhole)

  (x0 : Vec Ideal S32x1 .i32) (x1 : Vec Ideal S1x32x512 .f32) (x2 : Vec Ideal S32x800x512 .bf16) (x3 : Vec Ideal S128x512 .f32) (x4 : Vec Ideal S1024x2048 .bf16) (x5 : Vec Ideal S512x2048 .bf16) (x6 : Vec Ideal S1x2048 .f32) (x7 : Vec Ideal S512x128 .f32) (x8 : Vec Ideal S128x64 .bf16) (x9 : Vec Ideal S1x128 .f32) (x10 : Vec Ideal S1024x512 .bf16) (x11 : Vec Ideal S1x512 .f32) (x12 : Vec Ideal S512x101 .f32) (x13 : Vec Ideal S1x101 .f32) (xs0 : Vec Ideal S32x512 .f32) (xs1 : Vec Ideal S32x512 .f32) (xs2 : Vec Ideal S32x512 .f32) (xs3 : Vec Ideal S32x832 .f32) (xs4 : Vec Ideal S32x832 .f32) (xs5 : Vec Ideal S64x32x800 .bf16) (xs6 : Vec Ideal S128x32x800 .bf16)

/-- The window planes after the step's stores, and the projected memory after the first point's. -/
def uB : Vec Ideal S64x32x800 .bf16 :=
  arg24.view.read (Elt Ideal) (arg24.view.writes (Elt Ideal) (harg24.unread xs5) (kernelRun0_B.sl.HS5_62 c arg22 harg22 arg23 harg23 xs3 xs4))
def uA : Vec Ideal S64x32x800 .bf16 :=
  arg24.view.read (Elt Ideal) (arg24.view.writes (Elt Ideal) arg24.view.junk (kernelRun0_A.sl.HS5_63 c arg22 arg23))
def pA : Vec Ideal S128x32x800 .bf16 :=
  arg25.view.read (Elt Ideal) (arg25.view.writes (Elt Ideal) arg25.view.junk (kernelRun0_A.sl.HS6_8 c arg4 harg4 arg5 harg5 x2 x3))

theorem sout_0_B (hc0 : ¬cond0_0 i) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0 xs1 xs2 xs3 xs4 xs5 xs6
    = k0_pay25 (F := Ideal) (hN x1 x4 x5 x6 xs0 xs1 xs2) := by
  unfold sout0_B_0
  refine (View.read_writes_full _ _ _ _ _).trans ?_
  sl_unfold_run_values
  simp only [View.readAt_eq_ld, Memref.IsWhole.read_unread, ld_S32x1, ld_S1x32x512, ld_S32x800x512, ld_S128x512, ld_S1024x2048, ld_S512x2048, ld_S1x2048, ld_S512x128, ld_S128x64, ld_S1x128, ld_S1024x512, ld_S1x512, ld_S512x101, ld_S1x101, ld_S32x512]
  rfl

theorem sout_1_B (hc0 : ¬cond0_0 i) : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0 xs1 xs2 xs3 xs4 xs5 xs6
    = k0_pay26 (F := Ideal) (cN x1 x4 x5 x6 xs0 xs1 xs2) := by
  unfold sout0_B_1
  refine (View.read_writes_full _ _ _ _ _).trans ?_
  sl_unfold_run_values
  simp only [View.readAt_eq_ld, Memref.IsWhole.read_unread, ld_S32x1, ld_S1x32x512, ld_S32x800x512, ld_S128x512, ld_S1024x2048, ld_S512x2048, ld_S1x2048, ld_S512x128, ld_S128x64, ld_S1x128, ld_S1024x512, ld_S1x512, ld_S512x101, ld_S1x101, ld_S32x512]
  rfl

theorem sout_2_B (hc0 : ¬cond0_0 i) : sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0 xs1 xs2 xs3 xs4 xs5 xs6
    = k0_pay107 (eN (hN x1 x4 x5 x6 xs0 xs1 xs2) x7 x8 x9 (uB c arg22 harg22 arg23 harg23 arg24 harg24 xs3 xs4 xs5) xs6) places x0 x2 := by
  unfold sout0_B_2
  refine (View.read_writes_full _ _ _ _ _).trans ?_
  sl_unfold_run_values
  simp only [View.readAt_eq_ld, Memref.IsWhole.read_unread, ld_S32x1, ld_S1x32x512, ld_S32x800x512, ld_S128x512, ld_S1024x2048, ld_S512x2048, ld_S1x2048, ld_S512x128, ld_S128x64, ld_S1x128, ld_S1024x512, ld_S1x512, ld_S512x101, ld_S1x101, ld_S32x512]
  rfl

theorem out_14_B (hc0 : ¬cond0_0 i) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0 xs1 xs2 xs3 xs4 xs5 xs6
    = k0_pay2 (oN (hN x1 x4 x5 x6 xs0 xs1 xs2) (eN (hN x1 x4 x5 x6 xs0 xs1 xs2) x7 x8 x9 (uB c arg22 harg22 arg23 harg23 arg24 harg24 xs3 xs4 xs5) xs6) x0 x2 x10) x11 := by
  unfold out0_B_14
  refine (View.read_writes_full _ _ _ _ _).trans ?_
  sl_unfold_run_values
  simp only [View.readAt_eq_ld, Memref.IsWhole.read_unread, ld_S32x1, ld_S1x32x512, ld_S32x800x512, ld_S128x512, ld_S1024x2048, ld_S512x2048, ld_S1x2048, ld_S512x128, ld_S128x64, ld_S1x128, ld_S1024x512, ld_S1x512, ld_S512x101, ld_S1x101, ld_S32x512]
  rfl

theorem out_15_B (hc0 : ¬cond0_0 i) : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0 xs1 xs2 xs3 xs4 xs5 xs6
    = k0_pay3 (oN (hN x1 x4 x5 x6 xs0 xs1 xs2) (eN (hN x1 x4 x5 x6 xs0 xs1 xs2) x7 x8 x9 (uB c arg22 harg22 arg23 harg23 arg24 harg24 xs3 xs4 xs5) xs6) x0 x2 x10) x11 x12 x13 := by
  unfold out0_B_15
  refine (View.read_writes_full _ _ _ _ _).trans ?_
  sl_unfold_run_values
  simp only [View.readAt_eq_ld, Memref.IsWhole.read_unread, ld_S32x1, ld_S1x32x512, ld_S32x800x512, ld_S128x512, ld_S1024x2048, ld_S512x2048, ld_S1x2048, ld_S512x128, ld_S128x64, ld_S1x128, ld_S1024x512, ld_S1x512, ld_S512x101, ld_S1x101, ld_S32x512]
  rfl

theorem out_16_B (hc0 : ¬cond0_0 i) : out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0 xs1 xs2 xs3 xs4 xs5 xs6
    = k0_pay4 (F := Ideal) (aN (eN (hN x1 x4 x5 x6 xs0 xs1 xs2) x7 x8 x9 (uB c arg22 harg22 arg23 harg23 arg24 harg24 xs3 xs4 xs5) xs6) x0) := by
  unfold out0_B_16
  refine (View.read_writes_full _ _ _ _ _).trans ?_
  sl_unfold_run_values
  simp only [View.readAt_eq_ld, Memref.IsWhole.read_unread, ld_S32x1, ld_S1x32x512, ld_S32x800x512, ld_S128x512, ld_S1024x2048, ld_S512x2048, ld_S1x2048, ld_S512x128, ld_S128x64, ld_S1x128, ld_S1024x512, ld_S1x512, ld_S512x101, ld_S1x101, ld_S32x512]
  rfl

theorem sout_3_B (hc0 : ¬cond0_0 i) : sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0 xs1 xs2 xs3 xs4 xs5 xs6
    = VecWindow.put xs3 ![0, 15] ![32, 800] (k0_pay108 (eN (hN x1 x4 x5 x6 xs0 xs1 xs2) x7 x8 x9 (uB c arg22 harg22 arg23 harg23 arg24 harg24 xs3 xs4 xs5) xs6) places x0) := by
  unfold sout0_B_3
  refine (View.read_writes_cons_put _ _ _ _ _ rfl).trans ?_
  rw [View.writes_nil, Memref.IsWhole.read_unread]
  sl_unfold_run_values
  simp only [View.readAt_eq_ld, Memref.IsWhole.read_unread, ld_S32x1, ld_S1x32x512, ld_S32x800x512, ld_S128x512, ld_S1024x2048, ld_S512x2048, ld_S1x2048, ld_S512x128, ld_S128x64, ld_S1x128, ld_S1024x512, ld_S1x512, ld_S512x101, ld_S1x101, ld_S32x512]
  rfl

theorem sout_4_B (hc0 : ¬cond0_0 i) : sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0 xs1 xs2 xs3 xs4 xs5 xs6
    = VecWindow.put xs4 ![0, 15] ![32, 800] (k0_pay109 (eN (hN x1 x4 x5 x6 xs0 xs1 xs2) x7 x8 x9 (uB c arg22 harg22 arg23 harg23 arg24 harg24 xs3 xs4 xs5) xs6) places x0 (midAt xs4)) := by
  unfold sout0_B_4
  refine (View.read_writes_cons_put _ _ _ _ _ rfl).trans ?_
  rw [View.writes_nil, Memref.IsWhole.read_unread]
  sl_unfold_run_values
  simp only [View.readAt_eq_ld, Memref.IsWhole.read_unread, ld_S32x1, ld_S1x32x512, ld_S32x800x512, ld_S128x512, ld_S1024x2048, ld_S512x2048, ld_S1x2048, ld_S512x128, ld_S128x64, ld_S1x128, ld_S1024x512, ld_S1x512, ld_S512x101, ld_S1x101, ld_S32x512]
  rfl

theorem sout_0_A (hc0 : cond0_0 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = k0_pay25 (F := Ideal) (hN x1 x4 x5 x6 (k0_pay5 (F := Ideal)) (k0_pay6 (F := Ideal)) (k0_pay7 (F := Ideal))) := by
  unfold sout0_A_0
  refine (View.read_writes_full _ _ _ _ _).trans ?_
  sl_unfold_run_values
  simp only [kernelRun0_A.sl.HS0_1, kernelRun0_A.sl.HS1_1, kernelRun0_A.sl.HS2_1, View.readAt_eq_ld, Memref.IsWhole.read_unread, rcH, ld_S32x1, ld_S1x32x512, ld_S32x800x512, ld_S128x512, ld_S1024x2048, ld_S512x2048, ld_S1x2048, ld_S512x128, ld_S128x64, ld_S1x128, ld_S1024x512, ld_S1x512, ld_S512x101, ld_S1x101, ld_S32x512]
  rfl

theorem sout_1_A (hc0 : cond0_0 i) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = k0_pay26 (F := Ideal) (cN x1 x4 x5 x6 (k0_pay5 (F := Ideal)) (k0_pay6 (F := Ideal)) (k0_pay7 (F := Ideal))) := by
  unfold sout0_A_1
  refine (View.read_writes_full _ _ _ _ _).trans ?_
  sl_unfold_run_values
  simp only [kernelRun0_A.sl.HS0_1, kernelRun0_A.sl.HS1_1, kernelRun0_A.sl.HS2_1, View.readAt_eq_ld, Memref.IsWhole.read_unread, rcH, ld_S32x1, ld_S1x32x512, ld_S32x800x512, ld_S128x512, ld_S1024x2048, ld_S512x2048, ld_S1x2048, ld_S512x128, ld_S128x64, ld_S1x128, ld_S1024x512, ld_S1x512, ld_S512x101, ld_S1x101, ld_S32x512]
  rfl

theorem sout_2_A (hc0 : cond0_0 i) : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = k0_pay107 (eN (hN x1 x4 x5 x6 (k0_pay5 (F := Ideal)) (k0_pay6 (F := Ideal)) (k0_pay7 (F := Ideal))) x7 x8 x9 (uA c arg22 arg23 arg24) (pA c arg4 harg4 arg5 harg5 arg25 x2 x3)) places x0 x2 := by
  unfold sout0_A_2
  refine (View.read_writes_full _ _ _ _ _).trans ?_
  sl_unfold_run_values
  simp only [kernelRun0_A.sl.HS0_1, kernelRun0_A.sl.HS1_1, kernelRun0_A.sl.HS2_1, View.readAt_eq_ld, Memref.IsWhole.read_unread, rcH, ld_S32x1, ld_S1x32x512, ld_S32x800x512, ld_S128x512, ld_S1024x2048, ld_S512x2048, ld_S1x2048, ld_S512x128, ld_S128x64, ld_S1x128, ld_S1024x512, ld_S1x512, ld_S512x101, ld_S1x101, ld_S32x512]
  rfl

theorem out_14_A (hc0 : cond0_0 i) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = k0_pay2 (oN (hN x1 x4 x5 x6 (k0_pay5 (F := Ideal)) (k0_pay6 (F := Ideal)) (k0_pay7 (F := Ideal))) (eN (hN x1 x4 x5 x6 (k0_pay5 (F := Ideal)) (k0_pay6 (F := Ideal)) (k0_pay7 (F := Ideal))) x7 x8 x9 (uA c arg22 arg23 arg24) (pA c arg4 harg4 arg5 harg5 arg25 x2 x3)) x0 x2 x10) x11 := by
  unfold out0_A_14
  refine (View.read_writes_full _ _ _ _ _).trans ?_
  sl_unfold_run_values
  simp only [kernelRun0_A.sl.HS0_1, kernelRun0_A.sl.HS1_1, kernelRun0_A.sl.HS2_1, View.readAt_eq_ld, Memref.IsWhole.read_unread, rcH, ld_S32x1, ld_S1x32x512, ld_S32x800x512, ld_S128x512, ld_S1024x2048, ld_S512x2048, ld_S1x2048, ld_S512x128, ld_S128x64, ld_S1x128, ld_S1024x512, ld_S1x512, ld_S512x101, ld_S1x101, ld_S32x512]
  rfl

theorem out_15_A (hc0 : cond0_0 i) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = k0_pay3 (oN (hN x1 x4 x5 x6 (k0_pay5 (F := Ideal)) (k0_pay6 (F := Ideal)) (k0_pay7 (F := Ideal))) (eN (hN x1 x4 x5 x6 (k0_pay5 (F := Ideal)) (k0_pay6 (F := Ideal)) (k0_pay7 (F := Ideal))) x7 x8 x9 (uA c arg22 arg23 arg24) (pA c arg4 harg4 arg5 harg5 arg25 x2 x3)) x0 x2 x10) x11 x12 x13 := by
  unfold out0_A_15
  refine (View.read_writes_full _ _ _ _ _).trans ?_
  sl_unfold_run_values
  simp only [kernelRun0_A.sl.HS0_1, kernelRun0_A.sl.HS1_1, kernelRun0_A.sl.HS2_1, View.readAt_eq_ld, Memref.IsWhole.read_unread, rcH, ld_S32x1, ld_S1x32x512, ld_S32x800x512, ld_S128x512, ld_S1024x2048, ld_S512x2048, ld_S1x2048, ld_S512x128, ld_S128x64, ld_S1x128, ld_S1024x512, ld_S1x512, ld_S512x101, ld_S1x101, ld_S32x512]
  rfl

theorem out_16_A (hc0 : cond0_0 i) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = k0_pay4 (F := Ideal) (aN (eN (hN x1 x4 x5 x6 (k0_pay5 (F := Ideal)) (k0_pay6 (F := Ideal)) (k0_pay7 (F := Ideal))) x7 x8 x9 (uA c arg22 arg23 arg24) (pA c arg4 harg4 arg5 harg5 arg25 x2 x3)) x0) := by
  unfold out0_A_16
  refine (View.read_writes_full _ _ _ _ _).trans ?_
  sl_unfold_run_values
  simp only [kernelRun0_A.sl.HS0_1, kernelRun0_A.sl.HS1_1, kernelRun0_A.sl.HS2_1, View.readAt_eq_ld, Memref.IsWhole.read_unread, rcH, ld_S32x1, ld_S1x32x512, ld_S32x800x512, ld_S128x512, ld_S1024x2048, ld_S512x2048, ld_S1x2048, ld_S512x128, ld_S128x64, ld_S1x128, ld_S1024x512, ld_S1x512, ld_S512x101, ld_S1x101, ld_S32x512]
  rfl

theorem sout_3_A (hc0 : cond0_0 i) : sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = VecWindow.put (k0_pay8 (F := Ideal)) ![0, 15] ![32, 800] (k0_pay108 (eN (hN x1 x4 x5 x6 (k0_pay5 (F := Ideal)) (k0_pay6 (F := Ideal)) (k0_pay7 (F := Ideal))) x7 x8 x9 (uA c arg22 arg23 arg24) (pA c arg4 harg4 arg5 harg5 arg25 x2 x3)) places x0) := by
  unfold sout0_A_3
  refine (View.read_writes_cons_put _ _ _ _ _ rfl).trans ?_
  refine congrArg (fun z : Vec Ideal S32x832 .f32 => VecWindow.put z ![0, 15] ![32, 800] _) (View.read_writes_full _ _ _ _ _) |>.trans ?_
  sl_unfold_run_values
  simp only [kernelRun0_A.sl.HS0_1, kernelRun0_A.sl.HS1_1, kernelRun0_A.sl.HS2_1, View.readAt_eq_ld, Memref.IsWhole.read_unread, rcH, ld_S32x1, ld_S1x32x512, ld_S32x800x512, ld_S128x512, ld_S1024x2048, ld_S512x2048, ld_S1x2048, ld_S512x128, ld_S128x64, ld_S1x128, ld_S1024x512, ld_S1x512, ld_S512x101, ld_S1x101, ld_S32x512]
  rfl

set_option maxHeartbeats 400000 in
theorem sout_4_A (hc0 : cond0_0 i) : sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = VecWindow.put (k0_pay9 (F := Ideal)) ![0, 15] ![32, 800] (k0_pay109 (eN (hN x1 x4 x5 x6 (k0_pay5 (F := Ideal)) (k0_pay6 (F := Ideal)) (k0_pay7 (F := Ideal))) x7 x8 x9 (uA c arg22 arg23 arg24) (pA c arg4 harg4 arg5 harg5 arg25 x2 x3)) places x0 (midAt (k0_pay9 (F := Ideal)))) := by
  unfold sout0_A_4
  refine (View.read_writes_cons_put _ _ _ _ _ rfl).trans ?_
  refine congrArg (fun z : Vec Ideal S32x832 .f32 => VecWindow.put z ![0, 15] ![32, 800] _) (View.read_writes_full _ _ _ _ _) |>.trans ?_
  sl_unfold_run_values
  simp only [kernelRun0_A.sl.HS0_1, kernelRun0_A.sl.HS1_1, kernelRun0_A.sl.HS2_1, View.readAt_eq_ld, Memref.IsWhole.read_unread, kernelRun0_A.sl.HS4_1, rcH, rcP, ld_S32x1, ld_S1x32x512, ld_S32x800x512, ld_S128x512, ld_S1024x2048, ld_S512x2048, ld_S1x2048, ld_S512x128, ld_S128x64, ld_S1x128, ld_S1024x512, ld_S1x512, ld_S512x101, ld_S1x101, ld_S32x512]
  rfl

theorem sout_6_B (hc0 : ¬cond0_0 i) : sout0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0 xs1 xs2 xs3 xs4 xs5 xs6 = xs6 := by
  unfold sout0_B_6
  rfl

theorem sout_6_A (hc0 : cond0_0 i) : sout0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = pA c arg4 harg4 arg5 harg5 arg25 x2 x3 := by
  unfold sout0_A_6 pA
  exact (View.read_writes_junk_eq_canon _ _).trans (View.read_writes_junk_eq_canon _ _).symm

end

end Cert.Proof.DecoderStep
-- ==== Proof.DecoderMemory.lean ====
/- Hand-written, untrusted: THE PROJECTED MEMORY that the first point of the decoder leaves for the later ones: entry
   `(a, b, t)` is row `a` of the projection against frame `t` of sequence `b`. -/
module

public import proofs.«01_k».proof.Proof.DecoderCase
public import Idealize.ShloMosaic.Lib.Pipeline.ValueKit.Tiles

@[expose] public section

set_option maxRecDepth 16384

noncomputable section

namespace Cert.Proof.DecoderStep

open Cert.DecoderIdeal Cert.DecoderIdeal.Gen Idealize.ShloMosaic Idealize.ShloMosaic.TcCoe Idealize.SL.Sem

/-- The projected memory. -/
def projected (x2 : Vec Ideal S32x800x512 .bf16) (x3 : Vec Ideal S128x512 .f32) (a : Fin 128) (b : Fin 32) (t : Fin 800) : EReal :=
  ∑ k : Fin 512, (x3 (ix2 a k) : EReal) * x2 (ix3 b t k)

/-- The first `N` sequences are projected after the stores `L`. -/
def GoodP (N : ℕ) (v : View sig .tc .vmem S128x32x800 .bf16) (f : v.ty.Contents (Elt Ideal)) (L : List (View.Piece (Elt Ideal) S128x32x800 .bf16))
    (x2 : Vec Ideal S32x800x512 .bf16) (x3 : Vec Ideal S128x512 .f32) : Prop :=
  ∀ (a : Fin 128) (b : Fin 32) (t : Fin 800), b.val < N → (v.read (Elt Ideal) (v.writes (Elt Ideal) f L) (ix3 a b t) : EReal) = projected x2 x3 a b t

theorem chunk_row (m : FVec Ideal S128x512 .f32) (y : FVec Ideal S4x800x512 .bf16) (h1) (h2) (h3) (h4) (a : Fin 128) (r : Fin 4) (t : Fin 800) :
    (shapeCast S128x4x800 (truncf .bf16 (matmul dot_S128x512_S4x800x512_S128x4x800_1_2_0_01_n_n none (truncf .bf16 m h1) (shapeCast S4x800x512 y h2)
      (constant S128x4x800 .f32 0x00000000#32)) h3) h4 (ix3 a r t) : EReal) = ∑ k : Fin 512, (m (ix2 a k) : EReal) * y (ix3 r t k) := by
  simp only [pointwise]
  simp

section
variable {v : View sig .tc .vmem S128x32x800 .bf16} {f : v.ty.Contents (Elt Ideal)} {L : List (View.Piece (Elt Ideal) S128x32x800 .bf16)}
  {x2 : Vec Ideal S32x800x512 .bf16} {x3 : Vec Ideal S128x512 .f32}

theorem goodp_nil : GoodP 0 v f L x2 x3 := fun _ _ _ h => absurd h (Nat.not_lt_zero _)

theorem goodp_cons (n : ℕ) (hn : n < 29) (w : Vec Ideal S128x4x800 .bf16) (hb : ∀ x, (![0, n, 0] : Fin 3 → ℕ) x + S128x4x800.size x ≤ S128x32x800.size x)
    (hw : ∀ (a : Fin 128) (r : Fin 4) (t : Fin 800), (w (ix3 a r t) : EReal) = projected x2 x3 a ⟨n + r.val, by omega⟩ t) (hL : GoodP n v f L x2 x3) :
    GoodP (n + 4) v f ((⟨Rect.unit ![0, n, 0] S128x4x800.size hb, w⟩ : View.Piece (Elt Ideal) S128x32x800 .bf16) :: L) x2 x3 := by
  intro a b t hbn
  by_cases h : b.val < n
  · refine (View.read_writes_cons_unit_of_not_mem v f hb w L (ix3 a b t) rfl (1 : Fin 3) ?_).trans (hL a b t h)
    show b.val < n ∨ n + 4 ≤ b.val
    omega
  · refine (View.read_writes_cons_unit_of_mem v f hb w L (ix3 a b t) (ix3 a (⟨b.val - n, by omega⟩ : Fin 4) t) rfl ?_).trans ((hw _ _ _).trans ?_)
    · intro x
      fin_cases x
      · show a.val = 0 + a.val; omega
      · show b.val = n + (b.val - n); omega
      · show t.val = 0 + t.val; omega
    · exact congrArg (fun q => projected x2 x3 a q t) (Fin.ext (show n + (b.val - n) = b.val by omega))

/-- The projection read whole, and four sequences of the memory. -/
abbrev wAt (Y : Vec Ideal S128x512 .f32) (hs : ∀ i, (![0, 0] : Fin 2 → ℕ) i + S128x512.size i ≤ S128x512.size i) : FVec Ideal S128x512 .f32 :=
  View.ld Y (Rect.unit ![0, 0] S128x512.size hs)
abbrev mAt (X : Vec Ideal S32x800x512 .bf16) (n : ℕ) (hr : ∀ i, (![n, 0, 0] : Fin 3 → ℕ) i + S4x800x512.size i ≤ S32x800x512.size i) : FVec Ideal S4x800x512 .bf16 :=
  View.ld X (Rect.unit ![n, 0, 0] S4x800x512.size hr)

theorem goodp_chunk (n : ℕ) (hn : n < 29) (X : Vec Ideal S32x800x512 .bf16) (Y : Vec Ideal S128x512 .f32) (hX : X = x2) (hY : Y = x3)
    (hr : ∀ i, (![n, 0, 0] : Fin 3 → ℕ) i + S4x800x512.size i ≤ S32x800x512.size i) (hs : ∀ i, (![0, 0] : Fin 2 → ℕ) i + S128x512.size i ≤ S128x512.size i)
    (h1 : FTy.bf16.bits < FTy.f32.bits) (h2 : S4x800x512.ShapeCasts S4x800x512) (h3 : FTy.bf16.bits < FTy.f32.bits) (h4 : S128x4x800.ShapeCasts S128x4x800)
    (hb : ∀ x, (![0, n, 0] : Fin 3 → ℕ) x + S128x4x800.size x ≤ S128x32x800.size x) (hL : GoodP n v f L x2 x3) :
    GoodP (n + 4) v f ((⟨Rect.unit ![0, n, 0] S128x4x800.size hb,
      shapeCast S128x4x800 (truncf (F := Ideal) .bf16 (matmul (F := Ideal) dot_S128x512_S4x800x512_S128x4x800_1_2_0_01_n_n none
        (truncf (F := Ideal) .bf16 (wAt Y hs) h1)
        (shapeCast S4x800x512 (mAt X n hr) h2)
        (constant (F := Ideal) S128x4x800 .f32 0x00000000#32)) h3) h4⟩ : View.Piece (Elt Ideal) S128x32x800 .bf16) :: L) x2 x3 := by
  subst hX
  subst hY
  refine goodp_cons n hn _ hb ?_ hL
  intro a r t
  refine (chunk_row _ _ _ _ _ _ a r t).trans (Finset.sum_congr rfl fun k _ => congrArg₂ (fun p q : EReal => p * q) ?_ ?_)
  · refine congrArg Y (funext fun i => Fin.ext ((Rect.idx_unit_val (s := S128x512) ![0, 0] S128x512.size hs (ix2 a k) i).trans ?_))
    fin_cases i <;> simp
  · refine congrArg X (funext fun i => Fin.ext ((Rect.idx_unit_val (s := S32x800x512) ![n, 0, 0] S4x800x512.size hr (ix3 r t k) i).trans ?_))
    fin_cases i <;> simp

end

section
variable (c : Dev nD) (arg4 : Memref sig .tc .vmem S32x800x512 .bf16) (harg4 : arg4.IsWhole) (arg5 : Memref sig .tc .vmem S128x512 .f32) (harg5 : arg5.IsWhole)
  (arg25 : Memref sig .tc .vmem S128x32x800 .bf16) (x2 : Vec Ideal S32x800x512 .bf16) (x3 : Vec Ideal S128x512 .f32)

theorem memory_A : GoodP 32 arg25.view arg25.view.junk (kernelRun0_A.sl.HS6_8 c arg4 harg4 arg5 harg5 x2 x3) x2 x3 := by
  have hM : arg4.view.read (Elt Ideal) (harg4.unread x2) = x2 := harg4.read_unread x2
  have hW : arg5.view.read (Elt Ideal) (harg5.unread x3) = x3 := harg5.read_unread x3
  exact (goodp_chunk 28 (by decide) _ _ hM hW _ _ _ _ _ _ _ (goodp_chunk 24 (by decide) _ _ hM hW _ _ _ _ _ _ _ (goodp_chunk 20 (by decide) _ _ hM hW _ _ _ _ _ _ _ (goodp_chunk 16 (by decide) _ _ hM hW _ _ _ _ _ _ _ (goodp_chunk 12 (by decide) _ _ hM hW _ _ _ _ _ _ _ (goodp_chunk 8 (by decide) _ _ hM hW _ _ _ _ _ _ _ (goodp_chunk 4 (by decide) _ _ hM hW _ _ _ _ _ _ _ (goodp_chunk 0 (by decide) _ _ hM hW _ _ _ _ _ _ _ goodp_nil))))))))

theorem pA_apply (a : Fin 128) (b : Fin 32) (t : Fin 800) :
    (pA c arg4 harg4 arg5 harg5 arg25 x2 x3 (ix3 a b t) : EReal) = projected x2 x3 a b t :=
  memory_A c arg4 harg4 arg5 harg5 arg25 x2 x3 a b t b.isLt

end

end Cert.Proof.DecoderStep
-- ==== Proof.DecoderPlanes.lean ====
/- Hand-written, untrusted: THE WINDOW PLANES of a step of the decoder: plane `j` holds the padded weights shifted by `j`,
   plane `32 + j` the padded running sum of the weights shifted by `j`. -/
module

public import proofs.«01_k».proof.Proof.DecoderCase
public import Idealize.ShloMosaic.Lib.Pipeline.ValueKit.Tiles

@[expose] public section

set_option maxRecDepth 16384

noncomputable section

namespace Cert.Proof.DecoderStep

open Cert.DecoderIdeal Cert.DecoderIdeal.Gen Idealize.ShloMosaic Idealize.ShloMosaic.TcCoe Idealize.SL.Sem

/-- What plane `j` holds. -/
def planeOf (a s : Vec Ideal S32x832 .f32) (j : Fin 64) (b : Fin 32) (t : Fin 800) : EReal :=
  if j.val < 32 then a (ix2 b ⟨j.val % 32 + t.val, by omega⟩) else s (ix2 b ⟨j.val % 32 + t.val, by omega⟩)

/-- The planes of a list are as they should be after the stores `L`. -/
def Good (v : View sig .tc .vmem S64x32x800 .bf16) (f : v.ty.Contents (Elt Ideal)) (L : List (View.Piece (Elt Ideal) S64x32x800 .bf16))
    (P : List ℕ) (a s : Vec Ideal S32x832 .f32) : Prop :=
  ∀ (j : Fin 64), j.val ∈ P → ∀ (b : Fin 32) (t : Fin 800), (v.read (Elt Ideal) (v.writes (Elt Ideal) f L) (ix3 j b t) : EReal) = planeOf a s j b t

section
variable {v : View sig .tc .vmem S64x32x800 .bf16} {f : v.ty.Contents (Elt Ideal)} {L : List (View.Piece (Elt Ideal) S64x32x800 .bf16)}
  {P : List ℕ} {a s : Vec Ideal S32x832 .f32}

theorem good_nil : Good v f L [] a s := fun _ h => absurd h List.not_mem_nil

theorem good_cons (n : ℕ) (hn : n < 64) (w : Vec Ideal S1x32x800 .bf16) (hb : ∀ x, (![n, 0, 0] : Fin 3 → ℕ) x + S1x32x800.size x ≤ S64x32x800.size x)
    (hw : ∀ (b : Fin 32) (t : Fin 800), (w (ix3 0 b t) : EReal) = planeOf a s ⟨n, hn⟩ b t) (hL : Good v f L P a s) :
    Good v f ((⟨Rect.unit ![n, 0, 0] S1x32x800.size hb, w⟩ : View.Piece (Elt Ideal) S64x32x800 .bf16) :: L) (n :: P) a s := by
  intro j hj b t
  by_cases h : j.val = n
  · obtain rfl : j = ⟨n, hn⟩ := Fin.ext h
    refine (View.read_writes_cons_unit_of_mem v f hb w L (ix3 ⟨n, hn⟩ b t) (ix3 0 b t) rfl ?_).trans (hw b t)
    intro x
    fin_cases x <;> simp
  · refine (View.read_writes_cons_unit_of_not_mem v f hb w L (ix3 j b t) rfl (0 : Fin 3) ?_).trans (hL j ?_ b t)
    · show j.val < n ∨ n + 1 ≤ j.val
      omega
    · exact (List.mem_cons.mp hj).resolve_left h

theorem sq_row (x : FVec Ideal S32x800 .f32) (h1) (h2) (b : Fin 32) (t : Fin 800) :
    (shapeCast S1x32x800 (truncf .bf16 x h1) h2 (ix3 0 b t) : EReal) = x (ix2 b t) := by
  simp only [pointwise]

/-- The window of a padded row that starts at place `n`. -/
abbrev winAt (x : Vec Ideal S32x832 .f32) (n : ℕ) (hr : ∀ i, (![0, n] : Fin 2 → ℕ) i + S32x800.size i ≤ S32x832.size i) : FVec Ideal S32x800 .f32 :=
  View.ld x (Rect.unit ![0, n] S32x800.size hr)

theorem good_fst (n : ℕ) (hn : n < 31) (x : Vec Ideal S32x832 .f32) (hx : x = a) (hr : ∀ i, (![0, n] : Fin 2 → ℕ) i + S32x800.size i ≤ S32x832.size i) (h1 : FTy.bf16.bits < FTy.f32.bits) (h2 : S32x800.ShapeCasts S1x32x800)
    (hb : ∀ x, (![n, 0, 0] : Fin 3 → ℕ) x + S1x32x800.size x ≤ S64x32x800.size x) (hL : Good v f L P a s) :
    Good v f ((⟨Rect.unit ![n, 0, 0] S1x32x800.size hb,
      shapeCast S1x32x800 (truncf (F := Ideal) .bf16 (winAt x n hr) h1) h2⟩ : View.Piece (Elt Ideal) S64x32x800 .bf16) :: L) (n :: P) a s := by
  subst hx
  refine good_cons n (by omega) _ hb ?_ hL
  intro b t
  refine (sq_row _ _ _ b t).trans ?_
  have e : n % 32 = n := Nat.mod_eq_of_lt (by omega)
  rw [planeOf, if_pos (show n < 32 by omega)]
  refine congrArg x (funext fun i => Fin.ext ((Rect.idx_unit_val (s := S32x832) ![0, n] S32x800.size hr (ix2 b t) i).trans ?_))
  fin_cases i <;> simp [e]

theorem good_snd (n : ℕ) (hn : n < 31) (x : Vec Ideal S32x832 .f32) (hx : x = s) (hr : ∀ i, (![0, n] : Fin 2 → ℕ) i + S32x800.size i ≤ S32x832.size i) (h1 : FTy.bf16.bits < FTy.f32.bits) (h2 : S32x800.ShapeCasts S1x32x800)
    (hb : ∀ x, (![32 + n, 0, 0] : Fin 3 → ℕ) x + S1x32x800.size x ≤ S64x32x800.size x) (hL : Good v f L P a s) :
    Good v f ((⟨Rect.unit ![32 + n, 0, 0] S1x32x800.size hb,
      shapeCast S1x32x800 (truncf (F := Ideal) .bf16 (winAt x n hr) h1) h2⟩ : View.Piece (Elt Ideal) S64x32x800 .bf16) :: L) ((32 + n) :: P) a s := by
  subst hx
  refine good_cons (32 + n) (by omega) _ hb ?_ hL
  intro b t
  refine (sq_row _ _ _ b t).trans ?_
  have e : (32 + n) % 32 = n := by omega
  rw [planeOf, if_neg (show ¬ 32 + n < 32 by omega)]
  refine congrArg x (funext fun i => Fin.ext ((Rect.idx_unit_val (s := S32x832) ![0, n] S32x800.size hr (ix2 b t) i).trans ?_))
  fin_cases i <;> simp [e]

end

/-- The planes a step fills, the last filled first. -/
def filled : List ℕ := [62, 30, 61, 29, 60, 28, 59, 27, 58, 26, 57, 25, 56, 24, 55, 23, 54, 22, 53, 21, 52, 20, 51, 19, 50, 18, 49, 17, 48, 16, 47, 15, 46, 14, 45, 13, 44, 12, 43, 11, 42, 10, 41, 9, 40, 8, 39, 7, 38, 6, 37, 5, 36, 4, 35, 3, 34, 2, 33, 1, 32, 0]

theorem mem_filled : ∀ j : Fin 64, j.val ≠ 31 → j.val ≠ 63 → j.val ∈ filled := by decide

section
variable (c : Dev nD) (arg22 : Memref sig .tc .vmem S32x832 .f32) (harg22 : arg22.IsWhole) (arg23 : Memref sig .tc .vmem S32x832 .f32) (harg23 : arg23.IsWhole)
  (arg24 : Memref sig .tc .vmem S64x32x800 .bf16) (harg24 : arg24.IsWhole) (xs3 xs4 : Vec Ideal S32x832 .f32) (xs5 : Vec Ideal S64x32x800 .bf16)

theorem planes_B : Good arg24.view (harg24.unread xs5) (kernelRun0_B.sl.HS5_62 c arg22 harg22 arg23 harg23 xs3 xs4) filled xs3 xs4 := by
  have hXa : arg22.view.read (Elt Ideal) (harg22.unread xs3) = xs3 := harg22.read_unread xs3
  have hXc : arg23.view.read (Elt Ideal) (harg23.unread xs4) = xs4 := harg23.read_unread xs4
  exact (good_snd 30 (by decide) _ hXc _ _ _ _ (good_fst 30 (by decide) _ hXa _ _ _ _ (good_snd 29 (by decide) _ hXc _ _ _ _ (good_fst 29 (by decide) _ hXa _ _ _ _ (good_snd 28 (by decide) _ hXc _ _ _ _ (good_fst 28 (by decide) _ hXa _ _ _ _ (good_snd 27 (by decide) _ hXc _ _ _ _ (good_fst 27 (by decide) _ hXa _ _ _ _ (good_snd 26 (by decide) _ hXc _ _ _ _ (good_fst 26 (by decide) _ hXa _ _ _ _ (good_snd 25 (by decide) _ hXc _ _ _ _ (good_fst 25 (by decide) _ hXa _ _ _ _ (good_snd 24 (by decide) _ hXc _ _ _ _ (good_fst 24 (by decide) _ hXa _ _ _ _ (good_snd 23 (by decide) _ hXc _ _ _ _ (good_fst 23 (by decide) _ hXa _ _ _ _ (good_snd 22 (by decide) _ hXc _ _ _ _ (good_fst 22 (by decide) _ hXa _ _ _ _ (good_snd 21 (by decide) _ hXc _ _ _ _ (good_fst 21 (by decide) _ hXa _ _ _ _ (good_snd 20 (by decide) _ hXc _ _ _ _ (good_fst 20 (by decide) _ hXa _ _ _ _ (good_snd 19 (by decide) _ hXc _ _ _ _ (good_fst 19 (by decide) _ hXa _ _ _ _ (good_snd 18 (by decide) _ hXc _ _ _ _ (good_fst 18 (by decide) _ hXa _ _ _ _ (good_snd 17 (by decide) _ hXc _ _ _ _ (good_fst 17 (by decide) _ hXa _ _ _ _ (good_snd 16 (by decide) _ hXc _ _ _ _ (good_fst 16 (by decide) _ hXa _ _ _ _ (good_snd 15 (by decide) _ hXc _ _ _ _ (good_fst 15 (by decide) _ hXa _ _ _ _ (good_snd 14 (by decide) _ hXc _ _ _ _ (good_fst 14 (by decide) _ hXa _ _ _ _ (good_snd 13 (by decide) _ hXc _ _ _ _ (good_fst 13 (by decide) _ hXa _ _ _ _ (good_snd 12 (by decide) _ hXc _ _ _ _ (good_fst 12 (by decide) _ hXa _ _ _ _ (good_snd 11 (by decide) _ hXc _ _ _ _ (good_fst 11 (by decide) _ hXa _ _ _ _ (good_snd 10 (by decide) _ hXc _ _ _ _ (good_fst 10 (by decide) _ hXa _ _ _ _ (good_snd 9 (by decide) _ hXc _ _ _ _ (good_fst 9 (by decide) _ hXa _ _ _ _ (good_snd 8 (by decide) _ hXc _ _ _ _ (good_fst 8 (by decide) _ hXa _ _ _ _ (good_snd 7 (by decide) _ hXc _ _ _ _ (good_fst 7 (by decide) _ hXa _ _ _ _ (good_snd 6 (by decide) _ hXc _ _ _ _ (good_fst 6 (by decide) _ hXa _ _ _ _ (good_snd 5 (by decide) _ hXc _ _ _ _ (good_fst 5 (by decide) _ hXa _ _ _ _ (good_snd 4 (by decide) _ hXc _ _ _ _ (good_fst 4 (by decide) _ hXa _ _ _ _ (good_snd 3 (by decide) _ hXc _ _ _ _ (good_fst 3 (by decide) _ hXa _ _ _ _ (good_snd 2 (by decide) _ hXc _ _ _ _ (good_fst 2 (by decide) _ hXa _ _ _ _ (good_snd 1 (by decide) _ hXc _ _ _ _ (good_fst 1 (by decide) _ hXa _ _ _ _ (good_snd 0 (by decide) _ hXc _ _ _ _ (good_fst 0 (by decide) _ hXa _ _ _ _ good_nil))))))))))))))))))))))))))))))))))))))))))))))))))))))))))))))

theorem planes_A : Good arg24.view arg24.view.junk (kernelRun0_A.sl.HS5_63 c arg22 arg23) filled (k0_pay8 (F := Ideal)) (k0_pay9 (F := Ideal)) := by
  have hXa : arg22.view.read (Elt Ideal) (arg22.view.writes (Elt Ideal) arg22.view.junk (kernelRun0_A.sl.HS3_1 (F := Ideal))) = k0_pay8 (F := Ideal) :=
    View.read_writes_full _ _ _ _ _
  have hXc : arg23.view.read (Elt Ideal) (arg23.view.writes (Elt Ideal) arg23.view.junk (kernelRun0_A.sl.HS4_1 (F := Ideal))) = k0_pay9 (F := Ideal) :=
    View.read_writes_full _ _ _ _ _
  exact (good_snd 30 (by decide) _ hXc _ _ _ _ (good_fst 30 (by decide) _ hXa _ _ _ _ (good_snd 29 (by decide) _ hXc _ _ _ _ (good_fst 29 (by decide) _ hXa _ _ _ _ (good_snd 28 (by decide) _ hXc _ _ _ _ (good_fst 28 (by decide) _ hXa _ _ _ _ (good_snd 27 (by decide) _ hXc _ _ _ _ (good_fst 27 (by decide) _ hXa _ _ _ _ (good_snd 26 (by decide) _ hXc _ _ _ _ (good_fst 26 (by decide) _ hXa _ _ _ _ (good_snd 25 (by decide) _ hXc _ _ _ _ (good_fst 25 (by decide) _ hXa _ _ _ _ (good_snd 24 (by decide) _ hXc _ _ _ _ (good_fst 24 (by decide) _ hXa _ _ _ _ (good_snd 23 (by decide) _ hXc _ _ _ _ (good_fst 23 (by decide) _ hXa _ _ _ _ (good_snd 22 (by decide) _ hXc _ _ _ _ (good_fst 22 (by decide) _ hXa _ _ _ _ (good_snd 21 (by decide) _ hXc _ _ _ _ (good_fst 21 (by decide) _ hXa _ _ _ _ (good_snd 20 (by decide) _ hXc _ _ _ _ (good_fst 20 (by decide) _ hXa _ _ _ _ (good_snd 19 (by decide) _ hXc _ _ _ _ (good_fst 19 (by decide) _ hXa _ _ _ _ (good_snd 18 (by decide) _ hXc _ _ _ _ (good_fst 18 (by decide) _ hXa _ _ _ _ (good_snd 17 (by decide) _ hXc _ _ _ _ (good_fst 17 (by decide) _ hXa _ _ _ _ (good_snd 16 (by decide) _ hXc _ _ _ _ (good_fst 16 (by decide) _ hXa _ _ _ _ (good_snd 15 (by decide) _ hXc _ _ _ _ (good_fst 15 (by decide) _ hXa _ _ _ _ (good_snd 14 (by decide) _ hXc _ _ _ _ (good_fst 14 (by decide) _ hXa _ _ _ _ (good_snd 13 (by decide) _ hXc _ _ _ _ (good_fst 13 (by decide) _ hXa _ _ _ _ (good_snd 12 (by decide) _ hXc _ _ _ _ (good_fst 12 (by decide) _ hXa _ _ _ _ (good_snd 11 (by decide) _ hXc _ _ _ _ (good_fst 11 (by decide) _ hXa _ _ _ _ (good_snd 10 (by decide) _ hXc _ _ _ _ (good_fst 10 (by decide) _ hXa _ _ _ _ (good_snd 9 (by decide) _ hXc _ _ _ _ (good_fst 9 (by decide) _ hXa _ _ _ _ (good_snd 8 (by decide) _ hXc _ _ _ _ (good_fst 8 (by decide) _ hXa _ _ _ _ (good_snd 7 (by decide) _ hXc _ _ _ _ (good_fst 7 (by decide) _ hXa _ _ _ _ (good_snd 6 (by decide) _ hXc _ _ _ _ (good_fst 6 (by decide) _ hXa _ _ _ _ (good_snd 5 (by decide) _ hXc _ _ _ _ (good_fst 5 (by decide) _ hXa _ _ _ _ (good_snd 4 (by decide) _ hXc _ _ _ _ (good_fst 4 (by decide) _ hXa _ _ _ _ (good_snd 3 (by decide) _ hXc _ _ _ _ (good_fst 3 (by decide) _ hXa _ _ _ _ (good_snd 2 (by decide) _ hXc _ _ _ _ (good_fst 2 (by decide) _ hXa _ _ _ _ (good_snd 1 (by decide) _ hXc _ _ _ _ (good_fst 1 (by decide) _ hXa _ _ _ _ (good_snd 0 (by decide) _ hXc _ _ _ _ (good_fst 0 (by decide) _ hXa _ _ _ _ good_nil))))))))))))))))))))))))))))))))))))))))))))))))))))))))))))))

end

end Cert.Proof.DecoderStep
-- ==== Proof.Decode.lean ====
/- Hand-written, untrusted: ONE ROW OF AN ATTENTION DECODER over the ideal values, apart from any program: the cell, the energies,
   the weights and the context of a step, the state after `n` steps, and the one fact the two programs' location terms need —
   projecting the convolved weights is convolving with the projected filters, while the weights and the filters are real. -/
module

public import Idealize.ShloMosaic.Lib.Pointwise

@[expose] public section

noncomputable section

namespace Cert.Proof.Decode

open Idealize.ShloMosaic

/-- The parameters of a row. -/
structure Par where
  wi : Fin 2048 → Fin 1024 → EReal
  wh : Fin 2048 → Fin 512 → EReal
  bi : Fin 2048 → EReal
  qw : Fin 128 → Fin 512 → EReal
  cv : Fin 32 → Fin 2 → Fin 31 → EReal
  lw : Fin 128 → Fin 32 → EReal
  v : Fin 128 → EReal
  pw : Fin 512 → Fin 1024 → EReal
  pb : Fin 512 → EReal
  sw : Fin 101 → Fin 512 → EReal
  sb : Fin 101 → EReal
  mem : Fin 800 → Fin 512 → EReal
  pm : Fin 128 → Fin 800 → EReal
  len : BitVec 32

/-- The state of a row: hidden, cell, context, weights, running sum of the weights. -/
structure St where
  h : Fin 512 → EReal
  c : Fin 512 → EReal
  x : Fin 512 → EReal
  a : Fin 800 → EReal
  s : Fin 800 → EReal

def St.zero : St := ⟨fun _ => 0, fun _ => 0, fun _ => 0, fun _ => 0, fun _ => 0⟩

/-- One row after another. -/
def both (u v : Fin 512 → EReal) (k : Fin 1024) : EReal :=
  if hk : k.val < 512 then u ⟨k.val, hk⟩ else v ⟨k.val - 512, by omega⟩

section
variable (p : Par)

def gate (d h x : Fin 512 → EReal) (g : Fin 2048) : EReal :=
  ∑ k : Fin 1024, both d x k * p.wi g k + ∑ k : Fin 512, h k * p.wh g k + p.bi g

def newC (z : Fin 2048 → EReal) (c : Fin 512 → EReal) (u : Fin 512) : EReal :=
  Ideal.logistic (z ⟨512 + u.val, by omega⟩) * c u + Ideal.logistic (z ⟨u.val, by omega⟩) * Ideal.tanh (z ⟨1024 + u.val, by omega⟩)

def newH (z : Fin 2048 → EReal) (c : Fin 512 → EReal) (u : Fin 512) : EReal :=
  Ideal.logistic (z ⟨1536 + u.val, by omega⟩) * Ideal.tanh (newC z c u)

def query (h : Fin 512 → EReal) (a : Fin 128) : EReal := ∑ k : Fin 512, h k * p.qw a k

def energy (l : Fin 128 → Fin 800 → EReal) (h : Fin 512 → EReal) (t : Fin 800) : EReal :=
  ∑ a : Fin 128, p.v a * Ideal.tanh (l a t + p.pm a t + query p h a)

/-- The energies with the frames from the length on set to a large negative number. -/
def masked (len : BitVec 32) (e : Fin 800 → EReal) (t : Fin 800) : EReal :=
  Scalar.select (IntOp.cmpi CmpIPredicate.sge (BitVec.ofNat 32 t.val) len) (Ideal.ofBits FTy.f32 0xCE6E6B28#32) (e t)

def top (e : Fin 800 → EReal) : EReal := Finset.fold max (Ideal.ofBits FTy.f32 0xFF800000#32) e Finset.univ

/-- The softmax. -/
def soft (e : Fin 800 → EReal) (t : Fin 800) : EReal :=
  Ideal.div (Ideal.exp (e t - top e)) (∑ k : Fin 800, Ideal.exp (e k - top e))

def context (a : Fin 800 → EReal) (k : Fin 512) : EReal := ∑ t : Fin 800, a t * p.mem t k

def proj (h x : Fin 512 → EReal) (j : Fin 512) : EReal := max (∑ k : Fin 1024, both h x k * p.pw j k + p.pb j) 0

def logit (h x : Fin 512 → EReal) (i : Fin 101) : EReal := ∑ j : Fin 512, proj p h x j * p.sw i j + p.sb i

/-- The window of a padded row: 15 zeros on each side. -/
def win (a : Fin 800 → EReal) (t : Fin 800) (k : Fin 31) : EReal :=
  if hk : 15 ≤ t.val + k.val ∧ t.val + k.val < 815 then a ⟨t.val + k.val - 15, by omega⟩ else 0

/-- The location term: the filters applied to the two windows, then the projection. -/
def locA (a s : Fin 800 → EReal) (i : Fin 128) (t : Fin 800) : EReal :=
  ∑ f : Fin 32, (∑ c : Fin 2, ∑ k : Fin 31, p.cv f c k * win (if c = 0 then a else s) t k) * p.lw i f

/-- The location term: the projected filters applied to the two windows. -/
def locB (a s : Fin 800 → EReal) (i : Fin 128) (t : Fin 800) : EReal :=
  ∑ k : Fin 31, (∑ f : Fin 32, p.lw i f * p.cv f 0 k) * win a t k + ∑ k : Fin 31, (∑ f : Fin 32, p.lw i f * p.cv f 1 k) * win s t k

variable (loc : (Fin 800 → EReal) → (Fin 800 → EReal) → Fin 128 → Fin 800 → EReal)

/-- One step. -/
def step (d : Fin 512 → EReal) (q : St) : St where
  h := newH (gate p d q.h q.x) q.c
  c := newC (gate p d q.h q.x) q.c
  x := context p (soft (masked p.len (energy p (loc q.a q.s) (newH (gate p d q.h q.x) q.c))))
  a := soft (masked p.len (energy p (loc q.a q.s) (newH (gate p d q.h q.x) q.c)))
  s := fun t => q.s t + soft (masked p.len (energy p (loc q.a q.s) (newH (gate p d q.h q.x) q.c))) t

/-- The state after `n` steps. -/
def run (d : ℕ → Fin 512 → EReal) : ℕ → St
  | 0 => St.zero
  | n + 1 => step p loc (d n) (run d n)

end

/-! ## Real rows -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

def Real' (x : EReal) : Prop := ∃ r : ℝ, x = (r : EReal)

theorem real_sum {ι : Type} (s : Finset ι) (f : ι → EReal) (h : ∀ i, Real' (f i)) : Real' (∑ i ∈ s, f i) := by
  choose g hg using h
  exact ⟨∑ i ∈ s, g i, by rw [coe_sum]; exact Finset.sum_congr rfl fun i _ => hg i⟩

theorem real_tanh (x : EReal) : Real' (Ideal.tanh x) := by
  induction x with
  | bot => exact ⟨-1, show (-1 : EReal) = _ by rw [EReal.coe_neg, EReal.coe_one]⟩
  | top => exact ⟨1, EReal.coe_one.symm⟩
  | coe r => exact ⟨Real.tanh r, rfl⟩

theorem real_mul {x y : EReal} (hx : Real' x) (hy : Real' y) : Real' (x * y) := by
  obtain ⟨r, rfl⟩ := hx
  obtain ⟨s, rfl⟩ := hy
  exact ⟨r * s, (EReal.coe_mul r s).symm⟩

theorem real_add {x y : EReal} (hx : Real' x) (hy : Real' y) : Real' (x + y) := by
  obtain ⟨r, rfl⟩ := hx
  obtain ⟨s, rfl⟩ := hy
  exact ⟨r + s, (EReal.coe_add r s).symm⟩

theorem low_eq : Ideal.ofBits FTy.f32 0xFF800000#32 = (⊥ : EReal) := by simp [Ideal.ofBits, Ideal.ieee]

theorem far_real : Real' (Ideal.ofBits FTy.f32 0xCE6E6B28#32) := by
  simp only [Ideal.ofBits, Ideal.ieee]
  simp [-EReal.coe_mul]
  exact ⟨_, rfl⟩

theorem real_masked (len : BitVec 32) (e : Fin 800 → EReal) (h : ∀ t, Real' (e t)) (t : Fin 800) : Real' (masked len e t) := by
  unfold masked Scalar.select
  split
  · exact far_real
  · exact h t

theorem fold_real {ι : Type} (s : Finset ι) (f : ι → ℝ) : Finset.fold max (⊥ : EReal) (fun i => (f i : EReal)) s = ⊥ ∧ s = ∅
    ∨ Real' (Finset.fold max (⊥ : EReal) (fun i => (f i : EReal)) s) := by
  classical
  induction s using Finset.induction_on with
  | empty => exact .inl ⟨rfl, rfl⟩
  | insert a s ha ih =>
    refine .inr ?_
    rw [Finset.fold_insert ha]
    rcases ih with ⟨h, _⟩ | ⟨r, h⟩
    · exact ⟨f a, by rw [h]; exact max_eq_left bot_le⟩
    · exact ⟨max (f a) r, by rw [h]; exact (EReal.coe_strictMono.monotone.map_max).symm⟩

theorem real_top (e : Fin 800 → EReal) (h : ∀ t, Real' (e t)) : Real' (top e) := by
  choose g hg using h
  obtain rfl : e = fun t => (g t : EReal) := funext hg
  rw [top, low_eq]
  rcases fold_real Finset.univ g with ⟨_, h⟩ | h
  · exact absurd h (Finset.univ_nonempty (α := Fin 800)).ne_empty
  · exact h

theorem real_soft (e : Fin 800 → EReal) (h : ∀ t, Real' (e t)) (t : Fin 800) : Real' (soft e t) := by
  obtain ⟨m, hm⟩ := real_top e h
  choose g hg using h
  have hx : ∀ t, Ideal.exp (e t - top e) = ((Real.exp (g t - m) : ℝ) : EReal) := by
    intro t
    rw [hm, hg t, ← EReal.coe_sub]
    rfl
  have hs : (∑ k : Fin 800, Ideal.exp (e k - top e)) = ((∑ k : Fin 800, Real.exp (g k - m) : ℝ) : EReal) := by
    rw [coe_sum]
    exact Finset.sum_congr rfl fun k _ => hx k
  have hp : (0 : ℝ) < ∑ k : Fin 800, Real.exp (g k - m) :=
    Finset.sum_pos (fun k _ => Real.exp_pos _) Finset.univ_nonempty
  rw [soft, hs, hx t, Ideal.div, if_neg (by rw [EReal.coe_eq_zero]; exact hp.ne')]
  exact ⟨Real.exp (g t - m) * (∑ k : Fin 800, Real.exp (g k - m))⁻¹, by rw [EReal.coe_mul, EReal.coe_inv]⟩

/-! ## The two location terms -/

theorem real_win {a : Fin 800 → EReal} (h : ∀ t, Real' (a t)) (t : Fin 800) (k : Fin 31) : Real' (win a t k) := by
  unfold win
  split
  · exact h _
  · exact ⟨0, by simp⟩

theorem loc_eq (p : Par) (hc : ∀ f c k, Real' (p.cv f c k)) (hl : ∀ i f, Real' (p.lw i f)) (a s : Fin 800 → EReal)
    (ha : ∀ t, Real' (a t)) (hs : ∀ t, Real' (s t)) : locA p a s = locB p a s := by
  funext i t
  choose C hC using hc
  choose D hD using hl
  choose A hA using real_win ha t
  choose S hS using real_win hs t
  have e0 : ∀ f, (∑ c : Fin 2, ∑ k : Fin 31, p.cv f c k * win (if c = 0 then a else s) t k)
      = ((∑ k : Fin 31, C f 0 k * A k + ∑ k : Fin 31, C f 1 k * S k : ℝ) : EReal) := by
    intro f
    rw [Fin.sum_univ_two, EReal.coe_add, coe_sum, coe_sum]
    congr 1
    · exact Finset.sum_congr rfl fun k _ => by rw [if_pos rfl, hC, hA, EReal.coe_mul]
    · exact Finset.sum_congr rfl fun k _ => by rw [if_neg (by decide), hC, hS, EReal.coe_mul]
  have e1 : ∀ (c : Fin 2) (k : Fin 31), (∑ f : Fin 32, p.lw i f * p.cv f c k) = ((∑ f : Fin 32, D i f * C f c k : ℝ) : EReal) := by
    intro c k
    rw [coe_sum]
    exact Finset.sum_congr rfl fun f _ => by rw [hC, hD, EReal.coe_mul]
  have l : locA p a s i t = ((∑ f : Fin 32, (∑ k : Fin 31, C f 0 k * A k + ∑ k : Fin 31, C f 1 k * S k) * D i f : ℝ) : EReal) := by
    rw [locA, coe_sum]
    exact Finset.sum_congr rfl fun f _ => by rw [e0, hD, EReal.coe_mul]
  have r : locB p a s i t = ((∑ k : Fin 31, (∑ f : Fin 32, D i f * C f 0 k) * A k + ∑ k : Fin 31, (∑ f : Fin 32, D i f * C f 1 k) * S k : ℝ) : EReal) := by
    rw [locB, EReal.coe_add, coe_sum, coe_sum]
    congr 1
    · exact Finset.sum_congr rfl fun k _ => by rw [e1, hA, EReal.coe_mul]
    · exact Finset.sum_congr rfl fun k _ => by rw [e1, hS, EReal.coe_mul]
  rw [l, r]
  congr 1
  simp only [add_mul, Finset.sum_add_distrib, Finset.sum_mul]
  congr 1
  · rw [Finset.sum_comm]
    exact Finset.sum_congr rfl fun _ _ => Finset.sum_congr rfl fun _ _ => by ring
  · rw [Finset.sum_comm]
    exact Finset.sum_congr rfl fun _ _ => Finset.sum_congr rfl fun _ _ => by ring

theorem real_energy (p : Par) (hv : ∀ a, Real' (p.v a)) (l : Fin 128 → Fin 800 → EReal) (h : Fin 512 → EReal) (t : Fin 800) :
    Real' (energy p l h t) := real_sum _ _ fun a => real_mul (hv a) (real_tanh _)

theorem run_zero (p : Par) (loc : (Fin 800 → EReal) → (Fin 800 → EReal) → Fin 128 → Fin 800 → EReal) (d : ℕ → Fin 512 → EReal) :
    run p loc d 0 = St.zero := rfl

theorem run_succ (p : Par) (loc : (Fin 800 → EReal) → (Fin 800 → EReal) → Fin 128 → Fin 800 → EReal) (d : ℕ → Fin 512 → EReal) (n : ℕ) :
    run p loc d (n + 1) = step p loc (d n) (run p loc d n) := rfl

theorem step_a_real (p : Par) (hv : ∀ a, Real' (p.v a)) (loc : (Fin 800 → EReal) → (Fin 800 → EReal) → Fin 128 → Fin 800 → EReal) (d : Fin 512 → EReal) (q : St)
    (t : Fin 800) : Real' ((step p loc d q).a t) := by
  unfold step
  exact real_soft _ (real_masked _ _ (real_energy p hv _ _)) t

theorem step_s_real (p : Par) (hv : ∀ a, Real' (p.v a)) (loc : (Fin 800 → EReal) → (Fin 800 → EReal) → Fin 128 → Fin 800 → EReal) (d : Fin 512 → EReal) (q : St)
    (hs : ∀ t, Real' (q.s t)) (t : Fin 800) : Real' ((step p loc d q).s t) := by
  unfold step
  exact real_add (hs t) (real_soft _ (real_masked _ _ (real_energy p hv _ _)) t)

theorem step_eq (p : Par) (hc : ∀ f c k, Real' (p.cv f c k)) (hl : ∀ i f, Real' (p.lw i f)) (d : Fin 512 → EReal) (q : St)
    (ha : ∀ t, Real' (q.a t)) (hs : ∀ t, Real' (q.s t)) : step p (locA p) d q = step p (locB p) d q := by
  unfold step
  rw [loc_eq p hc hl _ _ ha hs]

/-- The weights and their running sum stay real, so the two location terms give the same states. -/
theorem run_eq (p : Par) (hc : ∀ f c k, Real' (p.cv f c k)) (hl : ∀ i f, Real' (p.lw i f)) (hv : ∀ a, Real' (p.v a))
    (d : ℕ → Fin 512 → EReal) (n : ℕ) : run p (locA p) d n = run p (locB p) d n
      ∧ (∀ t, Real' ((run p (locB p) d n).a t)) ∧ ∀ t, Real' ((run p (locB p) d n).s t) := by
  induction n with
  | zero =>
    rw [run_zero, run_zero]
    exact ⟨rfl, fun _ => ⟨0, EReal.coe_zero.symm⟩, fun _ => ⟨0, EReal.coe_zero.symm⟩⟩
  | succ n ih =>
    obtain ⟨he, ha, hs⟩ := ih
    rw [run_succ, run_succ, he]
    exact ⟨step_eq p hc hl _ _ ha hs, step_a_real p hv _ _ _, step_s_real p hv _ _ _ hs⟩

end Cert.Proof.Decode
-- ==== Proof.DecoderRow.lean ====
/- Hand-written, untrusted: A STEP OF THE DECODER ROW BY ROW: what the step terms hold in row `b` is the row mathematics of
   that row, from the carried arrays' rows. -/
module

public import proofs.«01_k».proof.Proof.DecoderMemory
public import proofs.«01_k».proof.Proof.DecoderPlanes
public import proofs.«01_k».proof.Proof.Decode

@[expose] public section

set_option maxRecDepth 16384

noncomputable section

namespace Cert.Proof.DecoderStep

open Cert.DecoderIdeal Cert.DecoderIdeal.Gen Idealize.ShloMosaic Idealize.ShloMosaic.TcCoe Idealize.SL.Sem
open Cert.Proof.Decode

theorem cat_row (x y : FVec Ideal S32x512 .f32) (b : Fin 32) (k : Fin 1024) :
    (concatenate S32x1024 1 [⟨S32x512, x⟩, ⟨S32x512, y⟩] concatenates_S32x512_S32x512_S32x1024_d1 (ix2 b k) : EReal)
      = both (fun u => x (ix2 b u)) (fun u => y (ix2 b u)) k := by
  refine (concatenate_pair_apply _ _ _ _ _).trans ?_
  unfold both
  by_cases hk : k.val < 512
  · refine (dif_pos (show k.val < 512 from hk)).trans (Eq.trans ?_ (dif_pos hk).symm)
    exact congrArg x (by funext i; fin_cases i <;> rfl)
  · refine (dif_neg (show ¬ k.val < 512 from hk)).trans (Eq.trans ?_ (dif_neg hk).symm)
    exact congrArg y (by funext i; fin_cases i <;> rfl)

/-- Four rows of energies, the first of them row `n`. -/
def part (n : ℕ) (hn : n < 29) (Q : FVec Ideal S128x32x1 .f32) (V : FVec Ideal S128x1x1 .f32) (u : FVec Ideal S64x4x800 .bf16) (y : FVec Ideal S128x64 .bf16) (z : FVec Ideal S128x4x800 .bf16) (r : Fin 4) (t : Fin 800) : EReal :=
  ∑ a : Fin 128, (V (ix3 a 0 0) : EReal) * Ideal.tanh (∑ k : Fin 64, (y (ix2 a k) : EReal) * u (ix3 k r t) + z (ix3 a r t) + Q (ix3 a ⟨n + r.val, by omega⟩ 0))

theorem chunk1 (Q : FVec Ideal S128x32x1 .f32) (V : FVec Ideal S128x1x1 .f32) (u : FVec Ideal S64x4x800 .bf16) (y : FVec Ideal S128x64 .bf16) (z : FVec Ideal S128x4x800 .bf16) (r : Fin 4) (t : Fin 800) :
    (k0_pay99 (F := Ideal) Q V u y z (ix2 r t) : EReal) = part 4 (by decide) Q V u y z r t := by
  unfold k0_pay99 part; simp only [pointwise]; simp [Nat.zero_add, Fin.eta]
theorem chunk2 (Q : FVec Ideal S128x32x1 .f32) (V : FVec Ideal S128x1x1 .f32) (u : FVec Ideal S64x4x800 .bf16) (y : FVec Ideal S128x64 .bf16) (z : FVec Ideal S128x4x800 .bf16) (r : Fin 4) (t : Fin 800) :
    (k0_pay100 (F := Ideal) Q V u y z (ix2 r t) : EReal) = part 8 (by decide) Q V u y z r t := by
  unfold k0_pay100 part; simp only [pointwise]; simp [Nat.zero_add, Fin.eta]
theorem chunk3 (Q : FVec Ideal S128x32x1 .f32) (V : FVec Ideal S128x1x1 .f32) (u : FVec Ideal S64x4x800 .bf16) (y : FVec Ideal S128x64 .bf16) (z : FVec Ideal S128x4x800 .bf16) (r : Fin 4) (t : Fin 800) :
    (k0_pay101 (F := Ideal) Q V u y z (ix2 r t) : EReal) = part 12 (by decide) Q V u y z r t := by
  unfold k0_pay101 part; simp only [pointwise]; simp [Nat.zero_add, Fin.eta]
theorem chunk4 (Q : FVec Ideal S128x32x1 .f32) (V : FVec Ideal S128x1x1 .f32) (u : FVec Ideal S64x4x800 .bf16) (y : FVec Ideal S128x64 .bf16) (z : FVec Ideal S128x4x800 .bf16) (r : Fin 4) (t : Fin 800) :
    (k0_pay102 (F := Ideal) Q V u y z (ix2 r t) : EReal) = part 16 (by decide) Q V u y z r t := by
  unfold k0_pay102 part; simp only [pointwise]; simp [Nat.zero_add, Fin.eta]
theorem chunk0 (Q : FVec Ideal S128x32x1 .f32) (V : FVec Ideal S128x1x1 .f32) (u : FVec Ideal S64x4x800 .bf16) (y : FVec Ideal S128x64 .bf16) (z : FVec Ideal S128x4x800 .bf16) (r : Fin 4) (t : Fin 800) :
    (k0_pay98 (F := Ideal) Q V (k0_pay97 u y z) (ix2 r t) : EReal) = part 0 (by decide) Q V u y z r t := by
  unfold k0_pay98 k0_pay97 part; simp only [pointwise]; simp [Nat.zero_add, Fin.eta]
theorem chunk5 (Q : FVec Ideal S128x32x1 .f32) (V : FVec Ideal S128x1x1 .f32) (u : FVec Ideal S64x4x800 .bf16) (y : FVec Ideal S128x64 .bf16) (z : FVec Ideal S128x4x800 .bf16) (r : Fin 4) (t : Fin 800) :
    (multiReduction .add [0] S4x800 (mulf (broadcastTo S128x4x800 V broadcasts_S128x1x1_S128x4x800)
      (tanh (addf (addf (matmul dot_S128x64_S64x4x800_S128x4x800_1_0_0_12_n_n none (shapeCast S128x64 y shapeCasts_S128x64_S128x64) u (constant S128x4x800 .f32 0x00000000#32)) (extf .f32 z bitsLt_bf16_f32))
        (broadcastTo S128x4x800 (extractStridedSlice S128x4x1 ![0, 20, 0] Q slices_S128x32x1_o0_20_0_S128x4x1) broadcasts_S128x4x1_S128x4x800)))) 0x00000000#32 reduces_S128x4x800_S4x800 (.inl rfl) rfl (ix2 r t) : EReal) = part 20 (by decide) Q V u y z r t := by
  unfold part; simp only [pointwise]; simp [Nat.zero_add, Fin.eta]
theorem chunk6 (Q : FVec Ideal S128x32x1 .f32) (V : FVec Ideal S128x1x1 .f32) (u : FVec Ideal S64x4x800 .bf16) (y : FVec Ideal S128x64 .bf16) (z : FVec Ideal S128x4x800 .bf16) (r : Fin 4) (t : Fin 800) :
    (multiReduction .add [0] S4x800 (mulf (broadcastTo S128x4x800 V broadcasts_S128x1x1_S128x4x800)
      (tanh (addf (addf (matmul dot_S128x64_S64x4x800_S128x4x800_1_0_0_12_n_n none (shapeCast S128x64 y shapeCasts_S128x64_S128x64) u (constant S128x4x800 .f32 0x00000000#32)) (extf .f32 z bitsLt_bf16_f32))
        (broadcastTo S128x4x800 (extractStridedSlice S128x4x1 ![0, 24, 0] Q slices_S128x32x1_o0_24_0_S128x4x1) broadcasts_S128x4x1_S128x4x800)))) 0x00000000#32 reduces_S128x4x800_S4x800 (.inl rfl) rfl (ix2 r t) : EReal) = part 24 (by decide) Q V u y z r t := by
  unfold part; simp only [pointwise]; simp [Nat.zero_add, Fin.eta]
theorem chunk7 (Q : FVec Ideal S128x32x1 .f32) (V : FVec Ideal S128x1x1 .f32) (u : FVec Ideal S64x4x800 .bf16) (y : FVec Ideal S128x64 .bf16) (z : FVec Ideal S128x4x800 .bf16) (r : Fin 4) (t : Fin 800) :
    (multiReduction .add [0] S4x800 (mulf (broadcastTo S128x4x800 V broadcasts_S128x1x1_S128x4x800)
      (tanh (addf (addf (matmul dot_S128x64_S64x4x800_S128x4x800_1_0_0_12_n_n none (shapeCast S128x64 y shapeCasts_S128x64_S128x64) u (constant S128x4x800 .f32 0x00000000#32)) (extf .f32 z bitsLt_bf16_f32))
        (broadcastTo S128x4x800 (extractStridedSlice S128x4x1 ![0, 28, 0] Q slices_S128x32x1_o0_28_0_S128x4x1) broadcasts_S128x4x1_S128x4x800)))) 0x00000000#32 reduces_S128x4x800_S4x800 (.inl rfl) rfl (ix2 r t) : EReal) = part 28 (by decide) Q V u y z r t := by
  unfold part; simp only [pointwise]; simp [Nat.zero_add, Fin.eta]

theorem cat8 (x0 x1 x2 x3 x4 x5 x6 x7 : FVec Ideal S4x800 .f32) (b : Fin 32) (t : Fin 800) (G : EReal)
    (h0 : ∀ r : Fin 4, b.val = 0 + r.val → (x0 (ix2 r t) : EReal) = G) (h1 : ∀ r : Fin 4, b.val = 4 + r.val → (x1 (ix2 r t) : EReal) = G) (h2 : ∀ r : Fin 4, b.val = 8 + r.val → (x2 (ix2 r t) : EReal) = G) (h3 : ∀ r : Fin 4, b.val = 12 + r.val → (x3 (ix2 r t) : EReal) = G) (h4 : ∀ r : Fin 4, b.val = 16 + r.val → (x4 (ix2 r t) : EReal) = G) (h5 : ∀ r : Fin 4, b.val = 20 + r.val → (x5 (ix2 r t) : EReal) = G) (h6 : ∀ r : Fin 4, b.val = 24 + r.val → (x6 (ix2 r t) : EReal) = G) (h7 : ∀ r : Fin 4, b.val = 28 + r.val → (x7 (ix2 r t) : EReal) = G) :
    (concatenate S32x800 0 [⟨S4x800, x0⟩, ⟨S4x800, x1⟩, ⟨S4x800, x2⟩, ⟨S4x800, x3⟩, ⟨S4x800, x4⟩, ⟨S4x800, x5⟩, ⟨S4x800, x6⟩, ⟨S4x800, x7⟩]
      concatenates_S4x800_S4x800_S4x800_S4x800_S4x800_S4x800_S4x800_S4x800_S32x800_d0 (ix2 b t) : EReal) = G := by
  refine (concatenate_ofFn_apply (t := S32x800) (s₁ := S4x800) (0 : Fin 2) (![x0, x1, x2, x3, x4, x5, x6, x7] : Fin 8 → FVec Ideal S4x800 .f32)
    concatenates_S4x800_S4x800_S4x800_S4x800_S4x800_S4x800_S4x800_S4x800_S32x800_d0 rfl 4 rfl (ix2 b t) ⟨b.val / 4, by omega⟩ rfl
    (ix2 (⟨b.val % 4, by omega⟩ : Fin 4) t) rfl ?_).trans ?_
  · intro q hq
    fin_cases q
    · exact absurd rfl hq
    · rfl
  · obtain ⟨n, hn⟩ : ∃ n : Fin 8, n = ⟨b.val / 4, by omega⟩ := ⟨_, rfl⟩
    have hv : n.val = b.val / 4 := congrArg Fin.val hn
    rw [← hn]
    fin_cases n
    · exact h0 _ (by have : 0 = b.val / 4 := hv; show b.val = 0 + b.val % 4; omega)
    · exact h1 _ (by have : 1 = b.val / 4 := hv; show b.val = 4 + b.val % 4; omega)
    · exact h2 _ (by have : 2 = b.val / 4 := hv; show b.val = 8 + b.val % 4; omega)
    · exact h3 _ (by have : 3 = b.val / 4 := hv; show b.val = 12 + b.val % 4; omega)
    · exact h4 _ (by have : 4 = b.val / 4 := hv; show b.val = 16 + b.val % 4; omega)
    · exact h5 _ (by have : 5 = b.val / 4 := hv; show b.val = 20 + b.val % 4; omega)
    · exact h6 _ (by have : 6 = b.val / 4 := hv; show b.val = 24 + b.val % 4; omega)
    · exact h7 _ (by have : 7 = b.val / 4 := hv; show b.val = 28 + b.val % 4; omega)

theorem uAt_apply (U : Vec Ideal S64x32x800 .bf16) (n : ℕ) (hb) (j : Fin 64) (r : Fin 4) (t : Fin 800) (b : Fin 32) (h : b.val = n + r.val) :
    (uAt U n hb (ix3 j r t) : EReal) = U (ix3 j b t) := by
  refine congrArg U (funext fun i => Fin.ext ((Rect.idx_unit_val (s := S64x32x800) ![0, n, 0] ![64, 4, 800] hb (ix3 j r t) i).trans ?_))
  fin_cases i <;> simp [h]
theorem pAt_apply (P : Vec Ideal S128x32x800 .bf16) (n : ℕ) (hb) (a : Fin 128) (r : Fin 4) (t : Fin 800) (b : Fin 32) (h : b.val = n + r.val) :
    (pAt P n hb (ix3 a r t) : EReal) = P (ix3 a b t) := by
  refine congrArg P (funext fun i => Fin.ext ((Rect.idx_unit_val (s := S128x32x800) ![0, n, 0] ![128, 4, 800] hb (ix3 a r t) i).trans ?_))
  fin_cases i <;> simp [h]

theorem query_row (h : Vec Ideal S32x512 .f32) (x7 : Vec Ideal S512x128 .f32) (a : Fin 128) (b : Fin 32) :
    (k0_pay95 (F := Ideal) h x7 (ix3 a b 0) : EReal) = ∑ k : Fin 512, (h (ix2 b k) : EReal) * x7 (ix2 k a) := by
  unfold k0_pay95; simp only [pointwise]; simp [Nat.zero_add, Fin.eta]
theorem weight_row (x9 : Vec Ideal S1x128 .f32) (a : Fin 128) : (k0_pay96 (F := Ideal) x9 (ix3 a 0 0) : EReal) = x9 (ix2 0 a) := by
  unfold k0_pay96; simp only [pointwise]

/-- A row of energies from the planes and the projected memory. -/
def rowE (h : Vec Ideal S32x512 .f32) (x7 : Vec Ideal S512x128 .f32) (x8 : Vec Ideal S128x64 .bf16) (x9 : Vec Ideal S1x128 .f32)
    (U : Vec Ideal S64x32x800 .bf16) (P : Vec Ideal S128x32x800 .bf16) (b : Fin 32) (t : Fin 800) : EReal :=
  ∑ a : Fin 128, (x9 (ix2 0 a) : EReal) * Ideal.tanh (∑ k : Fin 64, (x8 (ix2 a k) : EReal) * U (ix3 k b t) + P (ix3 a b t) + ∑ k : Fin 512, (h (ix2 b k) : EReal) * x7 (ix2 k a))

theorem part_eq (n : ℕ) (hn : n < 29) (h : Vec Ideal S32x512 .f32) (x7 : Vec Ideal S512x128 .f32) (x8 : Vec Ideal S128x64 .bf16) (x9 : Vec Ideal S1x128 .f32)
    (U : Vec Ideal S64x32x800 .bf16) (P : Vec Ideal S128x32x800 .bf16) (hb) (hb') (b : Fin 32) (t : Fin 800) (r : Fin 4) (hr : b.val = n + r.val) :
    part n hn (k0_pay95 (F := Ideal) h x7) (k0_pay96 (F := Ideal) x9) (uAt U n hb) x8 (pAt P n hb') r t = rowE h x7 x8 x9 U P b t := by
  have e : (⟨n + r.val, by omega⟩ : Fin 32) = b := Fin.ext hr.symm
  unfold part rowE
  refine Finset.sum_congr rfl fun a _ => ?_
  rw [weight_row, e, query_row, pAt_apply P n hb' a r t b hr]
  refine congrArg (fun q => (x9 (ix2 0 a) : EReal) * Ideal.tanh (q + P (ix3 a b t) + ∑ k : Fin 512, (h (ix2 b k) : EReal) * x7 (ix2 k a)))
    (Finset.sum_congr rfl fun k _ => ?_)
  rw [uAt_apply U n hb k r t b hr]

theorem eN_row (h : Vec Ideal S32x512 .f32) (x7 : Vec Ideal S512x128 .f32) (x8 : Vec Ideal S128x64 .bf16) (x9 : Vec Ideal S1x128 .f32)
    (U : Vec Ideal S64x32x800 .bf16) (P : Vec Ideal S128x32x800 .bf16) (b : Fin 32) (t : Fin 800) :
    (eN h x7 x8 x9 U P (ix2 b t) : EReal) = rowE h x7 x8 x9 U P b t := by
  unfold eN k0_pay104
  refine cat8 _ _ _ _ _ _ _ _ b t _ ?_ ?_ ?_ ?_ ?_ ?_ ?_ ?_
  · exact fun r hr => (chunk0 _ _ _ _ _ r t).trans (part_eq 0 _ h x7 x8 x9 U P _ _ b t r hr)
  · exact fun r hr => (chunk1 _ _ _ _ _ r t).trans (part_eq 4 _ h x7 x8 x9 U P _ _ b t r hr)
  · exact fun r hr => (chunk2 _ _ _ _ _ r t).trans (part_eq 8 _ h x7 x8 x9 U P _ _ b t r hr)
  · exact fun r hr => (chunk3 _ _ _ _ _ r t).trans (part_eq 12 _ h x7 x8 x9 U P _ _ b t r hr)
  · exact fun r hr => (chunk4 _ _ _ _ _ r t).trans (part_eq 16 _ h x7 x8 x9 U P _ _ b t r hr)
  · exact fun r hr => (chunk5 _ _ _ _ _ r t).trans (part_eq 20 _ h x7 x8 x9 U P _ _ b t r hr)
  · exact fun r hr => (chunk6 _ _ _ _ _ r t).trans (part_eq 24 _ h x7 x8 x9 U P _ _ b t r hr)
  · exact fun r hr => (chunk7 _ _ _ _ _ r t).trans (part_eq 28 _ h x7 x8 x9 U P _ _ b t r hr)

/-! ## The cell -/

theorem gates_core (Y : FVec Ideal S32x1024 .f32) (x4 : FVec Ideal S1024x2048 .bf16) (h : FVec Ideal S32x512 .f32)
    (x5 : FVec Ideal S512x2048 .bf16) (x6 : FVec Ideal S1x2048 .f32) (b : Fin 32) (g : Fin 2048) :
    (addf (addf (matmul dot_S32x1024_S1024x2048_S32x2048_1_0_0_1_n_n none (truncf .bf16 Y bitsLt_bf16_f32) (shapeCast S1024x2048 x4 shapeCasts_S1024x2048_S1024x2048) (constant S32x2048 .f32 0x00000000#32))
      (matmul dot_S32x512_S512x2048_S32x2048_1_0_0_1_n_n none (truncf .bf16 h bitsLt_bf16_f32) (shapeCast S512x2048 x5 shapeCasts_S512x2048_S512x2048) (constant S32x2048 .f32 0x00000000#32)))
      (broadcastTo S32x2048 (shapeCast S1x2048 x6 shapeCasts_S1x2048_S1x2048) broadcasts_S1x2048_S32x2048) (ix2 b g) : EReal)
      = ∑ k : Fin 1024, (Y (ix2 b k) : EReal) * x4 (ix2 k g) + ∑ k : Fin 512, (h (ix2 b k) : EReal) * x5 (ix2 k g) + x6 (ix2 0 g) := by
  simp only [pointwise]
  simp

theorem gates_row (x1 : Vec Ideal S1x32x512 .f32) (ctx : Vec Ideal S32x512 .f32) (x4 : Vec Ideal S1024x2048 .bf16) (h : Vec Ideal S32x512 .f32)
    (x5 : Vec Ideal S512x2048 .bf16) (x6 : Vec Ideal S1x2048 .f32) (b : Fin 32) (g : Fin 2048) :
    (k0_pay22 (F := Ideal) x1 ctx x4 h x5 x6 (ix2 b g) : EReal)
      = ∑ k : Fin 1024, both (fun u => x1 (ix3 0 b u)) (fun u => ctx (ix2 b u)) k * x4 (ix2 k g)
        + ∑ k : Fin 512, (h (ix2 b k) : EReal) * x5 (ix2 k g) + x6 (ix2 0 g) := by
  refine (gates_core (concatenate S32x1024 1 [⟨S32x512, shapeCast S32x512 x1 shapeCasts_S1x32x512_S32x512⟩, ⟨S32x512, ctx⟩] concatenates_S32x512_S32x512_S32x1024_d1) x4 h x5 x6 b g).trans ?_
  refine congrArg (fun q : EReal => q + ∑ k : Fin 512, (h (ix2 b k) : EReal) * x5 (ix2 k g) + x6 (ix2 0 g)) (Finset.sum_congr rfl fun k _ => ?_)
  rw [cat_row]
  refine congrArg (fun q => both q (fun u => (ctx (ix2 b u) : EReal)) k * x4 (ix2 k g)) (funext fun u => ?_)
  simp only [pointwise]

theorem cell_row (x1 : Vec Ideal S1x32x512 .f32) (ctx : Vec Ideal S32x512 .f32) (x4 : Vec Ideal S1024x2048 .bf16) (h : Vec Ideal S32x512 .f32)
    (x5 : Vec Ideal S512x2048 .bf16) (x6 : Vec Ideal S1x2048 .f32) (c : Vec Ideal S32x512 .f32) (b : Fin 32) (u : Fin 512) :
    (k0_pay23 (F := Ideal) x1 ctx x4 h x5 x6 c (ix2 b u) : EReal)
      = newC (fun g => k0_pay22 (F := Ideal) x1 ctx x4 h x5 x6 (ix2 b g)) (fun v => c (ix2 b v)) u := by
  unfold k0_pay23 newC
  simp only [pointwise]
  simp [Nat.zero_add, Fin.eta]

theorem hidden_row (x1 : Vec Ideal S1x32x512 .f32) (ctx : Vec Ideal S32x512 .f32) (x4 : Vec Ideal S1024x2048 .bf16) (h : Vec Ideal S32x512 .f32)
    (x5 : Vec Ideal S512x2048 .bf16) (x6 : Vec Ideal S1x2048 .f32) (c : Vec Ideal S32x512 .f32) (b : Fin 32) (u : Fin 512) :
    (k0_pay24 (F := Ideal) x1 ctx x4 h x5 x6 c (ix2 b u) : EReal)
      = newH (fun g => k0_pay22 (F := Ideal) x1 ctx x4 h x5 x6 (ix2 b g)) (fun v => c (ix2 b v)) u := by
  have e := cell_row x1 ctx x4 h x5 x6 c b u
  unfold k0_pay24 newH
  rw [← e]
  simp only [pointwise]
  simp [Nat.zero_add, Fin.eta]

/-! ## The weights, the context and the projection -/

theorem weights_row (e : Vec Ideal S32x800 .f32) (x0 : Vec Ideal S32x1 .i32) (b : Fin 32) (t : Fin 800) :
    (aN e x0 (ix2 b t) : EReal) = soft (masked (x0 (ix2 b 0)) (fun t => e (ix2 b t))) t := by
  unfold aN k0_pay105 soft top masked places
  simp only [pointwise]
  simp [Nat.zero_add, Fin.eta]

theorem context_row (e : Vec Ideal S32x800 .f32) (x0 : Vec Ideal S32x1 .i32) (x2 : Vec Ideal S32x800x512 .bf16) (b : Fin 32) (k : Fin 512) :
    (xN e x0 x2 (ix2 b k) : EReal) = ∑ t : Fin 800, (aN e x0 (ix2 b t) : EReal) * x2 (ix3 b t k) := by
  unfold xN aN k0_pay106
  simp only [pointwise]
  simp [Nat.zero_add, Fin.eta]

theorem mixed_core (Y : FVec Ideal S32x1024 .f32) (x10 : FVec Ideal S1024x512 .bf16) (b : Fin 32) (j : Fin 512) :
    (matmul dot_S32x1024_S1024x512_S32x512_1_0_0_1_n_n none (truncf .bf16 Y bitsLt_bf16_f32) (shapeCast S1024x512 x10 shapeCasts_S1024x512_S1024x512) (constant S32x512 .f32 0x00000000#32) (ix2 b j) : EReal)
      = ∑ k : Fin 1024, (Y (ix2 b k) : EReal) * x10 (ix2 k j) := by
  simp only [pointwise]
  simp

theorem mixed_row (h : Vec Ideal S32x512 .f32) (e : Vec Ideal S32x800 .f32) (x0 : Vec Ideal S32x1 .i32) (x2 : Vec Ideal S32x800x512 .bf16)
    (x10 : Vec Ideal S1024x512 .bf16) (b : Fin 32) (j : Fin 512) :
    (oN h e x0 x2 x10 (ix2 b j) : EReal)
      = ∑ k : Fin 1024, both (fun u => h (ix2 b u)) (fun u => xN e x0 x2 (ix2 b u)) k * x10 (ix2 k j) := by
  refine (mixed_core (concatenate S32x1024 1 [⟨S32x512, h⟩, ⟨S32x512, xN e x0 x2⟩] concatenates_S32x512_S32x512_S32x1024_d1) x10 b j).trans ?_
  exact Finset.sum_congr rfl fun k _ => by rw [cat_row]

theorem hidden_block (o : FVec Ideal S32x512 .f32) (x11 : Vec Ideal S1x512 .f32) (b : Fin 32) (j : Fin 512) :
    (k0_pay2 (F := Ideal) o x11 (ix3 0 b j) : EReal) = max ((o (ix2 b j) : EReal) + x11 (ix2 0 j)) 0 := by
  unfold k0_pay2 k0_pay1
  simp only [pointwise]
  simp [Nat.zero_add, Fin.eta]
theorem logit_block (o : FVec Ideal S32x512 .f32) (x11 : Vec Ideal S1x512 .f32) (x12 : Vec Ideal S512x101 .f32) (x13 : Vec Ideal S1x101 .f32) (b : Fin 32) (i : Fin 101) :
    (k0_pay3 (F := Ideal) o x11 x12 x13 (ix3 0 b i) : EReal)
      = ∑ j : Fin 512, max ((o (ix2 b j) : EReal) + x11 (ix2 0 j)) 0 * x12 (ix2 j i) + x13 (ix2 0 i) := by
  unfold k0_pay3 k0_pay1
  simp only [pointwise]
  simp [Nat.zero_add, Fin.eta]
theorem weight_block (a : FVec Ideal S32x800 .f32) (b : Fin 32) (t : Fin 800) : (k0_pay4 (F := Ideal) a (ix3 0 b t) : EReal) = a (ix2 b t) := by
  unfold k0_pay4
  simp only [pointwise]
theorem keep_h (x : FVec Ideal S32x512 .f32) : k0_pay25 (F := Ideal) x = x := by
  funext i; idx_vars i; unfold k0_pay25; simp only [pointwise]
theorem keep_c (x : FVec Ideal S32x512 .f32) : k0_pay26 (F := Ideal) x = x := by
  funext i; idx_vars i; unfold k0_pay26; simp only [pointwise]
theorem keep_x (e : Vec Ideal S32x800 .f32) (x0 : Vec Ideal S32x1 .i32) (x2 : Vec Ideal S32x800x512 .bf16) : k0_pay107 (F := Ideal) e places x0 x2 = xN e x0 x2 := by
  funext i; idx_vars i; unfold k0_pay107 xN; simp only [pointwise]
theorem keep_a (e : Vec Ideal S32x800 .f32) (x0 : Vec Ideal S32x1 .i32) : k0_pay108 (F := Ideal) e places x0 = aN e x0 := by
  funext i; idx_vars i; unfold k0_pay108 aN; simp only [pointwise]
theorem sum_row (e : Vec Ideal S32x800 .f32) (x0 : Vec Ideal S32x1 .i32) (w : Vec Ideal S32x800 .f32) (b : Fin 32) (t : Fin 800) :
    (k0_pay109 (F := Ideal) e places x0 w (ix2 b t) : EReal) = (w (ix2 b t) : EReal) + aN e x0 (ix2 b t) := by
  unfold k0_pay109 aN; simp only [pointwise]

/-! ## Padded rows -/

/-- Row `b` of a padded array holds `a` between two margins of zeros. -/
def Padded (w : Vec Ideal S32x832 .f32) (b : Fin 32) (a : Fin 800 → EReal) : Prop :=
  ∀ j : Fin 832, (w (ix2 b j) : EReal) = if h : 15 ≤ j.val ∧ j.val < 815 then a ⟨j.val - 15, by omega⟩ else 0

theorem padded_zero8 (b : Fin 32) : Padded (k0_pay8 (F := Ideal)) b (fun _ => 0) := by
  intro j
  have e : (k0_pay8 (F := Ideal) (ix2 b j) : EReal) = 0 := by unfold k0_pay8; simp only [pointwise]
  rw [e]; split <;> rfl
theorem padded_zero9 (b : Fin 32) : Padded (k0_pay9 (F := Ideal)) b (fun _ => 0) := by
  intro j
  have e : (k0_pay9 (F := Ideal) (ix2 b j) : EReal) = 0 := by unfold k0_pay9; simp only [pointwise]
  rw [e]; split <;> rfl

theorem padded_put (w : Vec Ideal S32x832 .f32) (b : Fin 32) (a : Fin 800 → EReal) (hw : Padded w b a) (v : Vec Ideal S32x800 .f32) :
    Padded (VecWindow.put w ![0, 15] ![32, 800] v) b (fun t => v (ix2 b t)) := by
  intro j
  by_cases h : 15 ≤ j.val ∧ j.val < 815
  · rw [dif_pos h]
    have hh : ∀ i : Fin 2, (![0, 15] : Fin 2 → ℕ) i ≤ ((ix2 b j : S32x832.Idx) i).val ∧ ((ix2 b j : S32x832.Idx) i).val < (![0, 15] : Fin 2 → ℕ) i + (![32, 800] : Fin 2 → ℕ) i := by
      intro i
      fin_cases i
      · exact ⟨Nat.zero_le _, by show b.val < 0 + 32; omega⟩
      · exact ⟨h.1, by show j.val < 15 + 800; omega⟩
    refine (dif_pos hh).trans (congrArg v (funext fun i => Fin.ext ?_))
    fin_cases i
    · show b.val - 0 = b.val; omega
    · rfl
  · rw [dif_neg h]
    refine (dif_neg fun hh => h ?_).trans ((hw j).trans (dif_neg h))
    have := hh 1
    exact ⟨this.1, by have h2 : j.val < 15 + 800 := this.2; omega⟩

theorem mid_row (w : Vec Ideal S32x832 .f32) (b : Fin 32) (a : Fin 800 → EReal) (hw : Padded w b a) (t : Fin 800) : (midAt w (ix2 b t) : EReal) = a t := by
  have e : (midAt w (ix2 b t) : EReal) = w (ix2 b (⟨15 + t.val, by omega⟩ : Fin 832)) := by
    refine congrArg w (funext fun i => Fin.ext ((Rect.idx_unit_val (s := S32x832) ![0, 15] ![32, 800] inb_S32x832_S32x800_0_15 (ix2 b t) i).trans ?_))
    fin_cases i <;> simp
  rw [e, hw, dif_pos ⟨by show 15 ≤ 15 + t.val; omega, by show 15 + t.val < 815; omega⟩]
  exact congrArg a (Fin.ext (show 15 + t.val - 15 = t.val by omega))

theorem plane_fst (wa ws : Vec Ideal S32x832 .f32) (b : Fin 32) (a : Fin 800 → EReal) (hw : Padded wa b a) (j : Fin 31) (t : Fin 800) :
    planeOf wa ws ⟨j.val, by omega⟩ b t = win a t j := by
  have e : j.val % 32 = j.val := Nat.mod_eq_of_lt (by omega)
  rw [planeOf, if_pos (show j.val < 32 by omega)]
  refine (hw _).trans ?_
  unfold win
  have e2 : j.val % 32 + t.val = t.val + j.val := by omega
  simp only [e2]
theorem plane_snd (wa ws : Vec Ideal S32x832 .f32) (b : Fin 32) (s : Fin 800 → EReal) (hw : Padded ws b s) (j : Fin 31) (t : Fin 800) :
    planeOf wa ws ⟨32 + j.val, by omega⟩ b t = win s t j := by
  rw [planeOf, if_neg (show ¬ 32 + j.val < 32 by omega)]
  refine (hw _).trans ?_
  unfold win
  have e2 : (32 + j.val) % 32 + t.val = t.val + j.val := by omega
  simp only [e2]

theorem split64 (f : Fin 64 → EReal) (h1 : f ⟨31, by decide⟩ = 0) (h2 : f ⟨63, by decide⟩ = 0) :
    ∑ j : Fin 64, f j = ∑ k : Fin 31, f ⟨k.val, by omega⟩ + ∑ k : Fin 31, f ⟨32 + k.val, by omega⟩ := by
  refine (Fin.sum_univ_add (a := 32) (b := 32) f).trans ?_
  rw [Fin.sum_univ_castSucc (n := 31), Fin.sum_univ_castSucc (n := 31)]
  have e1 : f (Fin.castAdd 32 (Fin.last 31)) = 0 := h1
  have e2 : f (Fin.natAdd 32 (Fin.last 31)) = 0 := h2
  rw [e1, e2, add_zero, add_zero]
  rfl

/-! ## A step -/

/-- The blocks of a point are the parameters of row `b`. -/
structure Links (p : Par) (b : Fin 32) (x0 : Vec Ideal S32x1 .i32) (x2 : Vec Ideal S32x800x512 .bf16) (x3 : Vec Ideal S128x512 .f32)
    (x4 : Vec Ideal S1024x2048 .bf16) (x5 : Vec Ideal S512x2048 .bf16) (x6 : Vec Ideal S1x2048 .f32) (x7 : Vec Ideal S512x128 .f32)
    (x8 : Vec Ideal S128x64 .bf16) (x9 : Vec Ideal S1x128 .f32) (x10 : Vec Ideal S1024x512 .bf16) (x11 : Vec Ideal S1x512 .f32)
    (x12 : Vec Ideal S512x101 .f32) (x13 : Vec Ideal S1x101 .f32) : Prop where
  l0 : x0 (ix2 b 0) = p.len
  l2 : ∀ t k, (x2 (ix3 b t k) : EReal) = p.mem t k
  l3 : ∀ a t, projected x2 x3 a b t = p.pm a t
  l4 : ∀ k g, (x4 (ix2 k g) : EReal) = p.wi g k
  l5 : ∀ k g, (x5 (ix2 k g) : EReal) = p.wh g k
  l6 : ∀ g, (x6 (ix2 0 g) : EReal) = p.bi g
  l7 : ∀ k a, (x7 (ix2 k a) : EReal) = p.qw a k
  l8a : ∀ a (k : Fin 31), (x8 (ix2 a (⟨k.val, by omega⟩ : Fin 64)) : EReal) = ∑ f : Fin 32, p.lw a f * p.cv f 0 k
  l8b : ∀ a (k : Fin 31), (x8 (ix2 a (⟨32 + k.val, by omega⟩ : Fin 64)) : EReal) = ∑ f : Fin 32, p.lw a f * p.cv f 1 k
  l8c : ∀ a, (x8 (ix2 a (⟨31, by decide⟩ : Fin 64)) : EReal) = 0
  l8d : ∀ a, (x8 (ix2 a (⟨63, by decide⟩ : Fin 64)) : EReal) = 0
  l9 : ∀ a, (x9 (ix2 0 a) : EReal) = p.v a
  l10 : ∀ k j, (x10 (ix2 k j) : EReal) = p.pw j k
  l11 : ∀ j, (x11 (ix2 0 j) : EReal) = p.pb j
  l12 : ∀ j i, (x12 (ix2 j i) : EReal) = p.sw i j
  l13 : ∀ i, (x13 (ix2 0 i) : EReal) = p.sb i

/-- The carried arrays hold state `q` in row `b`. -/
structure Holds (q : St) (b : Fin 32) (h c x : Vec Ideal S32x512 .f32) (wa ws : Vec Ideal S32x832 .f32) : Prop where
  h : ∀ u, (h (ix2 b u) : EReal) = q.h u
  c : ∀ u, (c (ix2 b u) : EReal) = q.c u
  x : ∀ u, (x (ix2 b u) : EReal) = q.x u
  a : Padded wa b q.a
  s : Padded ws b q.s

section
variable {p : Par} {b : Fin 32} {x0 : Vec Ideal S32x1 .i32} {x2 : Vec Ideal S32x800x512 .bf16} {x3 : Vec Ideal S128x512 .f32}
    {x4 : Vec Ideal S1024x2048 .bf16} {x5 : Vec Ideal S512x2048 .bf16} {x6 : Vec Ideal S1x2048 .f32} {x7 : Vec Ideal S512x128 .f32}
    {x8 : Vec Ideal S128x64 .bf16} {x9 : Vec Ideal S1x128 .f32} {x10 : Vec Ideal S1024x512 .bf16} {x11 : Vec Ideal S1x512 .f32}
    {x12 : Vec Ideal S512x101 .f32} {x13 : Vec Ideal S1x101 .f32} (K : Links p b x0 x2 x3 x4 x5 x6 x7 x8 x9 x10 x11 x12 x13)
  {q : St} {h c x : Vec Ideal S32x512 .f32} {wa ws : Vec Ideal S32x832 .f32} (H : Holds q b h c x wa ws)
  (x1 : Vec Ideal S1x32x512 .f32) (d : Fin 512 → EReal) (hd : ∀ u, (x1 (ix3 0 b u) : EReal) = d u)
include K H hd

theorem gates_step (g : Fin 2048) : (k0_pay22 (F := Ideal) x1 x x4 h x5 x6 (ix2 b g) : EReal) = gate p d q.h q.x g := by
  rw [gates_row]
  unfold gate
  rw [K.l6]
  refine congrArg₂ (fun s t : EReal => s + t + p.bi g) (Finset.sum_congr rfl fun k _ => ?_) (Finset.sum_congr rfl fun k _ => ?_)
  · rw [K.l4, show (fun u => (x1 (ix3 0 b u) : EReal)) = d from funext hd, show (fun u => (x (ix2 b u) : EReal)) = q.x from funext H.x]
  · rw [K.l5, H.h]

theorem cell_step (u : Fin 512) : (cN x1 x4 x5 x6 h c x (ix2 b u) : EReal) = newC (gate p d q.h q.x) q.c u := by
  unfold cN
  rw [cell_row, show (fun g => (k0_pay22 (F := Ideal) x1 x x4 h x5 x6 (ix2 b g) : EReal)) = gate p d q.h q.x from funext (gates_step K H x1 d hd),
    show (fun u => (c (ix2 b u) : EReal)) = q.c from funext H.c]
theorem hidden_step (u : Fin 512) : (hN x1 x4 x5 x6 h c x (ix2 b u) : EReal) = newH (gate p d q.h q.x) q.c u := by
  unfold hN
  rw [hidden_row, show (fun g => (k0_pay22 (F := Ideal) x1 x x4 h x5 x6 (ix2 b g) : EReal)) = gate p d q.h q.x from funext (gates_step K H x1 d hd),
    show (fun u => (c (ix2 b u) : EReal)) = q.c from funext H.c]

variable {U : Vec Ideal S64x32x800 .bf16} {P : Vec Ideal S128x32x800 .bf16}
  (hU : ∀ j : Fin 64, j.val ≠ 31 → j.val ≠ 63 → ∀ t, (U (ix3 j b t) : EReal) = planeOf wa ws j b t)
  (hP : ∀ a t, (P (ix3 a b t) : EReal) = p.pm a t)
include hU hP

omit hP hd in
theorem loc_step (a : Fin 128) (t : Fin 800) : ∑ k : Fin 64, (x8 (ix2 a k) : EReal) * U (ix3 k b t) = locB p q.a q.s a t := by
  refine (split64 (fun k => (x8 (ix2 a k) : EReal) * U (ix3 k b t)) ?_ ?_).trans ?_
  · show (x8 (ix2 a (⟨31, by decide⟩ : Fin 64)) : EReal) * _ = 0
    rw [K.l8c, zero_mul]
  · show (x8 (ix2 a (⟨63, by decide⟩ : Fin 64)) : EReal) * _ = 0
    rw [K.l8d, zero_mul]
  · unfold locB
    refine congrArg₂ (fun s t : EReal => s + t) (Finset.sum_congr rfl fun k _ => ?_) (Finset.sum_congr rfl fun k _ => ?_)
    · rw [K.l8a, hU _ (show k.val ≠ 31 by omega) (show k.val ≠ 63 by omega), plane_fst wa ws b q.a H.a]
    · rw [K.l8b, hU _ (show 32 + k.val ≠ 31 by omega) (show 32 + k.val ≠ 63 by omega), plane_snd wa ws b q.s H.s]

theorem energy_step (t : Fin 800) : (eN (hN x1 x4 x5 x6 h c x) x7 x8 x9 U P (ix2 b t) : EReal)
    = energy p (locB p q.a q.s) (newH (gate p d q.h q.x) q.c) t := by
  rw [eN_row]
  unfold rowE energy query
  refine Finset.sum_congr rfl fun a _ => ?_
  rw [K.l9, loc_step K H hU, hP]
  refine congrArg (fun s : EReal => p.v a * Ideal.tanh (locB p q.a q.s a t + p.pm a t + s)) (Finset.sum_congr rfl fun k _ => ?_)
  rw [hidden_step K H x1 d hd, K.l7]

theorem weights_step (t : Fin 800) : (aN (eN (hN x1 x4 x5 x6 h c x) x7 x8 x9 U P) x0 (ix2 b t) : EReal) = (step p (locB p) d q).a t := by
  rw [weights_row, K.l0, show (fun t => (eN (hN x1 x4 x5 x6 h c x) x7 x8 x9 U P (ix2 b t) : EReal)) = _ from funext (energy_step K H x1 d hd hU hP)]
  rfl
theorem context_step (k : Fin 512) : (xN (eN (hN x1 x4 x5 x6 h c x) x7 x8 x9 U P) x0 x2 (ix2 b k) : EReal) = (step p (locB p) d q).x k := by
  rw [context_row]
  refine Eq.trans (Finset.sum_congr rfl fun t _ => ?_) (show context p (step p (locB p) d q).a k = _ from rfl)
  rw [weights_step K H x1 d hd hU hP, K.l2]

/-- The carried arrays after the step. -/
theorem holds_step : Holds (step p (locB p) d q) b (k0_pay25 (F := Ideal) (hN x1 x4 x5 x6 h c x)) (k0_pay26 (F := Ideal) (cN x1 x4 x5 x6 h c x))
    (k0_pay107 (F := Ideal) (eN (hN x1 x4 x5 x6 h c x) x7 x8 x9 U P) places x0 x2)
    (VecWindow.put wa ![0, 15] ![32, 800] (k0_pay108 (F := Ideal) (eN (hN x1 x4 x5 x6 h c x) x7 x8 x9 U P) places x0))
    (VecWindow.put ws ![0, 15] ![32, 800] (k0_pay109 (F := Ideal) (eN (hN x1 x4 x5 x6 h c x) x7 x8 x9 U P) places x0 (midAt ws))) where
  h u := by rw [keep_h]; exact hidden_step K H x1 d hd u
  c u := by rw [keep_c]; exact cell_step K H x1 d hd u
  x u := by rw [keep_x]; exact context_step K H x1 d hd hU hP u
  a := by
    rw [keep_a, show (step p (locB p) d q).a = _ from (funext (weights_step K H x1 d hd hU hP)).symm]
    exact padded_put wa b q.a H.a _
  s := by
    have e : (step p (locB p) d q).s = fun t => (k0_pay109 (F := Ideal) (eN (hN x1 x4 x5 x6 h c x) x7 x8 x9 U P) places x0 (midAt ws) (ix2 b t) : EReal) := by
      funext t
      rw [sum_row, mid_row ws b q.s H.s, weights_step K H x1 d hd hU hP]
      rfl
    rw [e]
    exact padded_put ws b q.s H.s _

theorem mixed_step (j : Fin 512) :
    (oN (hN x1 x4 x5 x6 h c x) (eN (hN x1 x4 x5 x6 h c x) x7 x8 x9 U P) x0 x2 x10 (ix2 b j) : EReal)
      = ∑ k : Fin 1024, both (step p (locB p) d q).h (step p (locB p) d q).x k * p.pw j k := by
  rw [mixed_row]
  refine Finset.sum_congr rfl fun k _ => ?_
  rw [K.l10, show (fun u => (hN x1 x4 x5 x6 h c x (ix2 b u) : EReal)) = (step p (locB p) d q).h from funext (hidden_step K H x1 d hd),
    show (fun u => (xN (eN (hN x1 x4 x5 x6 h c x) x7 x8 x9 U P) x0 x2 (ix2 b u) : EReal)) = (step p (locB p) d q).x from funext (context_step K H x1 d hd hU hP)]

/-- The blocks the step writes. -/
theorem out14_step (j : Fin 512) :
    (k0_pay2 (F := Ideal) (oN (hN x1 x4 x5 x6 h c x) (eN (hN x1 x4 x5 x6 h c x) x7 x8 x9 U P) x0 x2 x10) x11 (ix3 0 b j) : EReal)
      = proj p (step p (locB p) d q).h (step p (locB p) d q).x j := by
  rw [hidden_block, mixed_step K H x1 d hd hU hP, K.l11]
  rfl
theorem out15_step (i : Fin 101) :
    (k0_pay3 (F := Ideal) (oN (hN x1 x4 x5 x6 h c x) (eN (hN x1 x4 x5 x6 h c x) x7 x8 x9 U P) x0 x2 x10) x11 x12 x13 (ix3 0 b i) : EReal)
      = logit p (step p (locB p) d q).h (step p (locB p) d q).x i := by
  rw [logit_block, K.l13]
  refine congrArg (fun s : EReal => s + p.sb i) (Finset.sum_congr rfl fun j _ => ?_)
  rw [mixed_step K H x1 d hd hU hP, K.l11, K.l12]
  rfl
theorem out16_step (t : Fin 800) :
    (k0_pay4 (F := Ideal) (aN (eN (hN x1 x4 x5 x6 h c x) x7 x8 x9 U P) x0) (ix3 0 b t) : EReal) = (step p (locB p) d q).a t := by
  rw [weight_block]
  exact weights_step K H x1 d hd hU hP t

end

/-- The carried arrays before the first step. -/
theorem holds_zero (b : Fin 32) : Holds St.zero b (k0_pay5 (F := Ideal)) (k0_pay6 (F := Ideal)) (k0_pay7 (F := Ideal)) (k0_pay8 (F := Ideal)) (k0_pay9 (F := Ideal)) where
  h u := by unfold k0_pay5; simp only [pointwise]; simp [St.zero]
  c u := by unfold k0_pay6; simp only [pointwise]; simp [St.zero]
  x u := by unfold k0_pay7; simp only [pointwise]; simp [St.zero]
  a := padded_zero8 b
  s := padded_zero9 b

end Cert.Proof.DecoderStep
-- ==== Proof.DecoderEntry.lean ====
/- Hand-written, untrusted: THE DECODER KERNEL'S OPERANDS — the parameters of a row out of the arguments, the operand arrays as
   readings of the arguments, and the blocks every point reads. -/
module

public import proofs.«01_k».proof.Proof.DecoderRow
public import Idealize.ShloMosaic.Lib.Routing.OpsSet
public import Idealize.ShloMosaic.Lib.Routing.OpsPair

@[expose] public section

set_option maxRecDepth 16384

noncomputable section

namespace Cert.Proof.DecoderValue

open Cert.DecoderIdeal Cert.DecoderIdeal.Gen Cert.DecoderIdeal.Value Idealize.ShloMosaic Idealize.ShloMosaic.TcCoe Idealize.SL.Sem
open Cert.Proof.Decode Cert.Proof.DecoderStep Idealize.ShloMosaic.Routing

/-- The parameters of row `b`, out of the arguments. -/
def par (l : Vec Ideal S32 .i32) (mem : Vec Ideal S32x800x512 .f32) (wi : Vec Ideal S2048x1024 .f32) (wh : Vec Ideal S2048x512 .f32)
    (bi : Vec Ideal S2048 .f32) (qw : Vec Ideal S128x512 .f32) (mw : Vec Ideal S128x512 .f32) (cv : Vec Ideal S32x2x31 .f32)
    (lw : Vec Ideal S128x32 .f32) (v : Vec Ideal S1x128 .f32) (pw : Vec Ideal S512x1024 .f32) (pb : Vec Ideal S512 .f32)
    (sw : Vec Ideal S101x512 .f32) (sb : Vec Ideal S101 .f32) (b : Fin 32) : Par where
  wi g k := wi (ix2 g k)
  wh g k := wh (ix2 g k)
  bi g := bi (ix1 g)
  qw a k := qw (ix2 a k)
  cv f c k := cv (ix3 f c k)
  lw a f := lw (ix2 a f)
  v a := v (ix2 0 a)
  pw j k := pw (ix2 j k)
  pb j := pb (ix1 j)
  sw i j := sw (ix2 i j)
  sb i := sb (ix1 i)
  mem t k := mem (ix3 b t k)
  pm a t := ∑ k : Fin 512, (mw (ix2 a k) : EReal) * mem (ix3 b t k)
  len := l (ix1 b)

/-- Row `b`'s inputs, step by step. -/
def inp (d : Vec Ideal S161x32x512 .f32) (b : Fin 32) (n : ℕ) (u : Fin 512) : EReal := if h : n < 161 then d (ix3 ⟨n, h⟩ b u) else 0

/-! ## The projected filters -/

theorem lands (idx : IVec S1 32) (o : ℕ) (ho : (idx (ix1 0)).toInt = (o : ℤ)) (a : Fin 128) (k : Fin 31) (a' : Fin 128) (j : Fin 64) :
    scatter_S128x64_S1_S128x31_01_n_1_0.resultIdx? (ix2 a k) idx = some (ix2 a' j) ↔ a = a' ∧ o + k.val = j.val := by
  have h0 : scatter_S128x64_S1_S128x31_01_n_1_0.start (ix2 a k) idx 0 = 0 := rfl
  have h1 : scatter_S128x64_S1_S128x31_01_n_1_0.start (ix2 a k) idx 1 = (o : ℤ) := by
    refine Eq.trans ?_ ho
    unfold ScatterDims.start
    rw [dif_pos (show (1 : Fin 2) ∈ scatter_S128x64_S1_S128x31_01_n_1_0.scatterDimsToOperandDims from List.mem_singleton.2 rfl)]
    refine congrArg (fun q => (idx q).toInt) ?_
    funext q
    match q with
    | ⟨0, _⟩ => exact Subsingleton.elim (α := Fin 1) _ _
  have h2 : scatter_S128x64_S1_S128x31_01_n_1_0.window (ix2 a k) 0 = a.val := rfl
  have h3 : scatter_S128x64_S1_S128x31_01_n_1_0.window (ix2 a k) 1 = k.val := rfl
  refine (resultIdx?_ix2 scatter_S128x64_S1_S128x31_01_n_1_0 (ix2 a k) idx a' j).trans ?_
  rw [h0, h1, h2, h3, Fin.ext_iff]
  omega

theorem set_hit (x : FVec Ideal S128x64 .f32) (idx : IVec S1 32) (o : ℕ) (ho : (idx (ix1 0)).toInt = (o : ℤ)) (u : FVec Ideal S128x31 .f32)
    (a : Fin 128) (k : Fin 31) (j : Fin 64) (hj : o + k.val = j.val) :
    (Host.scatter scatter_S128x64_S1_S128x31_01_n_1_0 (fun _ b => b) x idx u (ix2 a j) : EReal) = u (ix2 a k) := by
  refine scatter_set_hit scatter_S128x64_S1_S128x31_01_n_1_0 x idx u (ix2 a j) (u (ix2 a k)) ?_ (ix2 a k) ((lands idx o ho a k a j).2 ⟨rfl, hj⟩)
  intro q hq
  obtain ⟨a', k', rfl⟩ : ∃ (a' : Fin 128) (k' : Fin 31), q = ix2 a' k' := ⟨q 0, q 1, by funext i; fin_cases i <;> rfl⟩
  obtain ⟨h1, h2⟩ := (lands idx o ho a' k' a j).1 hq
  rw [h1, Fin.ext (show k'.val = k.val by omega)]

theorem set_miss (x : FVec Ideal S128x64 .f32) (idx : IVec S1 32) (o : ℕ) (ho : (idx (ix1 0)).toInt = (o : ℤ)) (u : FVec Ideal S128x31 .f32)
    (a : Fin 128) (j : Fin 64) (hj : j.val < o ∨ o + 31 ≤ j.val) :
    (Host.scatter scatter_S128x64_S1_S128x31_01_n_1_0 (fun _ b => b) x idx u (ix2 a j) : EReal) = x (ix2 a j) := by
  refine scatter_set_miss scatter_S128x64_S1_S128x31_01_n_1_0 x idx u (ix2 a j) ?_
  intro q hq
  obtain ⟨a', k', rfl⟩ : ∃ (a' : Fin 128) (k' : Fin 31), q = ix2 a' k' := ⟨q 0, q 1, by funext i; fin_cases i <;> rfl⟩
  obtain ⟨h1, h2⟩ := (lands idx o ho a' k' a j).1 hq
  have := k'.isLt
  omega

/-- The projected filters, before they are set side by side. -/
def Mf (lw : FVec Ideal S128x32 .f32) (cv : FVec Ideal S32x2x31 .f32) : FVec Ideal S128x2x31 .f32 :=
  Host.dotGeneral dot_S128x32_S32x2x31_S128x2x31_1_0_0_12_n_n none lw cv
def M0 (lw : FVec Ideal S128x32 .f32) (cv : FVec Ideal S32x2x31 .f32) : FVec Ideal S128x31 .f32 :=
  shapeCast S128x31 (extractStridedSlice S128x1x31 ![0, 0, 0] (Mf lw cv) slices_S128x2x31_S128x1x31_0_0_0) shapeCasts_S128x1x31_S128x31
def M1 (lw : FVec Ideal S128x32 .f32) (cv : FVec Ideal S32x2x31 .f32) : FVec Ideal S128x31 .f32 :=
  shapeCast S128x31 (extractStridedSlice S128x1x31 ![0, 1, 0] (Mf lw cv) slices_S128x2x31_S128x1x31_0_1_0) shapeCasts_S128x1x31_S128x31
def idx0 : IVec S1 32 := broadcastInDim S1 ![] bcast_S_S1 (constantI S_ 32 0#32)
def idx32 : IVec S1 32 := broadcastInDim S1 ![] bcast_S_S1 (constantI S_ 32 32#32)
def Mz : FVec Ideal S128x64 .f32 := broadcastInDim S128x64 ![] bcast_S_S128x64 (constant (F := Ideal) S_ .f32 0x00000000#32)
def M2 (lw : FVec Ideal S128x32 .f32) (cv : FVec Ideal S32x2x31 .f32) : FVec Ideal S128x64 .f32 :=
  Host.scatter scatter_S128x64_S1_S128x31_01_n_1_0 (fun _ b => b)
    (Host.scatter scatter_S128x64_S1_S128x31_01_n_1_0 (fun _ b => b) Mz idx0 (M0 lw cv)) idx32 (M1 lw cv)

theorem Mf_apply (lw : FVec Ideal S128x32 .f32) (cv : FVec Ideal S32x2x31 .f32) (a : Fin 128) (q : Fin 2) (k : Fin 31) :
    (Mf lw cv (ix3 a q k) : EReal) = ∑ f : Fin 32, (lw (ix2 a f) : EReal) * cv (ix3 f q k) := by
  unfold Mf
  simp only [pointwise]
  exact zero_add _
theorem M0_apply (lw : FVec Ideal S128x32 .f32) (cv : FVec Ideal S32x2x31 .f32) (a : Fin 128) (k : Fin 31) :
    (M0 lw cv (ix2 a k) : EReal) = Mf lw cv (ix3 a 0 k) := by
  unfold M0
  simp only [pointwise]
  simp [Nat.zero_add, Fin.eta]
theorem M1_apply (lw : FVec Ideal S128x32 .f32) (cv : FVec Ideal S32x2x31 .f32) (a : Fin 128) (k : Fin 31) :
    (M1 lw cv (ix2 a k) : EReal) = Mf lw cv (ix3 a 1 k) := by
  unfold M1
  simp only [pointwise]
  simp [Nat.zero_add, Fin.eta]
theorem idx0_eq : (idx0 (ix1 0)).toInt = ((0 : ℕ) : ℤ) := by
  unfold idx0
  simp only [pointwise]
  rfl
theorem idx32_eq : (idx32 (ix1 0)).toInt = ((32 : ℕ) : ℤ) := by
  unfold idx32
  simp only [pointwise]
  rfl
theorem Mz_apply (a : Fin 128) (j : Fin 64) : (Mz (ix2 a j) : EReal) = 0 := by
  unfold Mz
  simp only [pointwise]
theorem M2_fst (lw : FVec Ideal S128x32 .f32) (cv : FVec Ideal S32x2x31 .f32) (a : Fin 128) (k : Fin 31) :
    (M2 lw cv (ix2 a (⟨k.val, by omega⟩ : Fin 64)) : EReal) = ∑ f : Fin 32, (lw (ix2 a f) : EReal) * cv (ix3 f 0 k) := by
  unfold M2
  refine (set_miss _ _ 32 idx32_eq _ _ _ (Or.inl (show k.val < 32 by omega))).trans ?_
  refine (set_hit _ _ 0 idx0_eq _ a k _ (Nat.zero_add _)).trans ?_
  rw [M0_apply, Mf_apply]
theorem M2_snd (lw : FVec Ideal S128x32 .f32) (cv : FVec Ideal S32x2x31 .f32) (a : Fin 128) (k : Fin 31) :
    (M2 lw cv (ix2 a (⟨32 + k.val, by omega⟩ : Fin 64)) : EReal) = ∑ f : Fin 32, (lw (ix2 a f) : EReal) * cv (ix3 f 1 k) := by
  unfold M2
  refine (set_hit _ _ 32 idx32_eq _ a k _ rfl).trans ?_
  rw [M1_apply, Mf_apply]
theorem M2_mid (lw : FVec Ideal S128x32 .f32) (cv : FVec Ideal S32x2x31 .f32) (a : Fin 128) : (M2 lw cv (ix2 a (⟨31, by decide⟩ : Fin 64)) : EReal) = 0 := by
  unfold M2
  refine (set_miss _ _ 32 idx32_eq _ _ _ (Or.inl (show 31 < 32 by decide))).trans ?_
  refine (set_miss _ _ 0 idx0_eq _ _ _ (Or.inr (show 0 + 31 ≤ 31 by decide))).trans ?_
  exact Mz_apply _ _
theorem M2_end (lw : FVec Ideal S128x32 .f32) (cv : FVec Ideal S32x2x31 .f32) (a : Fin 128) : (M2 lw cv (ix2 a (⟨63, by decide⟩ : Fin 64)) : EReal) = 0 := by
  unfold M2
  refine (set_miss _ _ 32 idx32_eq _ _ _ (Or.inr (show 32 + 31 ≤ 63 by decide))).trans ?_
  refine (set_miss _ _ 0 idx0_eq _ _ _ (Or.inr (show 0 + 31 ≤ 63 by decide))).trans ?_
  exact Mz_apply _ _

/-! ## The operand arrays -/

variable (m : (ℓ : Loc nD τ sig) → Buf (Elt Ideal) ℓ) (c : Dev nD)

theorem V_main_v18 : V m c main_v18 = truncf (F := Ideal) .bf16 (M2 (m ((c : Thread nD τ).loc main_arg9)) (m ((c : Thread nD τ).loc main_arg8))) bitsLt_bf16_f32 := by
  show StableHlo.after hostOps0 _ (Proc.devRef .tc main_v18) = _
  after_results
  rfl
theorem V_0 (b : Fin 32) : V m c main_v11 (ix2 b 0) = (m ((c : Thread nD τ).loc main_arg1)) (ix1 b) := by
  show StableHlo.after hostOps0 _ (Proc.devRef .tc main_v11) _ = _
  after_results
  all_goals first | rfl | (simp only [pointwise]; done) | (simp only [pointwise]; rfl)
theorem V_2 (b : Fin 32) (t : Fin 800) (k : Fin 512) : (V m c main_v10 (ix3 b t k) : EReal) = (m ((c : Thread nD τ).loc main_arg2)) (ix3 b t k) := by
  show StableHlo.after hostOps0 _ (Proc.devRef .tc main_v10) _ = _
  after_results
  all_goals first | rfl | (simp only [pointwise]; done) | (simp only [pointwise]; rfl)
theorem V_3 (a : Fin 128) (k : Fin 512) : (V m c main_arg7 (ix2 a k) : EReal) = (m ((c : Thread nD τ).loc main_arg7)) (ix2 a k) := by
  show StableHlo.after hostOps0 _ (Proc.devRef .tc main_arg7) _ = _
  after_results
  all_goals first | rfl | (simp only [pointwise]; done) | (simp only [pointwise]; rfl)
theorem V_4 (k : Fin 1024) (g : Fin 2048) : (V m c main_v13 (ix2 k g) : EReal) = (m ((c : Thread nD τ).loc main_arg3)) (ix2 g k) := by
  show StableHlo.after hostOps0 _ (Proc.devRef .tc main_v13) _ = _
  after_results
  all_goals first | rfl | (simp only [pointwise]; done) | (simp only [pointwise]; rfl)
theorem V_5 (k : Fin 512) (g : Fin 2048) : (V m c main_v15 (ix2 k g) : EReal) = (m ((c : Thread nD τ).loc main_arg4)) (ix2 g k) := by
  show StableHlo.after hostOps0 _ (Proc.devRef .tc main_v15) _ = _
  after_results
  all_goals first | rfl | (simp only [pointwise]; done) | (simp only [pointwise]; rfl)
theorem V_6 (g : Fin 2048) : (V m c main_v16 (ix2 0 g) : EReal) = (m ((c : Thread nD τ).loc main_arg5)) (ix1 g) := by
  show StableHlo.after hostOps0 _ (Proc.devRef .tc main_v16) _ = _
  after_results
  all_goals first | rfl | (simp only [pointwise]; done) | (simp only [pointwise]; rfl)
theorem V_7 (k : Fin 512) (a : Fin 128) : (V m c main_v17 (ix2 k a) : EReal) = (m ((c : Thread nD τ).loc main_arg6)) (ix2 a k) := by
  show StableHlo.after hostOps0 _ (Proc.devRef .tc main_v17) _ = _
  after_results
  all_goals first | rfl | (simp only [pointwise]; done) | (simp only [pointwise]; rfl)
theorem V_8 (a : Fin 128) (j : Fin 64) : (V m c main_v18 (ix2 a j) : EReal) = M2 (m ((c : Thread nD τ).loc main_arg9)) (m ((c : Thread nD τ).loc main_arg8)) (ix2 a j) := by
  rw [V_main_v18]
  rfl
theorem V_9 (a : Fin 128) : (V m c main_arg10 (ix2 0 a) : EReal) = (m ((c : Thread nD τ).loc main_arg10)) (ix2 0 a) := by
  show StableHlo.after hostOps0 _ (Proc.devRef .tc main_arg10) _ = _
  after_results
  all_goals first | rfl | (simp only [pointwise]; done) | (simp only [pointwise]; rfl)
theorem V_10 (k : Fin 1024) (j : Fin 512) : (V m c main_v20 (ix2 k j) : EReal) = (m ((c : Thread nD τ).loc main_arg11)) (ix2 j k) := by
  show StableHlo.after hostOps0 _ (Proc.devRef .tc main_v20) _ = _
  after_results
  all_goals first | rfl | (simp only [pointwise]; done) | (simp only [pointwise]; rfl)
theorem V_11 (j : Fin 512) : (V m c main_v21 (ix2 0 j) : EReal) = (m ((c : Thread nD τ).loc main_arg12)) (ix1 j) := by
  show StableHlo.after hostOps0 _ (Proc.devRef .tc main_v21) _ = _
  after_results
  all_goals first | rfl | (simp only [pointwise]; done) | (simp only [pointwise]; rfl)
theorem V_12 (j : Fin 512) (i : Fin 101) : (V m c main_v22 (ix2 j i) : EReal) = (m ((c : Thread nD τ).loc main_arg13)) (ix2 i j) := by
  show StableHlo.after hostOps0 _ (Proc.devRef .tc main_v22) _ = _
  after_results
  all_goals first | rfl | (simp only [pointwise]; done) | (simp only [pointwise]; rfl)
theorem V_13 (i : Fin 101) : (V m c main_v23 (ix2 0 i) : EReal) = (m ((c : Thread nD τ).loc main_arg14)) (ix1 i) := by
  show StableHlo.after hostOps0 _ (Proc.devRef .tc main_v23) _ = _
  after_results
  all_goals first | rfl | (simp only [pointwise]; done) | (simp only [pointwise]; rfl)
theorem V_1 : V m c main_arg0 = (m ((c : Thread nD τ).loc main_arg0)) := by
  show StableHlo.after hostOps0 _ (Proc.devRef .tc main_arg0) = _
  after_results
  try rfl

/-! ## The blocks a point reads -/

theorem N_eq : cfg0.N = 161 := N_0

theorem at_0 : ∀ t : Fin cfg0.N, win0_0.index t (0 : Fin 2) = 0 ∧ win0_0.index t (1 : Fin 2) = 0 :=
  (by decide +kernel : ∀ t : Fin grid0.N, _)
theorem blk_0 (n : Fin cfg0.N) (b : Fin 32) : iblk m c 0 n (ix2 b 0) = (m ((c : Thread nD τ).loc main_arg1)) (ix1 b) := by
  obtain ⟨a0, a1⟩ := at_0 n
  refine Eq.trans ?_ (V_0 m c b)
  show V m c main_v11 (((cfg0.win 0).blk n).view.emb (ix2 b 0)) = _
  congr 1; funext q; apply Fin.ext
  match q with
  | ⟨0, _⟩ => show win0_0.index n (0 : Fin 2) * 32 + 1 * b.val = b.val; omega
  | ⟨1, _⟩ => show win0_0.index n (1 : Fin 2) * 1 + 1 * 0 = 0; omega
theorem at_2 : ∀ t : Fin cfg0.N, win0_2.index t (0 : Fin 3) = 0 ∧ win0_2.index t (1 : Fin 3) = 0 ∧ win0_2.index t (2 : Fin 3) = 0 :=
  (by decide +kernel : ∀ t : Fin grid0.N, _)
theorem blk_2 (n : Fin cfg0.N) (b : Fin 32) (t : Fin 800) (k : Fin 512) : (iblk m c 2 n (ix3 b t k) : EReal) = (m ((c : Thread nD τ).loc main_arg2)) (ix3 b t k) := by
  obtain ⟨a0, a1, a2⟩ := at_2 n
  refine Eq.trans ?_ (V_2 m c b t k)
  show V m c main_v10 (((cfg0.win 2).blk n).view.emb (ix3 b t k)) = _
  congr 1; funext q; apply Fin.ext
  match q with
  | ⟨0, _⟩ => show win0_2.index n (0 : Fin 3) * 32 + 1 * b.val = b.val; omega
  | ⟨1, _⟩ => show win0_2.index n (1 : Fin 3) * 800 + 1 * t.val = t.val; omega
  | ⟨2, _⟩ => show win0_2.index n (2 : Fin 3) * 512 + 1 * k.val = k.val; omega
theorem at_3 : ∀ t : Fin cfg0.N, win0_3.index t (0 : Fin 2) = 0 ∧ win0_3.index t (1 : Fin 2) = 0 :=
  (by decide +kernel : ∀ t : Fin grid0.N, _)
theorem blk_3 (n : Fin cfg0.N) (a : Fin 128) (k : Fin 512) : (iblk m c 3 n (ix2 a k) : EReal) = (m ((c : Thread nD τ).loc main_arg7)) (ix2 a k) := by
  obtain ⟨a0, a1⟩ := at_3 n
  refine Eq.trans ?_ (V_3 m c a k)
  show V m c main_arg7 (((cfg0.win 3).blk n).view.emb (ix2 a k)) = _
  congr 1; funext q; apply Fin.ext
  match q with
  | ⟨0, _⟩ => show win0_3.index n (0 : Fin 2) * 128 + 1 * a.val = a.val; omega
  | ⟨1, _⟩ => show win0_3.index n (1 : Fin 2) * 512 + 1 * k.val = k.val; omega
theorem at_4 : ∀ t : Fin cfg0.N, win0_4.index t (0 : Fin 2) = 0 ∧ win0_4.index t (1 : Fin 2) = 0 :=
  (by decide +kernel : ∀ t : Fin grid0.N, _)
theorem blk_4 (n : Fin cfg0.N) (k : Fin 1024) (g : Fin 2048) : (iblk m c 4 n (ix2 k g) : EReal) = (m ((c : Thread nD τ).loc main_arg3)) (ix2 g k) := by
  obtain ⟨a0, a1⟩ := at_4 n
  refine Eq.trans ?_ (V_4 m c k g)
  show V m c main_v13 (((cfg0.win 4).blk n).view.emb (ix2 k g)) = _
  congr 1; funext q; apply Fin.ext
  match q with
  | ⟨0, _⟩ => show win0_4.index n (0 : Fin 2) * 1024 + 1 * k.val = k.val; omega
  | ⟨1, _⟩ => show win0_4.index n (1 : Fin 2) * 2048 + 1 * g.val = g.val; omega
theorem at_5 : ∀ t : Fin cfg0.N, win0_5.index t (0 : Fin 2) = 0 ∧ win0_5.index t (1 : Fin 2) = 0 :=
  (by decide +kernel : ∀ t : Fin grid0.N, _)
theorem blk_5 (n : Fin cfg0.N) (k : Fin 512) (g : Fin 2048) : (iblk m c 5 n (ix2 k g) : EReal) = (m ((c : Thread nD τ).loc main_arg4)) (ix2 g k) := by
  obtain ⟨a0, a1⟩ := at_5 n
  refine Eq.trans ?_ (V_5 m c k g)
  show V m c main_v15 (((cfg0.win 5).blk n).view.emb (ix2 k g)) = _
  congr 1; funext q; apply Fin.ext
  match q with
  | ⟨0, _⟩ => show win0_5.index n (0 : Fin 2) * 512 + 1 * k.val = k.val; omega
  | ⟨1, _⟩ => show win0_5.index n (1 : Fin 2) * 2048 + 1 * g.val = g.val; omega
theorem at_6 : ∀ t : Fin cfg0.N, win0_6.index t (0 : Fin 2) = 0 ∧ win0_6.index t (1 : Fin 2) = 0 :=
  (by decide +kernel : ∀ t : Fin grid0.N, _)
theorem blk_6 (n : Fin cfg0.N) (g : Fin 2048) : (iblk m c 6 n (ix2 0 g) : EReal) = (m ((c : Thread nD τ).loc main_arg5)) (ix1 g) := by
  obtain ⟨a0, a1⟩ := at_6 n
  refine Eq.trans ?_ (V_6 m c g)
  show V m c main_v16 (((cfg0.win 6).blk n).view.emb (ix2 0 g)) = _
  congr 1; funext q; apply Fin.ext
  match q with
  | ⟨0, _⟩ => show win0_6.index n (0 : Fin 2) * 1 + 1 * 0 = 0; omega
  | ⟨1, _⟩ => show win0_6.index n (1 : Fin 2) * 2048 + 1 * g.val = g.val; omega
theorem at_7 : ∀ t : Fin cfg0.N, win0_7.index t (0 : Fin 2) = 0 ∧ win0_7.index t (1 : Fin 2) = 0 :=
  (by decide +kernel : ∀ t : Fin grid0.N, _)
theorem blk_7 (n : Fin cfg0.N) (k : Fin 512) (a : Fin 128) : (iblk m c 7 n (ix2 k a) : EReal) = (m ((c : Thread nD τ).loc main_arg6)) (ix2 a k) := by
  obtain ⟨a0, a1⟩ := at_7 n
  refine Eq.trans ?_ (V_7 m c k a)
  show V m c main_v17 (((cfg0.win 7).blk n).view.emb (ix2 k a)) = _
  congr 1; funext q; apply Fin.ext
  match q with
  | ⟨0, _⟩ => show win0_7.index n (0 : Fin 2) * 512 + 1 * k.val = k.val; omega
  | ⟨1, _⟩ => show win0_7.index n (1 : Fin 2) * 128 + 1 * a.val = a.val; omega
theorem at_8 : ∀ t : Fin cfg0.N, win0_8.index t (0 : Fin 2) = 0 ∧ win0_8.index t (1 : Fin 2) = 0 :=
  (by decide +kernel : ∀ t : Fin grid0.N, _)
theorem blk_8 (n : Fin cfg0.N) (a : Fin 128) (j : Fin 64) : (iblk m c 8 n (ix2 a j) : EReal) = M2 (m ((c : Thread nD τ).loc main_arg9)) (m ((c : Thread nD τ).loc main_arg8)) (ix2 a j) := by
  obtain ⟨a0, a1⟩ := at_8 n
  refine Eq.trans ?_ (V_8 m c a j)
  show V m c main_v18 (((cfg0.win 8).blk n).view.emb (ix2 a j)) = _
  congr 1; funext q; apply Fin.ext
  match q with
  | ⟨0, _⟩ => show win0_8.index n (0 : Fin 2) * 128 + 1 * a.val = a.val; omega
  | ⟨1, _⟩ => show win0_8.index n (1 : Fin 2) * 64 + 1 * j.val = j.val; omega
theorem at_9 : ∀ t : Fin cfg0.N, win0_9.index t (0 : Fin 2) = 0 ∧ win0_9.index t (1 : Fin 2) = 0 :=
  (by decide +kernel : ∀ t : Fin grid0.N, _)
theorem blk_9 (n : Fin cfg0.N) (a : Fin 128) : (iblk m c 9 n (ix2 0 a) : EReal) = (m ((c : Thread nD τ).loc main_arg10)) (ix2 0 a) := by
  obtain ⟨a0, a1⟩ := at_9 n
  refine Eq.trans ?_ (V_9 m c a)
  show V m c main_arg10 (((cfg0.win 9).blk n).view.emb (ix2 0 a)) = _
  congr 1; funext q; apply Fin.ext
  match q with
  | ⟨0, _⟩ => show win0_9.index n (0 : Fin 2) * 1 + 1 * 0 = 0; omega
  | ⟨1, _⟩ => show win0_9.index n (1 : Fin 2) * 128 + 1 * a.val = a.val; omega
theorem at_10 : ∀ t : Fin cfg0.N, win0_10.index t (0 : Fin 2) = 0 ∧ win0_10.index t (1 : Fin 2) = 0 :=
  (by decide +kernel : ∀ t : Fin grid0.N, _)
theorem blk_10 (n : Fin cfg0.N) (k : Fin 1024) (j : Fin 512) : (iblk m c 10 n (ix2 k j) : EReal) = (m ((c : Thread nD τ).loc main_arg11)) (ix2 j k) := by
  obtain ⟨a0, a1⟩ := at_10 n
  refine Eq.trans ?_ (V_10 m c k j)
  show V m c main_v20 (((cfg0.win 10).blk n).view.emb (ix2 k j)) = _
  congr 1; funext q; apply Fin.ext
  match q with
  | ⟨0, _⟩ => show win0_10.index n (0 : Fin 2) * 1024 + 1 * k.val = k.val; omega
  | ⟨1, _⟩ => show win0_10.index n (1 : Fin 2) * 512 + 1 * j.val = j.val; omega
theorem at_11 : ∀ t : Fin cfg0.N, win0_11.index t (0 : Fin 2) = 0 ∧ win0_11.index t (1 : Fin 2) = 0 :=
  (by decide +kernel : ∀ t : Fin grid0.N, _)
theorem blk_11 (n : Fin cfg0.N) (j : Fin 512) : (iblk m c 11 n (ix2 0 j) : EReal) = (m ((c : Thread nD τ).loc main_arg12)) (ix1 j) := by
  obtain ⟨a0, a1⟩ := at_11 n
  refine Eq.trans ?_ (V_11 m c j)
  show V m c main_v21 (((cfg0.win 11).blk n).view.emb (ix2 0 j)) = _
  congr 1; funext q; apply Fin.ext
  match q with
  | ⟨0, _⟩ => show win0_11.index n (0 : Fin 2) * 1 + 1 * 0 = 0; omega
  | ⟨1, _⟩ => show win0_11.index n (1 : Fin 2) * 512 + 1 * j.val = j.val; omega
theorem at_12 : ∀ t : Fin cfg0.N, win0_12.index t (0 : Fin 2) = 0 ∧ win0_12.index t (1 : Fin 2) = 0 :=
  (by decide +kernel : ∀ t : Fin grid0.N, _)
theorem blk_12 (n : Fin cfg0.N) (j : Fin 512) (i : Fin 101) : (iblk m c 12 n (ix2 j i) : EReal) = (m ((c : Thread nD τ).loc main_arg13)) (ix2 i j) := by
  obtain ⟨a0, a1⟩ := at_12 n
  refine Eq.trans ?_ (V_12 m c j i)
  show V m c main_v22 (((cfg0.win 12).blk n).view.emb (ix2 j i)) = _
  congr 1; funext q; apply Fin.ext
  match q with
  | ⟨0, _⟩ => show win0_12.index n (0 : Fin 2) * 512 + 1 * j.val = j.val; omega
  | ⟨1, _⟩ => show win0_12.index n (1 : Fin 2) * 101 + 1 * i.val = i.val; omega
theorem at_13 : ∀ t : Fin cfg0.N, win0_13.index t (0 : Fin 2) = 0 ∧ win0_13.index t (1 : Fin 2) = 0 :=
  (by decide +kernel : ∀ t : Fin grid0.N, _)
theorem blk_13 (n : Fin cfg0.N) (i : Fin 101) : (iblk m c 13 n (ix2 0 i) : EReal) = (m ((c : Thread nD τ).loc main_arg14)) (ix1 i) := by
  obtain ⟨a0, a1⟩ := at_13 n
  refine Eq.trans ?_ (V_13 m c i)
  show V m c main_v23 (((cfg0.win 13).blk n).view.emb (ix2 0 i)) = _
  congr 1; funext q; apply Fin.ext
  match q with
  | ⟨0, _⟩ => show win0_13.index n (0 : Fin 2) * 1 + 1 * 0 = 0; omega
  | ⟨1, _⟩ => show win0_13.index n (1 : Fin 2) * 101 + 1 * i.val = i.val; omega
theorem at_1 : ∀ t : Fin cfg0.N, win0_1.index t (0 : Fin 3) = t.val ∧ win0_1.index t (1 : Fin 3) = 0 ∧ win0_1.index t (2 : Fin 3) = 0 :=
  (by decide +kernel : ∀ t : Fin grid0.N, _)
theorem blk_1 (n : Fin cfg0.N) (b : Fin 32) (u : Fin 512) : (iblk m c 1 n (ix3 0 b u) : EReal) = inp (m ((c : Thread nD τ).loc main_arg0)) b n.val u := by
  obtain ⟨a0, a1, a2⟩ := at_1 n
  have hn : n.val < 161 := lt_of_lt_of_eq n.isLt N_eq
  unfold inp
  rw [dif_pos hn, ← V_1 m c]
  show V m c main_arg0 (((cfg0.win 1).blk n).view.emb (ix3 0 b u)) = _
  congr 1; funext q; apply Fin.ext
  match q with
  | ⟨0, _⟩ => show win0_1.index n (0 : Fin 3) * 1 + 1 * 0 = n.val; omega
  | ⟨1, _⟩ => show win0_1.index n (1 : Fin 3) * 32 + 1 * b.val = b.val; omega
  | ⟨2, _⟩ => show win0_1.index n (2 : Fin 3) * 512 + 1 * u.val = u.val; omega

/-- The parameters of row `b` in the kernel's memory. -/
abbrev pK (b : Fin 32) : Par := par (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) b

theorem links (n : Fin cfg0.N) (b : Fin 32) : Links (pK m c b) b (iblk m c 0 n) (iblk m c 2 n) (iblk m c 3 n) (iblk m c 4 n) (iblk m c 5 n) (iblk m c 6 n) (iblk m c 7 n)
    (iblk m c 8 n) (iblk m c 9 n) (iblk m c 10 n) (iblk m c 11 n) (iblk m c 12 n) (iblk m c 13 n) where
  l0 := blk_0 m c n b
  l2 t k := blk_2 m c n b t k
  l3 a t := Finset.sum_congr rfl fun k _ => congrArg₂ (fun p q : EReal => p * q) (blk_3 m c n a k) (blk_2 m c n b t k)
  l4 k g := blk_4 m c n k g
  l5 k g := blk_5 m c n k g
  l6 g := blk_6 m c n g
  l7 k a := blk_7 m c n k a
  l8a a k := (blk_8 m c n a _).trans (M2_fst _ _ a k)
  l8b a k := (blk_8 m c n a _).trans (M2_snd _ _ a k)
  l8c a := (blk_8 m c n a _).trans (M2_mid _ _ a)
  l8d a := (blk_8 m c n a _).trans (M2_end _ _ a)
  l9 a := blk_9 m c n a
  l10 k j := blk_10 m c n k j
  l11 j := blk_11 m c n j
  l12 j i := blk_12 m c n j i
  l13 i := blk_13 m c n i

end Cert.Proof.DecoderValue
-- ==== Proof.DecoderKernel.lean ====
/- Hand-written, untrusted: WHAT THE DECODER'S KERNEL LEAVES — the carried arrays after every point of the grid, and the three
   result arrays. -/
module

public import proofs.«01_k».proof.Proof.DecoderEntry

@[expose] public section

set_option maxRecDepth 16384

noncomputable section

namespace Cert.Proof.DecoderValue

open Cert.DecoderIdeal Cert.DecoderIdeal.Gen Cert.DecoderIdeal.Value Idealize.ShloMosaic Idealize.ShloMosaic.TcCoe Idealize.SL.Sem
open Cert.Proof.Decode Cert.Proof.DecoderStep

variable (m : (ℓ : Loc nD τ sig) → Buf (Elt Ideal) ℓ) (c : Dev nD)

section
variable (t : Fin cfg0.N)

theorem A_0 (h0 : t.val % 161 = 0) : (outsAt0 m c t.val t.isLt).1 = k0_pay2 (F := Ideal) (oN (hN (iblk m c 1 t) (iblk m c 4 t) (iblk m c 5 t) (iblk m c 6 t) (k0_pay5 (F := Ideal)) (k0_pay6 (F := Ideal)) (k0_pay7 (F := Ideal))) (eN (hN (iblk m c 1 t) (iblk m c 4 t) (iblk m c 5 t) (iblk m c 6 t) (k0_pay5 (F := Ideal)) (k0_pay6 (F := Ideal)) (k0_pay7 (F := Ideal))) (iblk m c 7 t) (iblk m c 8 t) (iblk m c 9 t) (uA c scM0_3 scM0_4 scM0_5) (pA c (ms0_2 t) (hs0_2 t) (ms0_3 t) (hs0_3 t) scM0_6 (iblk m c 2 t) (iblk m c 3 t))) (iblk m c 0 t) (iblk m c 2 t) (iblk m c 10 t)) (iblk m c 11 t) := by
  rw [outsAt0_A m c t h0]
  refine Eq.trans ?_ (out_14_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0))
  with_reducible rfl
theorem A_1 (h0 : t.val % 161 = 0) : (outsAt0 m c t.val t.isLt).2.1 = k0_pay3 (F := Ideal) (oN (hN (iblk m c 1 t) (iblk m c 4 t) (iblk m c 5 t) (iblk m c 6 t) (k0_pay5 (F := Ideal)) (k0_pay6 (F := Ideal)) (k0_pay7 (F := Ideal))) (eN (hN (iblk m c 1 t) (iblk m c 4 t) (iblk m c 5 t) (iblk m c 6 t) (k0_pay5 (F := Ideal)) (k0_pay6 (F := Ideal)) (k0_pay7 (F := Ideal))) (iblk m c 7 t) (iblk m c 8 t) (iblk m c 9 t) (uA c scM0_3 scM0_4 scM0_5) (pA c (ms0_2 t) (hs0_2 t) (ms0_3 t) (hs0_3 t) scM0_6 (iblk m c 2 t) (iblk m c 3 t))) (iblk m c 0 t) (iblk m c 2 t) (iblk m c 10 t)) (iblk m c 11 t) (iblk m c 12 t) (iblk m c 13 t) := by
  rw [outsAt0_A m c t h0]
  refine Eq.trans ?_ (out_15_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0))
  with_reducible rfl
theorem A_2 (h0 : t.val % 161 = 0) : (outsAt0 m c t.val t.isLt).2.2.1 = k0_pay4 (F := Ideal) (aN (eN (hN (iblk m c 1 t) (iblk m c 4 t) (iblk m c 5 t) (iblk m c 6 t) (k0_pay5 (F := Ideal)) (k0_pay6 (F := Ideal)) (k0_pay7 (F := Ideal))) (iblk m c 7 t) (iblk m c 8 t) (iblk m c 9 t) (uA c scM0_3 scM0_4 scM0_5) (pA c (ms0_2 t) (hs0_2 t) (ms0_3 t) (hs0_3 t) scM0_6 (iblk m c 2 t) (iblk m c 3 t))) (iblk m c 0 t)) := by
  rw [outsAt0_A m c t h0]
  refine Eq.trans ?_ (out_16_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0))
  with_reducible rfl
theorem A_3 (h0 : t.val % 161 = 0) : (outsAt0 m c t.val t.isLt).2.2.2.1 = k0_pay25 (F := Ideal) (hN (iblk m c 1 t) (iblk m c 4 t) (iblk m c 5 t) (iblk m c 6 t) (k0_pay5 (F := Ideal)) (k0_pay6 (F := Ideal)) (k0_pay7 (F := Ideal))) := by
  rw [outsAt0_A m c t h0]
  refine Eq.trans ?_ (sout_0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0))
  with_reducible rfl
theorem A_4 (h0 : t.val % 161 = 0) : (outsAt0 m c t.val t.isLt).2.2.2.2.1 = k0_pay26 (F := Ideal) (cN (iblk m c 1 t) (iblk m c 4 t) (iblk m c 5 t) (iblk m c 6 t) (k0_pay5 (F := Ideal)) (k0_pay6 (F := Ideal)) (k0_pay7 (F := Ideal))) := by
  rw [outsAt0_A m c t h0]
  refine Eq.trans ?_ (sout_1_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0))
  with_reducible rfl
theorem A_5 (h0 : t.val % 161 = 0) : (outsAt0 m c t.val t.isLt).2.2.2.2.2.1 = k0_pay107 (F := Ideal) (eN (hN (iblk m c 1 t) (iblk m c 4 t) (iblk m c 5 t) (iblk m c 6 t) (k0_pay5 (F := Ideal)) (k0_pay6 (F := Ideal)) (k0_pay7 (F := Ideal))) (iblk m c 7 t) (iblk m c 8 t) (iblk m c 9 t) (uA c scM0_3 scM0_4 scM0_5) (pA c (ms0_2 t) (hs0_2 t) (ms0_3 t) (hs0_3 t) scM0_6 (iblk m c 2 t) (iblk m c 3 t))) places (iblk m c 0 t) (iblk m c 2 t) := by
  rw [outsAt0_A m c t h0]
  refine Eq.trans ?_ (sout_2_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0))
  with_reducible rfl
theorem A_6 (h0 : t.val % 161 = 0) : (outsAt0 m c t.val t.isLt).2.2.2.2.2.2.1 = VecWindow.put (k0_pay8 (F := Ideal)) ![0, 15] ![32, 800] (k0_pay108 (F := Ideal) (eN (hN (iblk m c 1 t) (iblk m c 4 t) (iblk m c 5 t) (iblk m c 6 t) (k0_pay5 (F := Ideal)) (k0_pay6 (F := Ideal)) (k0_pay7 (F := Ideal))) (iblk m c 7 t) (iblk m c 8 t) (iblk m c 9 t) (uA c scM0_3 scM0_4 scM0_5) (pA c (ms0_2 t) (hs0_2 t) (ms0_3 t) (hs0_3 t) scM0_6 (iblk m c 2 t) (iblk m c 3 t))) places (iblk m c 0 t)) := by
  rw [outsAt0_A m c t h0]
  refine Eq.trans ?_ (sout_3_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0))
  with_reducible rfl
theorem A_7 (h0 : t.val % 161 = 0) : (outsAt0 m c t.val t.isLt).2.2.2.2.2.2.2.1 = VecWindow.put (k0_pay9 (F := Ideal)) ![0, 15] ![32, 800] (k0_pay109 (F := Ideal) (eN (hN (iblk m c 1 t) (iblk m c 4 t) (iblk m c 5 t) (iblk m c 6 t) (k0_pay5 (F := Ideal)) (k0_pay6 (F := Ideal)) (k0_pay7 (F := Ideal))) (iblk m c 7 t) (iblk m c 8 t) (iblk m c 9 t) (uA c scM0_3 scM0_4 scM0_5) (pA c (ms0_2 t) (hs0_2 t) (ms0_3 t) (hs0_3 t) scM0_6 (iblk m c 2 t) (iblk m c 3 t))) places (iblk m c 0 t) (midAt (k0_pay9 (F := Ideal)))) := by
  rw [outsAt0_A m c t h0]
  refine Eq.trans ?_ (sout_4_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0))
  with_reducible rfl
theorem A_9 (h0 : t.val % 161 = 0) : (outsAt0 m c t.val t.isLt).2.2.2.2.2.2.2.2.2 = (pA c (ms0_2 t) (hs0_2 t) (ms0_3 t) (hs0_3 t) scM0_6 (iblk m c 2 t) (iblk m c 3 t)) := by
  rw [outsAt0_A m c t h0]
  refine Eq.trans ?_ (sout_6_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0))
  with_reducible rfl
theorem B_0 (h0 : ¬t.val % 161 = 0) : (outsAt0 m c t.val t.isLt).1 = k0_pay2 (F := Ideal) (oN (hN (iblk m c 1 t) (iblk m c 4 t) (iblk m c 5 t) (iblk m c 6 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1)) (eN (hN (iblk m c 1 t) (iblk m c 4 t) (iblk m c 5 t) (iblk m c 6 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1)) (iblk m c 7 t) (iblk m c 8 t) (iblk m c 9 t) (uB c scM0_3 (Memref.isWhole_whole _) scM0_4 (Memref.isWhole_whole _) scM0_5 (Memref.isWhole_whole _) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1)) ((outsAt0 m c (t.val - 1) (Nat.lt_of_le_of_lt (Nat.sub_le _ _) t.isLt)).2.2.2.2.2.2.2.2.2)) (iblk m c 0 t) (iblk m c 2 t) (iblk m c 10 t)) (iblk m c 11 t) := by
  rw [outsAt0_B m c t h0]
  refine Eq.trans ?_ (out_14_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2) (fun h => h0 ((hcond0_0 t).mp h)))
  with_reducible rfl
theorem B_1 (h0 : ¬t.val % 161 = 0) : (outsAt0 m c t.val t.isLt).2.1 = k0_pay3 (F := Ideal) (oN (hN (iblk m c 1 t) (iblk m c 4 t) (iblk m c 5 t) (iblk m c 6 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1)) (eN (hN (iblk m c 1 t) (iblk m c 4 t) (iblk m c 5 t) (iblk m c 6 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1)) (iblk m c 7 t) (iblk m c 8 t) (iblk m c 9 t) (uB c scM0_3 (Memref.isWhole_whole _) scM0_4 (Memref.isWhole_whole _) scM0_5 (Memref.isWhole_whole _) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1)) ((outsAt0 m c (t.val - 1) (Nat.lt_of_le_of_lt (Nat.sub_le _ _) t.isLt)).2.2.2.2.2.2.2.2.2)) (iblk m c 0 t) (iblk m c 2 t) (iblk m c 10 t)) (iblk m c 11 t) (iblk m c 12 t) (iblk m c 13 t) := by
  rw [outsAt0_B m c t h0]
  refine Eq.trans ?_ (out_15_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2) (fun h => h0 ((hcond0_0 t).mp h)))
  with_reducible rfl
theorem B_2 (h0 : ¬t.val % 161 = 0) : (outsAt0 m c t.val t.isLt).2.2.1 = k0_pay4 (F := Ideal) (aN (eN (hN (iblk m c 1 t) (iblk m c 4 t) (iblk m c 5 t) (iblk m c 6 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1)) (iblk m c 7 t) (iblk m c 8 t) (iblk m c 9 t) (uB c scM0_3 (Memref.isWhole_whole _) scM0_4 (Memref.isWhole_whole _) scM0_5 (Memref.isWhole_whole _) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1)) ((outsAt0 m c (t.val - 1) (Nat.lt_of_le_of_lt (Nat.sub_le _ _) t.isLt)).2.2.2.2.2.2.2.2.2)) (iblk m c 0 t)) := by
  rw [outsAt0_B m c t h0]
  refine Eq.trans ?_ (out_16_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2) (fun h => h0 ((hcond0_0 t).mp h)))
  with_reducible rfl
theorem B_3 (h0 : ¬t.val % 161 = 0) : (outsAt0 m c t.val t.isLt).2.2.2.1 = k0_pay25 (F := Ideal) (hN (iblk m c 1 t) (iblk m c 4 t) (iblk m c 5 t) (iblk m c 6 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1)) := by
  rw [outsAt0_B m c t h0]
  refine Eq.trans ?_ (sout_0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2) (fun h => h0 ((hcond0_0 t).mp h)))
  with_reducible rfl
theorem B_4 (h0 : ¬t.val % 161 = 0) : (outsAt0 m c t.val t.isLt).2.2.2.2.1 = k0_pay26 (F := Ideal) (cN (iblk m c 1 t) (iblk m c 4 t) (iblk m c 5 t) (iblk m c 6 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1)) := by
  rw [outsAt0_B m c t h0]
  refine Eq.trans ?_ (sout_1_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2) (fun h => h0 ((hcond0_0 t).mp h)))
  with_reducible rfl
theorem B_5 (h0 : ¬t.val % 161 = 0) : (outsAt0 m c t.val t.isLt).2.2.2.2.2.1 = k0_pay107 (F := Ideal) (eN (hN (iblk m c 1 t) (iblk m c 4 t) (iblk m c 5 t) (iblk m c 6 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1)) (iblk m c 7 t) (iblk m c 8 t) (iblk m c 9 t) (uB c scM0_3 (Memref.isWhole_whole _) scM0_4 (Memref.isWhole_whole _) scM0_5 (Memref.isWhole_whole _) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1)) ((outsAt0 m c (t.val - 1) (Nat.lt_of_le_of_lt (Nat.sub_le _ _) t.isLt)).2.2.2.2.2.2.2.2.2)) places (iblk m c 0 t) (iblk m c 2 t) := by
  rw [outsAt0_B m c t h0]
  refine Eq.trans ?_ (sout_2_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2) (fun h => h0 ((hcond0_0 t).mp h)))
  with_reducible rfl
theorem B_6 (h0 : ¬t.val % 161 = 0) : (outsAt0 m c t.val t.isLt).2.2.2.2.2.2.1 = VecWindow.put ((outsAt0 m c (t.val - 1) (Nat.lt_of_le_of_lt (Nat.sub_le _ _) t.isLt)).2.2.2.2.2.2.1) ![0, 15] ![32, 800] (k0_pay108 (F := Ideal) (eN (hN (iblk m c 1 t) (iblk m c 4 t) (iblk m c 5 t) (iblk m c 6 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1)) (iblk m c 7 t) (iblk m c 8 t) (iblk m c 9 t) (uB c scM0_3 (Memref.isWhole_whole _) scM0_4 (Memref.isWhole_whole _) scM0_5 (Memref.isWhole_whole _) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1)) ((outsAt0 m c (t.val - 1) (Nat.lt_of_le_of_lt (Nat.sub_le _ _) t.isLt)).2.2.2.2.2.2.2.2.2)) places (iblk m c 0 t)) := by
  rw [outsAt0_B m c t h0]
  refine Eq.trans ?_ (sout_3_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2) (fun h => h0 ((hcond0_0 t).mp h)))
  with_reducible rfl
theorem B_7 (h0 : ¬t.val % 161 = 0) : (outsAt0 m c t.val t.isLt).2.2.2.2.2.2.2.1 = VecWindow.put ((outsAt0 m c (t.val - 1) (Nat.lt_of_le_of_lt (Nat.sub_le _ _) t.isLt)).2.2.2.2.2.2.2.1) ![0, 15] ![32, 800] (k0_pay109 (F := Ideal) (eN (hN (iblk m c 1 t) (iblk m c 4 t) (iblk m c 5 t) (iblk m c 6 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1)) (iblk m c 7 t) (iblk m c 8 t) (iblk m c 9 t) (uB c scM0_3 (Memref.isWhole_whole _) scM0_4 (Memref.isWhole_whole _) scM0_5 (Memref.isWhole_whole _) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1)) ((outsAt0 m c (t.val - 1) (Nat.lt_of_le_of_lt (Nat.sub_le _ _) t.isLt)).2.2.2.2.2.2.2.2.2)) places (iblk m c 0 t) (midAt ((outsAt0 m c (t.val - 1) (Nat.lt_of_le_of_lt (Nat.sub_le _ _) t.isLt)).2.2.2.2.2.2.2.1))) := by
  rw [outsAt0_B m c t h0]
  refine Eq.trans ?_ (sout_4_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2) (fun h => h0 ((hcond0_0 t).mp h)))
  with_reducible rfl
theorem B_9 (h0 : ¬t.val % 161 = 0) : (outsAt0 m c t.val t.isLt).2.2.2.2.2.2.2.2.2 = ((outsAt0 m c (t.val - 1) (Nat.lt_of_le_of_lt (Nat.sub_le _ _) t.isLt)).2.2.2.2.2.2.2.2.2) := by
  rw [outsAt0_B m c t h0]
  refine Eq.trans ?_ (sout_6_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2) (fun h => h0 ((hcond0_0 t).mp h)))
  with_reducible rfl

end

/-- Row `b`'s inputs in the kernel's memory. -/
abbrev dK (b : Fin 32) : ℕ → Fin 512 → EReal := inp (m ((c : Thread nD τ).loc main_arg0)) b

/-- After every point the carried arrays hold the state of every row, and the point's blocks hold its outputs. -/
theorem point (n : ℕ) (hn : n < cfg0.N) (b : Fin 32) :
    Holds (run (pK m c b) (locB (pK m c b)) (dK m c b) (n + 1)) b ((outsAt0 m c n hn).2.2.2.1) ((outsAt0 m c n hn).2.2.2.2.1) ((outsAt0 m c n hn).2.2.2.2.2.1) ((outsAt0 m c n hn).2.2.2.2.2.2.1) ((outsAt0 m c n hn).2.2.2.2.2.2.2.1)
    ∧ (∀ (a : Fin 128) (t : Fin 800), (((outsAt0 m c n hn).2.2.2.2.2.2.2.2.2) (ix3 a b t) : EReal) = (pK m c b).pm a t)
    ∧ (∀ u : Fin 512, (((outsAt0 m c n hn).1) (ix3 0 b u) : EReal) = proj (pK m c b) (run (pK m c b) (locB (pK m c b)) (dK m c b) (n + 1)).h (run (pK m c b) (locB (pK m c b)) (dK m c b) (n + 1)).x u)
    ∧ (∀ i : Fin 101, (((outsAt0 m c n hn).2.1) (ix3 0 b i) : EReal) = logit (pK m c b) (run (pK m c b) (locB (pK m c b)) (dK m c b) (n + 1)).h (run (pK m c b) (locB (pK m c b)) (dK m c b) (n + 1)).x i)
    ∧ ∀ k : Fin 800, (((outsAt0 m c n hn).2.2.1) (ix3 0 b k) : EReal) = (run (pK m c b) (locB (pK m c b)) (dK m c b) (n + 1)).a k := by
  induction n with
  | zero =>
    have h0 : (⟨0, hn⟩ : Fin cfg0.N).val % 161 = 0 := rfl
    have K := links m c ⟨0, hn⟩ b
    have H := holds_zero b
    have hU : ∀ j : Fin 64, j.val ≠ 31 → j.val ≠ 63 → ∀ k, (uA c scM0_3 scM0_4 scM0_5 (ix3 j b k) : EReal) = planeOf (k0_pay8 (F := Ideal)) (k0_pay9 (F := Ideal)) j b k :=
      fun j h1 h2 k => planes_A c scM0_3 scM0_4 scM0_5 j (mem_filled j h1 h2) b k
    have hP : ∀ a k, (pA c (ms0_2 ⟨0, hn⟩) (hs0_2 ⟨0, hn⟩) (ms0_3 ⟨0, hn⟩) (hs0_3 ⟨0, hn⟩) scM0_6 (iblk m c 2 ⟨0, hn⟩) (iblk m c 3 ⟨0, hn⟩) (ix3 a b k) : EReal) = (pK m c b).pm a k :=
      fun a k => (pA_apply c _ _ _ _ _ _ _ a b k).trans (K.l3 a k)
    have hd : ∀ u, (iblk m c 1 ⟨0, hn⟩ (ix3 0 b u) : EReal) = dK m c b 0 u := blk_1 m c ⟨0, hn⟩ b
    have S := holds_step K H _ _ hd hU hP
    rw [run_succ, run_zero]
    refine ⟨?_, fun a k => (congrFun (A_9 m c ⟨0, hn⟩ h0) _).trans (hP a k), fun u => (congrFun (A_0 m c ⟨0, hn⟩ h0) _).trans (out14_step K H _ _ hd hU hP u),
      fun i => (congrFun (A_1 m c ⟨0, hn⟩ h0) _).trans (out15_step K H _ _ hd hU hP i), fun k => (congrFun (A_2 m c ⟨0, hn⟩ h0) _).trans (out16_step K H _ _ hd hU hP k)⟩
    have e3 := A_3 m c ⟨0, hn⟩ h0
    have e4 := A_4 m c ⟨0, hn⟩ h0
    have e5 := A_5 m c ⟨0, hn⟩ h0
    have e6 := A_6 m c ⟨0, hn⟩ h0
    have e7 := A_7 m c ⟨0, hn⟩ h0
    rw [e3, e4, e5, e6, e7]
    exact S
  | succ n ih =>
    have hN : n + 1 < 161 := lt_of_lt_of_eq hn N_eq
    have h0 : ¬ (⟨n + 1, hn⟩ : Fin cfg0.N).val % 161 = 0 := by show ¬ (n + 1) % 161 = 0; omega
    have K := links m c ⟨n + 1, hn⟩ b
    obtain ⟨H, hP, -, -, -⟩ := ih (Nat.lt_of_succ_lt hn)
    have hU := fun (j : Fin 64) (h1 : j.val ≠ 31) (h2 : j.val ≠ 63) (k : Fin 800) =>
      planes_B c scM0_3 (Memref.isWhole_whole _) scM0_4 (Memref.isWhole_whole _) scM0_5 (Memref.isWhole_whole _)
        ((outsAt0 m c n (Nat.lt_of_succ_lt hn)).2.2.2.2.2.2.1) ((outsAt0 m c n (Nat.lt_of_succ_lt hn)).2.2.2.2.2.2.2.1) ((outsAt0 m c n (Nat.lt_of_succ_lt hn)).2.2.2.2.2.2.2.2.1) j (mem_filled j h1 h2) b k
    have hd : ∀ u, (iblk m c 1 ⟨n + 1, hn⟩ (ix3 0 b u) : EReal) = dK m c b (n + 1) u := blk_1 m c ⟨n + 1, hn⟩ b
    have S := holds_step K H _ _ hd hU hP
    rw [run_succ _ _ _ (n + 1)]
    refine ⟨?_, fun a k => (congrFun (B_9 m c ⟨n + 1, hn⟩ h0) _).trans (hP a k), fun u => (congrFun (B_0 m c ⟨n + 1, hn⟩ h0) _).trans (out14_step K H _ _ hd hU hP u),
      fun i => (congrFun (B_1 m c ⟨n + 1, hn⟩ h0) _).trans (out15_step K H _ _ hd hU hP i), fun k => (congrFun (B_2 m c ⟨n + 1, hn⟩ h0) _).trans (out16_step K H _ _ hd hU hP k)⟩
    have e3 := B_3 m c ⟨n + 1, hn⟩ h0
    have e4 := B_4 m c ⟨n + 1, hn⟩ h0
    have e5 := B_5 m c ⟨n + 1, hn⟩ h0
    have e6 := B_6 m c ⟨n + 1, hn⟩ h0
    have e7 := B_7 m c ⟨n + 1, hn⟩ h0
    rw [e3, e4, e5, e6, e7]
    exact S

/-! ## The result arrays -/

/-- The states of row `b`. -/
abbrev qK (b : Fin 32) (n : ℕ) : St := run (pK m c b) (locB (pK m c b)) (dK m c b) n

def res_hid : Vec Ideal S161x32x512 .f32 := fun i => proj (pK m c (i 1)) (qK m c (i 1) ((i 0).val + 1)).h (qK m c (i 1) ((i 0).val + 1)).x (i 2)
def res_log : Vec Ideal S161x32x101 .f32 := fun i => logit (pK m c (i 1)) (qK m c (i 1) ((i 0).val + 1)).h (qK m c (i 1) ((i 0).val + 1)).x (i 2)
def res_att : Vec Ideal S161x32x800 .f32 := fun i => (qK m c (i 1) ((i 0).val + 1)).a (i 2)

theorem at_14 : ∀ t : Fin cfg0.N, win0_14.index t (0 : Fin 3) = t.val ∧ win0_14.index t (1 : Fin 3) = 0 ∧ win0_14.index t (2 : Fin 3) = 0 :=
  (by decide +kernel : ∀ t : Fin grid0.N, _)
theorem flushed_14 (t : Fin cfg0.N) : (dats m 0 c).flushed 14 t = ((cfg0.win 14).blk t).view.read (Elt Ideal) (res_hid m c) := by
  obtain ⟨a0, a1, a2⟩ := at_14 t
  rw [flushed14]
  funext j
  show ((outsAt0 m c t.val t.isLt).1) j = res_hid m c (((cfg0.win 14).blk t).view.emb j)
  have hj : (j : S1x32x512.Idx) = ix3 (0 : Fin 1) (j 1 : Fin 32) (j 2 : Fin 512) := by
    funext a; fin_cases a
    · exact Subsingleton.elim (α := Fin 1) _ _
    · rfl
    · rfl
  have h0 : (j 0).val < 1 := (j 0).isLt
  have e : (((cfg0.win 14).blk t).view.emb j : S161x32x512.Idx) = ix3 (⟨t.val, lt_of_lt_of_eq t.isLt N_eq⟩ : Fin 161) (j 1 : Fin 32) (j 2 : Fin 512) := by
    funext a; apply Fin.ext
    match a with
    | ⟨0, _⟩ => show win0_14.index t (0 : Fin 3) * 1 + 1 * (j 0).val = t.val; omega
    | ⟨1, _⟩ => show win0_14.index t (1 : Fin 3) * 32 + 1 * (j 1).val = (j 1).val; omega
    | ⟨2, _⟩ => show win0_14.index t (2 : Fin 3) * 512 + 1 * (j 2).val = (j 2).val; omega
  exact (congrArg ((outsAt0 m c t.val t.isLt).1) hj).trans (((point m c t.val t.isLt (j 1)).2.2.1 (j 2)).trans (congrArg (res_hid m c) e).symm)
theorem cover_14 (i : S161x32x512.Idx) : ∃ t : Fin cfg0.N, (cfg0.win 14).flush t = true ∧ i ∈ ((cfg0.win 14).blk t).view.set := by
  have h0 : (i 0).val < 161 := (i 0).isLt
  let t : Fin cfg0.N := ⟨(i 0).val, by rw [N_eq]; exact h0⟩
  have ht : t.val = (i 0).val := rfl
  obtain ⟨a0, a1, a2⟩ := at_14 t
  refine ⟨t, flush0_14 t, ?_⟩
  let j : S1x32x512.Idx := ix3 (0 : Fin 1) (i 1) (i 2)
  have h := ((cfg0.win 14).blk t).view.emb_mem_set j
  have e : ((cfg0.win 14).blk t).view.emb j = i := by
    funext a; apply Fin.ext
    match a with
    | ⟨0, _⟩ => show win0_14.index t (0 : Fin 3) * 1 + 1 * 0 = (i 0).val; omega
    | ⟨1, _⟩ => show win0_14.index t (1 : Fin 3) * 32 + 1 * (i 1).val = (i 1).val; omega
    | ⟨2, _⟩ => show win0_14.index t (2 : Fin 3) * 512 + 1 * (i 2).val = (i 2).val; omega
  rwa [e] at h
theorem final_14 : (dats m 0 c).arrAt 14 cfg0.N = res_hid m c :=
  (dats m 0 c).arrAt_eq_of_cover 14 _ (fun t _ => flushed_14 m c t) cover_14

theorem at_15 : ∀ t : Fin cfg0.N, win0_15.index t (0 : Fin 3) = t.val ∧ win0_15.index t (1 : Fin 3) = 0 ∧ win0_15.index t (2 : Fin 3) = 0 :=
  (by decide +kernel : ∀ t : Fin grid0.N, _)
theorem flushed_15 (t : Fin cfg0.N) : (dats m 0 c).flushed 15 t = ((cfg0.win 15).blk t).view.read (Elt Ideal) (res_log m c) := by
  obtain ⟨a0, a1, a2⟩ := at_15 t
  rw [flushed15]
  funext j
  show ((outsAt0 m c t.val t.isLt).2.1) j = res_log m c (((cfg0.win 15).blk t).view.emb j)
  have hj : (j : S1x32x101.Idx) = ix3 (0 : Fin 1) (j 1 : Fin 32) (j 2 : Fin 101) := by
    funext a; fin_cases a
    · exact Subsingleton.elim (α := Fin 1) _ _
    · rfl
    · rfl
  have h0 : (j 0).val < 1 := (j 0).isLt
  have e : (((cfg0.win 15).blk t).view.emb j : S161x32x101.Idx) = ix3 (⟨t.val, lt_of_lt_of_eq t.isLt N_eq⟩ : Fin 161) (j 1 : Fin 32) (j 2 : Fin 101) := by
    funext a; apply Fin.ext
    match a with
    | ⟨0, _⟩ => show win0_15.index t (0 : Fin 3) * 1 + 1 * (j 0).val = t.val; omega
    | ⟨1, _⟩ => show win0_15.index t (1 : Fin 3) * 32 + 1 * (j 1).val = (j 1).val; omega
    | ⟨2, _⟩ => show win0_15.index t (2 : Fin 3) * 101 + 1 * (j 2).val = (j 2).val; omega
  exact (congrArg ((outsAt0 m c t.val t.isLt).2.1) hj).trans (((point m c t.val t.isLt (j 1)).2.2.2.1 (j 2)).trans (congrArg (res_log m c) e).symm)
theorem cover_15 (i : S161x32x101.Idx) : ∃ t : Fin cfg0.N, (cfg0.win 15).flush t = true ∧ i ∈ ((cfg0.win 15).blk t).view.set := by
  have h0 : (i 0).val < 161 := (i 0).isLt
  let t : Fin cfg0.N := ⟨(i 0).val, by rw [N_eq]; exact h0⟩
  have ht : t.val = (i 0).val := rfl
  obtain ⟨a0, a1, a2⟩ := at_15 t
  refine ⟨t, flush0_15 t, ?_⟩
  let j : S1x32x101.Idx := ix3 (0 : Fin 1) (i 1) (i 2)
  have h := ((cfg0.win 15).blk t).view.emb_mem_set j
  have e : ((cfg0.win 15).blk t).view.emb j = i := by
    funext a; apply Fin.ext
    match a with
    | ⟨0, _⟩ => show win0_15.index t (0 : Fin 3) * 1 + 1 * 0 = (i 0).val; omega
    | ⟨1, _⟩ => show win0_15.index t (1 : Fin 3) * 32 + 1 * (i 1).val = (i 1).val; omega
    | ⟨2, _⟩ => show win0_15.index t (2 : Fin 3) * 101 + 1 * (i 2).val = (i 2).val; omega
  rwa [e] at h
theorem final_15 : (dats m 0 c).arrAt 15 cfg0.N = res_log m c :=
  (dats m 0 c).arrAt_eq_of_cover 15 _ (fun t _ => flushed_15 m c t) cover_15

theorem at_16 : ∀ t : Fin cfg0.N, win0_16.index t (0 : Fin 3) = t.val ∧ win0_16.index t (1 : Fin 3) = 0 ∧ win0_16.index t (2 : Fin 3) = 0 :=
  (by decide +kernel : ∀ t : Fin grid0.N, _)
theorem flushed_16 (t : Fin cfg0.N) : (dats m 0 c).flushed 16 t = ((cfg0.win 16).blk t).view.read (Elt Ideal) (res_att m c) := by
  obtain ⟨a0, a1, a2⟩ := at_16 t
  rw [flushed16]
  funext j
  show ((outsAt0 m c t.val t.isLt).2.2.1) j = res_att m c (((cfg0.win 16).blk t).view.emb j)
  have hj : (j : S1x32x800.Idx) = ix3 (0 : Fin 1) (j 1 : Fin 32) (j 2 : Fin 800) := by
    funext a; fin_cases a
    · exact Subsingleton.elim (α := Fin 1) _ _
    · rfl
    · rfl
  have h0 : (j 0).val < 1 := (j 0).isLt
  have e : (((cfg0.win 16).blk t).view.emb j : S161x32x800.Idx) = ix3 (⟨t.val, lt_of_lt_of_eq t.isLt N_eq⟩ : Fin 161) (j 1 : Fin 32) (j 2 : Fin 800) := by
    funext a; apply Fin.ext
    match a with
    | ⟨0, _⟩ => show win0_16.index t (0 : Fin 3) * 1 + 1 * (j 0).val = t.val; omega
    | ⟨1, _⟩ => show win0_16.index t (1 : Fin 3) * 32 + 1 * (j 1).val = (j 1).val; omega
    | ⟨2, _⟩ => show win0_16.index t (2 : Fin 3) * 800 + 1 * (j 2).val = (j 2).val; omega
  exact (congrArg ((outsAt0 m c t.val t.isLt).2.2.1) hj).trans (((point m c t.val t.isLt (j 1)).2.2.2.2 (j 2)).trans (congrArg (res_att m c) e).symm)
theorem cover_16 (i : S161x32x800.Idx) : ∃ t : Fin cfg0.N, (cfg0.win 16).flush t = true ∧ i ∈ ((cfg0.win 16).blk t).view.set := by
  have h0 : (i 0).val < 161 := (i 0).isLt
  let t : Fin cfg0.N := ⟨(i 0).val, by rw [N_eq]; exact h0⟩
  have ht : t.val = (i 0).val := rfl
  obtain ⟨a0, a1, a2⟩ := at_16 t
  refine ⟨t, flush0_16 t, ?_⟩
  let j : S1x32x800.Idx := ix3 (0 : Fin 1) (i 1) (i 2)
  have h := ((cfg0.win 16).blk t).view.emb_mem_set j
  have e : ((cfg0.win 16).blk t).view.emb j = i := by
    funext a; apply Fin.ext
    match a with
    | ⟨0, _⟩ => show win0_16.index t (0 : Fin 3) * 1 + 1 * 0 = (i 0).val; omega
    | ⟨1, _⟩ => show win0_16.index t (1 : Fin 3) * 32 + 1 * (i 1).val = (i 1).val; omega
    | ⟨2, _⟩ => show win0_16.index t (2 : Fin 3) * 800 + 1 * (i 2).val = (i 2).val; omega
  rwa [e] at h
theorem final_16 : (dats m 0 c).arrAt 16 cfg0.N = res_att m c :=
  (dats m 0 c).arrAt_eq_of_cover 16 _ (fun t _ => flushed_16 m c t) cover_16

end Cert.Proof.DecoderValue
-- ==== Proof.DecoderRefRow.lean ====
/- Hand-written, untrusted: THE DECODER'S REFERENCE, PIECE BY PIECE — every array a trip of its loop works out, over plain arrays,
   with what each of its elements is. -/
module

public import proofs.«01_k».proof.Proof.Gen.DecoderRefIdeal.Run
public import proofs.«01_k».proof.Proof.Decode
public import Idealize.ShloMosaic.Lib.DynamicIndex
public import Idealize.ShloMosaic.Lib.KernelVsHost
public import Idealize.ShloMosaic.Lib.ValueIdxCore

@[expose] public section

set_option maxRecDepth 16384

noncomputable section

namespace Cert.Proof.DecoderRefValue

open Cert.DecoderRefIdeal Cert.DecoderRefIdeal.Gen Cert.DecoderRefIdeal.Value Idealize.ShloMosaic Idealize.ShloMosaic.TcCoe Idealize.SL.Sem
open Cert.Proof.Decode

/-! ## The cell -/

/-- The start of the slice that trip `k` reads or writes. -/
def start (k : IVec S_ 32) : Fin 3 → Int :=
  fun a => (((![k, constantI S_ 32 0#32, constantI S_ 32 0#32] : Fin 3 → IVec S_ 32)) a (Shape.Idx.first h_S_)).toInt

theorem start_at (n : ℕ) (hn : n < 161) (a : Fin 3) : start (fun _ => BitVec.ofNat 32 n) a = ((![n, 0, 0] : Fin 3 → ℕ) a : ℤ) := by
  match a with
  | ⟨0, _⟩ => exact toInt_ofNat_of_lt (show n < 2 ^ 31 by omega)
  | ⟨1, _⟩ => rfl
  | ⟨2, _⟩ => rfl

theorem slices_at (N : ℕ) (n : ℕ) (hn : n < 161) : (⟨3, ![161, 32, N]⟩ : Shape).Slices ![n, 0, 0] ⟨3, ![1, 32, N]⟩ :=
  ⟨rfl, fun a => by
    match a with
    | ⟨0, _⟩ => exact (show n + 1 ≤ 161 by omega)
    | ⟨1, _⟩ => exact (show 0 + 32 ≤ 32 by omega)
    | ⟨2, _⟩ => exact (show 0 + N ≤ N by omega)⟩

/-- The inputs of a trip. -/
def sliceR (d : FVec Ideal S161x32x512 .f32) (k : IVec S_ 32) : FVec Ideal S32x512 .f32 :=
  shapeCast S32x512 (Host.dynamicSlice S1x32x512 d (start k) sliceFits_S161x32x512_S1x32x512) shapeCasts_S1x32x512_S32x512

theorem sliceR_apply (d : FVec Ideal S161x32x512 .f32) (n : ℕ) (hn : n < 161) (b : Fin 32) (u : Fin 512) :
    (sliceR d (fun _ => BitVec.ofNat 32 n) (ix2 b u) : EReal) = d (ix3 ⟨n, hn⟩ b u) := by
  unfold sliceR
  rw [Host.dynamicSlice_eq_extractStridedSlice S1x32x512 d (start (fun _ => BitVec.ofNat 32 n)) ![n, 0, 0] _ (slices_at 512 n hn) (start_at n hn)]
  simp only [pointwise]
  simp [Nat.zero_add, Fin.eta]

/-- One array beside another. -/
def catR (x y : FVec Ideal S32x512 .f32) : FVec Ideal S32x1024 .f32 :=
  concatenate S32x1024 1 [⟨S32x512, x⟩, ⟨S32x512, y⟩] concatenates_S32x512_S32x512_S32x1024_d1

theorem catR_apply (x y : FVec Ideal S32x512 .f32) (b : Fin 32) (k : Fin 1024) :
    (catR x y (ix2 b k) : EReal) = both (fun u => x (ix2 b u)) (fun u => y (ix2 b u)) k := by
  unfold catR both
  refine (concatenate_pair_apply _ _ _ _ _).trans ?_
  by_cases h : k.val < 512
  · rw [dif_pos h]
    refine (dif_pos (show k.val < 512 from h)).trans ?_
    exact congrArg x (by funext k; fin_cases k <;> rfl)
  · rw [dif_neg h]
    refine (dif_neg (show ¬ k.val < 512 from h)).trans ?_
    exact congrArg y (by funext k; fin_cases k <;> rfl)

/-- The gates before their functions. -/
def zR (x ctx h : FVec Ideal S32x512 .f32) (wi : FVec Ideal S2048x1024 .f32) (wh : FVec Ideal S2048x512 .f32) (bi : FVec Ideal S2048 .f32) : FVec Ideal S32x2048 .f32 :=
  addf (addf (Host.dotGeneral dot_S32x1024_S1024x2048_S32x2048_1_0_0_1_n_n none (catR x ctx) (transpose S1024x2048 [1, 0] wi transposes_S2048x1024_S1024x2048_1_0))
    (Host.dotGeneral dot_S32x512_S512x2048_S32x2048_1_0_0_1_n_n none h (transpose S512x2048 [1, 0] wh transposes_S2048x512_S512x2048_1_0)))
    (broadcastInDim S32x2048 ![0, 1] bcast_S1x2048_S32x2048_0_1 (broadcastInDim S1x2048 ![1] bcast_S2048_S1x2048_1 bi))

theorem zR_apply (x ctx h : FVec Ideal S32x512 .f32) (wi : FVec Ideal S2048x1024 .f32) (wh : FVec Ideal S2048x512 .f32) (bi : FVec Ideal S2048 .f32) (b : Fin 32) (g : Fin 2048) :
    (zR x ctx h wi wh bi (ix2 b g) : EReal)
      = ∑ k : Fin 1024, both (fun u => x (ix2 b u)) (fun u => ctx (ix2 b u)) k * wi (ix2 g k) + ∑ k : Fin 512, (h (ix2 b k) : EReal) * wh (ix2 g k) + bi (ix1 g) := by
  unfold zR
  simp only [pointwise, catR_apply]
  simp [Nat.zero_add, Fin.eta]

/-- One gate's logistic, as the reference spells it. -/
def sgR (p : FVec Ideal S32x512 .f32) : FVec Ideal S32x512 .f32 :=
  Host.divf (broadcastInDim S32x512 ![] bcast_S_S32x512 (constant S_ .f32 0x3F800000#32))
    (addf (broadcastInDim S32x512 ![] bcast_S_S32x512 (constant S_ .f32 0x3F800000#32)) (Host.exp (Host.negf p)))

theorem sgR_apply (p : FVec Ideal S32x512 .f32) (i : S32x512.Idx) : (sgR p i : EReal) = Ideal.logistic (p i) := by
  unfold sgR Ideal.logistic
  simp only [pointwise]

/-- The new cell array. -/
def cellR (z : FVec Ideal S32x2048 .f32) (c : FVec Ideal S32x512 .f32) : FVec Ideal S32x512 .f32 :=
  addf (mulf (sgR (extractStridedSlice S32x512 ![0, 512] z slices_S32x2048_S32x512_0_512)) c)
    (mulf (sgR (extractStridedSlice S32x512 ![0, 0] z slices_S32x2048_S32x512_0_0)) (Host.tanh (extractStridedSlice S32x512 ![0, 1024] z slices_S32x2048_S32x512_0_1024)))

theorem cellR_apply (z : FVec Ideal S32x2048 .f32) (c : FVec Ideal S32x512 .f32) (b : Fin 32) (u : Fin 512) :
    (cellR z c (ix2 b u) : EReal) = newC (fun g => z (ix2 b g)) (fun u => c (ix2 b u)) u := by
  unfold cellR newC
  simp only [pointwise, sgR_apply]
  simp [Nat.zero_add, Fin.eta]

/-- The new hidden array. -/
def hidR (z : FVec Ideal S32x2048 .f32) (c : FVec Ideal S32x512 .f32) : FVec Ideal S32x512 .f32 :=
  mulf (sgR (extractStridedSlice S32x512 ![0, 1536] z slices_S32x2048_S32x512_0_1536)) (Host.tanh (cellR z c))

theorem hidR_apply (z : FVec Ideal S32x2048 .f32) (c : FVec Ideal S32x512 .f32) (b : Fin 32) (u : Fin 512) :
    (hidR z c (ix2 b u) : EReal) = newH (fun g => z (ix2 b g)) (fun u => c (ix2 b u)) u := by
  unfold hidR newH
  simp only [pointwise, sgR_apply, cellR_apply]
  simp [Nat.zero_add, Fin.eta]

/-! ## The windows -/

/-- Frame `t` plus tap `k`. -/
def sumP : IVec S800x31 32 := addi (broadcastInDim S800x31 ![0, 1] bcast_S800x1_S800x31_0_1 (broadcastInDim S800x1 ![0] bcast_S800_S800x1_0 (iotaInDim S800 32 0)))
  (broadcastInDim S800x31 ![0, 1] bcast_S1x31_S800x31_0_1 (broadcastInDim S1x31 ![1] bcast_S31_S1x31_1 (iotaInDim S31 32 0)))

/-- The places the windows read. -/
def placesR : IVec S800x31x1 32 :=
  broadcastInDim S800x31x1 ![0, 1] bcast_S800x31_S800x31x1_0_1 (select (cmpi .slt sumP (broadcastInDim S800x31 ![] bcast_S_S800x31 (constantI S_ 32 0#32)))
    (addi sumP (broadcastInDim S800x31 ![] bcast_S_S800x31 (constantI S_ 32 830#32))) sumP)

theorem sumP_apply (t : Fin 800) (k : Fin 31) : sumP (ix2 t k) = BitVec.ofNat 32 (t.val + k.val) := by
  unfold sumP
  simp only [pointwise]
  rw [BitVec.ofNat_add]
  rfl

theorem place_toInt (n : ℕ) (hn : n < 830) : (Scalar.select (IntOp.cmpi CmpIPredicate.slt (BitVec.ofNat 32 n) 0#32) (BitVec.ofNat 32 n + 830#32) (BitVec.ofNat 32 n)).toInt.toNat = n := by
  have e : (BitVec.ofNat 32 n).toInt = (n : ℤ) := toInt_ofNat_of_lt (show n < 2 ^ 31 by omega)
  have h : ¬ (BitVec.ofNat 32 n).toInt < (0#32 : BitVec 32).toInt := by rw [e]; simp
  have hs : Scalar.select (IntOp.cmpi CmpIPredicate.slt (BitVec.ofNat 32 n) 0#32) (BitVec.ofNat 32 n + 830#32) (BitVec.ofNat 32 n) = BitVec.ofNat 32 n := by
    have hd : IntOp.cmpi CmpIPredicate.slt (BitVec.ofNat 32 n) 0#32 = 0#1 := by
      show BitVec.ofBool (decide ((BitVec.ofNat 32 n).toInt < (0#32 : BitVec 32).toInt)) = 0#1
      rw [decide_eq_false h]
      rfl
    rw [hd]
    rfl
  rw [hs, e]
  rfl

theorem placesR_apply (t : Fin 800) (k : Fin 31) : (placesR (ix3 t k 0)).toInt.toNat = t.val + k.val := by
  refine Eq.trans ?_ (place_toInt (t.val + k.val) (by omega))
  rw [← sumP_apply]
  unfold placesR
  simp only [pointwise]
  rfl

/-- The weights and their running sum, one above the other, padded. -/
def catW (a s : FVec Ideal S32x800 .f32) : FVec Ideal S32x2x800 .f32 :=
  concatenate S32x2x800 1 [⟨S32x1x800, (broadcastInDim S32x1x800 ![0, 2] bcast_S32x800_S32x1x800_0_2 a)⟩, ⟨S32x1x800, (broadcastInDim S32x1x800 ![0, 2] bcast_S32x800_S32x1x800_0_2 s)⟩]
    concatenates_S32x1x800_S32x1x800_S32x2x800_d1
def padR (a s : FVec Ideal S32x800 .f32) : FVec Ideal S32x2x830 .f32 :=
  pad S32x2x830 ![0, 0, 15] ![0, 0, 15] ![0, 0, 0] (catW a s) (sitofp .f32 (constantI S_ 32 0#32)) pads_S32x2x800_S32x2x830_000_000_15150 h_S_

theorem up_apply (a : FVec Ideal S32x800 .f32) (b : Fin 32) (t : Fin 800) :
    (broadcastInDim S32x1x800 ![0, 2] bcast_S32x800_S32x1x800_0_2 a (ix3 b 0 t) : EReal) = a (ix2 b t) := by
  simp only [pointwise]
  first | done | rfl | simp

theorem catW_apply (a s : FVec Ideal S32x800 .f32) (b : Fin 32) (q : Fin 2) (t : Fin 800) :
    (catW a s (ix3 b q t) : EReal) = if q = 0 then a (ix2 b t) else s (ix2 b t) := by
  unfold catW
  refine (concatenate_pair_apply _ _ _ _ _).trans ?_
  by_cases hq : q = 0
  · rw [if_pos hq]
    subst hq
    refine (dif_pos (show (0 : ℕ) < 1 from Nat.one_pos)).trans ?_
    exact Eq.trans (congrArg _ (by funext k; fin_cases k <;> rfl : _ = ix3 b 0 t)) (up_apply a b t)
  · rw [if_neg hq]
    obtain rfl : q = 1 := by omega
    refine (dif_neg (show ¬ (1 : ℕ) < 1 from Nat.lt_irrefl 1)).trans ?_
    exact Eq.trans (congrArg _ (by funext k; fin_cases k <;> rfl : _ = ix3 b 0 t)) (up_apply s b t)

theorem padR_apply (a s : FVec Ideal S32x800 .f32) (b : Fin 32) (q : Fin 2) (j : Fin 830) :
    (padR a s (ix3 b q j) : EReal) = if h : 15 ≤ j.val ∧ j.val < 815 then catW a s (ix3 b q ⟨j.val - 15, by omega⟩) else (0 : EReal) := by
  unfold padR
  by_cases h : 15 ≤ j.val ∧ j.val < 815
  · rw [dif_pos h]
    refine pad_apply_of_inside _ _ _ (catW a s) _ _ _ _ (ix3 b q ⟨j.val - 15, by omega⟩) (fun a => ?_)
    match a with
    | ⟨0, _⟩ => show b.val = 0 + b.val * (0 + 1); omega
    | ⟨1, _⟩ => show q.val = 0 + q.val * (0 + 1); omega
    | ⟨2, _⟩ => show j.val = 15 + (j.val - 15) * (0 + 1); omega
  · rw [dif_neg h]
    refine (pad_apply_of_not_inside _ _ _ (catW a s) _ _ _ _ (2 : Fin 3) ?_).trans ?_
    · show ¬ (15 ≤ j.val ∧ (j.val - 15) % (0 + 1) = 0 ∧ (j.val - 15) / (0 + 1) < 800)
      omega
    · show ((((0#32 : BitVec 32).toInt : ℤ) : ℝ) : EReal) = 0
      simp

/-- The windows. -/
def winR (a s : FVec Ideal S32x800 .f32) : FVec Ideal S32x2x800x31 .f32 :=
  Host.gather gather_S32x2x830_S800x31x1_S32x2x800x31_01_2_n_n_2_2_3221 (padR a s) placesR

theorem gather_at (x : FVec Ideal S32x2x830 .f32) (idx : IVec S800x31x1 32) (b : Fin 32) (q : Fin 2) (t : Fin 800) (k : Fin 31) :
    (Host.gather gather_S32x2x830_S800x31x1_S32x2x800x31_01_2_n_n_2_2_3221 x idx (ix4 b q t k) : EReal)
      = x (ix3 b q ⟨min (idx (ix3 t k 0)).toInt.toNat (830 - 1), by omega⟩) := by
  unfold Host.gather
  congr 1
  funext a
  refine Fin.ext ?_
  show gather_S32x2x830_S800x31x1_S32x2x800x31_01_2_n_n_2_2_3221.start (ix4 b q t k) idx a + gather_S32x2x830_S800x31x1_S32x2x800x31_01_2_n_n_2_2_3221.batchCoord (ix4 b q t k) a
    + gather_S32x2x830_S800x31x1_S32x2x800x31_01_2_n_n_2_2_3221.offCoord (ix4 b q t k) a = _
  rw [GatherDims.batchCoord_eq_zero _ _ _ (fun h => List.not_mem_nil (show a ∈ ([] : List (Fin 3)) from h)), Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.offCoord
    rw [dif_neg (show ¬ (0 : Fin 3) ∈ gather_S32x2x830_S800x31x1_S32x2x800x31_01_2_n_n_2_2_3221.startIndexMap by simp [gather_S32x2x830_S800x31x1_S32x2x800x31_01_2_n_n_2_2_3221]),
      dif_pos (show (0 : Fin 3) ∈ gather_S32x2x830_S800x31x1_S32x2x800x31_01_2_n_n_2_2_3221.sKept from (GatherDims.mem_sKept _ _).mpr ⟨by simp [gather_S32x2x830_S800x31x1_S32x2x800x31_01_2_n_n_2_2_3221], by simp [gather_S32x2x830_S800x31x1_S32x2x800x31_01_2_n_n_2_2_3221]⟩)]
    simp only [Nat.zero_add]
    rfl
  · unfold GatherDims.start GatherDims.offCoord
    rw [dif_neg (show ¬ (1 : Fin 3) ∈ gather_S32x2x830_S800x31x1_S32x2x800x31_01_2_n_n_2_2_3221.startIndexMap by simp [gather_S32x2x830_S800x31x1_S32x2x800x31_01_2_n_n_2_2_3221]),
      dif_pos (show (1 : Fin 3) ∈ gather_S32x2x830_S800x31x1_S32x2x800x31_01_2_n_n_2_2_3221.sKept from (GatherDims.mem_sKept _ _).mpr ⟨by simp [gather_S32x2x830_S800x31x1_S32x2x800x31_01_2_n_n_2_2_3221], by simp [gather_S32x2x830_S800x31x1_S32x2x800x31_01_2_n_n_2_2_3221]⟩)]
    simp only [Nat.zero_add]
    rfl
  · rw [GatherDims.offCoord_eq_zero _ _ _ (fun h => ((GatherDims.mem_sKept _ _).mp h).1 (List.mem_singleton.mpr rfl)), Nat.add_zero]
    unfold GatherDims.start
    rw [dif_pos (show (2 : Fin 3) ∈ gather_S32x2x830_S800x31x1_S32x2x800x31_01_2_n_n_2_2_3221.startIndexMap from List.mem_singleton.mpr rfl)]
    have hsi : gather_S32x2x830_S800x31x1_S32x2x800x31_01_2_n_n_2_2_3221.siIdx (ix4 b q t k) ⟨List.idxOf (2 : Fin 3) gather_S32x2x830_S800x31x1_S32x2x800x31_01_2_n_n_2_2_3221.startIndexMap,
        List.idxOf_lt_length_iff.2 (List.mem_singleton.mpr rfl)⟩ = ix3 t k 0 := by
      funext e; refine Fin.ext ?_
      match e with
      | ⟨0, _⟩ => rfl
      | ⟨1, _⟩ => rfl
      | ⟨2, _⟩ => rfl
    exact congrArg (fun k => min (idx k).toInt.toNat (830 - 1)) hsi

theorem winR_apply (a s : FVec Ideal S32x800 .f32) (b : Fin 32) (q : Fin 2) (t : Fin 800) (k : Fin 31) :
    (winR a s (ix4 b q t k) : EReal) = win (if q = 0 then fun t => a (ix2 b t) else fun t => s (ix2 b t)) t k := by
  unfold winR
  refine (gather_at _ _ b q t k).trans ?_
  have e : (⟨min (placesR (ix3 t k 0)).toInt.toNat (830 - 1), by omega⟩ : Fin 830) = ⟨t.val + k.val, by omega⟩ :=
    Fin.ext (by show min (placesR (ix3 t k 0)).toInt.toNat (830 - 1) = t.val + k.val; rw [placesR_apply]; omega)
  rw [e, padR_apply]
  unfold win
  by_cases h : 15 ≤ t.val + k.val ∧ t.val + k.val < 815
  · rw [dif_pos h, dif_pos h, catW_apply]
    by_cases hq : q = 0
    · rw [if_pos hq, if_pos hq]
    · rw [if_neg hq, if_neg hq]
  · rw [dif_neg h, dif_neg h]

/-! ## The energies -/

/-- The filters applied to the windows. -/
def convR (cv : FVec Ideal S32x2x31 .f32) (w : FVec Ideal S32x2x800x31 .f32) : FVec Ideal S32x32x800 .f32 :=
  Host.dotGeneral dot_S32x2x31_S32x2x800x31_S32x32x800_12_13_0_02_n_n none cv w

theorem convR_apply (cv : FVec Ideal S32x2x31 .f32) (w : FVec Ideal S32x2x800x31 .f32) (f : Fin 32) (b : Fin 32) (t : Fin 800) :
    (convR cv w (ix3 f b t) : EReal) = ∑ q : Fin 2, ∑ k : Fin 31, (cv (ix3 f q k) : EReal) * w (ix4 b q t k) := by
  unfold convR
  simp only [pointwise]
  first | done | rfl | exact zero_add _ | simp

/-- The location terms. -/
def locR (lw : FVec Ideal S128x32 .f32) (x : FVec Ideal S32x32x800 .f32) : FVec Ideal S32x800x128 .f32 :=
  Host.dotGeneral dot_S32x800x32_S32x128_S32x800x128_2_0_01_1_n_n none
    (transpose S32x800x32 [0, 2, 1] (transpose S32x32x800 [1, 0, 2] x transposes_S32x32x800_S32x32x800_1_0_2) transposes_S32x32x800_S32x800x32_0_2_1)
    (transpose S32x128 [1, 0] lw transposes_S128x32_S32x128_1_0)

theorem locR_apply (lw : FVec Ideal S128x32 .f32) (x : FVec Ideal S32x32x800 .f32) (b : Fin 32) (t : Fin 800) (a : Fin 128) :
    (locR lw x (ix3 b t a) : EReal) = ∑ f : Fin 32, (x (ix3 f b t) : EReal) * lw (ix2 a f) := by
  unfold locR
  simp only [pointwise]
  first | done | rfl | exact zero_add _ | simp

/-- The queries. -/
def qryR (h : FVec Ideal S32x512 .f32) (qw : FVec Ideal S128x512 .f32) : FVec Ideal S32x800x128 .f32 :=
  broadcastInDim S32x800x128 ![0, 1, 2] bcast_S32x1x128_S32x800x128_0_1_2 (broadcastInDim S32x1x128 ![0, 2] bcast_S32x128_S32x1x128_0_2
    (Host.dotGeneral dot_S32x512_S512x128_S32x128_1_0_0_1_n_n none h (transpose S512x128 [1, 0] qw transposes_S128x512_S512x128_1_0)))

theorem qryR_apply (h : FVec Ideal S32x512 .f32) (qw : FVec Ideal S128x512 .f32) (b : Fin 32) (t : Fin 800) (a : Fin 128) :
    (qryR h qw (ix3 b t a) : EReal) = ∑ k : Fin 512, (h (ix2 b k) : EReal) * qw (ix2 a k) := by
  unfold qryR
  simp only [pointwise]
  simp [Nat.zero_add, Fin.eta]

/-- The energies. -/
def enR (q l pm : FVec Ideal S32x800x128 .f32) (v : FVec Ideal S1x128 .f32) : FVec Ideal S32x800 .f32 :=
  shapeCast S32x800 (Host.dotGeneral dot_S32x800x128_S128x1_S32x800x1_2_0_01_1_n_n none (Host.tanh (addf (addf q l) pm)) (transpose S128x1 [1, 0] v transposes_S1x128_S128x1_1_0))
    shapeCasts_S32x800x1_S32x800

theorem enR_apply (q l pm : FVec Ideal S32x800x128 .f32) (v : FVec Ideal S1x128 .f32) (b : Fin 32) (t : Fin 800) :
    (enR q l pm v (ix2 b t) : EReal) = ∑ a : Fin 128, Ideal.tanh ((q (ix3 b t a) : EReal) + l (ix3 b t a) + pm (ix3 b t a)) * v (ix2 0 a) := by
  unfold enR
  simp only [pointwise]
  simp [Nat.zero_add, Fin.eta]

/-- The masked energies. -/
def mkR (k : IVec S32x800 1) (e : FVec Ideal S32x800 .f32) : FVec Ideal S32x800 .f32 :=
  select k (broadcastInDim S32x800 ![] bcast_S_S32x800 (id (constant (F := Ideal) S_ .f32 0xCE6E6B28#32))) e

theorem mkR_apply (k : IVec S32x800 1) (e : FVec Ideal S32x800 .f32) (b : Fin 32) (t : Fin 800) :
    (mkR k e (ix2 b t) : EReal) = Scalar.select (k (ix2 b t)) (Ideal.ofBits FTy.f32 0xCE6E6B28#32) (e (ix2 b t)) := by
  unfold mkR
  simp only [pointwise, id]

/-! ## The weights -/

/-- The largest energy of every row. -/
def topR (e : FVec Ideal S32x800 .f32) : FVec Ideal S32 .f32 :=
  maximumf (broadcastInDim S32 ![] bcast_S_S32 (constant (F := Ideal) S_ .f32 0xFF800000#32)) (Host.reduce FloatOps.maximumf e (constant (F := Ideal) S_ .f32 0xFF800000#32) reducesTo_S32x800_S32_d1 h_S_)

theorem topR_apply (e : FVec Ideal S32x800 .f32) (b : Fin 32) : (topR e (ix1 b) : EReal) = top fun t => e (ix2 b t) := by
  unfold topR top
  simp only [pointwise]
  exact max_eq_right ((Finset.le_fold_max _).2 (Or.inl le_rfl))

/-- The powers. -/
def expR (e : FVec Ideal S32x800 .f32) : FVec Ideal S32x800 .f32 :=
  Host.exp (subf e (broadcastInDim S32x800 ![0, 1] bcast_S32x1_S32x800_0_1 (broadcastInDim S32x1 ![0] bcast_S32_S32x1_0 (topR e))))

theorem expR_apply (e : FVec Ideal S32x800 .f32) (b : Fin 32) (t : Fin 800) : (expR e (ix2 b t) : EReal) = Ideal.exp ((e (ix2 b t) : EReal) - top fun t => e (ix2 b t)) := by
  unfold expR
  rw [← topR_apply]
  simp only [pointwise]
  first | done | rfl | simp

/-- The powers over their sum. -/
def wtR (x : FVec Ideal S32x800 .f32) : FVec Ideal S32x800 .f32 :=
  Host.divf x (broadcastInDim S32x800 ![0, 1] bcast_S32x1_S32x800_0_1 (broadcastInDim S32x1 ![0] bcast_S32_S32x1_0
    (Host.reduceAdd x (constant (F := Ideal) S_ .f32 0x00000000#32) reducesTo_S32x800_S32_d1 h_S_)))

theorem wtR_apply (x : FVec Ideal S32x800 .f32) (b : Fin 32) (t : Fin 800) : (wtR x (ix2 b t) : EReal) = Ideal.div (x (ix2 b t)) (∑ k : Fin 800, (x (ix2 b k) : EReal)) := by
  unfold wtR
  simp only [pointwise]
  first | done | rfl | simp

/-- The contexts. -/
def cxR (a : FVec Ideal S32x800 .f32) (mem : FVec Ideal S32x800x512 .f32) : FVec Ideal S32x512 .f32 :=
  Host.dotGeneral dot_S32x800_S32x800x512_S32x512_1_1_n_2_0_0 none a mem

theorem cxR_apply (a : FVec Ideal S32x800 .f32) (mem : FVec Ideal S32x800x512 .f32) (b : Fin 32) (k : Fin 512) :
    (cxR a mem (ix2 b k) : EReal) = ∑ t : Fin 800, (a (ix2 b t) : EReal) * mem (ix3 b t k) := by
  unfold cxR
  simp only [pointwise]
  first | done | rfl | exact zero_add _ | simp

/-! ## The outputs -/

/-- The projected hidden arrays. -/
def prR (h x : FVec Ideal S32x512 .f32) (pw : FVec Ideal S512x1024 .f32) (pb : FVec Ideal S512 .f32) : FVec Ideal S32x512 .f32 :=
  maximumf (addf (Host.dotGeneral dot_S32x1024_S1024x512_S32x512_1_0_0_1_n_n none (catR h x) (transpose S1024x512 [1, 0] pw transposes_S512x1024_S1024x512_1_0))
    (broadcastInDim S32x512 ![0, 1] bcast_S1x512_S32x512_0_1 (broadcastInDim S1x512 ![1] bcast_S512_S1x512_1 pb))) (broadcastInDim S32x512 ![] bcast_S_S32x512 (constant S_ .f32 0x00000000#32))

theorem prR_apply (h x : FVec Ideal S32x512 .f32) (pw : FVec Ideal S512x1024 .f32) (pb : FVec Ideal S512 .f32) (b : Fin 32) (j : Fin 512) :
    (prR h x pw pb (ix2 b j) : EReal) = max (∑ k : Fin 1024, both (fun u => h (ix2 b u)) (fun u => x (ix2 b u)) k * pw (ix2 j k) + pb (ix1 j)) 0 := by
  unfold prR
  simp only [pointwise, catR_apply]
  simp [Nat.zero_add, Fin.eta]

/-- The logits. -/
def lgR (y : FVec Ideal S32x512 .f32) (sw : FVec Ideal S101x512 .f32) (sb : FVec Ideal S101 .f32) : FVec Ideal S32x101 .f32 :=
  addf (Host.dotGeneral dot_S32x512_S512x101_S32x101_1_0_0_1_n_n none y (transpose S512x101 [1, 0] sw transposes_S101x512_S512x101_1_0))
    (broadcastInDim S32x101 ![0, 1] bcast_S1x101_S32x101_0_1 (broadcastInDim S1x101 ![1] bcast_S101_S1x101_1 sb))

theorem lgR_apply (y : FVec Ideal S32x512 .f32) (sw : FVec Ideal S101x512 .f32) (sb : FVec Ideal S101 .f32) (b : Fin 32) (i : Fin 101) :
    (lgR y sw sb (ix2 b i) : EReal) = ∑ j : Fin 512, (y (ix2 b j) : EReal) * sw (ix2 i j) + sb (ix1 i) := by
  unfold lgR
  simp only [pointwise]
  simp [Nat.zero_add, Fin.eta]

/-- A trip's write to the outputs. -/
def put512 (y : FVec Ideal S161x32x512 .f32) (k : IVec S_ 32) (o : FVec Ideal S32x512 .f32) : FVec Ideal S161x32x512 .f32 :=
  Host.dynamicUpdateSlice y (broadcastInDim S1x32x512 ![1, 2] bcast_S32x512_S1x32x512_1_2 o) (start k) updateFits_S161x32x512_S1x32x512

theorem put512_apply (y : FVec Ideal S161x32x512 .f32) (n : ℕ) (hn : n < 161) (o : FVec Ideal S32x512 .f32) (t : Fin 161) (b : Fin 32) (u : Fin 512) :
    (put512 y (fun _ => BitVec.ofNat 32 n) o (ix3 t b u) : EReal) = if t.val = n then o (ix2 b u) else y (ix3 t b u) := by
  unfold put512
  refine (congrFun (Host.dynamicUpdateSlice_eq_updateSlice y _ (start (fun _ => BitVec.ofNat 32 n)) updateFits_S161x32x512_S1x32x512 ![n, 0, 0]
    (fun a => ?_) (slices_at 512 n hn)) _).trans ?_
  · rw [start_at n hn]
    match a with
    | ⟨0, _⟩ => show (min (max (n : ℤ) 0) 160).toNat = n; omega
    | ⟨1, _⟩ => rfl
    | ⟨2, _⟩ => rfl
  simp only [pointwise]
  by_cases h : t.val = n
  · rw [if_pos h]
    refine (dif_pos (by simp; omega)).trans ?_
    simp
  · rw [if_neg h]
    exact dif_neg (by simp; omega)

/-- A trip's write to the outputs. -/
def put101 (y : FVec Ideal S161x32x101 .f32) (k : IVec S_ 32) (o : FVec Ideal S32x101 .f32) : FVec Ideal S161x32x101 .f32 :=
  Host.dynamicUpdateSlice y (broadcastInDim S1x32x101 ![1, 2] bcast_S32x101_S1x32x101_1_2 o) (start k) updateFits_S161x32x101_S1x32x101

theorem put101_apply (y : FVec Ideal S161x32x101 .f32) (n : ℕ) (hn : n < 161) (o : FVec Ideal S32x101 .f32) (t : Fin 161) (b : Fin 32) (u : Fin 101) :
    (put101 y (fun _ => BitVec.ofNat 32 n) o (ix3 t b u) : EReal) = if t.val = n then o (ix2 b u) else y (ix3 t b u) := by
  unfold put101
  refine (congrFun (Host.dynamicUpdateSlice_eq_updateSlice y _ (start (fun _ => BitVec.ofNat 32 n)) updateFits_S161x32x101_S1x32x101 ![n, 0, 0]
    (fun a => ?_) (slices_at 101 n hn)) _).trans ?_
  · rw [start_at n hn]
    match a with
    | ⟨0, _⟩ => show (min (max (n : ℤ) 0) 160).toNat = n; omega
    | ⟨1, _⟩ => rfl
    | ⟨2, _⟩ => rfl
  simp only [pointwise]
  by_cases h : t.val = n
  · rw [if_pos h]
    refine (dif_pos (by simp; omega)).trans ?_
    simp
  · rw [if_neg h]
    exact dif_neg (by simp; omega)

/-- A trip's write to the outputs. -/
def put800 (y : FVec Ideal S161x32x800 .f32) (k : IVec S_ 32) (o : FVec Ideal S32x800 .f32) : FVec Ideal S161x32x800 .f32 :=
  Host.dynamicUpdateSlice y (broadcastInDim S1x32x800 ![1, 2] bcast_S32x800_S1x32x800_1_2 o) (start k) updateFits_S161x32x800_S1x32x800

theorem put800_apply (y : FVec Ideal S161x32x800 .f32) (n : ℕ) (hn : n < 161) (o : FVec Ideal S32x800 .f32) (t : Fin 161) (b : Fin 32) (u : Fin 800) :
    (put800 y (fun _ => BitVec.ofNat 32 n) o (ix3 t b u) : EReal) = if t.val = n then o (ix2 b u) else y (ix3 t b u) := by
  unfold put800
  refine (congrFun (Host.dynamicUpdateSlice_eq_updateSlice y _ (start (fun _ => BitVec.ofNat 32 n)) updateFits_S161x32x800_S1x32x800 ![n, 0, 0]
    (fun a => ?_) (slices_at 800 n hn)) _).trans ?_
  · rw [start_at n hn]
    match a with
    | ⟨0, _⟩ => show (min (max (n : ℤ) 0) 160).toNat = n; omega
    | ⟨1, _⟩ => rfl
    | ⟨2, _⟩ => rfl
  simp only [pointwise]
  by_cases h : t.val = n
  · rw [if_pos h]
    refine (dif_pos (by simp; omega)).trans ?_
    simp
  · rw [if_neg h]
    exact dif_neg (by simp; omega)

end Cert.Proof.DecoderRefValue

end
-- ==== Proof.DecoderRef.lean ====
/- Hand-written, untrusted: WHAT THE DECODER'S REFERENCE LEAVES — one trip of its loop as a step of every row, the loop's entry,
   and the three result arrays after all trips. -/
module

public import proofs.«01_k».proof.Proof.DecoderRefRow
public import proofs.«01_k».proof.Proof.DecoderEntry

@[expose] public section

set_option maxRecDepth 16384

noncomputable section

namespace Cert.Proof.DecoderRefValue

open Idealize.ShloMosaic.StableHlo Idealize.ShloMosaic.HostLoop
open Cert.DecoderRefIdeal Cert.DecoderRefIdeal.Gen Cert.DecoderRefIdeal.Value Idealize.ShloMosaic Idealize.ShloMosaic.TcCoe Idealize.SL.Sem
open Cert.Proof.Decode

section
variable (V : Valuation τ sig (Elt Ideal))

/-- The carried arrays. -/
abbrev dV : FVec Ideal S161x32x512 .f32 := V (Proc.devRef .tc main_v14_0)
abbrev wiV : FVec Ideal S2048x1024 .f32 := V (Proc.devRef .tc main_v14_1)
abbrev whV : FVec Ideal S2048x512 .f32 := V (Proc.devRef .tc main_v14_2)
abbrev biV : FVec Ideal S2048 .f32 := V (Proc.devRef .tc main_v14_3)
abbrev cvV : FVec Ideal S32x2x31 .f32 := V (Proc.devRef .tc main_v14_4)
abbrev lwV : FVec Ideal S128x32 .f32 := V (Proc.devRef .tc main_v14_5)
abbrev qwV : FVec Ideal S128x512 .f32 := V (Proc.devRef .tc main_v14_6)
abbrev pmV : FVec Ideal S32x800x128 .f32 := V (Proc.devRef .tc main_v14_7)
abbrev vV : FVec Ideal S1x128 .f32 := V (Proc.devRef .tc main_v14_8)
abbrev mkV : IVec S32x800 1 := V (Proc.devRef .tc main_v14_9)
abbrev memV : FVec Ideal S32x800x512 .f32 := V (Proc.devRef .tc main_v14_10)
abbrev pwV : FVec Ideal S512x1024 .f32 := V (Proc.devRef .tc main_v14_11)
abbrev pbV : FVec Ideal S512 .f32 := V (Proc.devRef .tc main_v14_12)
abbrev swV : FVec Ideal S101x512 .f32 := V (Proc.devRef .tc main_v14_13)
abbrev sbV : FVec Ideal S101 .f32 := V (Proc.devRef .tc main_v14_14)
abbrev hV : FVec Ideal S32x512 .f32 := V (Proc.devRef .tc main_v14_16)
abbrev cV : FVec Ideal S32x512 .f32 := V (Proc.devRef .tc main_v14_17)
abbrev aV : FVec Ideal S32x800 .f32 := V (Proc.devRef .tc main_v14_18)
abbrev sV : FVec Ideal S32x800 .f32 := V (Proc.devRef .tc main_v14_19)
abbrev xV : FVec Ideal S32x512 .f32 := V (Proc.devRef .tc main_v14_20)
abbrev yoV : FVec Ideal S161x32x512 .f32 := V (Proc.devRef .tc main_v14_21)
abbrev ylV : FVec Ideal S161x32x101 .f32 := V (Proc.devRef .tc main_v14_22)
abbrev yaV : FVec Ideal S161x32x800 .f32 := V (Proc.devRef .tc main_v14_23)

/-- The counter. -/
abbrev kV : IVec S_ 32 := V (Proc.devRef .tc main_v14_15)

/-! ## The trip's results -/

theorem v24_eq : res_main_while0b_v24 V = zR (sliceR (dV V) (kV V)) (xV V) (hV V) (wiV V) (whV V) (biV V) := rfl
theorem v44_eq : res_main_while0b_v44 V = cellR (res_main_while0b_v24 V) (cV V) := rfl
theorem v52_eq : res_main_while0b_v52 V = hidR (res_main_while0b_v24 V) (cV V) := rfl
theorem v86_eq : res_main_while0b_v86 V
    = mkR (mkV V) (enR (qryR (res_main_while0b_v52 V) (qwV V)) (locR (lwV V) (convR (cvV V) (winR (aV V) (sV V)))) (pmV V) (vV V)) := rfl
theorem v93_eq : res_main_while0b_v93 V = expR (res_main_while0b_v86 V) := rfl
theorem v97_eq : res_main_while0b_v97 V = wtR (res_main_while0b_v93 V) := rfl
theorem v98_eq : res_main_while0b_v98 V = cxR (res_main_while0b_v97 V) (memV V) := rfl
theorem v106_eq : res_main_while0b_v106 V = prR (res_main_while0b_v52 V) (res_main_while0b_v98 V) (pwV V) (pbV V) := rfl
theorem s_eq : step_main_v14_19 V = addf (sV V) (res_main_while0b_v97 V) := rfl
theorem yo_eq : step_main_v14_21 V = put512 (yoV V) (kV V) (res_main_while0b_v106 V) := by
  unfold step_main_v14_21 put512 start
  rfl
theorem yl_eq : step_main_v14_22 V = put101 (ylV V) (kV V) (lgR (res_main_while0b_v106 V) (swV V) (sbV V)) := by
  unfold step_main_v14_22 put101 start lgR
  rfl
theorem ya_eq : step_main_v14_23 V = put800 (yaV V) (kV V) (res_main_while0b_v97 V) := by
  unfold step_main_v14_23 put800 start
  rfl

/-! ## A trip as a step of every row -/

/-- A row's state. -/
def rowV (b : Fin 32) : St :=
  ⟨fun u => hV V (ix2 b u), fun u => cV V (ix2 b u), fun u => xV V (ix2 b u), fun t => aV V (ix2 b t), fun t => sV V (ix2 b t)⟩

/-- The arrays a trip only reads hold the parameters and the inputs of row `b`. -/
structure LinksR (p : Par) (d : ℕ → Fin 512 → EReal) (b : Fin 32) : Prop where
  d : ∀ (n : ℕ) (hn : n < 161) (u : Fin 512), (dV V (ix3 ⟨n, hn⟩ b u) : EReal) = d n u
  wi : ∀ (g : Fin 2048) (k : Fin 1024), (wiV V (ix2 g k) : EReal) = p.wi g k
  wh : ∀ (g : Fin 2048) (k : Fin 512), (whV V (ix2 g k) : EReal) = p.wh g k
  bi : ∀ g : Fin 2048, (biV V (ix1 g) : EReal) = p.bi g
  cv : ∀ (f : Fin 32) (q : Fin 2) (k : Fin 31), (cvV V (ix3 f q k) : EReal) = p.cv f q k
  lw : ∀ (a : Fin 128) (f : Fin 32), (lwV V (ix2 a f) : EReal) = p.lw a f
  qw : ∀ (a : Fin 128) (k : Fin 512), (qwV V (ix2 a k) : EReal) = p.qw a k
  pm : ∀ (t : Fin 800) (a : Fin 128), (pmV V (ix3 b t a) : EReal) = p.pm a t
  v : ∀ a : Fin 128, (vV V (ix2 0 a) : EReal) = p.v a
  msk : ∀ t : Fin 800, mkV V (ix2 b t) = IntOp.cmpi CmpIPredicate.sge (BitVec.ofNat 32 t.val) p.len
  mem : ∀ (t : Fin 800) (k : Fin 512), (memV V (ix3 b t k) : EReal) = p.mem t k
  pw : ∀ (j : Fin 512) (k : Fin 1024), (pwV V (ix2 j k) : EReal) = p.pw j k
  pb : ∀ j : Fin 512, (pbV V (ix1 j) : EReal) = p.pb j
  sw : ∀ (i : Fin 101) (j : Fin 512), (swV V (ix2 i j) : EReal) = p.sw i j
  sb : ∀ i : Fin 101, (sbV V (ix1 i) : EReal) = p.sb i

end

variable {p : Par} {d : ℕ → Fin 512 → EReal} {b : Fin 32}

theorem LinksR.next {V : Valuation τ sig (Elt Ideal)} (K : LinksR V p d b) : LinksR (STEP V) p d b :=
  { d := fun n hn u => (congrFun (STEP_main_v14_0 V) _).trans (K.d n hn u),
    wi := fun g k => (congrFun (STEP_main_v14_1 V) _).trans (K.wi g k),
    wh := fun g k => (congrFun (STEP_main_v14_2 V) _).trans (K.wh g k),
    bi := fun g => (congrFun (STEP_main_v14_3 V) _).trans (K.bi g),
    cv := fun f q k => (congrFun (STEP_main_v14_4 V) _).trans (K.cv f q k),
    lw := fun a f => (congrFun (STEP_main_v14_5 V) _).trans (K.lw a f),
    qw := fun a k => (congrFun (STEP_main_v14_6 V) _).trans (K.qw a k),
    pm := fun t a => (congrFun (STEP_main_v14_7 V) _).trans (K.pm t a),
    v := fun a => (congrFun (STEP_main_v14_8 V) _).trans (K.v a),
    msk := fun t => (congrFun (STEP_main_v14_9 V) _).trans (K.msk t),
    mem := fun t k => (congrFun (STEP_main_v14_10 V) _).trans (K.mem t k),
    pw := fun j k => (congrFun (STEP_main_v14_11 V) _).trans (K.pw j k),
    pb := fun j => (congrFun (STEP_main_v14_12 V) _).trans (K.pb j),
    sw := fun i j => (congrFun (STEP_main_v14_13 V) _).trans (K.sw i j),
    sb := fun i => (congrFun (STEP_main_v14_14 V) _).trans (K.sb i) }

section Trip
variable {V : Valuation τ sig (Elt Ideal)} (K : LinksR V p d b) (n : ℕ) (hn : n < 161) (h15 : kV V = fun _ => BitVec.ofNat 32 n)
include K hn h15

theorem z_row : (fun g : Fin 2048 => (res_main_while0b_v24 V (ix2 b g) : EReal)) = gate p (d n) (rowV V b).h (rowV V b).x := by
  funext g
  rw [v24_eq, h15]
  refine (zR_apply _ _ _ _ _ _ b g).trans ?_
  have e : (fun u : Fin 512 => (sliceR (dV V) (fun _ => BitVec.ofNat 32 n) (ix2 b u) : EReal)) = d n := funext fun u => (sliceR_apply _ n hn b u).trans (K.d n hn u)
  unfold gate
  simp only [e, K.wi, K.wh, K.bi]
  rfl

theorem h_row : (fun u : Fin 512 => (res_main_while0b_v52 V (ix2 b u) : EReal)) = newH (gate p (d n) (rowV V b).h (rowV V b).x) (rowV V b).c := by
  funext u
  rw [v52_eq, ← z_row K n hn h15]
  exact hidR_apply _ _ b u

theorem c_row : (fun u : Fin 512 => (res_main_while0b_v44 V (ix2 b u) : EReal)) = newC (gate p (d n) (rowV V b).h (rowV V b).x) (rowV V b).c := by
  funext u
  rw [v44_eq, ← z_row K n hn h15]
  exact cellR_apply _ _ b u

theorem loc_row (t : Fin 800) (a : Fin 128) : (locR (lwV V) (convR (cvV V) (winR (aV V) (sV V))) (ix3 b t a) : EReal) = locA p (rowV V b).a (rowV V b).s a t := by
  refine (locR_apply _ _ b t a).trans ?_
  unfold locA
  refine Finset.sum_congr rfl fun f _ => ?_
  rw [K.lw, convR_apply]
  refine congrArg (· * p.lw a f) ?_
  refine Finset.sum_congr rfl fun q _ => Finset.sum_congr rfl fun k _ => ?_
  rw [K.cv, winR_apply]
  rfl

theorem e_row : (fun t : Fin 800 => (res_main_while0b_v86 V (ix2 b t) : EReal))
    = masked p.len (energy p (locA p (rowV V b).a (rowV V b).s) (newH (gate p (d n) (rowV V b).h (rowV V b).x) (rowV V b).c)) := by
  funext t
  rw [v86_eq]
  refine (mkR_apply _ _ b t).trans ?_
  unfold masked
  rw [K.msk]
  refine congrArg (Scalar.select _ _) ?_
  refine (enR_apply _ _ _ _ b t).trans ?_
  unfold energy
  refine Finset.sum_congr rfl fun a _ => ?_
  have eq : (qryR (res_main_while0b_v52 V) (qwV V) (ix3 b t a) : EReal) = query p (newH (gate p (d n) (rowV V b).h (rowV V b).x) (rowV V b).c) a := by
    refine (qryR_apply _ _ b t a).trans ?_
    rw [← h_row K n hn h15]
    unfold query
    exact Finset.sum_congr rfl fun k _ => by rw [K.qw]
  rw [loc_row K n hn h15, K.pm, K.v, eq, mul_comm, add_comm (query _ _ _), add_right_comm]

theorem a_row : (fun t : Fin 800 => (res_main_while0b_v97 V (ix2 b t) : EReal))
    = soft (masked p.len (energy p (locA p (rowV V b).a (rowV V b).s) (newH (gate p (d n) (rowV V b).h (rowV V b).x) (rowV V b).c))) := by
  funext t
  rw [v97_eq]
  refine (wtR_apply _ b t).trans ?_
  rw [v93_eq, ← e_row K n hn h15]
  unfold soft
  simp only [expR_apply]

theorem x_row : (fun k : Fin 512 => (res_main_while0b_v98 V (ix2 b k) : EReal))
    = context p (soft (masked p.len (energy p (locA p (rowV V b).a (rowV V b).s) (newH (gate p (d n) (rowV V b).h (rowV V b).x) (rowV V b).c)))) := by
  funext k
  rw [v98_eq, ← a_row K n hn h15]
  refine (cxR_apply _ _ b k).trans ?_
  unfold context
  exact Finset.sum_congr rfl fun t _ => by rw [K.mem]

theorem step_row : rowV (STEP V) b = step p (locA p) (d n) (rowV V b) := by
  have e1 : (fun u => (hV (STEP V) (ix2 b u) : EReal)) = _ := (funext fun u => congrFun (STEP_main_v14_16 V) _).trans (h_row K n hn h15)
  have e2 : (fun u => (cV (STEP V) (ix2 b u) : EReal)) = _ := (funext fun u => congrFun (STEP_main_v14_17 V) _).trans (c_row K n hn h15)
  have e3 : (fun u => (xV (STEP V) (ix2 b u) : EReal)) = _ := (funext fun u => congrFun (STEP_main_v14_20 V) _).trans (x_row K n hn h15)
  have e4 : (fun u => (aV (STEP V) (ix2 b u) : EReal)) = _ := (funext fun u => congrFun (STEP_main_v14_18 V) _).trans (a_row K n hn h15)
  have e5 : (fun u => (sV (STEP V) (ix2 b u) : EReal)) = fun u => (rowV V b).s u
      + soft (masked p.len (energy p (locA p (rowV V b).a (rowV V b).s) (newH (gate p (d n) (rowV V b).h (rowV V b).x) (rowV V b).c))) u := by
    rw [← a_row K n hn h15]
    funext u
    exact (congrFun (STEP_main_v14_19 V) _).trans (congrFun (s_eq V) _)
  unfold rowV Decode.step
  rw [e1, e2, e3, e4, e5]
  rfl

theorem o_row (j : Fin 512) : (res_main_while0b_v106 V (ix2 b j) : EReal) = proj p (rowV (STEP V) b).h (rowV (STEP V) b).x j := by
  rw [v106_eq]
  refine (prR_apply _ _ _ _ b j).trans ?_
  rw [step_row K n hn h15, h_row K n hn h15, x_row K n hn h15]
  unfold proj
  simp only [K.pw, K.pb]
  rfl

theorem yo_row (t : Fin 161) (j : Fin 512) : (yoV (STEP V) (ix3 t b j) : EReal)
    = if t.val = n then proj p (rowV (STEP V) b).h (rowV (STEP V) b).x j else yoV V (ix3 t b j) := by
  refine (congrFun ((STEP_main_v14_21 V).trans (yo_eq V)) _).trans ?_
  rw [h15]
  refine (put512_apply _ n hn _ t b j).trans ?_
  rw [o_row K n hn h15]

theorem yl_row (t : Fin 161) (i : Fin 101) : (ylV (STEP V) (ix3 t b i) : EReal)
    = if t.val = n then logit p (rowV (STEP V) b).h (rowV (STEP V) b).x i else ylV V (ix3 t b i) := by
  refine (congrFun ((STEP_main_v14_22 V).trans (yl_eq V)) _).trans ?_
  rw [h15]
  refine (put101_apply _ n hn _ t b i).trans ?_
  have e : (lgR (res_main_while0b_v106 V) (swV V) (sbV V) (ix2 b i) : EReal) = logit p (rowV (STEP V) b).h (rowV (STEP V) b).x i := by
    refine (lgR_apply _ _ _ b i).trans ?_
    unfold logit
    simp only [o_row K n hn h15, K.sw, K.sb]
  rw [e]

theorem ya_row (t : Fin 161) (k : Fin 800) : (yaV (STEP V) (ix3 t b k) : EReal) = if t.val = n then (rowV (STEP V) b).a k else yaV V (ix3 t b k) := by
  refine (congrFun ((STEP_main_v14_23 V).trans (ya_eq V)) _).trans ?_
  rw [h15]
  refine (put800_apply _ n hn _ t b k).trans ?_
  have e : (res_main_while0b_v97 V (ix2 b k) : EReal) = (rowV (STEP V) b).a k := (congrFun (STEP_main_v14_18 V) _).symm
  rw [e]

end Trip

/-! ## All trips -/

theorem iter {V : Valuation τ sig (Elt Ideal)} (K : LinksR V p d b) (hk : kV V = fun _ => BitVec.ofNat 32 0) (hr : rowV V b = St.zero) (n : ℕ) (hn : n ≤ 161) :
    LinksR (STEP^[n] V) p d b ∧ kV (STEP^[n] V) = (fun _ => BitVec.ofNat 32 n) ∧ rowV (STEP^[n] V) b = run p (locA p) d n
    ∧ ∀ t : Fin 161, t.val < n → (∀ j, (yoV (STEP^[n] V) (ix3 t b j) : EReal) = proj p (run p (locA p) d (t.val + 1)).h (run p (locA p) d (t.val + 1)).x j)
      ∧ (∀ i, (ylV (STEP^[n] V) (ix3 t b i) : EReal) = logit p (run p (locA p) d (t.val + 1)).h (run p (locA p) d (t.val + 1)).x i) ∧ ∀ k, (yaV (STEP^[n] V) (ix3 t b k) : EReal) = (run p (locA p) d (t.val + 1)).a k := by
  induction n with
  | zero => exact ⟨K, hk, hr.trans (run_zero _ _ _).symm, fun t ht => absurd ht (Nat.not_lt_zero _)⟩
  | succ n ih =>
    obtain ⟨K', hk', hr', ho⟩ := ih (Nat.le_of_succ_le hn)
    rw [Function.iterate_succ_apply']
    have hs : rowV (STEP (STEP^[n] V)) b = run p (locA p) d (n + 1) := by rw [run_succ, ← hr']; exact step_row K' n hn hk'
    refine ⟨K'.next, (STEP_main_v14_15 _).trans ?_, hs, fun t ht => ?_⟩
    · unfold step_main_v14_15
      funext i
      show (kV (STEP^[n] V)) i + 1#32 = BitVec.ofNat 32 (n + 1)
      rw [hk']
      exact (BitVec.ofNat_add n 1).symm
    · by_cases h : t.val = n
      · refine ⟨fun j => (yo_row K' n hn hk' t j).trans ?_, fun i => (yl_row K' n hn hk' t i).trans ?_, fun k => (ya_row K' n hn hk' t k).trans ?_⟩
        all_goals rw [if_pos h, hs, h]
      · obtain ⟨o1, o2, o3⟩ := ho t (by omega)
        refine ⟨fun j => (yo_row K' n hn hk' t j).trans ?_, fun i => (yl_row K' n hn hk' t i).trans ?_, fun k => (ya_row K' n hn hk' t k).trans ?_⟩
        · rw [if_neg h]; exact o1 j
        · rw [if_neg h]; exact o2 i
        · rw [if_neg h]; exact o3 k

/-! ## The loop's entry -/

variable (m : (ℓ : Loc nD τ sig) → Buf (Elt Ideal) ℓ) (c : Dev nD)

/-- The loop's entry. -/
abbrev En : Valuation τ sig (Elt Ideal) := entryContents preI m c

/-- The projected memory. -/
def pmE (mem : FVec Ideal S32x800x512 .f32) (mw : FVec Ideal S128x512 .f32) : FVec Ideal S32x800x128 .f32 :=
  Host.dotGeneral dot_S32x800x512_S512x128_S32x800x128_2_0_01_1_n_n none mem (transpose S512x128 [1, 0] mw transposes_S128x512_S512x128_1_0)
theorem pmE_apply (mem : FVec Ideal S32x800x512 .f32) (mw : FVec Ideal S128x512 .f32) (b : Fin 32) (t : Fin 800) (a : Fin 128) :
    (pmE mem mw (ix3 b t a) : EReal) = ∑ k : Fin 512, (mem (ix3 b t k) : EReal) * mw (ix2 a k) := by
  unfold pmE
  simp only [pointwise]
  first | done | rfl | exact zero_add _ | simp

/-- The frames from the length on. -/
def mkE (l : IVec S32 32) : IVec S32x800 1 :=
  cmpi .sge (broadcastInDim S32x800 ![0, 1] bcast_S1x800_S32x800_0_1 (broadcastInDim S1x800 ![1] bcast_S800_S1x800_1 (iotaInDim S800 32 0)))
    (broadcastInDim S32x800 ![0, 1] bcast_S32x1_S32x800_0_1 (broadcastInDim S32x1 ![0] bcast_S32_S32x1_0 l))
theorem mkE_apply (l : IVec S32 32) (b : Fin 32) (t : Fin 800) : mkE l (ix2 b t) = IntOp.cmpi CmpIPredicate.sge (BitVec.ofNat 32 t.val) (l (ix1 b)) := by
  unfold mkE
  simp only [pointwise]
  first | done | rfl | simp

theorem En_k : kV (En m c) = fun _ => BitVec.ofNat 32 0 := ctr_entry m c
theorem En_d : dV (En m c) = (m ((c : Thread nD τ).loc main_arg0)) := by
  show entryContents preI m c (Proc.devRef .tc main_v14_0) = _
  simp only [entryContents, afterL_cons, afterL_nil]
  after_results_entrywise []
theorem En_wi : wiV (En m c) = (m ((c : Thread nD τ).loc main_arg3)) := by
  show entryContents preI m c (Proc.devRef .tc main_v14_1) = _
  simp only [entryContents, afterL_cons, afterL_nil]
  after_results_entrywise []
theorem En_wh : whV (En m c) = (m ((c : Thread nD τ).loc main_arg4)) := by
  show entryContents preI m c (Proc.devRef .tc main_v14_2) = _
  simp only [entryContents, afterL_cons, afterL_nil]
  after_results_entrywise []
theorem En_bi : biV (En m c) = (m ((c : Thread nD τ).loc main_arg5)) := by
  show entryContents preI m c (Proc.devRef .tc main_v14_3) = _
  simp only [entryContents, afterL_cons, afterL_nil]
  after_results_entrywise []
theorem En_cv : cvV (En m c) = (m ((c : Thread nD τ).loc main_arg8)) := by
  show entryContents preI m c (Proc.devRef .tc main_v14_4) = _
  simp only [entryContents, afterL_cons, afterL_nil]
  after_results_entrywise []
theorem En_lw : lwV (En m c) = (m ((c : Thread nD τ).loc main_arg9)) := by
  show entryContents preI m c (Proc.devRef .tc main_v14_5) = _
  simp only [entryContents, afterL_cons, afterL_nil]
  after_results_entrywise []
theorem En_qw : qwV (En m c) = (m ((c : Thread nD τ).loc main_arg6)) := by
  show entryContents preI m c (Proc.devRef .tc main_v14_6) = _
  simp only [entryContents, afterL_cons, afterL_nil]
  after_results_entrywise []
theorem En_v : vV (En m c) = (m ((c : Thread nD τ).loc main_arg10)) := by
  show entryContents preI m c (Proc.devRef .tc main_v14_8) = _
  simp only [entryContents, afterL_cons, afterL_nil]
  after_results_entrywise []
theorem En_mem : memV (En m c) = (m ((c : Thread nD τ).loc main_arg2)) := by
  show entryContents preI m c (Proc.devRef .tc main_v14_10) = _
  simp only [entryContents, afterL_cons, afterL_nil]
  after_results_entrywise []
theorem En_pw : pwV (En m c) = (m ((c : Thread nD τ).loc main_arg11)) := by
  show entryContents preI m c (Proc.devRef .tc main_v14_11) = _
  simp only [entryContents, afterL_cons, afterL_nil]
  after_results_entrywise []
theorem En_pb : pbV (En m c) = (m ((c : Thread nD τ).loc main_arg12)) := by
  show entryContents preI m c (Proc.devRef .tc main_v14_12) = _
  simp only [entryContents, afterL_cons, afterL_nil]
  after_results_entrywise []
theorem En_sw : swV (En m c) = (m ((c : Thread nD τ).loc main_arg13)) := by
  show entryContents preI m c (Proc.devRef .tc main_v14_13) = _
  simp only [entryContents, afterL_cons, afterL_nil]
  after_results_entrywise []
theorem En_sb : sbV (En m c) = (m ((c : Thread nD τ).loc main_arg14)) := by
  show entryContents preI m c (Proc.devRef .tc main_v14_14) = _
  simp only [entryContents, afterL_cons, afterL_nil]
  after_results_entrywise []
theorem En_h : hV (En m c) = broadcastInDim S32x512 ![] bcast_S_S32x512 (constant (F := Ideal) S_ .f32 0x00000000#32) := by
  show entryContents preI m c (Proc.devRef .tc main_v14_16) = _
  simp only [entryContents, afterL_cons, afterL_nil]
  after_results_entrywise []
theorem En_c : cV (En m c) = broadcastInDim S32x512 ![] bcast_S_S32x512 (constant (F := Ideal) S_ .f32 0x00000000#32) := by
  show entryContents preI m c (Proc.devRef .tc main_v14_17) = _
  simp only [entryContents, afterL_cons, afterL_nil]
  after_results_entrywise []
theorem En_x : xV (En m c) = broadcastInDim S32x512 ![] bcast_S_S32x512 (constant (F := Ideal) S_ .f32 0x00000000#32) := by
  show entryContents preI m c (Proc.devRef .tc main_v14_20) = _
  simp only [entryContents, afterL_cons, afterL_nil]
  after_results_entrywise []
theorem En_a : aV (En m c) = broadcastInDim S32x800 ![] bcast_S_S32x800 (constant (F := Ideal) S_ .f32 0x00000000#32) := by
  show entryContents preI m c (Proc.devRef .tc main_v14_18) = _
  simp only [entryContents, afterL_cons, afterL_nil]
  after_results_entrywise []
theorem En_s : sV (En m c) = broadcastInDim S32x800 ![] bcast_S_S32x800 (constant (F := Ideal) S_ .f32 0x00000000#32) := by
  show entryContents preI m c (Proc.devRef .tc main_v14_19) = _
  simp only [entryContents, afterL_cons, afterL_nil]
  after_results_entrywise []
theorem En_pm : pmV (En m c) = pmE (m ((c : Thread nD τ).loc main_arg2)) (m ((c : Thread nD τ).loc main_arg7)) := by
  show entryContents preI m c (Proc.devRef .tc main_v14_7) = _
  simp only [entryContents, afterL_cons, afterL_nil]
  unfold pmE
  after_results_entrywise []
theorem En_mk : mkV (En m c) = mkE (m ((c : Thread nD τ).loc main_arg1)) := by
  show entryContents preI m c (Proc.devRef .tc main_v14_9) = _
  simp only [entryContents, afterL_cons, afterL_nil]
  unfold mkE
  after_results_entrywise []

/-- The parameters and inputs of row `b`. -/
abbrev pR (b : Fin 32) : Par := DecoderValue.par (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) b
abbrev dR (b : Fin 32) : ℕ → Fin 512 → EReal := DecoderValue.inp (m ((c : Thread nD τ).loc main_arg0)) b

theorem links (b : Fin 32) : LinksR (En m c) (pR m c b) (dR m c b) b where
  d n hn u := by rw [En_d]; show _ = DecoderValue.inp _ b n u; unfold DecoderValue.inp; rw [dif_pos hn]
  wi g k := by rw [En_wi]; rfl
  wh g k := by rw [En_wh]; rfl
  bi g := by rw [En_bi]; rfl
  cv f q k := by rw [En_cv]; rfl
  lw a f := by rw [En_lw]; rfl
  qw a k := by rw [En_qw]; rfl
  pm t a := by
    rw [En_pm]
    refine (pmE_apply _ _ b t a).trans ?_
    exact Finset.sum_congr rfl fun k _ => mul_comm _ _
  v a := by rw [En_v]; rfl
  msk t := by rw [En_mk]; exact mkE_apply _ b t
  mem t k := by rw [En_mem]; rfl
  pw j k := by rw [En_pw]; rfl
  pb j := by rw [En_pb]; rfl
  sw i j := by rw [En_sw]; rfl
  sb i := by rw [En_sb]; rfl

theorem zero_row (b : Fin 32) : rowV (En m c) b = St.zero := by
  unfold rowV St.zero
  rw [En_h, En_c, En_x, En_a, En_s]
  simp only [pointwise]

theorem final (t : Fin 161) (b : Fin 32) : (∀ j, (yoV (STEP^[161] (En m c)) (ix3 t b j) : EReal) = proj (pR m c b) (run (pR m c b) (locA (pR m c b)) (dR m c b) (t.val + 1)).h (run (pR m c b) (locA (pR m c b)) (dR m c b) (t.val + 1)).x j)
    ∧ (∀ i, (ylV (STEP^[161] (En m c)) (ix3 t b i) : EReal) = logit (pR m c b) (run (pR m c b) (locA (pR m c b)) (dR m c b) (t.val + 1)).h (run (pR m c b) (locA (pR m c b)) (dR m c b) (t.val + 1)).x i)
    ∧ ∀ k, (yaV (STEP^[161] (En m c)) (ix3 t b k) : EReal) = (run (pR m c b) (locA (pR m c b)) (dR m c b) (t.val + 1)).a k :=
  (iter (links m c b) (En_k m c) (zero_row m c b) 161 le_rfl).2.2.2 t t.isLt

end Cert.Proof.DecoderRefValue

end
-- ==== Proof.DecoderReal.lean ====
/- Hand-written, untrusted: WHAT THE DECODER'S PRECONDITION SAYS — every filter of the three arrays it names is a number. -/
module

public import proofs.«01_k».proof.Proof.Decode
public import proofs.«01_k».proof.Defs
public import Idealize.ShloMosaic.Lib.ReduceAll

@[expose] public section

noncomputable section

namespace Cert.Proof.DecoderValue

open Idealize.ShloMosaic Idealize.ShloMosaic.TcCoe Idealize.SL.Sem Cert.Proof.Decode

/-- The shape facts of the precondition. -/
instance preFacts : Cert.Pre_filters_finite.Facts where
  bcast_S_S32x2x31 := by decide
  reducesTo_S32x2x31_S_d0_1_2 := by decide
  h_S_ := by decide
  bcast_S_S128x32 := by decide
  reducesTo_S128x32_S_d0_1 := by decide
  bcast_S_S1x128 := by decide
  reducesTo_S1x128_S_d0_1 := by decide

/-- An element whose magnitude lies under the infinite word is a number. -/
theorem real_of_abs (x : EReal) (h : Ideal.cmp .olt (max x (-x)) (Ideal.ofBits FTy.f32 0x7F800000#32) = 1#1) : Real' x := by
  have e : Ideal.ofBits FTy.f32 0x7F800000#32 = (⊤ : EReal) := by simp [Ideal.ofBits, Ideal.ieee]
  rw [e] at h
  induction x using EReal.rec with
  | bot => simp [Ideal.cmp] at h
  | coe r => exact ⟨r, rfl⟩
  | top => simp [Ideal.cmp] at h

instance : Subsingleton Cert.Pre_filters_finite.S_.Idx := ⟨fun a b => funext fun i => i.elim0⟩

theorem reals_of_pre (m : (ℓ : Loc Cert.DecoderIdeal.nD Cert.DecoderIdeal.τ Cert.DecoderIdeal.sig) → Buf (Elt Ideal) ℓ)
    (h : Pre_DecoderIdeal_filters_finite m) (c : Dev Cert.DecoderIdeal.nD) :
    (∀ i, Real' (m ((c : Thread Cert.DecoderIdeal.nD Cert.DecoderIdeal.τ).loc Cert.DecoderIdeal.main_arg8) i))
      ∧ (∀ i, Real' (m ((c : Thread Cert.DecoderIdeal.nD Cert.DecoderIdeal.τ).loc Cert.DecoderIdeal.main_arg9) i))
      ∧ ∀ i, Real' (m ((c : Thread Cert.DecoderIdeal.nD Cert.DecoderIdeal.τ).loc Cert.DecoderIdeal.main_arg10) i) := by
  have e := congrFun (h c) (fun i => i.elim0)
  unfold Cert.Pre_filters_finite.fn at e
  obtain ⟨e1, e2⟩ := IntOp.andi_eq_one.1 e
  obtain ⟨e3, e4⟩ := IntOp.andi_eq_one.1 e1
  exact ⟨fun i => real_of_abs _ (Host.reduce_andi_all _ _ _ _ _ e3 i), fun i => real_of_abs _ (Host.reduce_andi_all _ _ _ _ _ e4 i),
    fun i => real_of_abs _ (Host.reduce_andi_all _ _ _ _ _ e2 i)⟩

end Cert.Proof.DecoderValue

end
-- ==== Proof.DecoderValue.lean ====
/- Hand-written, untrusted: THE DECODER'S VALUE CLAIM — the reference's loop leaves the kernel's three arrays, where the filters
   are numbers. -/
module

public import proofs.«01_k».proof.Proof.DecoderKernel
public import proofs.«01_k».proof.Proof.DecoderRef
public import proofs.«01_k».proof.Proof.DecoderReal
public import proofs.«01_k».proof.Defs

@[expose] public section

set_option maxRecDepth 16384

noncomputable section

namespace Cert.Proof.DecoderValue

open Idealize.ShloMosaic Idealize.ShloMosaic.TcCoe Idealize.SL.Sem Cert.Proof.Decode
open Cert.DecoderIdeal Cert.DecoderIdeal.Value

section
variable (m : (ℓ : Loc nD τ sig) → Buf (Elt Ideal) ℓ) (c : Dev nD)

/-- Both forms of the location term lead the same run, where the filters are numbers. -/
theorem runs (h : Pre_DecoderIdeal_filters_finite m) (b : Fin 32) (n : ℕ) :
    run (pK m c b) (locA (pK m c b)) (dK m c b) n = qK m c b n :=
  (run_eq (pK m c b) (fun _ _ _ => (reals_of_pre m h c).1 _) (fun _ _ => (reals_of_pre m h c).2.1 _) (fun _ => (reals_of_pre m h c).2.2 _) (dK m c b) n).1

end

/-- The value claim: both runs leave the hidden projections, the scores and the weights of every step. -/
theorem algebraic : Cert.algebraic_DecoderIdeal_DecoderRefIdeal_pre_filters_finite := by
  intro m ρ m' ρ' hpre hag
  have hp : ∀ c b, DecoderRefValue.pR m' c b = pK m c b := by
    intro c b
    obtain ⟨h0, h1, h2, h3, h4, h5, h6, h7, h8, h9, h10, h11, h12, h13, h14⟩ := hag c
    unfold DecoderRefValue.pR pK
    rw [h1, h2, h3, h4, h5, h6, h7, h8, h9, h10, h11, h12, h13, h14]
  have hd : ∀ c b, DecoderRefValue.dR m' c b = dK m c b := by
    intro c b
    unfold DecoderRefValue.dR dK
    rw [(hag c).1]
  have hf := fun c t b => DecoderRefValue.final m' c t b
  simp only [hp, hd, runs m _ hpre] at hf
  refine ⟨fun c => res_hid m c, fun c => res_log m c, fun c => res_att m c, ?_, ?_⟩
  · exact (θ_run _ _ _).mono (fun r h c => ⟨(h c).1.trans (final_14 m c), (h c).2.1.trans (final_15 m c), (h c).2.2.1.trans (final_16 m c), (h c).2.2.2⟩)
      (Cert.DecoderIdeal.Value.run_blocks m ρ)
  · refine (θ_run _ _ _).mono (fun r h c => ⟨(h c).1.trans ?_, (h c).2.1.trans ?_, (h c).2.2.1.trans ?_, (h c).2.2.2⟩) (Cert.DecoderRefIdeal.Value.run m' ρ')
    · funext i
      refine Eq.trans ?_ ((hf c (i 0) (i 1)).1 (i 2))
      exact congrArg _ (by funext a; fin_cases a <;> rfl)
    · funext i
      refine Eq.trans ?_ ((hf c (i 0) (i 1)).2.1 (i 2))
      exact congrArg _ (by funext a; fin_cases a <;> rfl)
    · funext i
      refine Eq.trans ?_ ((hf c (i 0) (i 1)).2.2 (i 2))
      exact congrArg _ (by funext a; fin_cases a <;> rfl)

end Cert.Proof.DecoderValue

end
-- ==== Proof.lean ====
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.LayerOne
public import proofs.«01_k».proof.Proof.Gen.LayerOne.Skeleton
public import proofs.«01_k».proof.Proof.Gen.LayerOne.Launch
public import proofs.«01_k».proof.Proof.Gen.LayerOne.Points
public import proofs.«01_k».proof.Proof.Gen.LayerOne.Frame
public import proofs.«01_k».proof.Proof.Gen.LayerOneIdeal
public import proofs.«01_k».proof.Proof.Gen.LayerOneIdeal.Skeleton
public import proofs.«01_k».proof.Proof.Gen.LayerOneIdeal.Launch
public import proofs.«01_k».proof.Proof.Gen.LayerOneIdeal.Points
public import proofs.«01_k».proof.Proof.Gen.LayerOneIdeal.Frame
public import proofs.«01_k».proof.Proof.Gen.LayerOneIdeal.Value
public import proofs.«01_k».proof.Proof.Gen.LayerOneRefIdeal
public import proofs.«01_k».proof.Proof.Gen.LayerOneRefIdeal.Run
public import proofs.«01_k».proof.Proof.Gen.LayerTwo
public import proofs.«01_k».proof.Proof.Gen.LayerTwo.Skeleton
public import proofs.«01_k».proof.Proof.Gen.LayerTwo.Launch
public import proofs.«01_k».proof.Proof.Gen.LayerTwo.Points
public import proofs.«01_k».proof.Proof.Gen.LayerTwo.Frame
public import proofs.«01_k».proof.Proof.Gen.LayerTwoIdeal
public import proofs.«01_k».proof.Proof.Gen.LayerTwoIdeal.Skeleton
public import proofs.«01_k».proof.Proof.Gen.LayerTwoIdeal.Launch
public import proofs.«01_k».proof.Proof.Gen.LayerTwoIdeal.Points
public import proofs.«01_k».proof.Proof.Gen.LayerTwoIdeal.Frame
public import proofs.«01_k».proof.Proof.Gen.LayerTwoIdeal.Value
public import proofs.«01_k».proof.Proof.Gen.LayerTwoRefIdeal
public import proofs.«01_k».proof.Proof.Gen.LayerTwoRefIdeal.Run
public import proofs.«01_k».proof.Proof.Gen.Decoder
public import proofs.«01_k».proof.Proof.Gen.Decoder.Skeleton
public import proofs.«01_k».proof.Proof.Gen.Decoder.Launch
public import proofs.«01_k».proof.Proof.Gen.Decoder.Points
public import proofs.«01_k».proof.Proof.Gen.Decoder.Frame
public import proofs.«01_k».proof.Proof.Gen.DecoderIdeal
public import proofs.«01_k».proof.Proof.Gen.DecoderIdeal.Skeleton
public import proofs.«01_k».proof.Proof.Gen.DecoderIdeal.Launch
public import proofs.«01_k».proof.Proof.Gen.DecoderIdeal.Points
public import proofs.«01_k».proof.Proof.Gen.DecoderIdeal.Frame
public import proofs.«01_k».proof.Proof.Gen.DecoderIdeal.Value
public import proofs.«01_k».proof.Proof.Gen.DecoderRefIdeal
public import proofs.«01_k».proof.Proof.Gen.DecoderRefIdeal.Run
public import proofs.«01_k».proof.Proof.InProjValue
public import proofs.«01_k».proof.Proof.LayerOneValue
public import proofs.«01_k».proof.Proof.LayerTwoValue
public import proofs.«01_k».proof.Proof.DecoderValue
public import Idealize.ShloMosaic.Adequacy
public import Idealize.ShloMosaic.Init

@[expose] public section

noncomputable section

namespace Cert.Proof

open Idealize.ShloMosaic Idealize.SL.Sem

/-- `Cert.quiescent_InProjRefIdeal`: the run with each argument unchanged; the program declares no semaphore. -/
theorem refFrame_InProjRefIdeal : Cert.quiescent_InProjRefIdeal := fun m ρ _ =>
  (θ_run Cert.InProjRefIdeal.defs _ _).mono (fun r h => ⟨fun c => (h c).2, Idealize.ShloMosaic.sem_eq_zero_of_no_sems (by decide) r.2⟩)
    (Cert.InProjRefIdeal.Value.run (F := Ideal) m ρ)

/-- `Cert.quiescent_LayerOneRefIdeal`: the run with each argument unchanged; the program declares no semaphore. -/
theorem refFrame_LayerOneRefIdeal : Cert.quiescent_LayerOneRefIdeal := fun m ρ _ =>
  (θ_run Cert.LayerOneRefIdeal.defs _ _).mono (fun r h => ⟨fun c => (h c).2, Idealize.ShloMosaic.sem_eq_zero_of_no_sems (by decide) r.2⟩)
    (Cert.LayerOneRefIdeal.Value.run (F := Ideal) m ρ)

/-- `Cert.quiescent_LayerOneRefIdeal_pre_lengths_in_one`: the run with each argument unchanged; the program declares no semaphore. -/
theorem refFrame_LayerOneRefIdeal_pre_lengths_in_one : Cert.quiescent_LayerOneRefIdeal_pre_lengths_in_one := fun m ρ _ =>
  (θ_run Cert.LayerOneRefIdeal.defs _ _).mono (fun r h => ⟨fun c => (h c).2, Idealize.ShloMosaic.sem_eq_zero_of_no_sems (by decide) r.2⟩)
    (Cert.LayerOneRefIdeal.Value.run (F := Ideal) m ρ)

/-- `Cert.quiescent_LayerTwoRefIdeal`: the run with each argument unchanged; the program declares no semaphore. -/
theorem refFrame_LayerTwoRefIdeal : Cert.quiescent_LayerTwoRefIdeal := fun m ρ _ =>
  (θ_run Cert.LayerTwoRefIdeal.defs _ _).mono (fun r h => ⟨fun c => (h c).2, Idealize.ShloMosaic.sem_eq_zero_of_no_sems (by decide) r.2⟩)
    (Cert.LayerTwoRefIdeal.Value.run (F := Ideal) m ρ)

/-- `Cert.quiescent_LayerTwoRefIdeal_pre_lengths_in_two`: the run with each argument unchanged; the program declares no semaphore. -/
theorem refFrame_LayerTwoRefIdeal_pre_lengths_in_two : Cert.quiescent_LayerTwoRefIdeal_pre_lengths_in_two := fun m ρ _ =>
  (θ_run Cert.LayerTwoRefIdeal.defs _ _).mono (fun r h => ⟨fun c => (h c).2, Idealize.ShloMosaic.sem_eq_zero_of_no_sems (by decide) r.2⟩)
    (Cert.LayerTwoRefIdeal.Value.run (F := Ideal) m ρ)

/-- `Cert.quiescent_DecoderRefIdeal`: the run with each argument unchanged; the program declares no semaphore. -/
theorem refFrame_DecoderRefIdeal : Cert.quiescent_DecoderRefIdeal := fun m ρ _ =>
  (θ_run Cert.DecoderRefIdeal.defs _ _).mono (fun r h => ⟨fun c => (h c).2.2.2, Idealize.ShloMosaic.sem_eq_zero_of_no_sems (by decide) r.2⟩)
    (Cert.DecoderRefIdeal.Value.run (F := Ideal) m ρ)

/-- `Cert.quiescent_DecoderRefIdeal_pre_filters_finite`: the run with each argument unchanged; the program declares no semaphore. -/
theorem refFrame_DecoderRefIdeal_pre_filters_finite : Cert.quiescent_DecoderRefIdeal_pre_filters_finite := fun m ρ _ =>
  (θ_run Cert.DecoderRefIdeal.defs _ _).mono (fun r h => ⟨fun c => (h c).2.2.2, Idealize.ShloMosaic.sem_eq_zero_of_no_sems (by decide) r.2⟩)
    (Cert.DecoderRefIdeal.Value.run (F := Ideal) m ρ)

theorem claim : Cert.Claim := ⟨Cert.InProj.Gen.facts, Cert.InProjIdeal.Gen.facts, Cert.InProjRefIdeal.Gen.facts, Cert.LayerOne.Gen.facts, Cert.LayerOneIdeal.Gen.facts, Cert.LayerOneRefIdeal.Gen.facts, Cert.LayerTwo.Gen.facts, Cert.LayerTwoIdeal.Gen.facts, Cert.LayerTwoRefIdeal.Gen.facts, Cert.Decoder.Gen.facts, Cert.DecoderIdeal.Gen.facts, Cert.DecoderRefIdeal.Gen.facts, Cert.Proof.LayerOneValue.preFacts, Cert.Proof.LayerTwoValue.preFacts, Cert.Proof.DecoderValue.preFacts,
  fun m ρ _ => Cert.InProj.Gen.frame m ρ,
  fun m ρ _ => Cert.InProjIdeal.Gen.frame m ρ,
  refFrame_InProjRefIdeal,
  fun m ρ _ => Cert.LayerOne.Gen.frame m ρ,
  fun m ρ _ => Cert.LayerOneIdeal.Gen.frame m ρ,
  fun m ρ _ => Cert.LayerOneIdeal.Gen.frame m ρ,
  refFrame_LayerOneRefIdeal,
  refFrame_LayerOneRefIdeal_pre_lengths_in_one,
  fun m ρ _ => Cert.LayerTwo.Gen.frame m ρ,
  fun m ρ _ => Cert.LayerTwoIdeal.Gen.frame m ρ,
  fun m ρ _ => Cert.LayerTwoIdeal.Gen.frame m ρ,
  refFrame_LayerTwoRefIdeal,
  refFrame_LayerTwoRefIdeal_pre_lengths_in_two,
  fun m ρ _ => Cert.Decoder.Gen.frame m ρ,
  fun m ρ _ => Cert.DecoderIdeal.Gen.frame m ρ,
  fun m ρ _ => Cert.DecoderIdeal.Gen.frame m ρ,
  refFrame_DecoderRefIdeal,
  refFrame_DecoderRefIdeal_pre_filters_finite,
  trivial,
  Cert.Proof.InProjValue.algebraic,
  trivial,
  Cert.Proof.LayerOneValue.algebraic,
  trivial,
  Cert.Proof.LayerTwoValue.algebraic,
  trivial,
  Cert.Proof.DecoderValue.algebraic⟩

end Cert.Proof

end
